-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)
  ∧ IdealRules.named_const.Statement Cert.KernelIdeal.κ "slope1" .f32 0x3F3504F3#32 (((Real.sqrt 2)⁻¹ : ℝ) : EReal)
  ∧ IdealRules.named_const.Statement Cert.KernelIdeal.κ "log2_e" .f32 0x3FB8AA3B#32 (((Real.log 2)⁻¹ : ℝ) : EReal)
  ∧ IdealRules.named_const.Statement Cert.KernelIdeal.κ "scale_log2_e" .f32 0x3E0293EE#32 (((Real.sqrt 128)⁻¹ * (Real.log 2)⁻¹ : ℝ) : EReal)
  ∧ IdealRules.named_const.Statement Cert.KernelIdeal.κ "mask" .f32 0xF149F2CA#32 ⊥
  ∧ IdealRules.named_const.Statement Cert.KernelIdeal.κ "slope3" .f32 0x3EB504F3#32 (((Real.sqrt 8)⁻¹ : ℝ) : EReal)
  ∧ IdealRules.named_const.Statement Cert.KernelIdeal.κ "slope5" .f32 0x3E3504F3#32 (((Real.sqrt 32)⁻¹ : ℝ) : EReal)
  ∧ IdealRules.named_const.Statement Cert.KernelIdeal.κ "slope7" .f32 0x3DB504F3#32 (((Real.sqrt 128)⁻¹ : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v4) = v1 c
          ∧ r.2.mem ((c.tc : Thread Cert.Reference2Ideal.nD Cert.Reference2Ideal.τ).loc Cert.Reference2Ideal.main_v14) = v2 c
          ∧ r.2.mem ((c.tc : Thread Cert.Reference2Ideal.nD Cert.Reference2Ideal.τ).loc Cert.Reference2Ideal.main_v53) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "neg_log2_e" .f32 0xBFB8AA3B#32 ((-((Real.log 2)⁻¹) : ℝ) : EReal)
  ∧ IdealRules.named_const.Statement Cert.Kernel4Ideal.κ "slope1" .f32 0x3F3504F3#32 (((Real.sqrt 2)⁻¹ : ℝ) : EReal)
  ∧ IdealRules.named_const.Statement Cert.Kernel4Ideal.κ "log2_e" .f32 0x3FB8AA3B#32 (((Real.log 2)⁻¹ : ℝ) : EReal)
  ∧ IdealRules.named_const.Statement Cert.Kernel4Ideal.κ "scale_log2_e" .f32 0x3E0293EE#32 (((Real.sqrt 128)⁻¹ * (Real.log 2)⁻¹ : ℝ) : EReal)
  ∧ IdealRules.named_const.Statement Cert.Kernel4Ideal.κ "mask" .f32 0xF149F2CA#32 ⊥
  ∧ IdealRules.named_const.Statement Cert.Kernel4Ideal.κ "slope3" .f32 0x3EB504F3#32 (((Real.sqrt 8)⁻¹ : ℝ) : EReal)
  ∧ IdealRules.named_const.Statement Cert.Kernel4Ideal.κ "slope5" .f32 0x3E3504F3#32 (((Real.sqrt 32)⁻¹ : ℝ) : EReal)
  ∧ IdealRules.named_const.Statement Cert.Kernel4Ideal.κ "slope7" .f32 0x3DB504F3#32 (((Real.sqrt 128)⁻¹ : ℝ) : EReal)

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
-- ==== Pre_finite_logits.lean ====
abbrev S1x8192x13312 : Shape := ⟨3, ![1, 8192, 13312]⟩
abbrev S1x3x2048 : Shape := ⟨3, ![1, 3, 2048]⟩
abbrev S1x16 : Shape := ⟨2, ![1, 16]⟩
abbrev S1x8192x2560 : Shape := ⟨3, ![1, 8192, 2560]⟩
abbrev S_ : Shape := ⟨0, ![]⟩

class Facts : Prop where
  slices_S1x8192x13312_S1x8192x2560_0_0_8192 : S1x8192x13312.Slices ![0, 0, 8192] S1x8192x2560
  bcast_S_S1x8192x2560 : S_.BroadcastsInDim S1x8192x2560 (![] : Fin 0 → Fin S1x8192x2560.rank)
  reducesTo_S1x8192x2560_S_d0_1_2 : S1x8192x2560.ReducesTo [0, 1, 2] S_
  h_S_ : 0 < S_.numel
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S1x8192x13312 .f32) (main_arg1 : FVec F S1x3x2048 .f32) (main_arg2 : FVec F S1x16 .f32) : IVec S_ 1 :=
  let main_v0 : FVec F S1x8192x2560 .f32 := (extractStridedSlice S1x8192x2560 ![0, 0, 8192] · slices_S1x8192x13312_S1x8192x2560_0_0_8192) main_arg0
  let main_v1 : FVec F S1x8192x2560 .f32 := Host.absf main_v0
  let main_cst : FVec F S_ .f32 := constant S_ .f32 0x7F800000#32
  let main_v2 : FVec F S1x8192x2560 .f32 := broadcastInDim S1x8192x2560 ![] bcast_S_S1x8192x2560 main_cst
  let main_v3 : IVec S1x8192x2560 1 := cmpf .olt main_v1 main_v2
  let main_c : IVec S_ 1 := constantI S_ 1 1#1
  let main_v4 : IVec S_ 1 := (fun x v => Host.reduce IntOp.andi x v reducesTo_S1x8192x2560_S_d0_1_2 h_S_) main_v3 main_c
  let main_v5 : FVec F S1x16 .f32 := Host.absf main_arg2
  let main_cst_0 : FVec F S_ .f32 := constant S_ .f32 0x7F800000#32
  let main_v6 : FVec F S1x16 .f32 := broadcastInDim S1x16 ![] bcast_S_S1x16 main_cst_0
  let main_v7 : IVec S1x16 1 := cmpf .olt main_v5 main_v6
  let main_c_1 : IVec S_ 1 := constantI S_ 1 1#1
  let main_v8 : IVec S_ 1 := (fun x v => Host.reduce IntOp.andi x v reducesTo_S1x16_S_d0_1 h_S_) main_v7 main_c_1
  let main_v9 : IVec S_ 1 := andi main_v4 main_v8
  main_v9
-- ==== Kernel.lean ====
abbrev S1x8192x13312 : Shape := ⟨3, ![1, 8192, 13312]⟩
abbrev S1x3x2048 : Shape := ⟨3, ![1, 3, 2048]⟩
abbrev S1x16 : Shape := ⟨2, ![1, 16]⟩
abbrev S8192x13312 : Shape := ⟨2, ![8192, 13312]⟩
abbrev S8192x1024 : Shape := ⟨2, ![8192, 1024]⟩
abbrev S8192x512 : Shape := ⟨2, ![8192, 512]⟩
abbrev S3x2048 : Shape := ⟨2, ![3, 2048]⟩
abbrev S16 : Shape := ⟨1, ![16]⟩
abbrev S512x4096 : Shape := ⟨2, ![512, 4096]⟩
abbrev S128x6144 : Shape := ⟨2, ![128, 6144]⟩
abbrev S16x6144 : Shape := ⟨2, ![16, 6144]⟩
abbrev S128x1024 : Shape := ⟨2, ![128, 1024]⟩
abbrev S3x1024 : Shape := ⟨2, ![3, 1024]⟩
abbrev S128x4096 : Shape := ⟨2, ![128, 4096]⟩
abbrev S128x128 : Shape := ⟨2, ![128, 128]⟩
abbrev S16x1024 : Shape := ⟨2, ![16, 1024]⟩
abbrev S1x128 : Shape := ⟨2, ![1, 128]⟩
abbrev S128x256 : Shape := ⟨2, ![128, 256]⟩
abbrev S512x256 : Shape := ⟨2, ![512, 256]⟩
abbrev S384x128 : Shape := ⟨2, ![384, 128]⟩
abbrev S384x256 : Shape := ⟨2, ![384, 256]⟩
abbrev S768x256 : Shape := ⟨2, ![768, 256]⟩
abbrev S512x768 : Shape := ⟨2, ![512, 768]⟩
abbrev S128x384 : Shape := ⟨2, ![128, 384]⟩
abbrev S1 : Shape := ⟨1, ![1]⟩
abbrev S128 : Shape := ⟨1, ![128]⟩
abbrev S128x1 : Shape := ⟨2, ![128, 1]⟩
abbrev S128x768 : Shape := ⟨2, ![128, 768]⟩

abbrev nBuf : Space → Nat
  | .hbm => 23
  | .vmem => 16
  | .smem => 1
  | _ => 0

abbrev bufTy : (tb : Table) → Fin (tcTables nBuf tb) → BufTy
  | .hbm, ⟨0, _⟩ => ⟨S1x8192x13312, .f32⟩
  | .hbm, ⟨1, _⟩ => ⟨S1x3x2048, .f32⟩
  | .hbm, ⟨2, _⟩ => ⟨S1x16, .f32⟩
  | .hbm, ⟨3, _⟩ => ⟨S8192x13312, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x512, .f32⟩
  | .hbm, ⟨17, _⟩ => ⟨S8192x512, .f32⟩
  | .hbm, ⟨18, _⟩ => ⟨S8192x13312, .f32⟩
  | .hbm, ⟨19, _⟩ => ⟨S8192x13312, .bf16⟩
  | .hbm, ⟨20, _⟩ => ⟨S3x2048, .f32⟩
  | .hbm, ⟨21, _⟩ => ⟨S16, .f32⟩
  | .hbm, ⟨22, _⟩ => ⟨S512x4096, .bf16⟩
  | .local _ .vmem, ⟨0, _⟩ => ⟨S128x6144, .bf16⟩
  | .local _ .vmem, ⟨1, _⟩ => ⟨S128x6144, .bf16⟩
  | .local _ .vmem, ⟨2, _⟩ => ⟨S16x6144, .bf16⟩
  | .local _ .vmem, ⟨3, _⟩ => ⟨S16x6144, .bf16⟩
  | .local _ .vmem, ⟨4, _⟩ => ⟨S16x6144, .bf16⟩
  | .local _ .vmem, ⟨5, _⟩ => ⟨S16x6144, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S3x1024, .f32⟩
  | .local _ .vmem, ⟨13, _⟩ => ⟨S3x1024, .f32⟩
  | .local _ .vmem, ⟨14, _⟩ => ⟨S128x4096, .bf16⟩
  | .local _ .vmem, ⟨15, _⟩ => ⟨S128x4096, .bf16⟩
  | .local _ .smem, ⟨0, _⟩ => ⟨S16, .f32⟩
  | _, _ => ⟨S1x8192x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_mult2 (i : grid0.Coords) : BitVec 32 :=
  let c512_i32 : BitVec 32 := 512#32
  let arg1 : BitVec 32 := BitVec.ofNat 32 (i 1).val
  let c256_i32_0 : BitVec 32 := 256#32
  let v2 : BitVec 32 := Scalar.muli arg1 c256_i32_0
  let v3 : BitVec 32 := Scalar.addi c512_i32 v2
  v3
def k0_mult3 (i : grid0.Coords) : BitVec 32 :=
  let arg1 : BitVec 32 := BitVec.ofNat 32 (i 1).val
  let c1024_i32_37 : BitVec 32 := 1024#32
  let v82 : BitVec 32 := Scalar.muli arg1 c1024_i32_37
  let c0_i32_38 : BitVec 32 := 0#32
  let v83 : BitVec 32 := Scalar.addi v82 c0_i32_38
  v83
def k0_off1 (i : grid0.Coords) (c0_i32_38 : BitVec 32) : Fin 2 → Nat :=
  let c0_39 : Index := 0#32
  let arg1 : BitVec 32 := BitVec.ofNat 32 (i 1).val
  let c1024_i32_37 : BitVec 32 := 1024#32
  let v82 : BitVec 32 := Scalar.muli arg1 c1024_i32_37
  let v83 : BitVec 32 := Scalar.addi v82 c0_i32_38
  let v84 : BitVec 32 := v83
  let v85 : Index := Scalar.indexCast v84
  ![0, v85.toNat]
def k0_off1_at (r : Fin 16) : BitVec 32 :=
  if r.val < 8 then
    if r.val < 4 then
      if r.val < 2 then
        if r.val < 1 then
          0#32
        else
          128#32
      else
        if r.val < 3 then
          256#32
        else
          384#32
    else
      if r.val < 6 then
        if r.val < 5 then
          512#32
        else
          640#32
      else
        if r.val < 7 then
          768#32
        else
          896#32
  else
    if r.val < 12 then
      if r.val < 10 then
        if r.val < 9 then
          2048#32
        else
          2176#32
      else
        if r.val < 11 then
          2304#32
        else
          2432#32
    else
      if r.val < 14 then
        if r.val < 13 then
          2560#32
        else
          2688#32
      else
        if r.val < 15 then
          2816#32
        else
          2944#32
def k0_mult4 (i : grid0.Coords) : BitVec 32 :=
  let arg1 : BitVec 32 := BitVec.ofNat 32 (i 1).val
  let c1024_i32_87 : BitVec 32 := 1024#32
  let v164 : BitVec 32 := Scalar.muli arg1 c1024_i32_87
  let c128_i32 : BitVec 32 := 128#32
  let v165 : BitVec 32 := Scalar.addi v164 c128_i32
  v165
def k0_mult5 (i : grid0.Coords) : BitVec 32 :=
  let arg1 : BitVec 32 := BitVec.ofNat 32 (i 1).val
  let c1024_i32_136 : BitVec 32 := 1024#32
  let v246 : BitVec 32 := Scalar.muli arg1 c1024_i32_136
  let c256_i32_137 : BitVec 32 := 256#32
  let v247 : BitVec 32 := Scalar.addi v246 c256_i32_137
  v247
def k0_mult6 (i : grid0.Coords) : BitVec 32 :=
  let arg1 : BitVec 32 := BitVec.ofNat 32 (i 1).val
  let c1024_i32_186 : BitVec 32 := 1024#32
  let v328 : BitVec 32 := Scalar.muli arg1 c1024_i32_186
  let c384_i32 : BitVec 32 := 384#32
  let v329 : BitVec 32 := Scalar.addi v328 c384_i32
  v329
def k0_mult7 (i : grid0.Coords) : BitVec 32 :=
  let arg1 : BitVec 32 := BitVec.ofNat 32 (i 1).val
  let c1024_i32_235 : BitVec 32 := 1024#32
  let v410 : BitVec 32 := Scalar.muli arg1 c1024_i32_235
  let c512_i32_236 : BitVec 32 := 512#32
  let v411 : BitVec 32 := Scalar.addi v410 c512_i32_236
  v411
def k0_mult8 (i : grid0.Coords) : BitVec 32 :=
  let arg1 : BitVec 32 := BitVec.ofNat 32 (i 1).val
  let c1024_i32_285 : BitVec 32 := 1024#32
  let v492 : BitVec 32 := Scalar.muli arg1 c1024_i32_285
  let c640_i32 : BitVec 32 := 640#32
  let v493 : BitVec 32 := Scalar.addi v492 c640_i32
  v493
def k0_mult9 (i : grid0.Coords) : BitVec 32 :=
  let arg1 : BitVec 32 := BitVec.ofNat 32 (i 1).val
  let c1024_i32_334 : BitVec 32 := 1024#32
  let v574 : BitVec 32 := Scalar.muli arg1 c1024_i32_334
  let c768_i32 : BitVec 32 := 768#32
  let v575 : BitVec 32 := Scalar.addi v574 c768_i32
  v575
def k0_mult10 (i : grid0.Coords) : BitVec 32 :=
  let arg1 : BitVec 32 := BitVec.ofNat 32 (i 1).val
  let c1024_i32_383 : BitVec 32 := 1024#32
  let v656 : BitVec 32 := Scalar.muli arg1 c1024_i32_383
  let c896_i32 : BitVec 32 := 896#32
  let v657 : BitVec 32 := Scalar.addi v656 c896_i32
  v657
def k0_off2 (i : grid0.Coords) : Fin 2 → Nat :=
  let c0_i32_416 : BitVec 32 := 0#32
  let arg1 : BitVec 32 := BitVec.ofNat 32 (i 1).val
  let c256_i32 : BitVec 32 := 256#32
  let v0 : BitVec 32 := Scalar.muli arg1 c256_i32
  let v1 : BitVec 32 := v0
  ![0, v1.toNat]
def k0_off3 (i : grid0.Coords) (c0_i32_445 : BitVec 32) : Fin 1 → Nat :=
  let arg1 : BitVec 32 := BitVec.ofNat 32 (i 1).val
  let c8_i32 : BitVec 32 := 8#32
  let v738 : BitVec 32 := Scalar.muli arg1 c8_i32
  let v739 : BitVec 32 := Scalar.addi v738 c0_i32_445
  let v740 : Index := Scalar.indexCast v739
  ![v740.toNat]
def k0_off4 (i : grid0.Coords) : Fin 2 → Nat :=
  let c0_i32_522 : BitVec 32 := 0#32
  let c512_i32 : BitVec 32 := 512#32
  let arg1 : BitVec 32 := BitVec.ofNat 32 (i 1).val
  let c256_i32_0 : BitVec 32 := 256#32
  let v2 : BitVec 32 := Scalar.muli arg1 c256_i32_0
  let v3 : BitVec 32 := Scalar.addi c512_i32 v2
  let v4 : BitVec 32 := v3
  ![0, v4.toNat]
def k0_mult11 (i : grid0.Coords) : BitVec 32 :=
  let arg1 : BitVec 32 := BitVec.ofNat 32 (i 1).val
  let c1024_i32_547 : BitVec 32 := 1024#32
  let v1020 : BitVec 32 := Scalar.muli arg1 c1024_i32_547
  let c2048_i32_548 : BitVec 32 := 2048#32
  let v1021 : BitVec 32 := Scalar.addi v1020 c2048_i32_548
  v1021
def k0_mult12 (i : grid0.Coords) : BitVec 32 :=
  let arg1 : BitVec 32 := BitVec.ofNat 32 (i 1).val
  let c1024_i32_556 : BitVec 32 := 1024#32
  let v1040 : BitVec 32 := Scalar.muli arg1 c1024_i32_556
  let c2176_i32 : BitVec 32 := 2176#32
  let v1041 : BitVec 32 := Scalar.addi v1040 c2176_i32
  v1041
def k0_mult13 (i : grid0.Coords) : BitVec 32 :=
  let arg1 : BitVec 32 := BitVec.ofNat 32 (i 1).val
  let c1024_i32_564 : BitVec 32 := 1024#32
  let v1060 : BitVec 32 := Scalar.muli arg1 c1024_i32_564
  let c2304_i32 : BitVec 32 := 2304#32
  let v1061 : BitVec 32 := Scalar.addi v1060 c2304_i32
  v1061
def k0_mult14 (i : grid0.Coords) : BitVec 32 :=
  let arg1 : BitVec 32 := BitVec.ofNat 32 (i 1).val
  let c1024_i32_572 : BitVec 32 := 1024#32
  let v1080 : BitVec 32 := Scalar.muli arg1 c1024_i32_572
  let c2432_i32 : BitVec 32 := 2432#32
  let v1081 : BitVec 32 := Scalar.addi v1080 c2432_i32
  v1081
def k0_mult15 (i : grid0.Coords) : BitVec 32 :=
  let arg1 : BitVec 32 := BitVec.ofNat 32 (i 1).val
  let c1024_i32_580 : BitVec 32 := 1024#32
  let v1100 : BitVec 32 := Scalar.muli arg1 c1024_i32_580
  let c2560_i32 : BitVec 32 := 2560#32
  let v1101 : BitVec 32 := Scalar.addi v1100 c2560_i32
  v1101
def k0_mult16 (i : grid0.Coords) : BitVec 32 :=
  let arg1 : BitVec 32 := BitVec.ofNat 32 (i 1).val
  let c1024_i32_588 : BitVec 32 := 1024#32
  let v1120 : BitVec 32 := Scalar.muli arg1 c1024_i32_588
  let c2688_i32 : BitVec 32 := 2688#32
  let v1121 : BitVec 32 := Scalar.addi v1120 c2688_i32
  v1121
def k0_mult17 (i : grid0.Coords) : BitVec 32 :=
  let arg1 : BitVec 32 := BitVec.ofNat 32 (i 1).val
  let c1024_i32_596 : BitVec 32 := 1024#32
  let v1140 : BitVec 32 := Scalar.muli arg1 c1024_i32_596
  let c2816_i32 : BitVec 32 := 2816#32
  let v1141 : BitVec 32 := Scalar.addi v1140 c2816_i32
  v1141
def k0_mult18 (i : grid0.Coords) : BitVec 32 :=
  let arg1 : BitVec 32 := BitVec.ofNat 32 (i 1).val
  let c1024_i32_604 : BitVec 32 := 1024#32
  let v1160 : BitVec 32 := Scalar.muli arg1 c1024_i32_604
  let c2944_i32 : BitVec 32 := 2944#32
  let v1161 : BitVec 32 := Scalar.addi v1160 c2944_i32
  v1161
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c511_i32 : BitVec 32 := 511#32
  let v2 : BitVec 32 := Scalar.minsi v1 c511_i32
  let c0_i32 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c12_i32 : BitVec 32 := 12#32
  let c0_i32_0 : BitVec 32 := 0#32
  ![v1.toNat, c12_i32.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c63_i32 : BitVec 32 := 63#32
  let v1 : BitVec 32 := Scalar.minsi v0 c63_i32
  let c12_i32 : BitVec 32 := 12#32
  let c0_i32 : BitVec 32 := 0#32
  ![v1.toNat, c12_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "log2_e" => some (((Real.log 2)⁻¹ : ℝ) : EReal)
  | "mask" => some ⊥
  | "neg_log2_e" => some ((-((Real.log 2)⁻¹) : ℝ) : EReal)
  | "scale_log2_e" => some (((Real.sqrt 128)⁻¹ * (Real.log 2)⁻¹ : ℝ) : EReal)
  | "slope1" => some (((Real.sqrt 2)⁻¹ : ℝ) : EReal)
  | "slope3" => some (((Real.sqrt 8)⁻¹ : ℝ) : EReal)
  | "slope5" => some (((Real.sqrt 32)⁻¹ : ℝ) : EReal)
  | "slope7" => some (((Real.sqrt 128)⁻¹ : ℝ) : EReal)
  | _ => none
-- ==== ReferenceIdeal.lean ====
abbrev S1x8192x13312 : Shape := ⟨3, ![1, 8192, 13312]⟩
abbrev S1x3x2048 : Shape := ⟨3, ![1, 3, 2048]⟩
abbrev S1x16 : Shape := ⟨2, ![1, 16]⟩
abbrev S1x8192x2048 : Shape := ⟨3, ![1, 8192, 2048]⟩
abbrev S1x8192x512 : Shape := ⟨3, ![1, 8192, 512]⟩
abbrev S3x2048 : Shape := ⟨2, ![3, 2048]⟩
abbrev S_ : Shape := ⟨0, ![]⟩
abbrev S1x8194x2048 : Shape := ⟨3, ![1, 8194, 2048]⟩
abbrev S1x2048 : Shape := ⟨2, ![1, 2048]⟩
abbrev S2048 : Shape := ⟨1, ![2048]⟩
abbrev S1x1x2048 : Shape := ⟨3, ![1, 1, 2048]⟩
abbrev S16 : Shape := ⟨1, ![16]⟩
abbrev S1x64x128x4x4x128 : Shape := ⟨6, ![1, 64, 128, 4, 4, 128]⟩
abbrev S1x64x128x4x128 : Shape := ⟨5, ![1, 64, 128, 4, 128]⟩
abbrev S1x66x128x4x128 : Shape := ⟨5, ![1, 66, 128, 4, 128]⟩
abbrev S1x64x384x4x128 : Shape := ⟨5, ![1, 64, 384, 4, 128]⟩
abbrev S1x64x4x384x128x4 : Shape := ⟨6, ![1, 64, 4, 384, 128, 4]⟩
abbrev S1x64x4x4x128x384 : Shape := ⟨6, ![1, 64, 4, 4, 128, 384]⟩
abbrev S64 : Shape := ⟨1, ![64]⟩
abbrev S64x1 : Shape := ⟨2, ![64, 1]⟩
abbrev S128 : Shape := ⟨1, ![128]⟩
abbrev S1x128 : Shape := ⟨2, ![1, 128]⟩
abbrev S64x128 : Shape := ⟨2, ![64, 128]⟩
abbrev S384 : Shape := ⟨1, ![384]⟩
abbrev S1x384 : Shape := ⟨2, ![1, 384]⟩
abbrev S64x384 : Shape := ⟨2, ![64, 384]⟩
abbrev S64x128x1 : Shape := ⟨3, ![64, 128, 1]⟩
abbrev S64x1x384 : Shape := ⟨3, ![64, 1, 384]⟩
abbrev S64x128x384 : Shape := ⟨3, ![64, 128, 384]⟩
abbrev S4x4 : Shape := ⟨2, ![4, 4]⟩
abbrev S1x1x4x4x1x1 : Shape := ⟨6, ![1, 1, 4, 4, 1, 1]⟩
abbrev S1x64x1x1x128x384 : Shape := ⟨6, ![1, 64, 1, 1, 128, 384]⟩
abbrev S1x64x4x4x128 : Shape := ⟨5, ![1, 64, 4, 4, 128]⟩
abbrev S1x64x4x4x128x1 : Shape := ⟨6, ![1, 64, 4, 4, 128, 1]⟩
abbrev S1x64x4x128x4x128 : Shape := ⟨6, ![1, 64, 4, 128, 4, 128]⟩
abbrev S1x8192x4096 : Shape := ⟨3, ![1, 8192, 4096]⟩
abbrev S1x512x4096 : Shape := ⟨3, ![1, 512, 4096]⟩
abbrev S512x4096 : Shape := ⟨2, ![512, 4096]⟩

abbrev nBuf : Space → Nat
  | .hbm => 176
  | .vmem => 0
  | .smem => 0
  | _ => 0

abbrev hbmTy0_0 (i : Nat) : BufTy := match i % 128 with
  | 0 => ⟨S1x8192x13312, .f32⟩
  | 1 => ⟨S1x3x2048, .f32⟩
  | 2 => ⟨S1x16, .f32⟩
  | 3 => ⟨S1x8192x2048, .f32⟩
  | 4 => ⟨S1x8192x2048, .f32⟩
  | 5 => ⟨S1x8192x2048, .f32⟩
  | 6 => ⟨S1x8192x2048, .f32⟩
  | 7 => ⟨S1x8192x2048, .f32⟩
  | 8 => ⟨S1x8192x512, .f32⟩
  | 9 => ⟨S1x8192x512, .f32⟩
  | 10 => ⟨S1x8192x2048, .f32⟩
  | 11 => ⟨S1x8192x2048, .f32⟩
  | 12 => ⟨S3x2048, .f32⟩
  | 13 => ⟨S_, .i32⟩
  | 14 => ⟨S_, .f32⟩
  | 15 => ⟨S1x8194x2048, .f32⟩
  | 16 => ⟨S1x8192x2048, .f32⟩
  | 17 => ⟨S1x2048, .f32⟩
  | 18 => ⟨S2048, .f32⟩
  | 19 => ⟨S1x1x2048, .f32⟩
  | 20 => ⟨S1x8192x2048, .f32⟩
  | 21 => ⟨S1x8192x2048, .f32⟩
  | 22 => ⟨S1x8192x2048, .f32⟩
  | 23 => ⟨S1x2048, .f32⟩
  | 24 => ⟨S2048, .f32⟩
  | 25 => ⟨S1x1x2048, .f32⟩
  | 26 => ⟨S1x8192x2048, .f32⟩
  | 27 => ⟨S1x8192x2048, .f32⟩
  | 28 => ⟨S1x8192x2048, .f32⟩
  | 29 => ⟨S1x8192x2048, .f32⟩
  | 30 => ⟨S1x2048, .f32⟩
  | 31 => ⟨S2048, .f32⟩
  | 32 => ⟨S1x1x2048, .f32⟩
  | 33 => ⟨S1x8192x2048, .f32⟩
  | 34 => ⟨S1x8192x2048, .f32⟩
  | 35 => ⟨S1x8192x2048, .f32⟩
  | 36 => ⟨S1x8192x2048, .f32⟩
  | 37 => ⟨S1x8192x2048, .f32⟩
  | 38 => ⟨S1x8192x2048, .f32⟩
  | 39 => ⟨S_, .f32⟩
  | 40 => ⟨S1x8192x2048, .f32⟩
  | 41 => ⟨S1x8192x2048, .f32⟩
  | 42 => ⟨S_, .f32⟩
  | 43 => ⟨S1x8192x2048, .f32⟩
  | 44 => ⟨S1x8192x2048, .f32⟩
  | 45 => ⟨S1x8192x2048, .f32⟩
  | 46 => ⟨S1x8192x2048, .f32⟩
  | 47 => ⟨S16, .f32⟩
  | 48 => ⟨S1x64x128x4x4x128, .f32⟩
  | 49 => ⟨S1x64x128x4x128, .f32⟩
  | 50 => ⟨S_, .i32⟩
  | 51 => ⟨S_, .f32⟩
  | 52 => ⟨S1x66x128x4x128, .f32⟩
  | 53 => ⟨S1x64x128x4x128, .f32⟩
  | 54 => ⟨S1x64x128x4x128, .f32⟩
  | 55 => ⟨S1x64x128x4x128, .f32⟩
  | 56 => ⟨S1x64x384x4x128, .f32⟩
  | 57 => ⟨S1x64x128x4x128, .f32⟩
  | 58 => ⟨S_, .i32⟩
  | 59 => ⟨S_, .f32⟩
  | 60 => ⟨S1x66x128x4x128, .f32⟩
  | 61 => ⟨S1x64x128x4x128, .f32⟩
  | 62 => ⟨S1x64x128x4x128, .f32⟩
  | 63 => ⟨S1x64x128x4x128, .f32⟩
  | 64 => ⟨S1x64x384x4x128, .f32⟩
  | 65 => ⟨S1x64x4x384x128x4, .f32⟩
  | 66 => ⟨S1x64x4x4x128x384, .f32⟩
  | 67 => ⟨S_, .f32⟩
  | 68 => ⟨S_, .f32⟩
  | 69 => ⟨S1x64x4x4x128x384, .f32⟩
  | 70 => ⟨S1x64x4x4x128x384, .f32⟩
  | 71 => ⟨S64, .i32⟩
  | 72 => ⟨S64x1, .i32⟩
  | 73 => ⟨S_, .i32⟩
  | 74 => ⟨S64x1, .i32⟩
  | 75 => ⟨S64x1, .i32⟩
  | 76 => ⟨S128, .i32⟩
  | 77 => ⟨S1x128, .i32⟩
  | 78 => ⟨S64x128, .i32⟩
  | 79 => ⟨S64x128, .i32⟩
  | 80 => ⟨S64x128, .i32⟩
  | 81 => ⟨S_, .i32⟩
  | 82 => ⟨S64x1, .i32⟩
  | 83 => ⟨S64x1, .i32⟩
  | 84 => ⟨S_, .i32⟩
  | 85 => ⟨S64x1, .i32⟩
  | 86 => ⟨S64x1, .i32⟩
  | 87 => ⟨S384, .i32⟩
  | 88 => ⟨S1x384, .i32⟩
  | 89 => ⟨S64x384, .i32⟩
  | 90 => ⟨S64x384, .i32⟩
  | 91 => ⟨S64x384, .i32⟩
  | 92 => ⟨S64x128x1, .i32⟩
  | 93 => ⟨S64x1x384, .i32⟩
  | 94 => ⟨S64x128x384, .i32⟩
  | 95 => ⟨S64x128x384, .i32⟩
  | 96 => ⟨S64x128x384, .i32⟩
  | 97 => ⟨S64x128x384, .i32⟩
  | 98 => ⟨S_, .i32⟩
  | 99 => ⟨S64x128x384, .i32⟩
  | 100 => ⟨S64x128x384, .i1⟩
  | 101 => ⟨S64x1x384, .i32⟩
  | 102 => ⟨S_, .i32⟩
  | 103 => ⟨S64x1x384, .i32⟩
  | 104 => ⟨S64x1x384, .i1⟩
  | 105 => ⟨S64x128x384, .i1⟩
  | 106 => ⟨S64x128x384, .i1⟩
  | 107 => ⟨S64x1x384, .i32⟩
  | 108 => ⟨S_, .i32⟩
  | 109 => ⟨S64x1x384, .i32⟩
  | 110 => ⟨S64x1x384, .i1⟩
  | 111 => ⟨S64x128x384, .i1⟩
  | 112 => ⟨S64x128x384, .i1⟩
  | 113 => ⟨S16, .f32⟩
  | 114 => ⟨S_, .f32⟩
  | 115 => ⟨S16, .f32⟩
  | 116 => ⟨S16, .f32⟩
  | 117 => ⟨S_, .f32⟩
  | 118 => ⟨S16, .f32⟩
  | 119 => ⟨S16, .f32⟩
  | 120 => ⟨S_, .f32⟩
  | 121 => ⟨S16, .f32⟩
  | 122 => ⟨S16, .f32⟩
  | 123 => ⟨S_, .f32⟩
  | 124 => ⟨S16, .f32⟩
  | 125 => ⟨S16, .f32⟩
  | 126 => ⟨S4x4, .f32⟩
  | 127 => ⟨S1x1x4x4x1x1, .f32⟩
  | _ => ⟨S1x8192x13312, .f32⟩

abbrev hbmTy0_1 (i : Nat) : BufTy := match i % 128 with
  | 0 => ⟨S1x1x4x4x1x1, .f32⟩
  | 1 => ⟨S1x64x1x1x128x384, .i32⟩
  | 2 => ⟨S1x64x1x1x128x384, .f32⟩
  | 3 => ⟨S1x64x4x4x128x384, .f32⟩
  | 4 => ⟨S1x64x4x4x128x384, .f32⟩
  | 5 => ⟨S1x64x4x4x128x384, .f32⟩
  | 6 => ⟨S1x64x1x1x128x384, .i1⟩
  | 7 => ⟨S1x64x4x4x128x384, .f32⟩
  | 8 => ⟨S_, .f32⟩
  | 9 => ⟨S_, .f32⟩
  | 10 => ⟨S1x64x4x4x128x384, .i1⟩
  | 11 => ⟨S1x64x4x4x128x384, .f32⟩
  | 12 => ⟨S1x64x4x4x128x384, .f32⟩
  | 13 => ⟨S1x1x4x4x1x1, .f32⟩
  | 14 => ⟨S_, .f32⟩
  | 15 => ⟨S1x64x4x4x128, .f32⟩
  | 16 => ⟨S1x64x4x4x128x1, .f32⟩
  | 17 => ⟨S1x64x4x4x128x1, .f32⟩
  | 18 => ⟨S1x64x4x4x128x1, .f32⟩
  | 19 => ⟨S1x64x4x4x128x384, .f32⟩
  | 20 => ⟨S1x64x4x4x128x384, .f32⟩
  | 21 => ⟨S1x64x4x4x128x384, .f32⟩
  | 22 => ⟨S_, .f32⟩
  | 23 => ⟨S1x64x4x4x128, .f32⟩
  | 24 => ⟨S1x64x4x4x128x1, .f32⟩
  | 25 => ⟨S1x64x4x4x128x1, .f32⟩
  | 26 => ⟨S1x64x4x4x128x1, .f32⟩
  | 27 => ⟨S1x64x4x4x128x1, .f32⟩
  | 28 => ⟨S1x64x4x4x128x1, .f32⟩
  | 29 => ⟨S1x64x4x4x128x384, .f32⟩
  | 30 => ⟨S1x64x4x4x128x384, .f32⟩
  | 31 => ⟨S1x64x4x128x4x128, .f32⟩
  | 32 => ⟨S1x64x128x4x4x128, .f32⟩
  | 33 => ⟨S1x8192x2048, .f32⟩
  | 34 => ⟨S1x8192x2048, .f32⟩
  | 35 => ⟨S1x8192x2048, .f32⟩
  | 36 => ⟨S_, .f32⟩
  | 37 => ⟨S1x8192x2048, .f32⟩
  | 38 => ⟨S1x8192x2048, .f32⟩
  | 39 => ⟨S_, .f32⟩
  | 40 => ⟨S1x8192x2048, .f32⟩
  | 41 => ⟨S1x8192x2048, .f32⟩
  | 42 => ⟨S1x8192x2048, .f32⟩
  | 43 => ⟨S1x8192x2048, .f32⟩
  | 44 => ⟨S1x8192x4096, .f32⟩
  | 45 => ⟨S1x512x4096, .f32⟩
  | 46 => ⟨S512x4096, .f32⟩
  | 47 => ⟨S512x4096, .bf16⟩
  | _ => ⟨S1x8192x13312, .f32⟩

abbrev hbmTy (i : Nat) : BufTy := match i / 128 with
  | 0 => hbmTy0_0 i
  | 1 => hbmTy0_1 i
  | _ => ⟨S1x8192x13312, .f32⟩

abbrev bufTy : (tb : Table) → Fin (tcTables nBuf tb) → BufTy
  | .hbm, ⟨i, _⟩ => hbmTy i
  | _, _ => ⟨S1x8192x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_0 : Ref sig .tc := ⟨.hbm, 50, rfl⟩
abbrev main_call2_v0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_1 : Ref sig .tc := ⟨.hbm, 58, rfl⟩
abbrev main_call3_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_2 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_3 : Ref sig .tc := ⟨.hbm, 81, rfl⟩
abbrev main_v62 : Ref sig .tc := ⟨.hbm, 82, rfl⟩
abbrev main_v63 : Ref sig .tc := ⟨.hbm, 83, rfl⟩
abbrev main_c_4 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_c_5 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c_6 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_c_7 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_8 : Ref sig .tc := ⟨.hbm, 114, rfl⟩
abbrev main_v90 : Ref sig .tc := ⟨.hbm, 115, rfl⟩
abbrev main_v91 : Ref sig .tc := ⟨.hbm, 116, rfl⟩
abbrev main_cst_9 : Ref sig .tc := ⟨.hbm, 117, rfl⟩
abbrev main_v92 : Ref sig .tc := ⟨.hbm, 118, rfl⟩
abbrev main_v93 : Ref sig .tc := ⟨.hbm, 119, rfl⟩
abbrev main_cst_10 : Ref sig .tc := ⟨.hbm, 120, rfl⟩
abbrev main_v94 : Ref sig .tc := ⟨.hbm, 121, rfl⟩
abbrev main_v95 : Ref sig .tc := ⟨.hbm, 122, rfl⟩
abbrev main_cst_11 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_12 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_v108 : Ref sig .tc := ⟨.hbm, 140, rfl⟩
abbrev main_v109 : Ref sig .tc := ⟨.hbm, 141, rfl⟩
abbrev main_cst_13 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_14 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_call5_v0 : Ref sig .tc := ⟨.hbm, 162, rfl⟩
abbrev main_call5_v1 : Ref sig .tc := ⟨.hbm, 163, rfl⟩
abbrev main_call5_cst : Ref sig .tc := ⟨.hbm, 164, rfl⟩
abbrev main_call5_v2 : Ref sig .tc := ⟨.hbm, 165, rfl⟩
abbrev main_call5_v3 : Ref sig .tc := ⟨.hbm, 166, rfl⟩
abbrev main_call5_cst_0 : Ref sig .tc := ⟨.hbm, 167, rfl⟩
abbrev main_call5_v4 : Ref sig .tc := ⟨.hbm, 168, rfl⟩
abbrev main_call5_v5 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩

abbrev nD : Nat := 1
abbrev τ : Topo := Topo.v7x

variable {F : FTy → Type} [FloatOps F]
-- ==== Kernel2.lean ====
abbrev S1024x4096 : Shape := ⟨2, ![1024, 4096]⟩
abbrev S1x8192x4096 : Shape := ⟨3, ![1, 8192, 4096]⟩
abbrev S4096 : Shape := ⟨1, ![4096]⟩
abbrev S1x4096x13312 : Shape := ⟨3, ![1, 4096, 13312]⟩
abbrev S1x4096x4096 : Shape := ⟨3, ![1, 4096, 4096]⟩
abbrev S8192x4096 : Shape := ⟨2, ![8192, 4096]⟩
abbrev S1x4096 : Shape := ⟨2, ![1, 4096]⟩
abbrev S4096x13312 : Shape := ⟨2, ![4096, 13312]⟩
abbrev S4096x4096 : Shape := ⟨2, ![4096, 4096]⟩
abbrev S8192x13312 : Shape := ⟨2, ![8192, 13312]⟩
abbrev S8192x1 : Shape := ⟨2, ![8192, 1]⟩
abbrev S64x4096 : Shape := ⟨2, ![64, 4096]⟩
abbrev S4096x512 : Shape := ⟨2, ![4096, 512]⟩
abbrev S32x4096 : Shape := ⟨2, ![32, 4096]⟩
abbrev S1024x512 : Shape := ⟨2, ![1024, 512]⟩
abbrev S64x1 : Shape := ⟨2, ![64, 1]⟩
abbrev S16x4096 : Shape := ⟨2, ![16, 4096]⟩
abbrev S16 : Shape := ⟨1, ![16]⟩
abbrev S16x1 : Shape := ⟨2, ![16, 1]⟩

abbrev nBuf : Space → Nat
  | .hbm => 15
  | .vmem => 19
  | .smem => 0
  | _ => 0

abbrev bufTy : (tb : Table) → Fin (tcTables nBuf tb) → BufTy
  | .hbm, ⟨0, _⟩ => ⟨S1024x4096, .bf16⟩
  | .hbm, ⟨1, _⟩ => ⟨S1x8192x4096, .f32⟩
  | .hbm, ⟨2, _⟩ => ⟨S4096, .f32⟩
  | .hbm, ⟨3, _⟩ => ⟨S4096, .f32⟩
  | .hbm, ⟨4, _⟩ => ⟨S1x4096x13312, .f32⟩
  | .hbm, ⟨5, _⟩ => ⟨S1x4096x4096, .f32⟩
  | .hbm, ⟨6, _⟩ => ⟨S8192x4096, .f32⟩
  | .hbm, ⟨7, _⟩ => ⟨S1x4096, .f32⟩
  | .hbm, ⟨8, _⟩ => ⟨S1x4096, .f32⟩
  | .hbm, ⟨9, _⟩ => ⟨S4096x13312, .f32⟩
  | .hbm, ⟨10, _⟩ => ⟨S4096x4096, .f32⟩
  | .hbm, ⟨11, _⟩ => ⟨S8192x13312, .bf16⟩
  | .hbm, ⟨12, _⟩ => ⟨S8192x1, .f32⟩
  | .hbm, ⟨13, _⟩ => ⟨S8192x1, .f32⟩
  | .hbm, ⟨14, _⟩ => ⟨S4096x4096, .bf16⟩
  | .local _ .vmem, ⟨0, _⟩ => ⟨S1024x4096, .bf16⟩
  | .local _ .vmem, ⟨1, _⟩ => ⟨S64x4096, .f32⟩
  | .local _ .vmem, ⟨2, _⟩ => ⟨S64x4096, .f32⟩
  | .local _ .vmem, ⟨3, _⟩ => ⟨S1x4096, .f32⟩
  | .local _ .vmem, ⟨4, _⟩ => ⟨S1x4096, .f32⟩
  | .local _ .vmem, ⟨5, _⟩ => ⟨S4096x512, .f32⟩
  | .local _ .vmem, ⟨6, _⟩ => ⟨S4096x512, .f32⟩
  | .local _ .vmem, ⟨7, _⟩ => ⟨S32x4096, .f32⟩
  | .local _ .vmem, ⟨8, _⟩ => ⟨S32x4096, .f32⟩
  | .local _ .vmem, ⟨9, _⟩ => ⟨S1024x512, .bf16⟩
  | .local _ .vmem, ⟨10, _⟩ => ⟨S1024x512, .bf16⟩
  | .local _ .vmem, ⟨11, _⟩ => ⟨S64x1, .f32⟩
  | .local _ .vmem, ⟨12, _⟩ => ⟨S64x1, .f32⟩
  | .local _ .vmem, ⟨13, _⟩ => ⟨S64x1, .f32⟩
  | .local _ .vmem, ⟨14, _⟩ => ⟨S64x1, .f32⟩
  | .local _ .vmem, ⟨15, _⟩ => ⟨S32x4096, .bf16⟩
  | .local _ .vmem, ⟨16, _⟩ => ⟨S32x4096, .bf16⟩
  | .local _ .vmem, ⟨17, _⟩ => ⟨S1024x4096, .bf16⟩
  | .local _ .vmem, ⟨18, _⟩ => ⟨S1024x4096, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 26], ![false, false]⟩

def k0_cond2 (i : grid0.Coords) : BitVec 1 :=
  let arg0 : BitVec 32 := BitVec.ofNat 32 (i 0).val
  let c1_i32 : BitVec 32 := 1#32
  let v5 : BitVec 32 := Scalar.andi arg0 c1_i32
  let c0_i32_2 : BitVec 32 := 0#32
  let v6 : BitVec 1 := Scalar.cmpi .eq v5 c0_i32_2
  let v7 : BitVec 32 := Scalar.extui v6
  let c0_i32_3 : BitVec 32 := 0#32
  let v8 : BitVec 1 := Scalar.cmpi .ne v7 c0_i32_3
  v8

def k0_mult1 (i : grid0.Coords) : BitVec 32 :=
  let arg1 : BitVec 32 := BitVec.ofNat 32 (i 1).val
  let c15_i32 : BitVec 32 := 15#32
  let v20 : BitVec 32 := Scalar.minsi arg1 c15_i32
  let c64_i32 : BitVec 32 := 64#32
  let v21 : BitVec 32 := Scalar.muli v20 c64_i32
  v21
def k0_off1 (i : grid0.Coords) (c0_i32_27 : BitVec 32) : Fin 2 → Nat :=
  let arg1 : BitVec 32 := BitVec.ofNat 32 (i 1).val
  let c15_i32 : BitVec 32 := 15#32
  let v20 : BitVec 32 := Scalar.minsi arg1 c15_i32
  let c64_i32 : BitVec 32 := 64#32
  let v21 : BitVec 32 := Scalar.muli v20 c64_i32
  let v22 : BitVec 32 := v21
  let v52 : BitVec 32 := Scalar.addi v22 c0_i32_27
  let v53 : Index := Scalar.indexCast v52
  let c0_28 : Index := 0#32
  ![v53.toNat, 0]
def k0_cond3 (i : grid0.Coords) : BitVec 1 :=
  let arg0 : BitVec 32 := BitVec.ofNat 32 (i 0).val
  let c1_i32_4 : BitVec 32 := 1#32
  let v9 : BitVec 32 := Scalar.andi arg0 c1_i32_4
  let c1_i32_5 : BitVec 32 := 1#32
  let v10 : BitVec 1 := Scalar.cmpi .eq v9 c1_i32_5
  let v11 : BitVec 32 := Scalar.extui v10
  let c0_i32_6 : BitVec 32 := 0#32
  let v12 : BitVec 1 := Scalar.cmpi .ne v11 c0_i32_6
  v12

def k0_mult2 (i : grid0.Coords) : BitVec 32 :=
  let arg1 : BitVec 32 := BitVec.ofNat 32 (i 1).val
  let c15_i32 : BitVec 32 := 15#32
  let v20 : BitVec 32 := Scalar.minsi arg1 c15_i32
  let c64_i32 : BitVec 32 := 64#32
  let v21 : BitVec 32 := Scalar.muli v20 c64_i32
  v21
def k0_off2 (i : grid0.Coords) (c0_i32_27 : BitVec 32) : Fin 2 → Nat :=
  let arg1 : BitVec 32 := BitVec.ofNat 32 (i 1).val
  let c15_i32 : BitVec 32 := 15#32
  let v20 : BitVec 32 := Scalar.minsi arg1 c15_i32
  let c64_i32 : BitVec 32 := 64#32
  let v21 : BitVec 32 := Scalar.muli v20 c64_i32
  let v22 : BitVec 32 := v21
  let v52 : BitVec 32 := Scalar.addi v22 c0_i32_27
  let v53 : Index := Scalar.indexCast v52
  let c0_28 : Index := 0#32
  ![v53.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.remsi v0 c8_i32
  let c16_i32 : BitVec 32 := 16#32
  let v2 : BitVec 32 := Scalar.muli v1 c16_i32
  let c15_i32 : BitVec 32 := 15#32
  let v3 : BitVec 32 := Scalar.minsi arg1 c15_i32
  let v4 : BitVec 32 := Scalar.addi v2 v3
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.muli arg0 c26_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 1 := Scalar.cmpi .sge arg1 c22_i32
  let c2_i32 : BitVec 32 := 2#32
  let v1 : BitVec 32 := Scalar.shrui arg1 c2_i32
  let c5_i32 : BitVec 32 := 5#32
  let v2 : BitVec 32 := Scalar.select v0 c5_i32 v1
  let c22_i32_0 : BitVec 32 := 22#32
  let v3 : BitVec 32 := Scalar.subi arg1 c22_i32_0
  let c3_i32 : BitVec 32 := 3#32
  let v4 : BitVec 32 := Scalar.andi arg1 c3_i32
  let v5 : BitVec 32 := Scalar.select v0 v3 v4
  let c1_i32 : BitVec 32 := 1#32
  let v6 : BitVec 32 := Scalar.shrui v5 c1_i32
  let c12_i32 : BitVec 32 := 12#32
  let v7 : BitVec 32 := Scalar.muli v6 c12_i32
  let c2_i32_1 : BitVec 32 := 2#32
  let v8 : BitVec 32 := Scalar.muli v2 c2_i32_1
  let v9 : BitVec 32 := Scalar.addi v7 v8
  let c1_i32_2 : BitVec 32 := 1#32
  let v10 : BitVec 32 := Scalar.andi v5 c1_i32_2
  let v11 : BitVec 32 := Scalar.addi v9 v10
  let c20_i32 : BitVec 32 := 20#32
  let v12 : BitVec 1 := Scalar.cmpi .eq arg1 c20_i32
  let c24_i32 : BitVec 32 := 24#32
  let v13 : BitVec 32 := Scalar.select v12 c24_i32 v11
  let c21_i32 : BitVec 32 := 21#32
  let v14 : BitVec 1 := Scalar.cmpi .eq arg1 c21_i32
  let c25_i32 : BitVec 32 := 25#32
  let v15 : BitVec 32 := Scalar.select v14 c25_i32 v13
  let c0_i32 : BitVec 32 := 0#32
  ![arg0.toNat, v15.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.remsi v0 c8_i32
  let c16_i32 : BitVec 32 := 16#32
  let v2 : BitVec 32 := Scalar.muli v1 c16_i32
  let c15_i32 : BitVec 32 := 15#32
  let v3 : BitVec 32 := Scalar.minsi arg1 c15_i32
  let v4 : BitVec 32 := Scalar.addi v2 v3
  let c0_i32 : BitVec 32 := 0#32
  let c0_i32_0 : BitVec 32 := 0#32
  ![v4.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.remsi v0 c8_i32
  let c16_i32 : BitVec 32 := 16#32
  let v2 : BitVec 32 := Scalar.muli v1 c16_i32
  let c15_i32 : BitVec 32 := 15#32
  let v3 : BitVec 32 := Scalar.minsi arg1 c15_i32
  let v4 : BitVec 32 := Scalar.addi v2 v3
  let c0_i32 : BitVec 32 := 0#32
  let c0_i32_0 : BitVec 32 := 0#32
  ![v4.toNat, c0_i32.toNat]

def cc0_transform_9 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.muli arg0 c26_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S1024x4096 : Shape := ⟨2, ![1024, 4096]⟩
abbrev S1x8192x4096 : Shape := ⟨3, ![1, 8192, 4096]⟩
abbrev S4096 : Shape := ⟨1, ![4096]⟩
abbrev S1x4096x13312 : Shape := ⟨3, ![1, 4096, 13312]⟩
abbrev S1x4096x4096 : Shape := ⟨3, ![1, 4096, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S7168x4096 : Shape := ⟨2, ![7168, 4096]⟩
abbrev S4096x13312 : Shape := ⟨2, ![4096, 13312]⟩
abbrev S8192x13312 : Shape := ⟨2, ![8192, 13312]⟩
abbrev S8192x2048 : Shape := ⟨2, ![8192, 2048]⟩
abbrev S8192x512 : Shape := ⟨2, ![8192, 512]⟩
abbrev S8192x1024 : Shape := ⟨2, ![8192, 1024]⟩
abbrev S4096x4096 : Shape := ⟨2, ![4096, 4096]⟩

abbrev nBuf : Space → Nat
  | .hbm => 65
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S1x8192x4096, .f32⟩
  | .hbm, ⟨2, _⟩ => ⟨S4096, .f32⟩
  | .hbm, ⟨3, _⟩ => ⟨S4096, .f32⟩
  | .hbm, ⟨4, _⟩ => ⟨S1x4096x13312, .f32⟩
  | .hbm, ⟨5, _⟩ => ⟨S1x4096x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | .hbm, ⟨36, _⟩ => ⟨S1024x4096, .f32⟩
  | .hbm, ⟨37, _⟩ => ⟨S7168x4096, .f32⟩
  | .hbm, ⟨38, _⟩ => ⟨S8192x4096, .f32⟩
  | .hbm, ⟨39, _⟩ => ⟨S4096x13312, .f32⟩
  | .hbm, ⟨40, _⟩ => ⟨S8192x13312, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x512, .f32⟩
  | .hbm, ⟨47, _⟩ => ⟨S8192x512, .f32⟩
  | .hbm, ⟨48, _⟩ => ⟨S8192x2048, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x13312, .f32⟩
  | .hbm, ⟨62, _⟩ => ⟨S8192x13312, .bf16⟩
  | .hbm, ⟨63, _⟩ => ⟨S4096x4096, .f32⟩
  | .hbm, ⟨64, _⟩ => ⟨S4096x4096, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Kernel3.lean ====
abbrev S1x8192x4096 : Shape := ⟨3, ![1, 8192, 4096]⟩
abbrev S4096 : Shape := ⟨1, ![4096]⟩
abbrev S8192x4096 : Shape := ⟨2, ![8192, 4096]⟩
abbrev S1x4096 : Shape := ⟨2, ![1, 4096]⟩
abbrev S1024x4096 : Shape := ⟨2, ![1024, 4096]⟩
abbrev S256x4096 : Shape := ⟨2, ![256, 4096]⟩
abbrev S16x4096 : Shape := ⟨2, ![16, 4096]⟩
abbrev S16 : Shape := ⟨1, ![16]⟩
abbrev S16x1 : Shape := ⟨2, ![16, 1]⟩

abbrev nBuf : Space → Nat
  | .hbm => 7
  | .vmem => 6
  | .smem => 0
  | _ => 0

abbrev bufTy : (tb : Table) → Fin (tcTables nBuf tb) → BufTy
  | .hbm, ⟨0, _⟩ => ⟨S1x8192x4096, .f32⟩
  | .hbm, ⟨1, _⟩ => ⟨S4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S1x4096, .f32⟩
  | .hbm, ⟨6, _⟩ => ⟨S1024x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .bf16⟩
  | .local _ .vmem, ⟨5, _⟩ => ⟨S256x4096, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c64_i32 : BitVec 32 := 64#32
  let v5 : BitVec 32 := Scalar.muli arg5 c64_i32
  v5
def k0_off1 (k0_t1 : Fin k0_t1_loop.trips) (c0_i32_4 : BitVec 32) : Fin 2 → Nat :=
  let c0_i32 : BitVec 32 := 0#32
  let c1_i32 : BitVec 32 := 1#32
  let arg5 : BitVec 32 := Scf.iv c0_i32 c1_i32 k0_t1
  let c64_i32 : BitVec 32 := 64#32
  let v5 : BitVec 32 := Scalar.muli arg5 c64_i32
  let v6 : BitVec 32 := v5
  let v7 : BitVec 32 := Scalar.addi v6 c0_i32_4
  let v8 : Index := Scalar.indexCast v7
  let c0_5 : Index := 0#32
  ![v8.toNat, 0]
def k0_mult2 (k0_t1 : Fin k0_t1_loop.trips) : BitVec 32 :=
  let c0_i32 : BitVec 32 := 0#32
  let c1_i32 : BitVec 32 := 1#32
  let arg5 : BitVec 32 := Scf.iv c0_i32 c1_i32 k0_t1
  let c64_i32_11 : BitVec 32 := 64#32
  let v34 : BitVec 32 := Scalar.muli arg5 c64_i32_11
  v34
def k0_mult3 (k0_t1 : Fin k0_t1_loop.trips) : BitVec 32 :=
  let c0_i32 : BitVec 32 := 0#32
  let c1_i32 : BitVec 32 := 1#32
  let arg5 : BitVec 32 := Scf.iv c0_i32 c1_i32 k0_t1
  let c64_i32_19 : BitVec 32 := 64#32
  let v63 : BitVec 32 := Scalar.muli arg5 c64_i32_19
  v63
def k0_mult4 (k0_t1 : Fin k0_t1_loop.trips) : BitVec 32 :=
  let c0_i32 : BitVec 32 := 0#32
  let c1_i32 : BitVec 32 := 1#32
  let arg5 : BitVec 32 := Scf.iv c0_i32 c1_i32 k0_t1
  let c64_i32_27 : BitVec 32 := 64#32
  let v92 : BitVec 32 := Scalar.muli arg5 c64_i32_27
  v92
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S1x8192x4096 : Shape := ⟨3, ![1, 8192, 4096]⟩
abbrev S4096 : Shape := ⟨1, ![4096]⟩
abbrev S1x1024x4096 : Shape := ⟨3, ![1, 1024, 4096]⟩
abbrev S1024x4096 : Shape := ⟨2, ![1024, 4096]⟩
abbrev S_ : Shape := ⟨0, ![]⟩
abbrev S1024 : Shape := ⟨1, ![1024]⟩
abbrev S1024x1 : Shape := ⟨2, ![1024, 1]⟩
abbrev S1x4096 : Shape := ⟨2, ![1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S4096, .f32⟩
  | .hbm, ⟨2, _⟩ => ⟨S4096, .f32⟩
  | .hbm, ⟨3, _⟩ => ⟨S1x1024x4096, .f32⟩
  | .hbm, ⟨4, _⟩ => ⟨S1024x4096, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x4096, .f32⟩
  | .hbm, ⟨12, _⟩ => ⟨S1024x4096, .f32⟩
  | .hbm, ⟨13, _⟩ => ⟨S1024x4096, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x4096, .f32⟩
  | .hbm, ⟨21, _⟩ => ⟨S1024x4096, .f32⟩
  | .hbm, ⟨22, _⟩ => ⟨S_, .f32⟩
  | .hbm, ⟨23, _⟩ => ⟨S1024x1, .f32⟩
  | .hbm, ⟨24, _⟩ => ⟨S1024x1, .f32⟩
  | .hbm, ⟨25, _⟩ => ⟨S1024x1, .f32⟩
  | .hbm, ⟨26, _⟩ => ⟨S1024x4096, .f32⟩
  | .hbm, ⟨27, _⟩ => ⟨S1024x4096, .f32⟩
  | .hbm, ⟨28, _⟩ => ⟨S1x4096, .f32⟩
  | .hbm, ⟨29, _⟩ => ⟨S1024x4096, .f32⟩
  | .hbm, ⟨30, _⟩ => ⟨S1024x4096, .f32⟩
  | .hbm, ⟨31, _⟩ => ⟨S1x4096, .f32⟩
  | .hbm, ⟨32, _⟩ => ⟨S1024x4096, .f32⟩
  | .hbm, ⟨33, _⟩ => ⟨S1024x4096, .f32⟩
  | .hbm, ⟨34, _⟩ => ⟨S1024x4096, .bf16⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel4.lean ====
abbrev S1x8192x4096 : Shape := ⟨3, ![1, 8192, 4096]⟩
abbrev S8192x1 : Shape := ⟨2, ![8192, 1]⟩
abbrev S4096 : Shape := ⟨1, ![4096]⟩
abbrev S512x4096 : Shape := ⟨2, ![512, 4096]⟩
abbrev S4096x4096 : Shape := ⟨2, ![4096, 4096]⟩
abbrev S1x4096 : Shape := ⟨2, ![1, 4096]⟩
abbrev S1x8192x13312 : Shape := ⟨3, ![1, 8192, 13312]⟩
abbrev S1x3x2048 : Shape := ⟨3, ![1, 3, 2048]⟩
abbrev S1x16 : Shape := ⟨2, ![1, 16]⟩
abbrev S8192x13312 : Shape := ⟨2, ![8192, 13312]⟩
abbrev S8192x1024 : Shape := ⟨2, ![8192, 1024]⟩
abbrev S8192x512 : Shape := ⟨2, ![8192, 512]⟩
abbrev S8192x4096 : Shape := ⟨2, ![8192, 4096]⟩
abbrev S3x2048 : Shape := ⟨2, ![3, 2048]⟩
abbrev S16 : Shape := ⟨1, ![16]⟩
abbrev S512x512 : Shape := ⟨2, ![512, 512]⟩
abbrev S512x1 : Shape := ⟨2, ![512, 1]⟩
abbrev S1x512 : Shape := ⟨2, ![1, 512]⟩
abbrev S4096x512 : Shape := ⟨2, ![4096, 512]⟩
abbrev S128x6144 : Shape := ⟨2, ![128, 6144]⟩
abbrev S16x6144 : Shape := ⟨2, ![16, 6144]⟩
abbrev S128x1024 : Shape := ⟨2, ![128, 1024]⟩
abbrev S3x1024 : Shape := ⟨2, ![3, 1024]⟩
abbrev S8x512x512 : Shape := ⟨3, ![8, 512, 512]⟩
abbrev S512x128 : Shape := ⟨2, ![512, 128]⟩
abbrev S128x128 : Shape := ⟨2, ![128, 128]⟩
abbrev S16x1024 : Shape := ⟨2, ![16, 1024]⟩
abbrev S1x128 : Shape := ⟨2, ![1, 128]⟩
abbrev S128x256 : Shape := ⟨2, ![128, 256]⟩
abbrev S512x256 : Shape := ⟨2, ![512, 256]⟩
abbrev S384x128 : Shape := ⟨2, ![384, 128]⟩
abbrev S384x256 : Shape := ⟨2, ![384, 256]⟩
abbrev S768x256 : Shape := ⟨2, ![768, 256]⟩
abbrev S512x768 : Shape := ⟨2, ![512, 768]⟩
abbrev S128x384 : Shape := ⟨2, ![128, 384]⟩
abbrev S1 : Shape := ⟨1, ![1]⟩
abbrev S128 : Shape := ⟨1, ![128]⟩
abbrev S128x1 : Shape := ⟨2, ![128, 1]⟩
abbrev S128x768 : Shape := ⟨2, ![128, 768]⟩
abbrev S64x128 : Shape := ⟨2, ![64, 128]⟩
abbrev S64x512 : Shape := ⟨2, ![64, 512]⟩
abbrev S64x1 : Shape := ⟨2, ![64, 1]⟩
abbrev S1x64x512 : Shape := ⟨3, ![1, 64, 512]⟩
abbrev S64 : Shape := ⟨1, ![64]⟩
abbrev S512 : Shape := ⟨1, ![512]⟩

abbrev nBuf : Space → Nat
  | .hbm => 35
  | .vmem => 36
  | .smem => 1
  | _ => 0

abbrev bufTy : (tb : Table) → Fin (tcTables nBuf tb) → BufTy
  | .hbm, ⟨0, _⟩ => ⟨S1x8192x4096, .f32⟩
  | .hbm, ⟨1, _⟩ => ⟨S8192x1, .f32⟩
  | .hbm, ⟨2, _⟩ => ⟨S8192x1, .f32⟩
  | .hbm, ⟨3, _⟩ => ⟨S4096, .f32⟩
  | .hbm, ⟨4, _⟩ => ⟨S4096, .f32⟩
  | .hbm, ⟨5, _⟩ => ⟨S512x4096, .bf16⟩
  | .hbm, ⟨6, _⟩ => ⟨S4096x4096, .bf16⟩
  | .hbm, ⟨7, _⟩ => ⟨S1x4096, .f32⟩
  | .hbm, ⟨8, _⟩ => ⟨S1x4096, .f32⟩
  | .hbm, ⟨9, _⟩ => ⟨S1x8192x13312, .f32⟩
  | .hbm, ⟨10, _⟩ => ⟨S1x3x2048, .f32⟩
  | .hbm, ⟨11, _⟩ => ⟨S1x16, .f32⟩
  | .hbm, ⟨12, _⟩ => ⟨S8192x13312, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x512, .f32⟩
  | .hbm, ⟨26, _⟩ => ⟨S8192x512, .f32⟩
  | .hbm, ⟨27, _⟩ => ⟨S8192x4096, .f32⟩
  | .hbm, ⟨28, _⟩ => ⟨S1x4096, .f32⟩
  | .hbm, ⟨29, _⟩ => ⟨S1x4096, .f32⟩
  | .hbm, ⟨30, _⟩ => ⟨S8192x13312, .f32⟩
  | .hbm, ⟨31, _⟩ => ⟨S8192x13312, .bf16⟩
  | .hbm, ⟨32, _⟩ => ⟨S3x2048, .f32⟩
  | .hbm, ⟨33, _⟩ => ⟨S16, .f32⟩
  | .hbm, ⟨34, _⟩ => ⟨S8192x4096, .f32⟩
  | .local _ .vmem, ⟨0, _⟩ => ⟨S512x4096, .bf16⟩
  | .local _ .vmem, ⟨1, _⟩ => ⟨S512x512, .f32⟩
  | .local _ .vmem, ⟨2, _⟩ => ⟨S512x512, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S4096x512, .bf16⟩
  | .local _ .vmem, ⟨12, _⟩ => ⟨S4096x512, .bf16⟩
  | .local _ .vmem, ⟨13, _⟩ => ⟨S1x4096, .f32⟩
  | .local _ .vmem, ⟨14, _⟩ => ⟨S1x4096, .f32⟩
  | .local _ .vmem, ⟨15, _⟩ => ⟨S128x6144, .bf16⟩
  | .local _ .vmem, ⟨16, _⟩ => ⟨S128x6144, .bf16⟩
  | .local _ .vmem, ⟨17, _⟩ => ⟨S16x6144, .bf16⟩
  | .local _ .vmem, ⟨18, _⟩ => ⟨S16x6144, .bf16⟩
  | .local _ .vmem, ⟨19, _⟩ => ⟨S16x6144, .bf16⟩
  | .local _ .vmem, ⟨20, _⟩ => ⟨S16x6144, .bf16⟩
  | .local _ .vmem, ⟨21, _⟩ => ⟨S128x1024, .bf16⟩
  | .local _ .vmem, ⟨22, _⟩ => ⟨S128x1024, .bf16⟩
  | .local _ .vmem, ⟨23, _⟩ => ⟨S128x1024, .bf16⟩
  | .local _ .vmem, ⟨24, _⟩ => ⟨S128x1024, .bf16⟩
  | .local _ .vmem, ⟨25, _⟩ => ⟨S128x1024, .bf16⟩
  | .local _ .vmem, ⟨26, _⟩ => ⟨S128x1024, .bf16⟩
  | .local _ .vmem, ⟨27, _⟩ => ⟨S3x1024, .f32⟩
  | .local _ .vmem, ⟨28, _⟩ => ⟨S3x1024, .f32⟩
  | .local _ .vmem, ⟨29, _⟩ => ⟨S512x4096, .f32⟩
  | .local _ .vmem, ⟨30, _⟩ => ⟨S512x4096, .f32⟩
  | .local _ .vmem, ⟨31, _⟩ => ⟨S8x512x512, .f32⟩
  | .local _ .vmem, ⟨32, _⟩ => ⟨S512x128, .f32⟩
  | .local _ .vmem, ⟨33, _⟩ => ⟨S512x128, .f32⟩
  | .local _ .vmem, ⟨34, _⟩ => ⟨S512x4096, .bf16⟩
  | .local _ .vmem, ⟨35, _⟩ => ⟨S512x4096, .bf16⟩
  | .local _ .smem, ⟨0, _⟩ => ⟨S16, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨2, ![16, 8], ![false, false]⟩

def k0_cond3 (i : grid0.Coords) : BitVec 1 :=
  let arg0 : BitVec 32 := BitVec.ofNat 32 (i 0).val
  let c1_i32 : BitVec 32 := 1#32
  let v8 : BitVec 32 := Scalar.andi arg0 c1_i32
  let c0_i32_4 : BitVec 32 := 0#32
  let v9 : BitVec 1 := Scalar.cmpi .eq v8 c0_i32_4
  let v10 : BitVec 32 := Scalar.extui v9
  let c0_i32_5 : BitVec 32 := 0#32
  let v11 : BitVec 1 := Scalar.cmpi .ne v10 c0_i32_5
  v11

def k0_mult1 (i : grid0.Coords) : BitVec 32 :=
  let arg1 : BitVec 32 := BitVec.ofNat 32 (i 1).val
  let c1_i32_11 : BitVec 32 := 1#32
  let v20 : BitVec 32 := Scalar.shrui arg1 c1_i32_11
  let c128_i32 : BitVec 32 := 128#32
  let v21 : BitVec 32 := Scalar.muli v20 c128_i32
  v21
def k0_mult2 (i : grid0.Coords) : BitVec 32 :=
  let arg1 : BitVec 32 := BitVec.ofNat 32 (i 1).val
  let c1_i32_10 : BitVec 32 := 1#32
  let v19 : BitVec 32 := Scalar.andi arg1 c1_i32_10
  let c256_i32 : BitVec 32 := 256#32
  let v28 : BitVec 32 := Scalar.muli v19 c256_i32
  v28
def k0_mult3 (i : grid0.Coords) : BitVec 32 :=
  let c512_i32 : BitVec 32 := 512#32
  let arg1 : BitVec 32 := BitVec.ofNat 32 (i 1).val
  let c1_i32_10 : BitVec 32 := 1#32
  let v19 : BitVec 32 := Scalar.andi arg1 c1_i32_10
  let c256_i32_14 : BitVec 32 := 256#32
  let v30 : BitVec 32 := Scalar.muli v19 c256_i32_14
  let v31 : BitVec 32 := Scalar.addi c512_i32 v30
  v31
def k0_mult4 (i : grid0.Coords) : BitVec 32 :=
  let arg1 : BitVec 32 := BitVec.ofNat 32 (i 1).val
  let c1_i32_10 : BitVec 32 := 1#32
  let v19 : BitVec 32 := Scalar.andi arg1 c1_i32_10
  let c1024_i32_59 : BitVec 32 := 1024#32
  let v113 : BitVec 32 := Scalar.muli v19 c1024_i32_59
  let c0_i32_60 : BitVec 32 := 0#32
  let v114 : BitVec 32 := Scalar.addi v113 c0_i32_60
  v114
def k0_off1 (i : grid0.Coords) (c0_i32_60 : BitVec 32) : Fin 2 → Nat :=
  let arg1 : BitVec 32 := BitVec.ofNat 32 (i 1).val
  let c1_i32_11 : BitVec 32 := 1#32
  let v20 : BitVec 32 := Scalar.shrui arg1 c1_i32_11
  let c128_i32 : BitVec 32 := 128#32
  let v21 : BitVec 32 := Scalar.muli v20 c128_i32
  let v22 : BitVec 32 := v21
  let v116 : Index := Scalar.indexCast v22
  let c1_i32_10 : BitVec 32 := 1#32
  let v19 : BitVec 32 := Scalar.andi arg1 c1_i32_10
  let c1024_i32_59 : BitVec 32 := 1024#32
  let v113 : BitVec 32 := Scalar.muli v19 c1024_i32_59
  let v114 : BitVec 32 := Scalar.addi v113 c0_i32_60
  let v115 : BitVec 32 := v114
  let v117 : Index := Scalar.indexCast v115
  ![v116.toNat, v117.toNat]
def k0_off1_at (r : Fin 16) : BitVec 32 :=
  if r.val < 8 then
    if r.val < 4 then
      if r.val < 2 then
        if r.val < 1 then
          0#32
        else
          128#32
      else
        if r.val < 3 then
          256#32
        else
          384#32
    else
      if r.val < 6 then
        if r.val < 5 then
          512#32
        else
          640#32
      else
        if r.val < 7 then
          768#32
        else
          896#32
  else
    if r.val < 12 then
      if r.val < 10 then
        if r.val < 9 then
          2048#32
        else
          2176#32
      else
        if r.val < 11 then
          2304#32
        else
          2432#32
    else
      if r.val < 14 then
        if r.val < 13 then
          2560#32
        else
          2688#32
      else
        if r.val < 15 then
          2816#32
        else
          2944#32
def k0_mult5 (i : grid0.Coords) : BitVec 32 :=
  let arg1 : BitVec 32 := BitVec.ofNat 32 (i 1).val
  let c1_i32_10 : BitVec 32 := 1#32
  let v19 : BitVec 32 := Scalar.andi arg1 c1_i32_10
  let c1024_i32_108 : BitVec 32 := 1024#32
  let v198 : BitVec 32 := Scalar.muli v19 c1024_i32_108
  let c128_i32_109 : BitVec 32 := 128#32
  let v199 : BitVec 32 := Scalar.addi v198 c128_i32_109
  v199
def k0_off2 (i : grid0.Coords) : Fin 2 → Nat :=
  let c0_i32_135 : BitVec 32 := 0#32
  let arg1 : BitVec 32 := BitVec.ofNat 32 (i 1).val
  let c1_i32_10 : BitVec 32 := 1#32
  let v19 : BitVec 32 := Scalar.andi arg1 c1_i32_10
  let c256_i32 : BitVec 32 := 256#32
  let v28 : BitVec 32 := Scalar.muli v19 c256_i32
  let v29 : BitVec 32 := v28
  ![0, v29.toNat]
def k0_off3 (i : grid0.Coords) (c0_i32_169 : BitVec 32) : Fin 1 → Nat :=
  let arg1 : BitVec 32 := BitVec.ofNat 32 (i 1).val
  let c1_i32_10 : BitVec 32 := 1#32
  let v19 : BitVec 32 := Scalar.andi arg1 c1_i32_10
  let c8_i32 : BitVec 32 := 8#32
  let v287 : BitVec 32 := Scalar.muli v19 c8_i32
  let v288 : BitVec 32 := Scalar.addi v287 c0_i32_169
  let v289 : Index := Scalar.indexCast v288
  ![v289.toNat]
def k0_mult6 (i : grid0.Coords) : BitVec 32 :=
  let arg1 : BitVec 32 := BitVec.ofNat 32 (i 1).val
  let c1_i32_10 : BitVec 32 := 1#32
  let v19 : BitVec 32 := Scalar.andi arg1 c1_i32_10
  let c1024_i32_234 : BitVec 32 := 1024#32
  let v421 : BitVec 32 := Scalar.muli v19 c1024_i32_234
  let c256_i32_235 : BitVec 32 := 256#32
  let v422 : BitVec 32 := Scalar.addi v421 c256_i32_235
  v422
def k0_mult7 (i : grid0.Coords) : BitVec 32 :=
  let arg1 : BitVec 32 := BitVec.ofNat 32 (i 1).val
  let c1_i32_10 : BitVec 32 := 1#32
  let v19 : BitVec 32 := Scalar.andi arg1 c1_i32_10
  let c1024_i32_308 : BitVec 32 := 1024#32
  let v570 : BitVec 32 := Scalar.muli v19 c1024_i32_308
  let c384_i32 : BitVec 32 := 384#32
  let v571 : BitVec 32 := Scalar.addi v570 c384_i32
  v571
def k0_mult8 (i : grid0.Coords) : BitVec 32 :=
  let arg1 : BitVec 32 := BitVec.ofNat 32 (i 1).val
  let c1_i32_10 : BitVec 32 := 1#32
  let v19 : BitVec 32 := Scalar.andi arg1 c1_i32_10
  let c1024_i32_382 : BitVec 32 := 1024#32
  let v719 : BitVec 32 := Scalar.muli v19 c1024_i32_382
  let c512_i32_383 : BitVec 32 := 512#32
  let v720 : BitVec 32 := Scalar.addi v719 c512_i32_383
  v720
def k0_mult9 (i : grid0.Coords) : BitVec 32 :=
  let arg1 : BitVec 32 := BitVec.ofNat 32 (i 1).val
  let c1_i32_10 : BitVec 32 := 1#32
  let v19 : BitVec 32 := Scalar.andi arg1 c1_i32_10
  let c1024_i32_446 : BitVec 32 := 1024#32
  let v838 : BitVec 32 := Scalar.muli v19 c1024_i32_446
  let c640_i32 : BitVec 32 := 640#32
  let v839 : BitVec 32 := Scalar.addi v838 c640_i32
  v839
def k0_mult10 (i : grid0.Coords) : BitVec 32 :=
  let arg1 : BitVec 32 := BitVec.ofNat 32 (i 1).val
  let c1_i32_10 : BitVec 32 := 1#32
  let v19 : BitVec 32 := Scalar.andi arg1 c1_i32_10
  let c1024_i32_510 : BitVec 32 := 1024#32
  let v957 : BitVec 32 := Scalar.muli v19 c1024_i32_510
  let c768_i32 : BitVec 32 := 768#32
  let v958 : BitVec 32 := Scalar.addi v957 c768_i32
  v958
def k0_off4 (i : grid0.Coords) : Fin 2 → Nat :=
  let c0_i32_511 : BitVec 32 := 0#32
  let c512_i32 : BitVec 32 := 512#32
  let arg1 : BitVec 32 := BitVec.ofNat 32 (i 1).val
  let c1_i32_10 : BitVec 32 := 1#32
  let v19 : BitVec 32 := Scalar.andi arg1 c1_i32_10
  let c256_i32_14 : BitVec 32 := 256#32
  let v30 : BitVec 32 := Scalar.muli v19 c256_i32_14
  let v31 : BitVec 32 := Scalar.addi c512_i32 v30
  let v32 : BitVec 32 := v31
  ![0, v32.toNat]
def k0_mult11 (i : grid0.Coords) : BitVec 32 :=
  let arg1 : BitVec 32 := BitVec.ofNat 32 (i 1).val
  let c1_i32_10 : BitVec 32 := 1#32
  let v19 : BitVec 32 := Scalar.andi arg1 c1_i32_10
  let c1024_i32_583 : BitVec 32 := 1024#32
  let v1076 : BitVec 32 := Scalar.muli v19 c1024_i32_583
  let c896_i32 : BitVec 32 := 896#32
  let v1077 : BitVec 32 := Scalar.addi v1076 c896_i32
  v1077
def k0_mult12 (i : grid0.Coords) : BitVec 32 :=
  let arg1 : BitVec 32 := BitVec.ofNat 32 (i 1).val
  let c1_i32_10 : BitVec 32 := 1#32
  let v19 : BitVec 32 := Scalar.andi arg1 c1_i32_10
  let c1024_i32_589 : BitVec 32 := 1024#32
  let v1099 : BitVec 32 := Scalar.muli v19 c1024_i32_589
  let c2048_i32_590 : BitVec 32 := 2048#32
  let v1100 : BitVec 32 := Scalar.addi v1099 c2048_i32_590
  v1100
def k0_mult13 (i : grid0.Coords) : BitVec 32 :=
  let arg1 : BitVec 32 := BitVec.ofNat 32 (i 1).val
  let c1_i32_10 : BitVec 32 := 1#32
  let v19 : BitVec 32 := Scalar.andi arg1 c1_i32_10
  let c1024_i32_597 : BitVec 32 := 1024#32
  let v1122 : BitVec 32 := Scalar.muli v19 c1024_i32_597
  let c2176_i32 : BitVec 32 := 2176#32
  let v1123 : BitVec 32 := Scalar.addi v1122 c2176_i32
  v1123
def k0_mult14 (i : grid0.Coords) : BitVec 32 :=
  let arg1 : BitVec 32 := BitVec.ofNat 32 (i 1).val
  let c1_i32_10 : BitVec 32 := 1#32
  let v19 : BitVec 32 := Scalar.andi arg1 c1_i32_10
  let c1024_i32_604 : BitVec 32 := 1024#32
  let v1145 : BitVec 32 := Scalar.muli v19 c1024_i32_604
  let c2304_i32 : BitVec 32 := 2304#32
  let v1146 : BitVec 32 := Scalar.addi v1145 c2304_i32
  v1146
def k0_mult15 (i : grid0.Coords) : BitVec 32 :=
  let arg1 : BitVec 32 := BitVec.ofNat 32 (i 1).val
  let c1_i32_10 : BitVec 32 := 1#32
  let v19 : BitVec 32 := Scalar.andi arg1 c1_i32_10
  let c1024_i32_611 : BitVec 32 := 1024#32
  let v1168 : BitVec 32 := Scalar.muli v19 c1024_i32_611
  let c2432_i32 : BitVec 32 := 2432#32
  let v1169 : BitVec 32 := Scalar.addi v1168 c2432_i32
  v1169
def k0_mult16 (i : grid0.Coords) : BitVec 32 :=
  let arg1 : BitVec 32 := BitVec.ofNat 32 (i 1).val
  let c1_i32_10 : BitVec 32 := 1#32
  let v19 : BitVec 32 := Scalar.andi arg1 c1_i32_10
  let c1024_i32_618 : BitVec 32 := 1024#32
  let v1191 : BitVec 32 := Scalar.muli v19 c1024_i32_618
  let c2560_i32 : BitVec 32 := 2560#32
  let v1192 : BitVec 32 := Scalar.addi v1191 c2560_i32
  v1192
def k0_mult17 (i : grid0.Coords) : BitVec 32 :=
  let arg1 : BitVec 32 := BitVec.ofNat 32 (i 1).val
  let c1_i32_10 : BitVec 32 := 1#32
  let v19 : BitVec 32 := Scalar.andi arg1 c1_i32_10
  let c1024_i32_625 : BitVec 32 := 1024#32
  let v1214 : BitVec 32 := Scalar.muli v19 c1024_i32_625
  let c2688_i32 : BitVec 32 := 2688#32
  let v1215 : BitVec 32 := Scalar.addi v1214 c2688_i32
  v1215
def k0_mult18 (i : grid0.Coords) : BitVec 32 :=
  let arg1 : BitVec 32 := BitVec.ofNat 32 (i 1).val
  let c1_i32_10 : BitVec 32 := 1#32
  let v19 : BitVec 32 := Scalar.andi arg1 c1_i32_10
  let c1024_i32_632 : BitVec 32 := 1024#32
  let v1237 : BitVec 32 := Scalar.muli v19 c1024_i32_632
  let c2816_i32 : BitVec 32 := 2816#32
  let v1238 : BitVec 32 := Scalar.addi v1237 c2816_i32
  v1238
def k0_mult19 (i : grid0.Coords) : BitVec 32 :=
  let arg1 : BitVec 32 := BitVec.ofNat 32 (i 1).val
  let c1_i32_10 : BitVec 32 := 1#32
  let v19 : BitVec 32 := Scalar.andi arg1 c1_i32_10
  let c1024_i32_639 : BitVec 32 := 1024#32
  let v1260 : BitVec 32 := Scalar.muli v19 c1024_i32_639
  let c2944_i32 : BitVec 32 := 2944#32
  let v1261 : BitVec 32 := Scalar.addi v1260 c2944_i32
  v1261
def k0_off5 (i : grid0.Coords) : Fin 3 → Nat :=
  let arg1 : BitVec 32 := BitVec.ofNat 32 (i 1).val
  let v1297 : Index := Scalar.indexCast arg1
  let c0_656 : Index := 0#32
  let c0_657 : Index := 0#32
  ![v1297.toNat, 0, 0]
def k0_off6 (i : grid0.Coords) : Fin 3 → Nat :=
  let arg1 : BitVec 32 := BitVec.ofNat 32 (i 1).val
  let v1338 : Index := Scalar.indexCast arg1
  let c64_674 : Index := 64#32
  let c0_675 : Index := 0#32
  ![v1338.toNat, 64, 0]
def k0_off7 (i : grid0.Coords) : Fin 3 → Nat :=
  let arg1 : BitVec 32 := BitVec.ofNat 32 (i 1).val
  let v1379 : Index := Scalar.indexCast arg1
  let c128_693 : Index := 128#32
  let c0_694 : Index := 0#32
  ![v1379.toNat, 128, 0]
def k0_off8 (i : grid0.Coords) : Fin 3 → Nat :=
  let arg1 : BitVec 32 := BitVec.ofNat 32 (i 1).val
  let v1420 : Index := Scalar.indexCast arg1
  let c192_711 : Index := 192#32
  let c0_712 : Index := 0#32
  ![v1420.toNat, 192, 0]
def k0_off9 (i : grid0.Coords) : Fin 3 → Nat :=
  let arg1 : BitVec 32 := BitVec.ofNat 32 (i 1).val
  let v1461 : Index := Scalar.indexCast arg1
  let c256_730 : Index := 256#32
  let c0_731 : Index := 0#32
  ![v1461.toNat, 256, 0]
def k0_off10 (i : grid0.Coords) : Fin 3 → Nat :=
  let arg1 : BitVec 32 := BitVec.ofNat 32 (i 1).val
  let v1502 : Index := Scalar.indexCast arg1
  let c320_748 : Index := 320#32
  let c0_749 : Index := 0#32
  ![v1502.toNat, 320, 0]
def k0_off11 (i : grid0.Coords) : Fin 3 → Nat :=
  let arg1 : BitVec 32 := BitVec.ofNat 32 (i 1).val
  let v1543 : Index := Scalar.indexCast arg1
  let c384_767 : Index := 384#32
  let c0_768 : Index := 0#32
  ![v1543.toNat, 384, 0]
def k0_off12 (i : grid0.Coords) : Fin 3 → Nat :=
  let arg1 : BitVec 32 := BitVec.ofNat 32 (i 1).val
  let v1584 : Index := Scalar.indexCast arg1
  let c448_785 : Index := 448#32
  let c0_786 : Index := 0#32
  ![v1584.toNat, 448, 0]
def k0_cond4 (i : grid0.Coords) : BitVec 1 :=
  let arg0 : BitVec 32 := BitVec.ofNat 32 (i 0).val
  let c1_i32_6 : BitVec 32 := 1#32
  let v12 : BitVec 32 := Scalar.andi arg0 c1_i32_6
  let c1_i32_7 : BitVec 32 := 1#32
  let v13 : BitVec 1 := Scalar.cmpi .eq v12 c1_i32_7
  let v14 : BitVec 32 := Scalar.extui v13
  let c0_i32_8 : BitVec 32 := 0#32
  let v15 : BitVec 1 := Scalar.cmpi .ne v14 c0_i32_8
  v15

def k0_mult20 (i : grid0.Coords) : BitVec 32 :=
  let arg1 : BitVec 32 := BitVec.ofNat 32 (i 1).val
  let c1_i32_11 : BitVec 32 := 1#32
  let v20 : BitVec 32 := Scalar.shrui arg1 c1_i32_11
  let c128_i32 : BitVec 32 := 128#32
  let v21 : BitVec 32 := Scalar.muli v20 c128_i32
  v21
def k0_mult21 (i : grid0.Coords) : BitVec 32 :=
  let arg1 : BitVec 32 := BitVec.ofNat 32 (i 1).val
  let c1_i32_10 : BitVec 32 := 1#32
  let v19 : BitVec 32 := Scalar.andi arg1 c1_i32_10
  let c256_i32 : BitVec 32 := 256#32
  let v28 : BitVec 32 := Scalar.muli v19 c256_i32
  v28
def k0_mult22 (i : grid0.Coords) : BitVec 32 :=
  let c512_i32 : BitVec 32 := 512#32
  let arg1 : BitVec 32 := BitVec.ofNat 32 (i 1).val
  let c1_i32_10 : BitVec 32 := 1#32
  let v19 : BitVec 32 := Scalar.andi arg1 c1_i32_10
  let c256_i32_14 : BitVec 32 := 256#32
  let v30 : BitVec 32 := Scalar.muli v19 c256_i32_14
  let v31 : BitVec 32 := Scalar.addi c512_i32 v30
  v31
def k0_mult23 (i : grid0.Coords) : BitVec 32 :=
  let arg1 : BitVec 32 := BitVec.ofNat 32 (i 1).val
  let c1_i32_10 : BitVec 32 := 1#32
  let v19 : BitVec 32 := Scalar.andi arg1 c1_i32_10
  let c1024_i32_59 : BitVec 32 := 1024#32
  let v113 : BitVec 32 := Scalar.muli v19 c1024_i32_59
  let c0_i32_60 : BitVec 32 := 0#32
  let v114 : BitVec 32 := Scalar.addi v113 c0_i32_60
  v114
def k0_off13 (i : grid0.Coords) (c0_i32_60 : BitVec 32) : Fin 2 → Nat :=
  let arg1 : BitVec 32 := BitVec.ofNat 32 (i 1).val
  let c1_i32_11 : BitVec 32 := 1#32
  let v20 : BitVec 32 := Scalar.shrui arg1 c1_i32_11
  let c128_i32 : BitVec 32 := 128#32
  let v21 : BitVec 32 := Scalar.muli v20 c128_i32
  let v22 : BitVec 32 := v21
  let v116 : Index := Scalar.indexCast v22
  let c1_i32_10 : BitVec 32 := 1#32
  let v19 : BitVec 32 := Scalar.andi arg1 c1_i32_10
  let c1024_i32_59 : BitVec 32 := 1024#32
  let v113 : BitVec 32 := Scalar.muli v19 c1024_i32_59
  let v114 : BitVec 32 := Scalar.addi v113 c0_i32_60
  let v115 : BitVec 32 := v114
  let v117 : Index := Scalar.indexCast v115
  ![v116.toNat, v117.toNat]
def k0_off13_at (r : Fin 16) : BitVec 32 :=
  if r.val < 8 then
    if r.val < 4 then
      if r.val < 2 then
        if r.val < 1 then
          0#32
        else
          128#32
      else
        if r.val < 3 then
          256#32
        else
          384#32
    else
      if r.val < 6 then
        if r.val < 5 then
          512#32
        else
          640#32
      else
        if r.val < 7 then
          768#32
        else
          896#32
  else
    if r.val < 12 then
      if r.val < 10 then
        if r.val < 9 then
          2048#32
        else
          2176#32
      else
        if r.val < 11 then
          2304#32
        else
          2432#32
    else
      if r.val < 14 then
        if r.val < 13 then
          2560#32
        else
          2688#32
      else
        if r.val < 15 then
          2816#32
        else
          2944#32
def k0_mult24 (i : grid0.Coords) : BitVec 32 :=
  let arg1 : BitVec 32 := BitVec.ofNat 32 (i 1).val
  let c1_i32_10 : BitVec 32 := 1#32
  let v19 : BitVec 32 := Scalar.andi arg1 c1_i32_10
  let c1024_i32_108 : BitVec 32 := 1024#32
  let v198 : BitVec 32 := Scalar.muli v19 c1024_i32_108
  let c128_i32_109 : BitVec 32 := 128#32
  let v199 : BitVec 32 := Scalar.addi v198 c128_i32_109
  v199
def k0_off14 (i : grid0.Coords) : Fin 2 → Nat :=
  let c0_i32_135 : BitVec 32 := 0#32
  let arg1 : BitVec 32 := BitVec.ofNat 32 (i 1).val
  let c1_i32_10 : BitVec 32 := 1#32
  let v19 : BitVec 32 := Scalar.andi arg1 c1_i32_10
  let c256_i32 : BitVec 32 := 256#32
  let v28 : BitVec 32 := Scalar.muli v19 c256_i32
  let v29 : BitVec 32 := v28
  ![0, v29.toNat]
def k0_off15 (i : grid0.Coords) (c0_i32_169 : BitVec 32) : Fin 1 → Nat :=
  let arg1 : BitVec 32 := BitVec.ofNat 32 (i 1).val
  let c1_i32_10 : BitVec 32 := 1#32
  let v19 : BitVec 32 := Scalar.andi arg1 c1_i32_10
  let c8_i32 : BitVec 32 := 8#32
  let v287 : BitVec 32 := Scalar.muli v19 c8_i32
  let v288 : BitVec 32 := Scalar.addi v287 c0_i32_169
  let v289 : Index := Scalar.indexCast v288
  ![v289.toNat]
def k0_mult25 (i : grid0.Coords) : BitVec 32 :=
  let arg1 : BitVec 32 := BitVec.ofNat 32 (i 1).val
  let c1_i32_10 : BitVec 32 := 1#32
  let v19 : BitVec 32 := Scalar.andi arg1 c1_i32_10
  let c1024_i32_234 : BitVec 32 := 1024#32
  let v421 : BitVec 32 := Scalar.muli v19 c1024_i32_234
  let c256_i32_235 : BitVec 32 := 256#32
  let v422 : BitVec 32 := Scalar.addi v421 c256_i32_235
  v422
def k0_mult26 (i : grid0.Coords) : BitVec 32 :=
  let arg1 : BitVec 32 := BitVec.ofNat 32 (i 1).val
  let c1_i32_10 : BitVec 32 := 1#32
  let v19 : BitVec 32 := Scalar.andi arg1 c1_i32_10
  let c1024_i32_308 : BitVec 32 := 1024#32
  let v570 : BitVec 32 := Scalar.muli v19 c1024_i32_308
  let c384_i32 : BitVec 32 := 384#32
  let v571 : BitVec 32 := Scalar.addi v570 c384_i32
  v571
def k0_mult27 (i : grid0.Coords) : BitVec 32 :=
  let arg1 : BitVec 32 := BitVec.ofNat 32 (i 1).val
  let c1_i32_10 : BitVec 32 := 1#32
  let v19 : BitVec 32 := Scalar.andi arg1 c1_i32_10
  let c1024_i32_382 : BitVec 32 := 1024#32
  let v719 : BitVec 32 := Scalar.muli v19 c1024_i32_382
  let c512_i32_383 : BitVec 32 := 512#32
  let v720 : BitVec 32 := Scalar.addi v719 c512_i32_383
  v720
def k0_mult28 (i : grid0.Coords) : BitVec 32 :=
  let arg1 : BitVec 32 := BitVec.ofNat 32 (i 1).val
  let c1_i32_10 : BitVec 32 := 1#32
  let v19 : BitVec 32 := Scalar.andi arg1 c1_i32_10
  let c1024_i32_446 : BitVec 32 := 1024#32
  let v838 : BitVec 32 := Scalar.muli v19 c1024_i32_446
  let c640_i32 : BitVec 32 := 640#32
  let v839 : BitVec 32 := Scalar.addi v838 c640_i32
  v839
def k0_mult29 (i : grid0.Coords) : BitVec 32 :=
  let arg1 : BitVec 32 := BitVec.ofNat 32 (i 1).val
  let c1_i32_10 : BitVec 32 := 1#32
  let v19 : BitVec 32 := Scalar.andi arg1 c1_i32_10
  let c1024_i32_510 : BitVec 32 := 1024#32
  let v957 : BitVec 32 := Scalar.muli v19 c1024_i32_510
  let c768_i32 : BitVec 32 := 768#32
  let v958 : BitVec 32 := Scalar.addi v957 c768_i32
  v958
def k0_off16 (i : grid0.Coords) : Fin 2 → Nat :=
  let c0_i32_511 : BitVec 32 := 0#32
  let c512_i32 : BitVec 32 := 512#32
  let arg1 : BitVec 32 := BitVec.ofNat 32 (i 1).val
  let c1_i32_10 : BitVec 32 := 1#32
  let v19 : BitVec 32 := Scalar.andi arg1 c1_i32_10
  let c256_i32_14 : BitVec 32 := 256#32
  let v30 : BitVec 32 := Scalar.muli v19 c256_i32_14
  let v31 : BitVec 32 := Scalar.addi c512_i32 v30
  let v32 : BitVec 32 := v31
  ![0, v32.toNat]
def k0_mult30 (i : grid0.Coords) : BitVec 32 :=
  let arg1 : BitVec 32 := BitVec.ofNat 32 (i 1).val
  let c1_i32_10 : BitVec 32 := 1#32
  let v19 : BitVec 32 := Scalar.andi arg1 c1_i32_10
  let c1024_i32_583 : BitVec 32 := 1024#32
  let v1076 : BitVec 32 := Scalar.muli v19 c1024_i32_583
  let c896_i32 : BitVec 32 := 896#32
  let v1077 : BitVec 32 := Scalar.addi v1076 c896_i32
  v1077
def k0_mult31 (i : grid0.Coords) : BitVec 32 :=
  let arg1 : BitVec 32 := BitVec.ofNat 32 (i 1).val
  let c1_i32_10 : BitVec 32 := 1#32
  let v19 : BitVec 32 := Scalar.andi arg1 c1_i32_10
  let c1024_i32_589 : BitVec 32 := 1024#32
  let v1099 : BitVec 32 := Scalar.muli v19 c1024_i32_589
  let c2048_i32_590 : BitVec 32 := 2048#32
  let v1100 : BitVec 32 := Scalar.addi v1099 c2048_i32_590
  v1100
def k0_mult32 (i : grid0.Coords) : BitVec 32 :=
  let arg1 : BitVec 32 := BitVec.ofNat 32 (i 1).val
  let c1_i32_10 : BitVec 32 := 1#32
  let v19 : BitVec 32 := Scalar.andi arg1 c1_i32_10
  let c1024_i32_597 : BitVec 32 := 1024#32
  let v1122 : BitVec 32 := Scalar.muli v19 c1024_i32_597
  let c2176_i32 : BitVec 32 := 2176#32
  let v1123 : BitVec 32 := Scalar.addi v1122 c2176_i32
  v1123
def k0_mult33 (i : grid0.Coords) : BitVec 32 :=
  let arg1 : BitVec 32 := BitVec.ofNat 32 (i 1).val
  let c1_i32_10 : BitVec 32 := 1#32
  let v19 : BitVec 32 := Scalar.andi arg1 c1_i32_10
  let c1024_i32_604 : BitVec 32 := 1024#32
  let v1145 : BitVec 32 := Scalar.muli v19 c1024_i32_604
  let c2304_i32 : BitVec 32 := 2304#32
  let v1146 : BitVec 32 := Scalar.addi v1145 c2304_i32
  v1146
def k0_mult34 (i : grid0.Coords) : BitVec 32 :=
  let arg1 : BitVec 32 := BitVec.ofNat 32 (i 1).val
  let c1_i32_10 : BitVec 32 := 1#32
  let v19 : BitVec 32 := Scalar.andi arg1 c1_i32_10
  let c1024_i32_611 : BitVec 32 := 1024#32
  let v1168 : BitVec 32 := Scalar.muli v19 c1024_i32_611
  let c2432_i32 : BitVec 32 := 2432#32
  let v1169 : BitVec 32 := Scalar.addi v1168 c2432_i32
  v1169
def k0_mult35 (i : grid0.Coords) : BitVec 32 :=
  let arg1 : BitVec 32 := BitVec.ofNat 32 (i 1).val
  let c1_i32_10 : BitVec 32 := 1#32
  let v19 : BitVec 32 := Scalar.andi arg1 c1_i32_10
  let c1024_i32_618 : BitVec 32 := 1024#32
  let v1191 : BitVec 32 := Scalar.muli v19 c1024_i32_618
  let c2560_i32 : BitVec 32 := 2560#32
  let v1192 : BitVec 32 := Scalar.addi v1191 c2560_i32
  v1192
def k0_mult36 (i : grid0.Coords) : BitVec 32 :=
  let arg1 : BitVec 32 := BitVec.ofNat 32 (i 1).val
  let c1_i32_10 : BitVec 32 := 1#32
  let v19 : BitVec 32 := Scalar.andi arg1 c1_i32_10
  let c1024_i32_625 : BitVec 32 := 1024#32
  let v1214 : BitVec 32 := Scalar.muli v19 c1024_i32_625
  let c2688_i32 : BitVec 32 := 2688#32
  let v1215 : BitVec 32 := Scalar.addi v1214 c2688_i32
  v1215
def k0_mult37 (i : grid0.Coords) : BitVec 32 :=
  let arg1 : BitVec 32 := BitVec.ofNat 32 (i 1).val
  let c1_i32_10 : BitVec 32 := 1#32
  let v19 : BitVec 32 := Scalar.andi arg1 c1_i32_10
  let c1024_i32_632 : BitVec 32 := 1024#32
  let v1237 : BitVec 32 := Scalar.muli v19 c1024_i32_632
  let c2816_i32 : BitVec 32 := 2816#32
  let v1238 : BitVec 32 := Scalar.addi v1237 c2816_i32
  v1238
def k0_mult38 (i : grid0.Coords) : BitVec 32 :=
  let arg1 : BitVec 32 := BitVec.ofNat 32 (i 1).val
  let c1_i32_10 : BitVec 32 := 1#32
  let v19 : BitVec 32 := Scalar.andi arg1 c1_i32_10
  let c1024_i32_639 : BitVec 32 := 1024#32
  let v1260 : BitVec 32 := Scalar.muli v19 c1024_i32_639
  let c2944_i32 : BitVec 32 := 2944#32
  let v1261 : BitVec 32 := Scalar.addi v1260 c2944_i32
  v1261
def k0_off17 (i : grid0.Coords) : Fin 3 → Nat :=
  let arg1 : BitVec 32 := BitVec.ofNat 32 (i 1).val
  let v1297 : Index := Scalar.indexCast arg1
  let c0_656 : Index := 0#32
  let c0_657 : Index := 0#32
  ![v1297.toNat, 0, 0]
def k0_off18 (i : grid0.Coords) : Fin 3 → Nat :=
  let arg1 : BitVec 32 := BitVec.ofNat 32 (i 1).val
  let v1338 : Index := Scalar.indexCast arg1
  let c64_674 : Index := 64#32
  let c0_675 : Index := 0#32
  ![v1338.toNat, 64, 0]
def k0_off19 (i : grid0.Coords) : Fin 3 → Nat :=
  let arg1 : BitVec 32 := BitVec.ofNat 32 (i 1).val
  let v1379 : Index := Scalar.indexCast arg1
  let c128_693 : Index := 128#32
  let c0_694 : Index := 0#32
  ![v1379.toNat, 128, 0]
def k0_off20 (i : grid0.Coords) : Fin 3 → Nat :=
  let arg1 : BitVec 32 := BitVec.ofNat 32 (i 1).val
  let v1420 : Index := Scalar.indexCast arg1
  let c192_711 : Index := 192#32
  let c0_712 : Index := 0#32
  ![v1420.toNat, 192, 0]
def k0_off21 (i : grid0.Coords) : Fin 3 → Nat :=
  let arg1 : BitVec 32 := BitVec.ofNat 32 (i 1).val
  let v1461 : Index := Scalar.indexCast arg1
  let c256_730 : Index := 256#32
  let c0_731 : Index := 0#32
  ![v1461.toNat, 256, 0]
def k0_off22 (i : grid0.Coords) : Fin 3 → Nat :=
  let arg1 : BitVec 32 := BitVec.ofNat 32 (i 1).val
  let v1502 : Index := Scalar.indexCast arg1
  let c320_748 : Index := 320#32
  let c0_749 : Index := 0#32
  ![v1502.toNat, 320, 0]
def k0_off23 (i : grid0.Coords) : Fin 3 → Nat :=
  let arg1 : BitVec 32 := BitVec.ofNat 32 (i 1).val
  let v1543 : Index := Scalar.indexCast arg1
  let c384_767 : Index := 384#32
  let c0_768 : Index := 0#32
  ![v1543.toNat, 384, 0]
def k0_off24 (i : grid0.Coords) : Fin 3 → Nat :=
  let arg1 : BitVec 32 := BitVec.ofNat 32 (i 1).val
  let v1584 : Index := Scalar.indexCast arg1
  let c448_785 : Index := 448#32
  let c0_786 : Index := 0#32
  ![v1584.toNat, 448, 0]
def k0_cond5 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_9 : BitVec 32 := 0#32
  let v18 : BitVec 1 := Scalar.cmpi .ne v17 c0_i32_9
  v18

@[reducible] def k0_t1_loop : Scf.Loop 32 :=
  let c0_i32_23 : BitVec 32 := 0#32
  let c8_i32_24 : BitVec 32 := 8#32
  let v49 : BitVec 32 := Scalar.addi c0_i32_23 c8_i32_24
  let c1_i32_25 : BitVec 32 := 1#32
  ⟨c0_i32_23, v49, c1_i32_25⟩
def k0_mult39 (k0_t1 : Fin k0_t1_loop.trips) : BitVec 32 :=
  let c0_i32_23 : BitVec 32 := 0#32
  let c1_i32_25 : BitVec 32 := 1#32
  let arg25 : BitVec 32 := Scf.iv c0_i32_23 c1_i32_25 k0_t1
  let c64_i32 : BitVec 32 := 64#32
  let v50 : BitVec 32 := Scalar.muli arg25 c64_i32
  v50
def k0_off25 (k0_t1 : Fin k0_t1_loop.trips) : Fin 2 → Nat :=
  let c0_i32_23 : BitVec 32 := 0#32
  let c1_i32_25 : BitVec 32 := 1#32
  let arg25 : BitVec 32 := Scf.iv c0_i32_23 c1_i32_25 k0_t1
  let c64_i32 : BitVec 32 := 64#32
  let v50 : BitVec 32 := Scalar.muli arg25 c64_i32
  let v51 : BitVec 32 := v50
  let v52 : Index := Scalar.indexCast v51
  let c0_27 : Index := 0#32
  ![v52.toNat, 0]
def k0_off26 (k0_t1 : Fin k0_t1_loop.trips) : Fin 3 → Nat :=
  let c0_29 : Index := 0#32
  let c0_i32_23 : BitVec 32 := 0#32
  let c1_i32_25 : BitVec 32 := 1#32
  let arg25 : BitVec 32 := Scf.iv c0_i32_23 c1_i32_25 k0_t1
  let c64_i32 : BitVec 32 := 64#32
  let v50 : BitVec 32 := Scalar.muli arg25 c64_i32
  let v51 : BitVec 32 := v50
  let v56 : Index := Scalar.indexCast v51
  let c0_30 : Index := 0#32
  ![0, v56.toNat, 0]
def k0_off27 (k0_t1 : Fin k0_t1_loop.trips) : Fin 2 → Nat :=
  let c0_i32_23 : BitVec 32 := 0#32
  let c1_i32_25 : BitVec 32 := 1#32
  let arg25 : BitVec 32 := Scf.iv c0_i32_23 c1_i32_25 k0_t1
  let c64_i32 : BitVec 32 := 64#32
  let v50 : BitVec 32 := Scalar.muli arg25 c64_i32
  let v51 : BitVec 32 := v50
  let v69 : Index := Scalar.indexCast v51
  let c0_35 : Index := 0#32
  ![v69.toNat, 0]
def k0_off28 (k0_t1 : Fin k0_t1_loop.trips) : Fin 3 → Nat :=
  let c1 : Index := 1#32
  let c0_i32_23 : BitVec 32 := 0#32
  let c1_i32_25 : BitVec 32 := 1#32
  let arg25 : BitVec 32 := Scf.iv c0_i32_23 c1_i32_25 k0_t1
  let c64_i32 : BitVec 32 := 64#32
  let v50 : BitVec 32 := Scalar.muli arg25 c64_i32
  let v51 : BitVec 32 := v50
  let v71 : Index := Scalar.indexCast v51
  let c0_36 : Index := 0#32
  ![1, v71.toNat, 0]
def k0_off29 (k0_t1 : Fin k0_t1_loop.trips) : Fin 2 → Nat :=
  let c0_i32_23 : BitVec 32 := 0#32
  let c1_i32_25 : BitVec 32 := 1#32
  let arg25 : BitVec 32 := Scf.iv c0_i32_23 c1_i32_25 k0_t1
  let c64_i32 : BitVec 32 := 64#32
  let v50 : BitVec 32 := Scalar.muli arg25 c64_i32
  let v51 : BitVec 32 := v50
  let v84 : Index := Scalar.indexCast v51
  let c512_40 : Index := 512#32
  ![v84.toNat, 512]
def k0_off30 (k0_t1 : Fin k0_t1_loop.trips) : Fin 3 → Nat :=
  let c2 : Index := 2#32
  let c0_i32_23 : BitVec 32 := 0#32
  let c1_i32_25 : BitVec 32 := 1#32
  let arg25 : BitVec 32 := Scf.iv c0_i32_23 c1_i32_25 k0_t1
  let c64_i32 : BitVec 32 := 64#32
  let v50 : BitVec 32 := Scalar.muli arg25 c64_i32
  let v51 : BitVec 32 := v50
  let v86 : Index := Scalar.indexCast v51
  let c0_41 : Index := 0#32
  ![2, v86.toNat, 0]
def k0_off31 (k0_t1 : Fin k0_t1_loop.trips) : Fin 2 → Nat :=
  let c0_i32_23 : BitVec 32 := 0#32
  let c1_i32_25 : BitVec 32 := 1#32
  let arg25 : BitVec 32 := Scf.iv c0_i32_23 c1_i32_25 k0_t1
  let c64_i32 : BitVec 32 := 64#32
  let v50 : BitVec 32 := Scalar.muli arg25 c64_i32
  let v51 : BitVec 32 := v50
  let v99 : Index := Scalar.indexCast v51
  let c1024_45 : Index := 1024#32
  ![v99.toNat, 1024]
def k0_off32 (k0_t1 : Fin k0_t1_loop.trips) : Fin 3 → Nat :=
  let c3 : Index := 3#32
  let c0_i32_23 : BitVec 32 := 0#32
  let c1_i32_25 : BitVec 32 := 1#32
  let arg25 : BitVec 32 := Scf.iv c0_i32_23 c1_i32_25 k0_t1
  let c64_i32 : BitVec 32 := 64#32
  let v50 : BitVec 32 := Scalar.muli arg25 c64_i32
  let v51 : BitVec 32 := v50
  let v101 : Index := Scalar.indexCast v51
  let c0_46 : Index := 0#32
  ![3, v101.toNat, 0]
def k0_off33 (k0_t1 : Fin k0_t1_loop.trips) : Fin 2 → Nat :=
  let c0_i32_23 : BitVec 32 := 0#32
  let c1_i32_25 : BitVec 32 := 1#32
  let arg25 : BitVec 32 := Scf.iv c0_i32_23 c1_i32_25 k0_t1
  let c64_i32 : BitVec 32 := 64#32
  let v50 : BitVec 32 := Scalar.muli arg25 c64_i32
  let v51 : BitVec 32 := v50
  let v114 : Index := Scalar.indexCast v51
  let c1536_50 : Index := 1536#32
  ![v114.toNat, 1536]
def k0_off34 (k0_t1 : Fin k0_t1_loop.trips) : Fin 3 → Nat :=
  let c4 : Index := 4#32
  let c0_i32_23 : BitVec 32 := 0#32
  let c1_i32_25 : BitVec 32 := 1#32
  let arg25 : BitVec 32 := Scf.iv c0_i32_23 c1_i32_25 k0_t1
  let c64_i32 : BitVec 32 := 64#32
  let v50 : BitVec 32 := Scalar.muli arg25 c64_i32
  let v51 : BitVec 32 := v50
  let v116 : Index := Scalar.indexCast v51
  let c0_51 : Index := 0#32
  ![4, v116.toNat, 0]
def k0_off35 (k0_t1 : Fin k0_t1_loop.trips) : Fin 2 → Nat :=
  let c0_i32_23 : BitVec 32 := 0#32
  let c1_i32_25 : BitVec 32 := 1#32
  let arg25 : BitVec 32 := Scf.iv c0_i32_23 c1_i32_25 k0_t1
  let c64_i32 : BitVec 32 := 64#32
  let v50 : BitVec 32 := Scalar.muli arg25 c64_i32
  let v51 : BitVec 32 := v50
  let v129 : Index := Scalar.indexCast v51
  let c2048_55 : Index := 2048#32
  ![v129.toNat, 2048]
def k0_off36 (k0_t1 : Fin k0_t1_loop.trips) : Fin 3 → Nat :=
  let c5 : Index := 5#32
  let c0_i32_23 : BitVec 32 := 0#32
  let c1_i32_25 : BitVec 32 := 1#32
  let arg25 : BitVec 32 := Scf.iv c0_i32_23 c1_i32_25 k0_t1
  let c64_i32 : BitVec 32 := 64#32
  let v50 : BitVec 32 := Scalar.muli arg25 c64_i32
  let v51 : BitVec 32 := v50
  let v131 : Index := Scalar.indexCast v51
  let c0_56 : Index := 0#32
  ![5, v131.toNat, 0]
def k0_off37 (k0_t1 : Fin k0_t1_loop.trips) : Fin 2 → Nat :=
  let c0_i32_23 : BitVec 32 := 0#32
  let c1_i32_25 : BitVec 32 := 1#32
  let arg25 : BitVec 32 := Scf.iv c0_i32_23 c1_i32_25 k0_t1
  let c64_i32 : BitVec 32 := 64#32
  let v50 : BitVec 32 := Scalar.muli arg25 c64_i32
  let v51 : BitVec 32 := v50
  let v144 : Index := Scalar.indexCast v51
  let c2560_60 : Index := 2560#32
  ![v144.toNat, 2560]
def k0_off38 (k0_t1 : Fin k0_t1_loop.trips) : Fin 3 → Nat :=
  let c6 : Index := 6#32
  let c0_i32_23 : BitVec 32 := 0#32
  let c1_i32_25 : BitVec 32 := 1#32
  let arg25 : BitVec 32 := Scf.iv c0_i32_23 c1_i32_25 k0_t1
  let c64_i32 : BitVec 32 := 64#32
  let v50 : BitVec 32 := Scalar.muli arg25 c64_i32
  let v51 : BitVec 32 := v50
  let v146 : Index := Scalar.indexCast v51
  let c0_61 : Index := 0#32
  ![6, v146.toNat, 0]
def k0_off39 (k0_t1 : Fin k0_t1_loop.trips) : Fin 2 → Nat :=
  let c0_i32_23 : BitVec 32 := 0#32
  let c1_i32_25 : BitVec 32 := 1#32
  let arg25 : BitVec 32 := Scf.iv c0_i32_23 c1_i32_25 k0_t1
  let c64_i32 : BitVec 32 := 64#32
  let v50 : BitVec 32 := Scalar.muli arg25 c64_i32
  let v51 : BitVec 32 := v50
  let v159 : Index := Scalar.indexCast v51
  let c3072_65 : Index := 3072#32
  ![v159.toNat, 3072]
def k0_off40 (k0_t1 : Fin k0_t1_loop.trips) : Fin 3 → Nat :=
  let c7 : Index := 7#32
  let c0_i32_23 : BitVec 32 := 0#32
  let c1_i32_25 : BitVec 32 := 1#32
  let arg25 : BitVec 32 := Scf.iv c0_i32_23 c1_i32_25 k0_t1
  let c64_i32 : BitVec 32 := 64#32
  let v50 : BitVec 32 := Scalar.muli arg25 c64_i32
  let v51 : BitVec 32 := v50
  let v161 : Index := Scalar.indexCast v51
  let c0_66 : Index := 0#32
  ![7, v161.toNat, 0]
def k0_off41 (k0_t1 : Fin k0_t1_loop.trips) : Fin 2 → Nat :=
  let c0_i32_23 : BitVec 32 := 0#32
  let c1_i32_25 : BitVec 32 := 1#32
  let arg25 : BitVec 32 := Scf.iv c0_i32_23 c1_i32_25 k0_t1
  let c64_i32 : BitVec 32 := 64#32
  let v50 : BitVec 32 := Scalar.muli arg25 c64_i32
  let v51 : BitVec 32 := v50
  let v174 : Index := Scalar.indexCast v51
  let c3584_70 : Index := 3584#32
  ![v174.toNat, 3584]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c4_i32 : BitVec 32 := 4#32
  let v1 : BitVec 32 := Scalar.muli v0 c4_i32
  let c1_i32_0 : BitVec 32 := 1#32
  let v2 : BitVec 32 := Scalar.shrui arg1 c1_i32_0
  let v3 : BitVec 32 := Scalar.addi v1 v2
  let c63_i32 : BitVec 32 := 63#32
  let v4 : BitVec 32 := Scalar.minsi v3 c63_i32
  let c1_i32_1 : BitVec 32 := 1#32
  let v5 : BitVec 32 := Scalar.andi arg1 c1_i32_1
  let c0_i32 : BitVec 32 := 0#32
  ![v4.toNat, v5.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c4_i32 : BitVec 32 := 4#32
  let v1 : BitVec 32 := Scalar.muli v0 c4_i32
  let c1_i32_0 : BitVec 32 := 1#32
  let v2 : BitVec 32 := Scalar.shrui arg1 c1_i32_0
  let v3 : BitVec 32 := Scalar.addi v1 v2
  let c63_i32 : BitVec 32 := 63#32
  let v4 : BitVec 32 := Scalar.minsi v3 c63_i32
  let c8_i32 : BitVec 32 := 8#32
  let v5 : BitVec 32 := Scalar.muli v4 c8_i32
  let c1_i32_1 : BitVec 32 := 1#32
  let v6 : BitVec 32 := Scalar.subi v5 c1_i32_1
  let c0_i32 : BitVec 32 := 0#32
  let v7 : BitVec 32 := Scalar.maxsi v6 c0_i32
  let c1_i32_2 : BitVec 32 := 1#32
  let v8 : BitVec 32 := Scalar.andi arg1 c1_i32_2
  let c0_i32_3 : BitVec 32 := 0#32
  ![v7.toNat, v8.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c4_i32 : BitVec 32 := 4#32
  let v1 : BitVec 32 := Scalar.muli v0 c4_i32
  let c1_i32_0 : BitVec 32 := 1#32
  let v2 : BitVec 32 := Scalar.shrui arg1 c1_i32_0
  let v3 : BitVec 32 := Scalar.addi v1 v2
  let c63_i32 : BitVec 32 := 63#32
  let v4 : BitVec 32 := Scalar.minsi v3 c63_i32
  let c1_i32_1 : BitVec 32 := 1#32
  let v5 : BitVec 32 := Scalar.addi v4 c1_i32_1
  let c8_i32 : BitVec 32 := 8#32
  let v6 : BitVec 32 := Scalar.muli v5 c8_i32
  let c511_i32 : BitVec 32 := 511#32
  let v7 : BitVec 32 := Scalar.minsi v6 c511_i32
  let c1_i32_2 : BitVec 32 := 1#32
  let v8 : BitVec 32 := Scalar.andi arg1 c1_i32_2
  let c0_i32 : BitVec 32 := 0#32
  ![v7.toNat, v8.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c4_i32 : BitVec 32 := 4#32
  let v1 : BitVec 32 := Scalar.muli v0 c4_i32
  let c1_i32_0 : BitVec 32 := 1#32
  let v2 : BitVec 32 := Scalar.shrui arg1 c1_i32_0
  let v3 : BitVec 32 := Scalar.addi v1 v2
  let c63_i32 : BitVec 32 := 63#32
  let v4 : BitVec 32 := Scalar.minsi v3 c63_i32
  let c1_i32_1 : BitVec 32 := 1#32
  let v5 : BitVec 32 := Scalar.subi v4 c1_i32_1
  let c0_i32 : BitVec 32 := 0#32
  let v6 : BitVec 32 := Scalar.maxsi v5 c0_i32
  let c12_i32 : BitVec 32 := 12#32
  let c0_i32_2 : BitVec 32 := 0#32
  ![v6.toNat, c12_i32.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c4_i32 : BitVec 32 := 4#32
  let v1 : BitVec 32 := Scalar.muli v0 c4_i32
  let c1_i32_0 : BitVec 32 := 1#32
  let v2 : BitVec 32 := Scalar.shrui arg1 c1_i32_0
  let v3 : BitVec 32 := Scalar.addi v1 v2
  let c63_i32 : BitVec 32 := 63#32
  let v4 : BitVec 32 := Scalar.minsi v3 c63_i32
  let c12_i32 : BitVec 32 := 12#32
  let c0_i32 : BitVec 32 := 0#32
  ![v4.toNat, c12_i32.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c4_i32 : BitVec 32 := 4#32
  let v1 : BitVec 32 := Scalar.muli v0 c4_i32
  let c1_i32_0 : BitVec 32 := 1#32
  let v2 : BitVec 32 := Scalar.shrui arg1 c1_i32_0
  let v3 : BitVec 32 := Scalar.addi v1 v2
  let c63_i32 : BitVec 32 := 63#32
  let v4 : BitVec 32 := Scalar.minsi v3 c63_i32
  let c1_i32_1 : BitVec 32 := 1#32
  let v5 : BitVec 32 := Scalar.addi v4 c1_i32_1
  let c63_i32_2 : BitVec 32 := 63#32
  let v6 : BitVec 32 := Scalar.minsi v5 c63_i32_2
  let c12_i32 : BitVec 32 := 12#32
  let c0_i32 : BitVec 32 := 0#32
  ![v6.toNat, c12_i32.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.andi arg1 c1_i32
  let c0_i32 : BitVec 32 := 0#32
  let c0_i32_0 : BitVec 32 := 0#32
  ![c0_i32.toNat, v0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4096x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x6144 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x6144 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x6144 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S3x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S512x4096 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Kernel4Ideal.lean ====
variable {F : FTy → Type} [FloatOps F] [Named F]
def κ : String → Option EReal := fun
  | "log2_e" => some (((Real.log 2)⁻¹ : ℝ) : EReal)
  | "mask" => some ⊥
  | "neg_log2_e" => some ((-((Real.log 2)⁻¹) : ℝ) : EReal)
  | "scale_log2_e" => some (((Real.sqrt 128)⁻¹ * (Real.log 2)⁻¹ : ℝ) : EReal)
  | "slope1" => some (((Real.sqrt 2)⁻¹ : ℝ) : EReal)
  | "slope3" => some (((Real.sqrt 8)⁻¹ : ℝ) : EReal)
  | "slope5" => some (((Real.sqrt 32)⁻¹ : ℝ) : EReal)
  | "slope7" => some (((Real.sqrt 128)⁻¹ : ℝ) : EReal)
  | _ => none
-- ==== Proof.Ref.Run.lean ====
/- The reference as a list of its operations, and its run: each result is the operations' composed term of the arguments, and the arguments are unchanged. -/
module

public import proofs.«01_k».proof.Proof.Gen.ReferenceIdeal
public import Idealize.ShloMosaic.Lib.StableHlo.Run

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v41`, named. It packs its operands into a list of dependent pairs
    whose shapes a later argument's type mentions, so `simp` cannot rewrite an operand where it stands; applied by
    name, the operands are plain arguments, which `run`'s simp pass rewrites before the name unfolds. -/
def fn_main_v41 : (main_v38 : Ref sig .tc).ty.Contents (Elt F) → (main_v39 : Ref sig .tc).ty.Contents (Elt F) → (main_v40 : Ref sig .tc).ty.Contents (Elt F) → (main_v41 : Ref sig .tc).ty.Contents (Elt F) :=
  (fun u0 u1 u2 => (concatenate S1x64x384x4x128 2 [⟨S1x64x128x4x128, (u0 : (⟨S1x64x128x4x128, .f32⟩ : BufTy).Contents (Elt F))⟩, ⟨S1x64x128x4x128, (u1 : (⟨S1x64x128x4x128, .f32⟩ : BufTy).Contents (Elt F))⟩, ⟨S1x64x128x4x128, (u2 : (⟨S1x64x128x4x128, .f32⟩ : BufTy).Contents (Elt F))⟩] concatenates_S1x64x128x4x128_S1x64x128x4x128_S1x64x128x4x128_S1x64x384x4x128_d2 : (⟨S1x64x384x4x128, .f32⟩ : BufTy).Contents (Elt F)))

/-- The function of the operation that writes `main_v47`, named. It packs its operands into a list of dependent pairs
    whose shapes a later argument's type mentions, so `simp` cannot rewrite an operand where it stands; applied by
    name, the operands are plain arguments, which `run`'s simp pass rewrites before the name unfolds. -/
def fn_main_v47 : (main_v44 : Ref sig .tc).ty.Contents (Elt F) → (main_v45 : Ref sig .tc).ty.Contents (Elt F) → (main_v46 : Ref sig .tc).ty.Contents (Elt F) → (main_v47 : Ref sig .tc).ty.Contents (Elt F) :=
  (fun u0 u1 u2 => (concatenate S1x64x384x4x128 2 [⟨S1x64x128x4x128, (u0 : (⟨S1x64x128x4x128, .f32⟩ : BufTy).Contents (Elt F))⟩, ⟨S1x64x128x4x128, (u1 : (⟨S1x64x128x4x128, .f32⟩ : BufTy).Contents (Elt F))⟩, ⟨S1x64x128x4x128, (u2 : (⟨S1x64x128x4x128, .f32⟩ : BufTy).Contents (Elt F))⟩] concatenates_S1x64x128x4x128_S1x64x128x4x128_S1x64x128x4x128_S1x64x384x4x128_d2 : (⟨S1x64x384x4x128, .f32⟩ : BufTy).Contents (Elt F)))

/-- The function of the operation that writes `main_v130`, named. It packs its operands into a list of dependent pairs
    whose shapes a later argument's type mentions, so `simp` cannot rewrite an operand where it stands; applied by
    name, the operands are plain arguments, which `run`'s simp pass rewrites before the name unfolds. -/
def fn_main_v130 : (⟨S1x8192x2048, .f32⟩ : BufTy).Contents (Elt F) → (⟨S1x8192x2048, .f32⟩ : BufTy).Contents (Elt F) → (⟨S1x8192x4096, .f32⟩ : BufTy).Contents (Elt F) :=
  (fun a b => concatenate S1x8192x4096 2 [⟨S1x8192x2048, a⟩, ⟨S1x8192x2048, b⟩] concatenates_S1x8192x2048_S1x8192x2048_S1x8192x4096_d2)

set_option maxHeartbeats 4000000 in
/-- @main's 173 operations, in order (a called function's operations stand in its call's place, spelt `TRef.…`). -/
abbrev ops : List (HloOp τ sig (Elt F)) :=
  [ unary main_arg0 main_v0 ((extractStridedSlice S1x8192x2048 ![0, 0, 0] · slices_S1x8192x13312_S1x8192x2048_0_0_0) : (⟨S1x8192x13312, .f32⟩ : BufTy).Contents (Elt F) → (⟨S1x8192x2048, .f32⟩ : BufTy).Contents (Elt F)),
    unary main_arg0 main_v1 ((extractStridedSlice S1x8192x2048 ![0, 0, 2048] · slices_S1x8192x13312_S1x8192x2048_0_0_2048) : (⟨S1x8192x13312, .f32⟩ : BufTy).Contents (Elt F) → (⟨S1x8192x2048, .f32⟩ : BufTy).Contents (Elt F)),
    unary main_arg0 main_v2 ((extractStridedSlice S1x8192x2048 ![0, 0, 4096] · slices_S1x8192x13312_S1x8192x2048_0_0_4096) : (⟨S1x8192x13312, .f32⟩ : BufTy).Contents (Elt F) → (⟨S1x8192x2048, .f32⟩ : BufTy).Contents (Elt F)),
    unary main_arg0 main_v3 ((extractStridedSlice S1x8192x2048 ![0, 0, 6144] · slices_S1x8192x13312_S1x8192x2048_0_0_6144) : (⟨S1x8192x13312, .f32⟩ : BufTy).Contents (Elt F) → (⟨S1x8192x2048, .f32⟩ : BufTy).Contents (Elt F)),
    unary main_arg0 main_v4 ((extractStridedSlice S1x8192x2048 ![0, 0, 8192] · slices_S1x8192x13312_S1x8192x2048_0_0_8192) : (⟨S1x8192x13312, .f32⟩ : BufTy).Contents (Elt F) → (⟨S1x8192x2048, .f32⟩ : BufTy).Contents (Elt F)),
    unary main_arg0 main_v5 ((extractStridedSlice S1x8192x512 ![0, 0, 10240] · slices_S1x8192x13312_S1x8192x512_0_0_10240) : (⟨S1x8192x13312, .f32⟩ : BufTy).Contents (Elt F) → (⟨S1x8192x512, .f32⟩ : BufTy).Contents (Elt F)),
    unary main_arg0 main_v6 ((extractStridedSlice S1x8192x512 ![0, 0, 10752] · slices_S1x8192x13312_S1x8192x512_0_0_10752) : (⟨S1x8192x13312, .f32⟩ : BufTy).Contents (Elt F) → (⟨S1x8192x512, .f32⟩ : BufTy).Contents (Elt F)),
    unary main_arg0 main_v7 ((extractStridedSlice S1x8192x2048 ![0, 0, 11264] · slices_S1x8192x13312_S1x8192x2048_0_0_11264) : (⟨S1x8192x13312, .f32⟩ : BufTy).Contents (Elt F) → (⟨S1x8192x2048, .f32⟩ : BufTy).Contents (Elt F)),
    binary main_v1 main_v2 main_v8 (mulf : (⟨S1x8192x2048, .f32⟩ : BufTy).Contents (Elt F) → (⟨S1x8192x2048, .f32⟩ : BufTy).Contents (Elt F) → (⟨S1x8192x2048, .f32⟩ : BufTy).Contents (Elt F)),
    reshape main_arg1 main_v9 (rfl : (.f32 : EltTy) = .f32) shapeCasts_S1x3x2048_S3x2048,
    nullary main_c (constantI S_ 32 0#32),
    TRef.unary (TRef.of (T := ⟨S_, .i32⟩) main_c) (TRef.of (T := ⟨S_, .f32⟩) main_call0_v0) (sitofp .f32),
    TRef.binary (TRef.of (T := ⟨S1x8192x2048, .f32⟩) main_v8) (TRef.of (T := ⟨S_, .f32⟩) main_call0_v0) (TRef.of (T := ⟨S1x8194x2048, .f32⟩) main_v10) (fun x v => pad S1x8194x2048 ![0, 1, 0] ![0, 1, 0] ![0, 0, 0] x v pads_S1x8192x2048_S1x8194x2048_000_110_000 h_S_),
    unary main_v10 main_v11 ((extractStridedSlice S1x8192x2048 ![0, 0, 0] · slices_S1x8194x2048_S1x8192x2048_0_0_0) : (⟨S1x8194x2048, .f32⟩ : BufTy).Contents (Elt F) → (⟨S1x8192x2048, .f32⟩ : BufTy).Contents (Elt F)),
    unary main_v9 main_v12 ((extractStridedSlice S1x2048 ![0, 0] · slices_S3x2048_S1x2048_0_0) : (⟨S3x2048, .f32⟩ : BufTy).Contents (Elt F) → (⟨S1x2048, .f32⟩ : BufTy).Contents (Elt F)),
    reshape main_v12 main_v13 (rfl : (.f32 : EltTy) = .f32) shapeCasts_S1x2048_S2048,
    unary main_v13 main_v14 (broadcastInDim S1x1x2048 ![2] bcast_S2048_S1x1x2048_2 : (⟨S2048, .f32⟩ : BufTy).Contents (Elt F) → (⟨S1x1x2048, .f32⟩ : BufTy).Contents (Elt F)),
    unary main_v14 main_v15 (broadcastInDim S1x8192x2048 ![0, 1, 2] bcast_S1x1x2048_S1x8192x2048_0_1_2 : (⟨S1x1x2048, .f32⟩ : BufTy).Contents (Elt F) → (⟨S1x8192x2048, .f32⟩ : BufTy).Contents (Elt F)),
    binary main_v11 main_v15 main_v16 (mulf : (⟨S1x8192x2048, .f32⟩ : BufTy).Contents (Elt F) → (⟨S1x8192x2048, .f32⟩ : BufTy).Contents (Elt F) → (⟨S1x8192x2048, .f32⟩ : BufTy).Contents (Elt F)),
    unary main_v10 main_v17 ((extractStridedSlice S1x8192x2048 ![0, 1, 0] · slices_S1x8194x2048_S1x8192x2048_0_1_0) : (⟨S1x8194x2048, .f32⟩ : BufTy).Contents (Elt F) → (⟨S1x8192x2048, .f32⟩ : BufTy).Contents (Elt F)),
    unary main_v9 main_v18 ((extractStridedSlice S1x2048 ![1, 0] · slices_S3x2048_S1x2048_1_0) : (⟨S3x2048, .f32⟩ : BufTy).Contents (Elt F) → (⟨S1x2048, .f32⟩ : BufTy).Contents (Elt F)),
    reshape main_v18 main_v19 (rfl : (.f32 : EltTy) = .f32) shapeCasts_S1x2048_S2048,
    unary main_v19 main_v20 (broadcastInDim S1x1x2048 ![2] bcast_S2048_S1x1x2048_2 : (⟨S2048, .f32⟩ : BufTy).Contents (Elt F) → (⟨S1x1x2048, .f32⟩ : BufTy).Contents (Elt F)),
    unary main_v20 main_v21 (broadcastInDim S1x8192x2048 ![0, 1, 2] bcast_S1x1x2048_S1x8192x2048_0_1_2 : (⟨S1x1x2048, .f32⟩ : BufTy).Contents (Elt F) → (⟨S1x8192x2048, .f32⟩ : BufTy).Contents (Elt F)),
    binary main_v17 main_v21 main_v22 (mulf : (⟨S1x8192x2048, .f32⟩ : BufTy).Contents (Elt F) → (⟨S1x8192x2048, .f32⟩ : BufTy).Contents (Elt F) → (⟨S1x8192x2048, .f32⟩ : BufTy).Contents (Elt F)),
    binary main_v16 main_v22 main_v23 (addf : (⟨S1x8192x2048, .f32⟩ : BufTy).Contents (Elt F) → (⟨S1x8192x2048, .f32⟩ : BufTy).Contents (Elt F) → (⟨S1x8192x2048, .f32⟩ : BufTy).Contents (Elt F)),
    unary main_v10 main_v24 ((extractStridedSlice S1x8192x2048 ![0, 2, 0] · slices_S1x8194x2048_S1x8192x2048_0_2_0) : (⟨S1x8194x2048, .f32⟩ : BufTy).Contents (Elt F) → (⟨S1x8192x2048, .f32⟩ : BufTy).Contents (Elt F)),
    unary main_v9 main_v25 ((extractStridedSlice S1x2048 ![2, 0] · slices_S3x2048_S1x2048_2_0) : (⟨S3x2048, .f32⟩ : BufTy).Contents (Elt F) → (⟨S1x2048, .f32⟩ : BufTy).Contents (Elt F)),
    reshape main_v25 main_v26 (rfl : (.f32 : EltTy) = .f32) shapeCasts_S1x2048_S2048,
    unary main_v26 main_v27 (broadcastInDim S1x1x2048 ![2] bcast_S2048_S1x1x2048_2 : (⟨S2048, .f32⟩ : BufTy).Contents (Elt F) → (⟨S1x1x2048, .f32⟩ : BufTy).Contents (Elt F)),
    unary main_v27 main_v28 (broadcastInDim S1x8192x2048 ![0, 1, 2] bcast_S1x1x2048_S1x8192x2048_0_1_2 : (⟨S1x1x2048, .f32⟩ : BufTy).Contents (Elt F) → (⟨S1x8192x2048, .f32⟩ : BufTy).Contents (Elt F)),
    binary main_v24 main_v28 main_v29 (mulf : (⟨S1x8192x2048, .f32⟩ : BufTy).Contents (Elt F) → (⟨S1x8192x2048, .f32⟩ : BufTy).Contents (Elt F) → (⟨S1x8192x2048, .f32⟩ : BufTy).Contents (Elt F)),
    binary main_v23 main_v29 main_v30 (addf : (⟨S1x8192x2048, .f32⟩ : BufTy).Contents (Elt F) → (⟨S1x8192x2048, .f32⟩ : BufTy).Contents (Elt F) → (⟨S1x8192x2048, .f32⟩ : BufTy).Contents (Elt F)),
    binary main_v0 main_v30 main_v31 (mulf : (⟨S1x8192x2048, .f32⟩ : BufTy).Contents (Elt F) → (⟨S1x8192x2048, .f32⟩ : BufTy).Contents (Elt F) → (⟨S1x8192x2048, .f32⟩ : BufTy).Contents (Elt F)),
    TRef.unary (TRef.of (T := ⟨S1x8192x2048, .f32⟩) main_v3) (TRef.of (T := ⟨S1x8192x2048, .f32⟩) main_call1_v0) Host.negf,
    TRef.unary (TRef.of (T := ⟨S1x8192x2048, .f32⟩) main_call1_v0) (TRef.of (T := ⟨S1x8192x2048, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S1x8192x2048, .f32⟩) main_call1_v2) (broadcastInDim S1x8192x2048 ![] bcast_S_S1x8192x2048),
    TRef.binary (TRef.of (T := ⟨S1x8192x2048, .f32⟩) main_call1_v2) (TRef.of (T := ⟨S1x8192x2048, .f32⟩) main_call1_v1) (TRef.of (T := ⟨S1x8192x2048, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S1x8192x2048, .f32⟩) main_call1_v4) (broadcastInDim S1x8192x2048 ![] bcast_S_S1x8192x2048),
    TRef.binary (TRef.of (T := ⟨S1x8192x2048, .f32⟩) main_call1_v4) (TRef.of (T := ⟨S1x8192x2048, .f32⟩) main_call1_v3) (TRef.of (T := ⟨S1x8192x2048, .f32⟩) main_call1_v5) Host.divf,
    TRef.binary (TRef.of (T := ⟨S1x8192x2048, .f32⟩) main_v3) (TRef.of (T := ⟨S1x8192x2048, .f32⟩) main_call1_v5) (TRef.of (T := ⟨S1x8192x2048, .f32⟩) main_v32) mulf,
    binary main_v31 main_v32 main_v33 (mulf : (⟨S1x8192x2048, .f32⟩ : BufTy).Contents (Elt F) → (⟨S1x8192x2048, .f32⟩ : BufTy).Contents (Elt F) → (⟨S1x8192x2048, .f32⟩ : BufTy).Contents (Elt F)),
    reshape main_arg2 main_v34 (rfl : (.f32 : EltTy) = .f32) shapeCasts_S1x16_S16,
    reshape main_v4 main_v35 (rfl : (.f32 : EltTy) = .f32) shapeCasts_S1x8192x2048_S1x64x128x4x4x128,
    reshape main_v5 main_v36 (rfl : (.f32 : EltTy) = .f32) shapeCasts_S1x8192x512_S1x64x128x4x128,
    nullary main_c_0 (constantI S_ 32 0#32),
    TRef.unary (TRef.of (T := ⟨S_, .i32⟩) main_c_0) (TRef.of (T := ⟨S_, .f32⟩) main_call2_v0) (sitofp .f32),
    TRef.binary (TRef.of (T := ⟨S1x64x128x4x128, .f32⟩) main_v36) (TRef.of (T := ⟨S_, .f32⟩) main_call2_v0) (TRef.of (T := ⟨S1x66x128x4x128, .f32⟩) main_v37) (fun x v => pad S1x66x128x4x128 ![0, 1, 0, 0, 0] ![0, 1, 0, 0, 0] ![0, 0, 0, 0, 0] x v pads_S1x64x128x4x128_S1x66x128x4x128_000_110_000_000_000 h_S_),
    unary main_v37 main_v38 ((extractStridedSlice S1x64x128x4x128 ![0, 0, 0, 0, 0] · slices_S1x66x128x4x128_S1x64x128x4x128_0_0_0_0_0) : (⟨S1x66x128x4x128, .f32⟩ : BufTy).Contents (Elt F) → (⟨S1x64x128x4x128, .f32⟩ : BufTy).Contents (Elt F)),
    unary main_v37 main_v39 ((extractStridedSlice S1x64x128x4x128 ![0, 1, 0, 0, 0] · slices_S1x66x128x4x128_S1x64x128x4x128_0_1_0_0_0) : (⟨S1x66x128x4x128, .f32⟩ : BufTy).Contents (Elt F) → (⟨S1x64x128x4x128, .f32⟩ : BufTy).Contents (Elt F)),
    unary main_v37 main_v40 ((extractStridedSlice S1x64x128x4x128 ![0, 2, 0, 0, 0] · slices_S1x66x128x4x128_S1x64x128x4x128_0_2_0_0_0) : (⟨S1x66x128x4x128, .f32⟩ : BufTy).Contents (Elt F) → (⟨S1x64x128x4x128, .f32⟩ : BufTy).Contents (Elt F)),
    nary ![main_v38, main_v39, main_v40] main_v41 (fun u => fn_main_v41 (F := F) (u 0) (u 1) (u 2)),
    reshape main_v6 main_v42 (rfl : (.f32 : EltTy) = .f32) shapeCasts_S1x8192x512_S1x64x128x4x128,
    nullary main_c_1 (constantI S_ 32 0#32),
    TRef.unary (TRef.of (T := ⟨S_, .i32⟩) main_c_1) (TRef.of (T := ⟨S_, .f32⟩) main_call3_v0) (sitofp .f32),
    TRef.binary (TRef.of (T := ⟨S1x64x128x4x128, .f32⟩) main_v42) (TRef.of (T := ⟨S_, .f32⟩) main_call3_v0) (TRef.of (T := ⟨S1x66x128x4x128, .f32⟩) main_v43) (fun x v => pad S1x66x128x4x128 ![0, 1, 0, 0, 0] ![0, 1, 0, 0, 0] ![0, 0, 0, 0, 0] x v pads_S1x64x128x4x128_S1x66x128x4x128_000_110_000_000_000 h_S_),
    unary main_v43 main_v44 ((extractStridedSlice S1x64x128x4x128 ![0, 0, 0, 0, 0] · slices_S1x66x128x4x128_S1x64x128x4x128_0_0_0_0_0) : (⟨S1x66x128x4x128, .f32⟩ : BufTy).Contents (Elt F) → (⟨S1x64x128x4x128, .f32⟩ : BufTy).Contents (Elt F)),
    unary main_v43 main_v45 ((extractStridedSlice S1x64x128x4x128 ![0, 1, 0, 0, 0] · slices_S1x66x128x4x128_S1x64x128x4x128_0_1_0_0_0) : (⟨S1x66x128x4x128, .f32⟩ : BufTy).Contents (Elt F) → (⟨S1x64x128x4x128, .f32⟩ : BufTy).Contents (Elt F)),
    unary main_v43 main_v46 ((extractStridedSlice S1x64x128x4x128 ![0, 2, 0, 0, 0] · slices_S1x66x128x4x128_S1x64x128x4x128_0_2_0_0_0) : (⟨S1x66x128x4x128, .f32⟩ : BufTy).Contents (Elt F) → (⟨S1x64x128x4x128, .f32⟩ : BufTy).Contents (Elt F)),
    nary ![main_v44, main_v45, main_v46] main_v47 (fun u => fn_main_v47 (F := F) (u 0) (u 1) (u 2)),
    binary main_v41 main_v35 main_v48 ((fun l r => Host.dotGeneral dot_S1x64x384x4x128_S1x64x128x4x4x128_S1x64x4x384x128x4_4_5_2_24_013_013 none l r) : (⟨S1x64x384x4x128, .f32⟩ : BufTy).Contents (Elt F) → (⟨S1x64x128x4x4x128, .f32⟩ : BufTy).Contents (Elt F) → (⟨S1x64x4x384x128x4, .f32⟩ : BufTy).Contents (Elt F)),
    unary main_v48 main_v49 ((transpose S1x64x4x4x128x384 [0, 1, 2, 5, 4, 3] · transposes_S1x64x4x384x128x4_S1x64x4x4x128x384_0_1_2_5_4_3) : (⟨S1x64x4x384x128x4, .f32⟩ : BufTy).Contents (Elt F) → (⟨S1x64x4x4x128x384, .f32⟩ : BufTy).Contents (Elt F)),
    nullary main_cst (constant S_ .f32 0x43000000#32),
    unary main_cst main_v50 (Host.sqrt : (⟨S_, .f32⟩ : BufTy).Contents (Elt F) → (⟨S_, .f32⟩ : BufTy).Contents (Elt F)),
    unary main_v50 main_v51 (broadcastInDim S1x64x4x4x128x384 ![] bcast_S_S1x64x4x4x128x384 : (⟨S_, .f32⟩ : BufTy).Contents (Elt F) → (⟨S1x64x4x4x128x384, .f32⟩ : BufTy).Contents (Elt F)),
    binary main_v49 main_v51 main_v52 (Host.divf : (⟨S1x64x4x4x128x384, .f32⟩ : BufTy).Contents (Elt F) → (⟨S1x64x4x4x128x384, .f32⟩ : BufTy).Contents (Elt F) → (⟨S1x64x4x4x128x384, .f32⟩ : BufTy).Contents (Elt F)),
    nullary main_v53 (iotaInDim S64 32 0),
    unary main_v53 main_v54 (broadcastInDim S64x1 ![0] bcast_S64_S64x1_0 : (⟨S64, .i32⟩ : BufTy).Contents (Elt F) → (⟨S64x1, .i32⟩ : BufTy).Contents (Elt F)),
    nullary main_c_2 (constantI S_ 32 128#32),
    unary main_c_2 main_v55 (broadcastInDim S64x1 ![] bcast_S_S64x1 : (⟨S_, .i32⟩ : BufTy).Contents (Elt F) → (⟨S64x1, .i32⟩ : BufTy).Contents (Elt F)),
    binary main_v54 main_v55 main_v56 (muli : (⟨S64x1, .i32⟩ : BufTy).Contents (Elt F) → (⟨S64x1, .i32⟩ : BufTy).Contents (Elt F) → (⟨S64x1, .i32⟩ : BufTy).Contents (Elt F)),
    nullary main_v57 (iotaInDim S128 32 0),
    unary main_v57 main_v58 (broadcastInDim S1x128 ![1] bcast_S128_S1x128_1 : (⟨S128, .i32⟩ : BufTy).Contents (Elt F) → (⟨S1x128, .i32⟩ : BufTy).Contents (Elt F)),
    unary main_v56 main_v59 (broadcastInDim S64x128 ![0, 1] bcast_S64x1_S64x128_0_1 : (⟨S64x1, .i32⟩ : BufTy).Contents (Elt F) → (⟨S64x128, .i32⟩ : BufTy).Contents (Elt F)),
    unary main_v58 main_v60 (broadcastInDim S64x128 ![0, 1] bcast_S1x128_S64x128_0_1 : (⟨S1x128, .i32⟩ : BufTy).Contents (Elt F) → (⟨S64x128, .i32⟩ : BufTy).Contents (Elt F)),
    binary main_v59 main_v60 main_v61 (addi : (⟨S64x128, .i32⟩ : BufTy).Contents (Elt F) → (⟨S64x128, .i32⟩ : BufTy).Contents (Elt F) → (⟨S64x128, .i32⟩ : BufTy).Contents (Elt F)),
    nullary main_c_3 (constantI S_ 32 1#32),
    unary main_c_3 main_v62 (broadcastInDim S64x1 ![] bcast_S_S64x1 : (⟨S_, .i32⟩ : BufTy).Contents (Elt F) → (⟨S64x1, .i32⟩ : BufTy).Contents (Elt F)),
    binary main_v54 main_v62 main_v63 (subi : (⟨S64x1, .i32⟩ : BufTy).Contents (Elt F) → (⟨S64x1, .i32⟩ : BufTy).Contents (Elt F) → (⟨S64x1, .i32⟩ : BufTy).Contents (Elt F)),
    nullary main_c_4 (constantI S_ 32 128#32),
    unary main_c_4 main_v64 (broadcastInDim S64x1 ![] bcast_S_S64x1 : (⟨S_, .i32⟩ : BufTy).Contents (Elt F) → (⟨S64x1, .i32⟩ : BufTy).Contents (Elt F)),
    binary main_v63 main_v64 main_v65 (muli : (⟨S64x1, .i32⟩ : BufTy).Contents (Elt F) → (⟨S64x1, .i32⟩ : BufTy).Contents (Elt F) → (⟨S64x1, .i32⟩ : BufTy).Contents (Elt F)),
    nullary main_v66 (iotaInDim S384 32 0),
    unary main_v66 main_v67 (broadcastInDim S1x384 ![1] bcast_S384_S1x384_1 : (⟨S384, .i32⟩ : BufTy).Contents (Elt F) → (⟨S1x384, .i32⟩ : BufTy).Contents (Elt F)),
    unary main_v65 main_v68 (broadcastInDim S64x384 ![0, 1] bcast_S64x1_S64x384_0_1 : (⟨S64x1, .i32⟩ : BufTy).Contents (Elt F) → (⟨S64x384, .i32⟩ : BufTy).Contents (Elt F)),
    unary main_v67 main_v69 (broadcastInDim S64x384 ![0, 1] bcast_S1x384_S64x384_0_1 : (⟨S1x384, .i32⟩ : BufTy).Contents (Elt F) → (⟨S64x384, .i32⟩ : BufTy).Contents (Elt F)),
    binary main_v68 main_v69 main_v70 (addi : (⟨S64x384, .i32⟩ : BufTy).Contents (Elt F) → (⟨S64x384, .i32⟩ : BufTy).Contents (Elt F) → (⟨S64x384, .i32⟩ : BufTy).Contents (Elt F)),
    unary main_v61 main_v71 (broadcastInDim S64x128x1 ![0, 1] bcast_S64x128_S64x128x1_0_1 : (⟨S64x128, .i32⟩ : BufTy).Contents (Elt F) → (⟨S64x128x1, .i32⟩ : BufTy).Contents (Elt F)),
    unary main_v70 main_v72 (broadcastInDim S64x1x384 ![0, 2] bcast_S64x384_S64x1x384_0_2 : (⟨S64x384, .i32⟩ : BufTy).Contents (Elt F) → (⟨S64x1x384, .i32⟩ : BufTy).Contents (Elt F)),
    unary main_v71 main_v73 (broadcastInDim S64x128x384 ![0, 1, 2] bcast_S64x128x1_S64x128x384_0_1_2 : (⟨S64x128x1, .i32⟩ : BufTy).Contents (Elt F) → (⟨S64x128x384, .i32⟩ : BufTy).Contents (Elt F)),
    unary main_v72 main_v74 (broadcastInDim S64x128x384 ![0, 1, 2] bcast_S64x1x384_S64x128x384_0_1_2 : (⟨S64x1x384, .i32⟩ : BufTy).Contents (Elt F) → (⟨S64x128x384, .i32⟩ : BufTy).Contents (Elt F)),
    binary main_v73 main_v74 main_v75 (subi : (⟨S64x128x384, .i32⟩ : BufTy).Contents (Elt F) → (⟨S64x128x384, .i32⟩ : BufTy).Contents (Elt F) → (⟨S64x128x384, .i32⟩ : BufTy).Contents (Elt F)),
    unary main_v75 main_v76 (absi : (⟨S64x128x384, .i32⟩ : BufTy).Contents (Elt F) → (⟨S64x128x384, .i32⟩ : BufTy).Contents (Elt F)),
    nullary main_c_5 (constantI S_ 32 128#32),
    unary main_c_5 main_v77 (broadcastInDim S64x128x384 ![] bcast_S_S64x128x384 : (⟨S_, .i32⟩ : BufTy).Contents (Elt F) → (⟨S64x128x384, .i32⟩ : BufTy).Contents (Elt F)),
    binary main_v76 main_v77 main_v78 (cmpi .sle : (⟨S64x128x384, .i32⟩ : BufTy).Contents (Elt F) → (⟨S64x128x384, .i32⟩ : BufTy).Contents (Elt F) → (⟨S64x128x384, .i1⟩ : BufTy).Contents (Elt F)),
    unary main_v70 main_v79 (broadcastInDim S64x1x384 ![0, 2] bcast_S64x384_S64x1x384_0_2 : (⟨S64x384, .i32⟩ : BufTy).Contents (Elt F) → (⟨S64x1x384, .i32⟩ : BufTy).Contents (Elt F)),
    nullary main_c_6 (constantI S_ 32 0#32),
    unary main_c_6 main_v80 (broadcastInDim S64x1x384 ![] bcast_S_S64x1x384 : (⟨S_, .i32⟩ : BufTy).Contents (Elt F) → (⟨S64x1x384, .i32⟩ : BufTy).Contents (Elt F)),
    binary main_v79 main_v80 main_v81 (cmpi .sge : (⟨S64x1x384, .i32⟩ : BufTy).Contents (Elt F) → (⟨S64x1x384, .i32⟩ : BufTy).Contents (Elt F) → (⟨S64x1x384, .i1⟩ : BufTy).Contents (Elt F)),
    unary main_v81 main_v82 (broadcastInDim S64x128x384 ![0, 1, 2] bcast_S64x1x384_S64x128x384_0_1_2 : (⟨S64x1x384, .i1⟩ : BufTy).Contents (Elt F) → (⟨S64x128x384, .i1⟩ : BufTy).Contents (Elt F)),
    binary main_v78 main_v82 main_v83 (andi : (⟨S64x128x384, .i1⟩ : BufTy).Contents (Elt F) → (⟨S64x128x384, .i1⟩ : BufTy).Contents (Elt F) → (⟨S64x128x384, .i1⟩ : BufTy).Contents (Elt F)),
    unary main_v70 main_v84 (broadcastInDim S64x1x384 ![0, 2] bcast_S64x384_S64x1x384_0_2 : (⟨S64x384, .i32⟩ : BufTy).Contents (Elt F) → (⟨S64x1x384, .i32⟩ : BufTy).Contents (Elt F)),
    nullary main_c_7 (constantI S_ 32 8192#32),
    unary main_c_7 main_v85 (broadcastInDim S64x1x384 ![] bcast_S_S64x1x384 : (⟨S_, .i32⟩ : BufTy).Contents (Elt F) → (⟨S64x1x384, .i32⟩ : BufTy).Contents (Elt F)),
    binary main_v84 main_v85 main_v86 (cmpi .slt : (⟨S64x1x384, .i32⟩ : BufTy).Contents (Elt F) → (⟨S64x1x384, .i32⟩ : BufTy).Contents (Elt F) → (⟨S64x1x384, .i1⟩ : BufTy).Contents (Elt F)),
    unary main_v86 main_v87 (broadcastInDim S64x128x384 ![0, 1, 2] bcast_S64x1x384_S64x128x384_0_1_2 : (⟨S64x1x384, .i1⟩ : BufTy).Contents (Elt F) → (⟨S64x128x384, .i1⟩ : BufTy).Contents (Elt F)),
    binary main_v83 main_v87 main_v88 (andi : (⟨S64x128x384, .i1⟩ : BufTy).Contents (Elt F) → (⟨S64x128x384, .i1⟩ : BufTy).Contents (Elt F) → (⟨S64x128x384, .i1⟩ : BufTy).Contents (Elt F)),
    nullary main_v89 (sitofp .f32 (iotaInDim S16 32 0)),
    nullary main_cst_8 (constant S_ .f32 0x3F800000#32),
    unary main_cst_8 main_v90 (broadcastInDim S16 ![] bcast_S_S16 : (⟨S_, .f32⟩ : BufTy).Contents (Elt F) → (⟨S16, .f32⟩ : BufTy).Contents (Elt F)),
    binary main_v90 main_v89 main_v91 (addf : (⟨S16, .f32⟩ : BufTy).Contents (Elt F) → (⟨S16, .f32⟩ : BufTy).Contents (Elt F) → (⟨S16, .f32⟩ : BufTy).Contents (Elt F)),
    nullary main_cst_9 (constant S_ .f32 0xC1000000#32),
    unary main_cst_9 main_v92 (broadcastInDim S16 ![] bcast_S_S16 : (⟨S_, .f32⟩ : BufTy).Contents (Elt F) → (⟨S16, .f32⟩ : BufTy).Contents (Elt F)),
    binary main_v92 main_v91 main_v93 (mulf : (⟨S16, .f32⟩ : BufTy).Contents (Elt F) → (⟨S16, .f32⟩ : BufTy).Contents (Elt F) → (⟨S16, .f32⟩ : BufTy).Contents (Elt F)),
    nullary main_cst_10 (constant S_ .f32 0x41800000#32),
    unary main_cst_10 main_v94 (broadcastInDim S16 ![] bcast_S_S16 : (⟨S_, .f32⟩ : BufTy).Contents (Elt F) → (⟨S16, .f32⟩ : BufTy).Contents (Elt F)),
    binary main_v93 main_v94 main_v95 (Host.divf : (⟨S16, .f32⟩ : BufTy).Contents (Elt F) → (⟨S16, .f32⟩ : BufTy).Contents (Elt F) → (⟨S16, .f32⟩ : BufTy).Contents (Elt F)),
    nullary main_cst_11 (constant S_ .f32 0x40000000#32),
    unary main_cst_11 main_v96 (broadcastInDim S16 ![] bcast_S_S16 : (⟨S_, .f32⟩ : BufTy).Contents (Elt F) → (⟨S16, .f32⟩ : BufTy).Contents (Elt F)),
    binary main_v96 main_v95 main_v97 (Host.powf : (⟨S16, .f32⟩ : BufTy).Contents (Elt F) → (⟨S16, .f32⟩ : BufTy).Contents (Elt F) → (⟨S16, .f32⟩ : BufTy).Contents (Elt F)),
    reshape main_v97 main_v98 (rfl : (.f32 : EltTy) = .f32) shapeCasts_S16_S4x4,
    unary main_v98 main_v99 (broadcastInDim S1x1x4x4x1x1 ![2, 3] bcast_S4x4_S1x1x4x4x1x1_2_3 : (⟨S4x4, .f32⟩ : BufTy).Contents (Elt F) → (⟨S1x1x4x4x1x1, .f32⟩ : BufTy).Contents (Elt F)),
    unary main_v99 main_v100 (Host.negf : (⟨S1x1x4x4x1x1, .f32⟩ : BufTy).Contents (Elt F) → (⟨S1x1x4x4x1x1, .f32⟩ : BufTy).Contents (Elt F)),
    unary main_v76 main_v101 (broadcastInDim S1x64x1x1x128x384 ![1, 4, 5] bcast_S64x128x384_S1x64x1x1x128x384_1_4_5 : (⟨S64x128x384, .i32⟩ : BufTy).Contents (Elt F) → (⟨S1x64x1x1x128x384, .i32⟩ : BufTy).Contents (Elt F)),
    unary main_v101 main_v102 (sitofp .f32 : (⟨S1x64x1x1x128x384, .i32⟩ : BufTy).Contents (Elt F) → (⟨S1x64x1x1x128x384, .f32⟩ : BufTy).Contents (Elt F)),
    unary main_v100 main_v103 (broadcastInDim S1x64x4x4x128x384 ![0, 1, 2, 3, 4, 5] bcast_S1x1x4x4x1x1_S1x64x4x4x128x384_0_1_2_3_4_5 : (⟨S1x1x4x4x1x1, .f32⟩ : BufTy).Contents (Elt F) → (⟨S1x64x4x4x128x384, .f32⟩ : BufTy).Contents (Elt F)),
    unary main_v102 main_v104 (broadcastInDim S1x64x4x4x128x384 ![0, 1, 2, 3, 4, 5] bcast_S1x64x1x1x128x384_S1x64x4x4x128x384_0_1_2_3_4_5 : (⟨S1x64x1x1x128x384, .f32⟩ : BufTy).Contents (Elt F) → (⟨S1x64x4x4x128x384, .f32⟩ : BufTy).Contents (Elt F)),
    binary main_v103 main_v104 main_v105 (mulf : (⟨S1x64x4x4x128x384, .f32⟩ : BufTy).Contents (Elt F) → (⟨S1x64x4x4x128x384, .f32⟩ : BufTy).Contents (Elt F) → (⟨S1x64x4x4x128x384, .f32⟩ : BufTy).Contents (Elt F)),
    unary main_v88 main_v106 (broadcastInDim S1x64x1x1x128x384 ![1, 4, 5] bcast_S64x128x384_S1x64x1x1x128x384_1_4_5 : (⟨S64x128x384, .i1⟩ : BufTy).Contents (Elt F) → (⟨S1x64x1x1x128x384, .i1⟩ : BufTy).Contents (Elt F)),
    binary main_v52 main_v105 main_v107 (addf : (⟨S1x64x4x4x128x384, .f32⟩ : BufTy).Contents (Elt F) → (⟨S1x64x4x4x128x384, .f32⟩ : BufTy).Contents (Elt F) → (⟨S1x64x4x4x128x384, .f32⟩ : BufTy).Contents (Elt F)),
    nullary main_cst_12 (constant S_ .f32 0xFF800000#32),
    TRef.unary (TRef.of (T := ⟨S_, .f32⟩) main_cst_12) (TRef.of (T := ⟨S_, .f32⟩) main_call4_v0) id,
    TRef.unary (TRef.of (T := ⟨S1x64x1x1x128x384, .i1⟩) main_v106) (TRef.of (T := ⟨S1x64x4x4x128x384, .i1⟩) main_call4_v1) (broadcastInDim S1x64x4x4x128x384 ![0, 1, 2, 3, 4, 5] bcast_S1x64x1x1x128x384_S1x64x4x4x128x384_0_1_2_3_4_5),
    TRef.unary (TRef.of (T := ⟨S_, .f32⟩) main_call4_v0) (TRef.of (T := ⟨S1x64x4x4x128x384, .f32⟩) main_call4_v2) (broadcastInDim S1x64x4x4x128x384 ![] bcast_S_S1x64x4x4x128x384),
    TRef.ternary (TRef.of (T := ⟨S1x64x4x4x128x384, .i1⟩) main_call4_v1) (TRef.of (T := ⟨S1x64x4x4x128x384, .f32⟩) main_v107) (TRef.of (T := ⟨S1x64x4x4x128x384, .f32⟩) main_call4_v2) (TRef.of (T := ⟨S1x64x4x4x128x384, .f32⟩) main_v108) select,
    reshape main_v34 main_v109 (rfl : (.f32 : EltTy) = .f32) shapeCasts_S16_S1x1x4x4x1x1,
    nullary main_cst_13 (constant S_ .f32 0xFF800000#32),
    binary main_v108 main_cst_13 main_v110 ((fun x v => Host.reduce FloatOps.maximumf x v reducesTo_S1x64x4x4x128x384_S1x64x4x4x128_d5 h_S_) : (⟨S1x64x4x4x128x384, .f32⟩ : BufTy).Contents (Elt F) → (⟨S_, .f32⟩ : BufTy).Contents (Elt F) → (⟨S1x64x4x4x128, .f32⟩ : BufTy).Contents (Elt F)),
    unary main_v110 main_v111 (broadcastInDim S1x64x4x4x128x1 ![0, 1, 2, 3, 4] bcast_S1x64x4x4x128_S1x64x4x4x128x1_0_1_2_3_4 : (⟨S1x64x4x4x128, .f32⟩ : BufTy).Contents (Elt F) → (⟨S1x64x4x4x128x1, .f32⟩ : BufTy).Contents (Elt F)),
    unary main_v109 main_v112 (broadcastInDim S1x64x4x4x128x1 ![0, 1, 2, 3, 4, 5] bcast_S1x1x4x4x1x1_S1x64x4x4x128x1_0_1_2_3_4_5 : (⟨S1x1x4x4x1x1, .f32⟩ : BufTy).Contents (Elt F) → (⟨S1x64x4x4x128x1, .f32⟩ : BufTy).Contents (Elt F)),
    binary main_v111 main_v112 main_v113 (maximumf : (⟨S1x64x4x4x128x1, .f32⟩ : BufTy).Contents (Elt F) → (⟨S1x64x4x4x128x1, .f32⟩ : BufTy).Contents (Elt F) → (⟨S1x64x4x4x128x1, .f32⟩ : BufTy).Contents (Elt F)),
    unary main_v113 main_v114 (broadcastInDim S1x64x4x4x128x384 ![0, 1, 2, 3, 4, 5] bcast_S1x64x4x4x128x1_S1x64x4x4x128x384_0_1_2_3_4_5 : (⟨S1x64x4x4x128x1, .f32⟩ : BufTy).Contents (Elt F) → (⟨S1x64x4x4x128x384, .f32⟩ : BufTy).Contents (Elt F)),
    binary main_v108 main_v114 main_v115 (subf : (⟨S1x64x4x4x128x384, .f32⟩ : BufTy).Contents (Elt F) → (⟨S1x64x4x4x128x384, .f32⟩ : BufTy).Contents (Elt F) → (⟨S1x64x4x4x128x384, .f32⟩ : BufTy).Contents (Elt F)),
    unary main_v115 main_v116 (Host.exp : (⟨S1x64x4x4x128x384, .f32⟩ : BufTy).Contents (Elt F) → (⟨S1x64x4x4x128x384, .f32⟩ : BufTy).Contents (Elt F)),
    nullary main_cst_14 (constant S_ .f32 0x00000000#32),
    binary main_v116 main_cst_14 main_v117 ((fun x v => Host.reduceAdd x v reducesTo_S1x64x4x4x128x384_S1x64x4x4x128_d5 h_S_) : (⟨S1x64x4x4x128x384, .f32⟩ : BufTy).Contents (Elt F) → (⟨S_, .f32⟩ : BufTy).Contents (Elt F) → (⟨S1x64x4x4x128, .f32⟩ : BufTy).Contents (Elt F)),
    unary main_v117 main_v118 (broadcastInDim S1x64x4x4x128x1 ![0, 1, 2, 3, 4] bcast_S1x64x4x4x128_S1x64x4x4x128x1_0_1_2_3_4 : (⟨S1x64x4x4x128, .f32⟩ : BufTy).Contents (Elt F) → (⟨S1x64x4x4x128x1, .f32⟩ : BufTy).Contents (Elt F)),
    unary main_v109 main_v119 (broadcastInDim S1x64x4x4x128x1 ![0, 1, 2, 3, 4, 5] bcast_S1x1x4x4x1x1_S1x64x4x4x128x1_0_1_2_3_4_5 : (⟨S1x1x4x4x1x1, .f32⟩ : BufTy).Contents (Elt F) → (⟨S1x64x4x4x128x1, .f32⟩ : BufTy).Contents (Elt F)),
    binary main_v119 main_v113 main_v120 (subf : (⟨S1x64x4x4x128x1, .f32⟩ : BufTy).Contents (Elt F) → (⟨S1x64x4x4x128x1, .f32⟩ : BufTy).Contents (Elt F) → (⟨S1x64x4x4x128x1, .f32⟩ : BufTy).Contents (Elt F)),
    unary main_v120 main_v121 (Host.exp : (⟨S1x64x4x4x128x1, .f32⟩ : BufTy).Contents (Elt F) → (⟨S1x64x4x4x128x1, .f32⟩ : BufTy).Contents (Elt F)),
    binary main_v118 main_v121 main_v122 (addf : (⟨S1x64x4x4x128x1, .f32⟩ : BufTy).Contents (Elt F) → (⟨S1x64x4x4x128x1, .f32⟩ : BufTy).Contents (Elt F) → (⟨S1x64x4x4x128x1, .f32⟩ : BufTy).Contents (Elt F)),
    unary main_v122 main_v123 (broadcastInDim S1x64x4x4x128x384 ![0, 1, 2, 3, 4, 5] bcast_S1x64x4x4x128x1_S1x64x4x4x128x384_0_1_2_3_4_5 : (⟨S1x64x4x4x128x1, .f32⟩ : BufTy).Contents (Elt F) → (⟨S1x64x4x4x128x384, .f32⟩ : BufTy).Contents (Elt F)),
    binary main_v116 main_v123 main_v124 (Host.divf : (⟨S1x64x4x4x128x384, .f32⟩ : BufTy).Contents (Elt F) → (⟨S1x64x4x4x128x384, .f32⟩ : BufTy).Contents (Elt F) → (⟨S1x64x4x4x128x384, .f32⟩ : BufTy).Contents (Elt F)),
    binary main_v47 main_v124 main_v125 ((fun l r => Host.dotGeneral dot_S1x64x384x4x128_S1x64x4x4x128x384_S1x64x4x128x4x128_2_5_4_34_013_012 none l r) : (⟨S1x64x384x4x128, .f32⟩ : BufTy).Contents (Elt F) → (⟨S1x64x4x4x128x384, .f32⟩ : BufTy).Contents (Elt F) → (⟨S1x64x4x128x4x128, .f32⟩ : BufTy).Contents (Elt F)),
    unary main_v125 main_v126 ((transpose S1x64x128x4x4x128 [0, 1, 5, 2, 4, 3] · transposes_S1x64x4x128x4x128_S1x64x128x4x4x128_0_1_5_2_4_3) : (⟨S1x64x4x128x4x128, .f32⟩ : BufTy).Contents (Elt F) → (⟨S1x64x128x4x4x128, .f32⟩ : BufTy).Contents (Elt F)),
    reshape main_v126 main_v127 (rfl : (.f32 : EltTy) = .f32) shapeCasts_S1x64x128x4x4x128_S1x8192x2048,
    TRef.unary (TRef.of (T := ⟨S1x8192x2048, .f32⟩) main_v7) (TRef.of (T := ⟨S1x8192x2048, .f32⟩) main_call5_v0) Host.negf,
    TRef.unary (TRef.of (T := ⟨S1x8192x2048, .f32⟩) main_call5_v0) (TRef.of (T := ⟨S1x8192x2048, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S1x8192x2048, .f32⟩) main_call5_v2) (broadcastInDim S1x8192x2048 ![] bcast_S_S1x8192x2048),
    TRef.binary (TRef.of (T := ⟨S1x8192x2048, .f32⟩) main_call5_v2) (TRef.of (T := ⟨S1x8192x2048, .f32⟩) main_call5_v1) (TRef.of (T := ⟨S1x8192x2048, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S1x8192x2048, .f32⟩) main_call5_v4) (broadcastInDim S1x8192x2048 ![] bcast_S_S1x8192x2048),
    TRef.binary (TRef.of (T := ⟨S1x8192x2048, .f32⟩) main_call5_v4) (TRef.of (T := ⟨S1x8192x2048, .f32⟩) main_call5_v3) (TRef.of (T := ⟨S1x8192x2048, .f32⟩) main_call5_v5) Host.divf,
    TRef.binary (TRef.of (T := ⟨S1x8192x2048, .f32⟩) main_v7) (TRef.of (T := ⟨S1x8192x2048, .f32⟩) main_call5_v5) (TRef.of (T := ⟨S1x8192x2048, .f32⟩) main_v128) mulf,
    binary main_v127 main_v128 main_v129 (mulf : (⟨S1x8192x2048, .f32⟩ : BufTy).Contents (Elt F) → (⟨S1x8192x2048, .f32⟩ : BufTy).Contents (Elt F) → (⟨S1x8192x2048, .f32⟩ : BufTy).Contents (Elt F)),
    binary main_v33 main_v129 main_v130 (fn_main_v130 (F := F)),
    unary main_v130 main_v131 ((extractStridedSlice S1x512x4096 ![0, 0, 0] · slices_S1x8192x4096_S1x512x4096_0_0_0) : (⟨S1x8192x4096, .f32⟩ : BufTy).Contents (Elt F) → (⟨S1x512x4096, .f32⟩ : BufTy).Contents (Elt F)),
    reshape main_v131 main_v132 (rfl : (.f32 : EltTy) = .f32) shapeCasts_S1x512x4096_S512x4096,
    unary main_v132 main_v133 ((truncf .bf16 · bitsLt_bf16_f32) : (⟨S512x4096, .f32⟩ : BufTy).Contents (Elt F) → (⟨S512x4096, .bf16⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., binary_bufs_sub .., reshape_bufs_sub .., nullary_bufs_sub .., unary_bufs_sub .., binary_bufs_sub .., unary_bufs_sub .., unary_bufs_sub .., reshape_bufs_sub .., unary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., reshape_bufs_sub .., reshape_bufs_sub .., reshape_bufs_sub .., nullary_bufs_sub .., unary_bufs_sub .., binary_bufs_sub .., unary_bufs_sub .., unary_bufs_sub .., unary_bufs_sub .., nary_bufs_sub .., reshape_bufs_sub .., nullary_bufs_sub .., unary_bufs_sub .., binary_bufs_sub .., unary_bufs_sub .., unary_bufs_sub .., unary_bufs_sub .., nary_bufs_sub .., binary_bufs_sub .., unary_bufs_sub .., nullary_bufs_sub .., unary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., unary_bufs_sub .., binary_bufs_sub .., unary_bufs_sub .., unary_bufs_sub .., unary_bufs_sub .., unary_bufs_sub .., binary_bufs_sub .., unary_bufs_sub .., nullary_bufs_sub .., unary_bufs_sub .., binary_bufs_sub .., unary_bufs_sub .., nullary_bufs_sub .., unary_bufs_sub .., binary_bufs_sub .., unary_bufs_sub .., binary_bufs_sub .., unary_bufs_sub .., nullary_bufs_sub .., unary_bufs_sub .., binary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., reshape_bufs_sub .., unary_bufs_sub .., unary_bufs_sub .., unary_bufs_sub .., unary_bufs_sub .., unary_bufs_sub .., unary_bufs_sub .., binary_bufs_sub .., unary_bufs_sub .., binary_bufs_sub .., nullary_bufs_sub .., unary_bufs_sub .., unary_bufs_sub .., unary_bufs_sub .., ternary_bufs_sub .., reshape_bufs_sub .., nullary_bufs_sub .., binary_bufs_sub .., unary_bufs_sub .., unary_bufs_sub .., binary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., binary_bufs_sub .., binary_bufs_sub .., unary_bufs_sub .., reshape_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., reshape_bufs_sub .., unary_bufs_sub ..⟩

set_option maxRecDepth 8192 in
/-- `main_v133`'s composed term of the arguments (named: it is long). -/
def res_main_v133 (m : (ℓ : Loc nD τ sig) → Buf (Elt F) ℓ) (c : Dev nD) : Buf (Elt F) ((c.tc : Thread nD τ).loc main_v133) :=
  truncf .bf16 (shapeCast _ (extractStridedSlice S1x512x4096 ![0, 0, 0] (concatenate S1x8192x4096 2 [⟨S1x8192x2048, (mulf (mulf (extractStridedSlice S1x8192x2048 ![0, 0, 0] (m ((c.tc : Thread nD τ).loc main_arg0)) slices_S1x8192x13312_S1x8192x2048_0_0_0) (addf (addf (mulf (extractStridedSlice S1x8192x2048 ![0, 0, 0] (pad S1x8194x2048 ![0, 1, 0] ![0, 1, 0] ![0, 0, 0] (mulf (extractStridedSlice S1x8192x2048 ![0, 0, 2048] (m ((c.tc : Thread nD τ).loc main_arg0)) slices_S1x8192x13312_S1x8192x2048_0_0_2048) (extractStridedSlice S1x8192x2048 ![0, 0, 4096] (m ((c.tc : Thread nD τ).loc main_arg0)) slices_S1x8192x13312_S1x8192x2048_0_0_4096)) (sitofp .f32 (constantI S_ 32 0#32)) pads_S1x8192x2048_S1x8194x2048_000_110_000 h_S_) slices_S1x8194x2048_S1x8192x2048_0_0_0) (broadcastInDim S1x8192x2048 ![0, 1, 2] bcast_S1x1x2048_S1x8192x2048_0_1_2 (broadcastInDim S1x1x2048 ![2] bcast_S2048_S1x1x2048_2 (shapeCast _ (extractStridedSlice S1x2048 ![0, 0] (shapeCast _ (m ((c.tc : Thread nD τ).loc main_arg1)) shapeCasts_S1x3x2048_S3x2048) slices_S3x2048_S1x2048_0_0) shapeCasts_S1x2048_S2048)))) (mulf (extractStridedSlice S1x8192x2048 ![0, 1, 0] (pad S1x8194x2048 ![0, 1, 0] ![0, 1, 0] ![0, 0, 0] (mulf (extractStridedSlice S1x8192x2048 ![0, 0, 2048] (m ((c.tc : Thread nD τ).loc main_arg0)) slices_S1x8192x13312_S1x8192x2048_0_0_2048) (extractStridedSlice S1x8192x2048 ![0, 0, 4096] (m ((c.tc : Thread nD τ).loc main_arg0)) slices_S1x8192x13312_S1x8192x2048_0_0_4096)) (sitofp .f32 (constantI S_ 32 0#32)) pads_S1x8192x2048_S1x8194x2048_000_110_000 h_S_) slices_S1x8194x2048_S1x8192x2048_0_1_0) (broadcastInDim S1x8192x2048 ![0, 1, 2] bcast_S1x1x2048_S1x8192x2048_0_1_2 (broadcastInDim S1x1x2048 ![2] bcast_S2048_S1x1x2048_2 (shapeCast _ (extractStridedSlice S1x2048 ![1, 0] (shapeCast _ (m ((c.tc : Thread nD τ).loc main_arg1)) shapeCasts_S1x3x2048_S3x2048) slices_S3x2048_S1x2048_1_0) shapeCasts_S1x2048_S2048))))) (mulf (extractStridedSlice S1x8192x2048 ![0, 2, 0] (pad S1x8194x2048 ![0, 1, 0] ![0, 1, 0] ![0, 0, 0] (mulf (extractStridedSlice S1x8192x2048 ![0, 0, 2048] (m ((c.tc : Thread nD τ).loc main_arg0)) slices_S1x8192x13312_S1x8192x2048_0_0_2048) (extractStridedSlice S1x8192x2048 ![0, 0, 4096] (m ((c.tc : Thread nD τ).loc main_arg0)) slices_S1x8192x13312_S1x8192x2048_0_0_4096)) (sitofp .f32 (constantI S_ 32 0#32)) pads_S1x8192x2048_S1x8194x2048_000_110_000 h_S_) slices_S1x8194x2048_S1x8192x2048_0_2_0) (broadcastInDim S1x8192x2048 ![0, 1, 2] bcast_S1x1x2048_S1x8192x2048_0_1_2 (broadcastInDim S1x1x2048 ![2] bcast_S2048_S1x1x2048_2 (shapeCast _ (extractStridedSlice S1x2048 ![2, 0] (shapeCast _ (m ((c.tc : Thread nD τ).loc main_arg1)) shapeCasts_S1x3x2048_S3x2048) slices_S3x2048_S1x2048_2_0) shapeCasts_S1x2048_S2048)))))) (mulf (extractStridedSlice S1x8192x2048 ![0, 0, 6144] (m ((c.tc : Thread nD τ).loc main_arg0)) slices_S1x8192x13312_S1x8192x2048_0_0_6144) (Host.divf (broadcastInDim S1x8192x2048 ![] bcast_S_S1x8192x2048 (constant S_ .f32 0x3F800000#32)) (addf (broadcastInDim S1x8192x2048 ![] bcast_S_S1x8192x2048 (constant S_ .f32 0x3F800000#32)) (Host.exp (Host.negf (extractStridedSlice S1x8192x2048 ![0, 0, 6144] (m ((c.tc : Thread nD τ).loc main_arg0)) slices_S1x8192x13312_S1x8192x2048_0_0_6144)))))))⟩, ⟨S1x8192x2048, (mulf (shapeCast _ (transpose S1x64x128x4x4x128 [0, 1, 5, 2, 4, 3] (Host.dotGeneral dot_S1x64x384x4x128_S1x64x4x4x128x384_S1x64x4x128x4x128_2_5_4_34_013_012 none ((concatenate S1x64x384x4x128 2 [⟨S1x64x128x4x128, ((extractStridedSlice S1x64x128x4x128 ![0, 0, 0, 0, 0] (pad S1x66x128x4x128 ![0, 1, 0, 0, 0] ![0, 1, 0, 0, 0] ![0, 0, 0, 0, 0] (shapeCast _ (extractStridedSlice S1x8192x512 ![0, 0, 10752] (m ((c.tc : Thread nD τ).loc main_arg0)) slices_S1x8192x13312_S1x8192x512_0_0_10752) shapeCasts_S1x8192x512_S1x64x128x4x128) (sitofp .f32 (constantI S_ 32 0#32)) pads_S1x64x128x4x128_S1x66x128x4x128_000_110_000_000_000 h_S_) slices_S1x66x128x4x128_S1x64x128x4x128_0_0_0_0_0) : (⟨S1x64x128x4x128, .f32⟩ : BufTy).Contents (Elt F))⟩, ⟨S1x64x128x4x128, ((extractStridedSlice S1x64x128x4x128 ![0, 1, 0, 0, 0] (pad S1x66x128x4x128 ![0, 1, 0, 0, 0] ![0, 1, 0, 0, 0] ![0, 0, 0, 0, 0] (shapeCast _ (extractStridedSlice S1x8192x512 ![0, 0, 10752] (m ((c.tc : Thread nD τ).loc main_arg0)) slices_S1x8192x13312_S1x8192x512_0_0_10752) shapeCasts_S1x8192x512_S1x64x128x4x128) (sitofp .f32 (constantI S_ 32 0#32)) pads_S1x64x128x4x128_S1x66x128x4x128_000_110_000_000_000 h_S_) slices_S1x66x128x4x128_S1x64x128x4x128_0_1_0_0_0) : (⟨S1x64x128x4x128, .f32⟩ : BufTy).Contents (Elt F))⟩, ⟨S1x64x128x4x128, ((extractStridedSlice S1x64x128x4x128 ![0, 2, 0, 0, 0] (pad S1x66x128x4x128 ![0, 1, 0, 0, 0] ![0, 1, 0, 0, 0] ![0, 0, 0, 0, 0] (shapeCast _ (extractStridedSlice S1x8192x512 ![0, 0, 10752] (m ((c.tc : Thread nD τ).loc main_arg0)) slices_S1x8192x13312_S1x8192x512_0_0_10752) shapeCasts_S1x8192x512_S1x64x128x4x128) (sitofp .f32 (constantI S_ 32 0#32)) pads_S1x64x128x4x128_S1x66x128x4x128_000_110_000_000_000 h_S_) slices_S1x66x128x4x128_S1x64x128x4x128_0_2_0_0_0) : (⟨S1x64x128x4x128, .f32⟩ : BufTy).Contents (Elt F))⟩] concatenates_S1x64x128x4x128_S1x64x128x4x128_S1x64x128x4x128_S1x64x384x4x128_d2 : (⟨S1x64x384x4x128, .f32⟩ : BufTy).Contents (Elt F))) (Host.divf (Host.exp (subf (select (broadcastInDim S1x64x4x4x128x384 ![0, 1, 2, 3, 4, 5] bcast_S1x64x1x1x128x384_S1x64x4x4x128x384_0_1_2_3_4_5 (broadcastInDim S1x64x1x1x128x384 ![1, 4, 5] bcast_S64x128x384_S1x64x1x1x128x384_1_4_5 (andi (andi (cmpi .sle (absi (subi (broadcastInDim S64x128x384 ![0, 1, 2] bcast_S64x128x1_S64x128x384_0_1_2 (broadcastInDim S64x128x1 ![0, 1] bcast_S64x128_S64x128x1_0_1 (addi (broadcastInDim S64x128 ![0, 1] bcast_S64x1_S64x128_0_1 (muli (broadcastInDim S64x1 ![0] bcast_S64_S64x1_0 (iotaInDim S64 32 0)) (broadcastInDim S64x1 ![] bcast_S_S64x1 (constantI S_ 32 128#32)))) (broadcastInDim S64x128 ![0, 1] bcast_S1x128_S64x128_0_1 (broadcastInDim S1x128 ![1] bcast_S128_S1x128_1 (iotaInDim S128 32 0)))))) (broadcastInDim S64x128x384 ![0, 1, 2] bcast_S64x1x384_S64x128x384_0_1_2 (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0)))))))) (broadcastInDim S64x128x384 ![] bcast_S_S64x128x384 (constantI S_ 32 128#32))) (broadcastInDim S64x128x384 ![0, 1, 2] bcast_S64x1x384_S64x128x384_0_1_2 (cmpi .sge (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0))))) (broadcastInDim S64x1x384 ![] bcast_S_S64x1x384 (constantI S_ 32 0#32))))) (broadcastInDim S64x128x384 ![0, 1, 2] bcast_S64x1x384_S64x128x384_0_1_2 (cmpi .slt (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0))))) (broadcastInDim S64x1x384 ![] bcast_S_S64x1x384 (constantI S_ 32 8192#32))))))) (addf (Host.divf (transpose S1x64x4x4x128x384 [0, 1, 2, 5, 4, 3] (Host.dotGeneral dot_S1x64x384x4x128_S1x64x128x4x4x128_S1x64x4x384x128x4_4_5_2_24_013_013 none ((concatenate S1x64x384x4x128 2 [⟨S1x64x128x4x128, ((extractStridedSlice S1x64x128x4x128 ![0, 0, 0, 0, 0] (pad S1x66x128x4x128 ![0, 1, 0, 0, 0] ![0, 1, 0, 0, 0] ![0, 0, 0, 0, 0] (shapeCast _ (extractStridedSlice S1x8192x512 ![0, 0, 10240] (m ((c.tc : Thread nD τ).loc main_arg0)) slices_S1x8192x13312_S1x8192x512_0_0_10240) shapeCasts_S1x8192x512_S1x64x128x4x128) (sitofp .f32 (constantI S_ 32 0#32)) pads_S1x64x128x4x128_S1x66x128x4x128_000_110_000_000_000 h_S_) slices_S1x66x128x4x128_S1x64x128x4x128_0_0_0_0_0) : (⟨S1x64x128x4x128, .f32⟩ : BufTy).Contents (Elt F))⟩, ⟨S1x64x128x4x128, ((extractStridedSlice S1x64x128x4x128 ![0, 1, 0, 0, 0] (pad S1x66x128x4x128 ![0, 1, 0, 0, 0] ![0, 1, 0, 0, 0] ![0, 0, 0, 0, 0] (shapeCast _ (extractStridedSlice S1x8192x512 ![0, 0, 10240] (m ((c.tc : Thread nD τ).loc main_arg0)) slices_S1x8192x13312_S1x8192x512_0_0_10240) shapeCasts_S1x8192x512_S1x64x128x4x128) (sitofp .f32 (constantI S_ 32 0#32)) pads_S1x64x128x4x128_S1x66x128x4x128_000_110_000_000_000 h_S_) slices_S1x66x128x4x128_S1x64x128x4x128_0_1_0_0_0) : (⟨S1x64x128x4x128, .f32⟩ : BufTy).Contents (Elt F))⟩, ⟨S1x64x128x4x128, ((extractStridedSlice S1x64x128x4x128 ![0, 2, 0, 0, 0] (pad S1x66x128x4x128 ![0, 1, 0, 0, 0] ![0, 1, 0, 0, 0] ![0, 0, 0, 0, 0] (shapeCast _ (extractStridedSlice S1x8192x512 ![0, 0, 10240] (m ((c.tc : Thread nD τ).loc main_arg0)) slices_S1x8192x13312_S1x8192x512_0_0_10240) shapeCasts_S1x8192x512_S1x64x128x4x128) (sitofp .f32 (constantI S_ 32 0#32)) pads_S1x64x128x4x128_S1x66x128x4x128_000_110_000_000_000 h_S_) slices_S1x66x128x4x128_S1x64x128x4x128_0_2_0_0_0) : (⟨S1x64x128x4x128, .f32⟩ : BufTy).Contents (Elt F))⟩] concatenates_S1x64x128x4x128_S1x64x128x4x128_S1x64x128x4x128_S1x64x384x4x128_d2 : (⟨S1x64x384x4x128, .f32⟩ : BufTy).Contents (Elt F))) (shapeCast _ (extractStridedSlice S1x8192x2048 ![0, 0, 8192] (m ((c.tc : Thread nD τ).loc main_arg0)) slices_S1x8192x13312_S1x8192x2048_0_0_8192) shapeCasts_S1x8192x2048_S1x64x128x4x4x128)) transposes_S1x64x4x384x128x4_S1x64x4x4x128x384_0_1_2_5_4_3) (broadcastInDim S1x64x4x4x128x384 ![] bcast_S_S1x64x4x4x128x384 (Host.sqrt (constant S_ .f32 0x43000000#32)))) (mulf (broadcastInDim S1x64x4x4x128x384 ![0, 1, 2, 3, 4, 5] bcast_S1x1x4x4x1x1_S1x64x4x4x128x384_0_1_2_3_4_5 (Host.negf (broadcastInDim S1x1x4x4x1x1 ![2, 3] bcast_S4x4_S1x1x4x4x1x1_2_3 (shapeCast _ (Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))) shapeCasts_S16_S4x4)))) (broadcastInDim S1x64x4x4x128x384 ![0, 1, 2, 3, 4, 5] bcast_S1x64x1x1x128x384_S1x64x4x4x128x384_0_1_2_3_4_5 (sitofp .f32 (broadcastInDim S1x64x1x1x128x384 ![1, 4, 5] bcast_S64x128x384_S1x64x1x1x128x384_1_4_5 (absi (subi (broadcastInDim S64x128x384 ![0, 1, 2] bcast_S64x128x1_S64x128x384_0_1_2 (broadcastInDim S64x128x1 ![0, 1] bcast_S64x128_S64x128x1_0_1 (addi (broadcastInDim S64x128 ![0, 1] bcast_S64x1_S64x128_0_1 (muli (broadcastInDim S64x1 ![0] bcast_S64_S64x1_0 (iotaInDim S64 32 0)) (broadcastInDim S64x1 ![] bcast_S_S64x1 (constantI S_ 32 128#32)))) (broadcastInDim S64x128 ![0, 1] bcast_S1x128_S64x128_0_1 (broadcastInDim S1x128 ![1] bcast_S128_S1x128_1 (iotaInDim S128 32 0)))))) (broadcastInDim S64x128x384 ![0, 1, 2] bcast_S64x1x384_S64x128x384_0_1_2 (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0))))))))))))) (broadcastInDim S1x64x4x4x128x384 ![] bcast_S_S1x64x4x4x128x384 (id (constant S_ .f32 0xFF800000#32)))) (broadcastInDim S1x64x4x4x128x384 ![0, 1, 2, 3, 4, 5] bcast_S1x64x4x4x128x1_S1x64x4x4x128x384_0_1_2_3_4_5 (maximumf (broadcastInDim S1x64x4x4x128x1 ![0, 1, 2, 3, 4] bcast_S1x64x4x4x128_S1x64x4x4x128x1_0_1_2_3_4 (Host.reduce FloatOps.maximumf (select (broadcastInDim S1x64x4x4x128x384 ![0, 1, 2, 3, 4, 5] bcast_S1x64x1x1x128x384_S1x64x4x4x128x384_0_1_2_3_4_5 (broadcastInDim S1x64x1x1x128x384 ![1, 4, 5] bcast_S64x128x384_S1x64x1x1x128x384_1_4_5 (andi (andi (cmpi .sle (absi (subi (broadcastInDim S64x128x384 ![0, 1, 2] bcast_S64x128x1_S64x128x384_0_1_2 (broadcastInDim S64x128x1 ![0, 1] bcast_S64x128_S64x128x1_0_1 (addi (broadcastInDim S64x128 ![0, 1] bcast_S64x1_S64x128_0_1 (muli (broadcastInDim S64x1 ![0] bcast_S64_S64x1_0 (iotaInDim S64 32 0)) (broadcastInDim S64x1 ![] bcast_S_S64x1 (constantI S_ 32 128#32)))) (broadcastInDim S64x128 ![0, 1] bcast_S1x128_S64x128_0_1 (broadcastInDim S1x128 ![1] bcast_S128_S1x128_1 (iotaInDim S128 32 0)))))) (broadcastInDim S64x128x384 ![0, 1, 2] bcast_S64x1x384_S64x128x384_0_1_2 (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0)))))))) (broadcastInDim S64x128x384 ![] bcast_S_S64x128x384 (constantI S_ 32 128#32))) (broadcastInDim S64x128x384 ![0, 1, 2] bcast_S64x1x384_S64x128x384_0_1_2 (cmpi .sge (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0))))) (broadcastInDim S64x1x384 ![] bcast_S_S64x1x384 (constantI S_ 32 0#32))))) (broadcastInDim S64x128x384 ![0, 1, 2] bcast_S64x1x384_S64x128x384_0_1_2 (cmpi .slt (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0))))) (broadcastInDim S64x1x384 ![] bcast_S_S64x1x384 (constantI S_ 32 8192#32))))))) (addf (Host.divf (transpose S1x64x4x4x128x384 [0, 1, 2, 5, 4, 3] (Host.dotGeneral dot_S1x64x384x4x128_S1x64x128x4x4x128_S1x64x4x384x128x4_4_5_2_24_013_013 none ((concatenate S1x64x384x4x128 2 [⟨S1x64x128x4x128, ((extractStridedSlice S1x64x128x4x128 ![0, 0, 0, 0, 0] (pad S1x66x128x4x128 ![0, 1, 0, 0, 0] ![0, 1, 0, 0, 0] ![0, 0, 0, 0, 0] (shapeCast _ (extractStridedSlice S1x8192x512 ![0, 0, 10240] (m ((c.tc : Thread nD τ).loc main_arg0)) slices_S1x8192x13312_S1x8192x512_0_0_10240) shapeCasts_S1x8192x512_S1x64x128x4x128) (sitofp .f32 (constantI S_ 32 0#32)) pads_S1x64x128x4x128_S1x66x128x4x128_000_110_000_000_000 h_S_) slices_S1x66x128x4x128_S1x64x128x4x128_0_0_0_0_0) : (⟨S1x64x128x4x128, .f32⟩ : BufTy).Contents (Elt F))⟩, ⟨S1x64x128x4x128, ((extractStridedSlice S1x64x128x4x128 ![0, 1, 0, 0, 0] (pad S1x66x128x4x128 ![0, 1, 0, 0, 0] ![0, 1, 0, 0, 0] ![0, 0, 0, 0, 0] (shapeCast _ (extractStridedSlice S1x8192x512 ![0, 0, 10240] (m ((c.tc : Thread nD τ).loc main_arg0)) slices_S1x8192x13312_S1x8192x512_0_0_10240) shapeCasts_S1x8192x512_S1x64x128x4x128) (sitofp .f32 (constantI S_ 32 0#32)) pads_S1x64x128x4x128_S1x66x128x4x128_000_110_000_000_000 h_S_) slices_S1x66x128x4x128_S1x64x128x4x128_0_1_0_0_0) : (⟨S1x64x128x4x128, .f32⟩ : BufTy).Contents (Elt F))⟩, ⟨S1x64x128x4x128, ((extractStridedSlice S1x64x128x4x128 ![0, 2, 0, 0, 0] (pad S1x66x128x4x128 ![0, 1, 0, 0, 0] ![0, 1, 0, 0, 0] ![0, 0, 0, 0, 0] (shapeCast _ (extractStridedSlice S1x8192x512 ![0, 0, 10240] (m ((c.tc : Thread nD τ).loc main_arg0)) slices_S1x8192x13312_S1x8192x512_0_0_10240) shapeCasts_S1x8192x512_S1x64x128x4x128) (sitofp .f32 (constantI S_ 32 0#32)) pads_S1x64x128x4x128_S1x66x128x4x128_000_110_000_000_000 h_S_) slices_S1x66x128x4x128_S1x64x128x4x128_0_2_0_0_0) : (⟨S1x64x128x4x128, .f32⟩ : BufTy).Contents (Elt F))⟩] concatenates_S1x64x128x4x128_S1x64x128x4x128_S1x64x128x4x128_S1x64x384x4x128_d2 : (⟨S1x64x384x4x128, .f32⟩ : BufTy).Contents (Elt F))) (shapeCast _ (extractStridedSlice S1x8192x2048 ![0, 0, 8192] (m ((c.tc : Thread nD τ).loc main_arg0)) slices_S1x8192x13312_S1x8192x2048_0_0_8192) shapeCasts_S1x8192x2048_S1x64x128x4x4x128)) transposes_S1x64x4x384x128x4_S1x64x4x4x128x384_0_1_2_5_4_3) (broadcastInDim S1x64x4x4x128x384 ![] bcast_S_S1x64x4x4x128x384 (Host.sqrt (constant S_ .f32 0x43000000#32)))) (mulf (broadcastInDim S1x64x4x4x128x384 ![0, 1, 2, 3, 4, 5] bcast_S1x1x4x4x1x1_S1x64x4x4x128x384_0_1_2_3_4_5 (Host.negf (broadcastInDim S1x1x4x4x1x1 ![2, 3] bcast_S4x4_S1x1x4x4x1x1_2_3 (shapeCast _ (Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))) shapeCasts_S16_S4x4)))) (broadcastInDim S1x64x4x4x128x384 ![0, 1, 2, 3, 4, 5] bcast_S1x64x1x1x128x384_S1x64x4x4x128x384_0_1_2_3_4_5 (sitofp .f32 (broadcastInDim S1x64x1x1x128x384 ![1, 4, 5] bcast_S64x128x384_S1x64x1x1x128x384_1_4_5 (absi (subi (broadcastInDim S64x128x384 ![0, 1, 2] bcast_S64x128x1_S64x128x384_0_1_2 (broadcastInDim S64x128x1 ![0, 1] bcast_S64x128_S64x128x1_0_1 (addi (broadcastInDim S64x128 ![0, 1] bcast_S64x1_S64x128_0_1 (muli (broadcastInDim S64x1 ![0] bcast_S64_S64x1_0 (iotaInDim S64 32 0)) (broadcastInDim S64x1 ![] bcast_S_S64x1 (constantI S_ 32 128#32)))) (broadcastInDim S64x128 ![0, 1] bcast_S1x128_S64x128_0_1 (broadcastInDim S1x128 ![1] bcast_S128_S1x128_1 (iotaInDim S128 32 0)))))) (broadcastInDim S64x128x384 ![0, 1, 2] bcast_S64x1x384_S64x128x384_0_1_2 (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0))))))))))))) (broadcastInDim S1x64x4x4x128x384 ![] bcast_S_S1x64x4x4x128x384 (id (constant S_ .f32 0xFF800000#32)))) (constant S_ .f32 0xFF800000#32) reducesTo_S1x64x4x4x128x384_S1x64x4x4x128_d5 h_S_)) (broadcastInDim S1x64x4x4x128x1 ![0, 1, 2, 3, 4, 5] bcast_S1x1x4x4x1x1_S1x64x4x4x128x1_0_1_2_3_4_5 (shapeCast _ (shapeCast _ (m ((c.tc : Thread nD τ).loc main_arg2)) shapeCasts_S1x16_S16) shapeCasts_S16_S1x1x4x4x1x1)))))) (broadcastInDim S1x64x4x4x128x384 ![0, 1, 2, 3, 4, 5] bcast_S1x64x4x4x128x1_S1x64x4x4x128x384_0_1_2_3_4_5 (addf (broadcastInDim S1x64x4x4x128x1 ![0, 1, 2, 3, 4] bcast_S1x64x4x4x128_S1x64x4x4x128x1_0_1_2_3_4 (Host.reduceAdd (Host.exp (subf (select (broadcastInDim S1x64x4x4x128x384 ![0, 1, 2, 3, 4, 5] bcast_S1x64x1x1x128x384_S1x64x4x4x128x384_0_1_2_3_4_5 (broadcastInDim S1x64x1x1x128x384 ![1, 4, 5] bcast_S64x128x384_S1x64x1x1x128x384_1_4_5 (andi (andi (cmpi .sle (absi (subi (broadcastInDim S64x128x384 ![0, 1, 2] bcast_S64x128x1_S64x128x384_0_1_2 (broadcastInDim S64x128x1 ![0, 1] bcast_S64x128_S64x128x1_0_1 (addi (broadcastInDim S64x128 ![0, 1] bcast_S64x1_S64x128_0_1 (muli (broadcastInDim S64x1 ![0] bcast_S64_S64x1_0 (iotaInDim S64 32 0)) (broadcastInDim S64x1 ![] bcast_S_S64x1 (constantI S_ 32 128#32)))) (broadcastInDim S64x128 ![0, 1] bcast_S1x128_S64x128_0_1 (broadcastInDim S1x128 ![1] bcast_S128_S1x128_1 (iotaInDim S128 32 0)))))) (broadcastInDim S64x128x384 ![0, 1, 2] bcast_S64x1x384_S64x128x384_0_1_2 (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0)))))))) (broadcastInDim S64x128x384 ![] bcast_S_S64x128x384 (constantI S_ 32 128#32))) (broadcastInDim S64x128x384 ![0, 1, 2] bcast_S64x1x384_S64x128x384_0_1_2 (cmpi .sge (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0))))) (broadcastInDim S64x1x384 ![] bcast_S_S64x1x384 (constantI S_ 32 0#32))))) (broadcastInDim S64x128x384 ![0, 1, 2] bcast_S64x1x384_S64x128x384_0_1_2 (cmpi .slt (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0))))) (broadcastInDim S64x1x384 ![] bcast_S_S64x1x384 (constantI S_ 32 8192#32))))))) (addf (Host.divf (transpose S1x64x4x4x128x384 [0, 1, 2, 5, 4, 3] (Host.dotGeneral dot_S1x64x384x4x128_S1x64x128x4x4x128_S1x64x4x384x128x4_4_5_2_24_013_013 none ((concatenate S1x64x384x4x128 2 [⟨S1x64x128x4x128, ((extractStridedSlice S1x64x128x4x128 ![0, 0, 0, 0, 0] (pad S1x66x128x4x128 ![0, 1, 0, 0, 0] ![0, 1, 0, 0, 0] ![0, 0, 0, 0, 0] (shapeCast _ (extractStridedSlice S1x8192x512 ![0, 0, 10240] (m ((c.tc : Thread nD τ).loc main_arg0)) slices_S1x8192x13312_S1x8192x512_0_0_10240) shapeCasts_S1x8192x512_S1x64x128x4x128) (sitofp .f32 (constantI S_ 32 0#32)) pads_S1x64x128x4x128_S1x66x128x4x128_000_110_000_000_000 h_S_) slices_S1x66x128x4x128_S1x64x128x4x128_0_0_0_0_0) : (⟨S1x64x128x4x128, .f32⟩ : BufTy).Contents (Elt F))⟩, ⟨S1x64x128x4x128, ((extractStridedSlice S1x64x128x4x128 ![0, 1, 0, 0, 0] (pad S1x66x128x4x128 ![0, 1, 0, 0, 0] ![0, 1, 0, 0, 0] ![0, 0, 0, 0, 0] (shapeCast _ (extractStridedSlice S1x8192x512 ![0, 0, 10240] (m ((c.tc : Thread nD τ).loc main_arg0)) slices_S1x8192x13312_S1x8192x512_0_0_10240) shapeCasts_S1x8192x512_S1x64x128x4x128) (sitofp .f32 (constantI S_ 32 0#32)) pads_S1x64x128x4x128_S1x66x128x4x128_000_110_000_000_000 h_S_) slices_S1x66x128x4x128_S1x64x128x4x128_0_1_0_0_0) : (⟨S1x64x128x4x128, .f32⟩ : BufTy).Contents (Elt F))⟩, ⟨S1x64x128x4x128, ((extractStridedSlice S1x64x128x4x128 ![0, 2, 0, 0, 0] (pad S1x66x128x4x128 ![0, 1, 0, 0, 0] ![0, 1, 0, 0, 0] ![0, 0, 0, 0, 0] (shapeCast _ (extractStridedSlice S1x8192x512 ![0, 0, 10240] (m ((c.tc : Thread nD τ).loc main_arg0)) slices_S1x8192x13312_S1x8192x512_0_0_10240) shapeCasts_S1x8192x512_S1x64x128x4x128) (sitofp .f32 (constantI S_ 32 0#32)) pads_S1x64x128x4x128_S1x66x128x4x128_000_110_000_000_000 h_S_) slices_S1x66x128x4x128_S1x64x128x4x128_0_2_0_0_0) : (⟨S1x64x128x4x128, .f32⟩ : BufTy).Contents (Elt F))⟩] concatenates_S1x64x128x4x128_S1x64x128x4x128_S1x64x128x4x128_S1x64x384x4x128_d2 : (⟨S1x64x384x4x128, .f32⟩ : BufTy).Contents (Elt F))) (shapeCast _ (extractStridedSlice S1x8192x2048 ![0, 0, 8192] (m ((c.tc : Thread nD τ).loc main_arg0)) slices_S1x8192x13312_S1x8192x2048_0_0_8192) shapeCasts_S1x8192x2048_S1x64x128x4x4x128)) transposes_S1x64x4x384x128x4_S1x64x4x4x128x384_0_1_2_5_4_3) (broadcastInDim S1x64x4x4x128x384 ![] bcast_S_S1x64x4x4x128x384 (Host.sqrt (constant S_ .f32 0x43000000#32)))) (mulf (broadcastInDim S1x64x4x4x128x384 ![0, 1, 2, 3, 4, 5] bcast_S1x1x4x4x1x1_S1x64x4x4x128x384_0_1_2_3_4_5 (Host.negf (broadcastInDim S1x1x4x4x1x1 ![2, 3] bcast_S4x4_S1x1x4x4x1x1_2_3 (shapeCast _ (Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))) shapeCasts_S16_S4x4)))) (broadcastInDim S1x64x4x4x128x384 ![0, 1, 2, 3, 4, 5] bcast_S1x64x1x1x128x384_S1x64x4x4x128x384_0_1_2_3_4_5 (sitofp .f32 (broadcastInDim S1x64x1x1x128x384 ![1, 4, 5] bcast_S64x128x384_S1x64x1x1x128x384_1_4_5 (absi (subi (broadcastInDim S64x128x384 ![0, 1, 2] bcast_S64x128x1_S64x128x384_0_1_2 (broadcastInDim S64x128x1 ![0, 1] bcast_S64x128_S64x128x1_0_1 (addi (broadcastInDim S64x128 ![0, 1] bcast_S64x1_S64x128_0_1 (muli (broadcastInDim S64x1 ![0] bcast_S64_S64x1_0 (iotaInDim S64 32 0)) (broadcastInDim S64x1 ![] bcast_S_S64x1 (constantI S_ 32 128#32)))) (broadcastInDim S64x128 ![0, 1] bcast_S1x128_S64x128_0_1 (broadcastInDim S1x128 ![1] bcast_S128_S1x128_1 (iotaInDim S128 32 0)))))) (broadcastInDim S64x128x384 ![0, 1, 2] bcast_S64x1x384_S64x128x384_0_1_2 (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0))))))))))))) (broadcastInDim S1x64x4x4x128x384 ![] bcast_S_S1x64x4x4x128x384 (id (constant S_ .f32 0xFF800000#32)))) (broadcastInDim S1x64x4x4x128x384 ![0, 1, 2, 3, 4, 5] bcast_S1x64x4x4x128x1_S1x64x4x4x128x384_0_1_2_3_4_5 (maximumf (broadcastInDim S1x64x4x4x128x1 ![0, 1, 2, 3, 4] bcast_S1x64x4x4x128_S1x64x4x4x128x1_0_1_2_3_4 (Host.reduce FloatOps.maximumf (select (broadcastInDim S1x64x4x4x128x384 ![0, 1, 2, 3, 4, 5] bcast_S1x64x1x1x128x384_S1x64x4x4x128x384_0_1_2_3_4_5 (broadcastInDim S1x64x1x1x128x384 ![1, 4, 5] bcast_S64x128x384_S1x64x1x1x128x384_1_4_5 (andi (andi (cmpi .sle (absi (subi (broadcastInDim S64x128x384 ![0, 1, 2] bcast_S64x128x1_S64x128x384_0_1_2 (broadcastInDim S64x128x1 ![0, 1] bcast_S64x128_S64x128x1_0_1 (addi (broadcastInDim S64x128 ![0, 1] bcast_S64x1_S64x128_0_1 (muli (broadcastInDim S64x1 ![0] bcast_S64_S64x1_0 (iotaInDim S64 32 0)) (broadcastInDim S64x1 ![] bcast_S_S64x1 (constantI S_ 32 128#32)))) (broadcastInDim S64x128 ![0, 1] bcast_S1x128_S64x128_0_1 (broadcastInDim S1x128 ![1] bcast_S128_S1x128_1 (iotaInDim S128 32 0)))))) (broadcastInDim S64x128x384 ![0, 1, 2] bcast_S64x1x384_S64x128x384_0_1_2 (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0)))))))) (broadcastInDim S64x128x384 ![] bcast_S_S64x128x384 (constantI S_ 32 128#32))) (broadcastInDim S64x128x384 ![0, 1, 2] bcast_S64x1x384_S64x128x384_0_1_2 (cmpi .sge (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0))))) (broadcastInDim S64x1x384 ![] bcast_S_S64x1x384 (constantI S_ 32 0#32))))) (broadcastInDim S64x128x384 ![0, 1, 2] bcast_S64x1x384_S64x128x384_0_1_2 (cmpi .slt (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0))))) (broadcastInDim S64x1x384 ![] bcast_S_S64x1x384 (constantI S_ 32 8192#32))))))) (addf (Host.divf (transpose S1x64x4x4x128x384 [0, 1, 2, 5, 4, 3] (Host.dotGeneral dot_S1x64x384x4x128_S1x64x128x4x4x128_S1x64x4x384x128x4_4_5_2_24_013_013 none ((concatenate S1x64x384x4x128 2 [⟨S1x64x128x4x128, ((extractStridedSlice S1x64x128x4x128 ![0, 0, 0, 0, 0] (pad S1x66x128x4x128 ![0, 1, 0, 0, 0] ![0, 1, 0, 0, 0] ![0, 0, 0, 0, 0] (shapeCast _ (extractStridedSlice S1x8192x512 ![0, 0, 10240] (m ((c.tc : Thread nD τ).loc main_arg0)) slices_S1x8192x13312_S1x8192x512_0_0_10240) shapeCasts_S1x8192x512_S1x64x128x4x128) (sitofp .f32 (constantI S_ 32 0#32)) pads_S1x64x128x4x128_S1x66x128x4x128_000_110_000_000_000 h_S_) slices_S1x66x128x4x128_S1x64x128x4x128_0_0_0_0_0) : (⟨S1x64x128x4x128, .f32⟩ : BufTy).Contents (Elt F))⟩, ⟨S1x64x128x4x128, ((extractStridedSlice S1x64x128x4x128 ![0, 1, 0, 0, 0] (pad S1x66x128x4x128 ![0, 1, 0, 0, 0] ![0, 1, 0, 0, 0] ![0, 0, 0, 0, 0] (shapeCast _ (extractStridedSlice S1x8192x512 ![0, 0, 10240] (m ((c.tc : Thread nD τ).loc main_arg0)) slices_S1x8192x13312_S1x8192x512_0_0_10240) shapeCasts_S1x8192x512_S1x64x128x4x128) (sitofp .f32 (constantI S_ 32 0#32)) pads_S1x64x128x4x128_S1x66x128x4x128_000_110_000_000_000 h_S_) slices_S1x66x128x4x128_S1x64x128x4x128_0_1_0_0_0) : (⟨S1x64x128x4x128, .f32⟩ : BufTy).Contents (Elt F))⟩, ⟨S1x64x128x4x128, ((extractStridedSlice S1x64x128x4x128 ![0, 2, 0, 0, 0] (pad S1x66x128x4x128 ![0, 1, 0, 0, 0] ![0, 1, 0, 0, 0] ![0, 0, 0, 0, 0] (shapeCast _ (extractStridedSlice S1x8192x512 ![0, 0, 10240] (m ((c.tc : Thread nD τ).loc main_arg0)) slices_S1x8192x13312_S1x8192x512_0_0_10240) shapeCasts_S1x8192x512_S1x64x128x4x128) (sitofp .f32 (constantI S_ 32 0#32)) pads_S1x64x128x4x128_S1x66x128x4x128_000_110_000_000_000 h_S_) slices_S1x66x128x4x128_S1x64x128x4x128_0_2_0_0_0) : (⟨S1x64x128x4x128, .f32⟩ : BufTy).Contents (Elt F))⟩] concatenates_S1x64x128x4x128_S1x64x128x4x128_S1x64x128x4x128_S1x64x384x4x128_d2 : (⟨S1x64x384x4x128, .f32⟩ : BufTy).Contents (Elt F))) (shapeCast _ (extractStridedSlice S1x8192x2048 ![0, 0, 8192] (m ((c.tc : Thread nD τ).loc main_arg0)) slices_S1x8192x13312_S1x8192x2048_0_0_8192) shapeCasts_S1x8192x2048_S1x64x128x4x4x128)) transposes_S1x64x4x384x128x4_S1x64x4x4x128x384_0_1_2_5_4_3) (broadcastInDim S1x64x4x4x128x384 ![] bcast_S_S1x64x4x4x128x384 (Host.sqrt (constant S_ .f32 0x43000000#32)))) (mulf (broadcastInDim S1x64x4x4x128x384 ![0, 1, 2, 3, 4, 5] bcast_S1x1x4x4x1x1_S1x64x4x4x128x384_0_1_2_3_4_5 (Host.negf (broadcastInDim S1x1x4x4x1x1 ![2, 3] bcast_S4x4_S1x1x4x4x1x1_2_3 (shapeCast _ (Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))) shapeCasts_S16_S4x4)))) (broadcastInDim S1x64x4x4x128x384 ![0, 1, 2, 3, 4, 5] bcast_S1x64x1x1x128x384_S1x64x4x4x128x384_0_1_2_3_4_5 (sitofp .f32 (broadcastInDim S1x64x1x1x128x384 ![1, 4, 5] bcast_S64x128x384_S1x64x1x1x128x384_1_4_5 (absi (subi (broadcastInDim S64x128x384 ![0, 1, 2] bcast_S64x128x1_S64x128x384_0_1_2 (broadcastInDim S64x128x1 ![0, 1] bcast_S64x128_S64x128x1_0_1 (addi (broadcastInDim S64x128 ![0, 1] bcast_S64x1_S64x128_0_1 (muli (broadcastInDim S64x1 ![0] bcast_S64_S64x1_0 (iotaInDim S64 32 0)) (broadcastInDim S64x1 ![] bcast_S_S64x1 (constantI S_ 32 128#32)))) (broadcastInDim S64x128 ![0, 1] bcast_S1x128_S64x128_0_1 (broadcastInDim S1x128 ![1] bcast_S128_S1x128_1 (iotaInDim S128 32 0)))))) (broadcastInDim S64x128x384 ![0, 1, 2] bcast_S64x1x384_S64x128x384_0_1_2 (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0))))))))))))) (broadcastInDim S1x64x4x4x128x384 ![] bcast_S_S1x64x4x4x128x384 (id (constant S_ .f32 0xFF800000#32)))) (constant S_ .f32 0xFF800000#32) reducesTo_S1x64x4x4x128x384_S1x64x4x4x128_d5 h_S_)) (broadcastInDim S1x64x4x4x128x1 ![0, 1, 2, 3, 4, 5] bcast_S1x1x4x4x1x1_S1x64x4x4x128x1_0_1_2_3_4_5 (shapeCast _ (shapeCast _ (m ((c.tc : Thread nD τ).loc main_arg2)) shapeCasts_S1x16_S16) shapeCasts_S16_S1x1x4x4x1x1)))))) (constant S_ .f32 0x00000000#32) reducesTo_S1x64x4x4x128x384_S1x64x4x4x128_d5 h_S_)) (Host.exp (subf (broadcastInDim S1x64x4x4x128x1 ![0, 1, 2, 3, 4, 5] bcast_S1x1x4x4x1x1_S1x64x4x4x128x1_0_1_2_3_4_5 (shapeCast _ (shapeCast _ (m ((c.tc : Thread nD τ).loc main_arg2)) shapeCasts_S1x16_S16) shapeCasts_S16_S1x1x4x4x1x1)) (maximumf (broadcastInDim S1x64x4x4x128x1 ![0, 1, 2, 3, 4] bcast_S1x64x4x4x128_S1x64x4x4x128x1_0_1_2_3_4 (Host.reduce FloatOps.maximumf (select (broadcastInDim S1x64x4x4x128x384 ![0, 1, 2, 3, 4, 5] bcast_S1x64x1x1x128x384_S1x64x4x4x128x384_0_1_2_3_4_5 (broadcastInDim S1x64x1x1x128x384 ![1, 4, 5] bcast_S64x128x384_S1x64x1x1x128x384_1_4_5 (andi (andi (cmpi .sle (absi (subi (broadcastInDim S64x128x384 ![0, 1, 2] bcast_S64x128x1_S64x128x384_0_1_2 (broadcastInDim S64x128x1 ![0, 1] bcast_S64x128_S64x128x1_0_1 (addi (broadcastInDim S64x128 ![0, 1] bcast_S64x1_S64x128_0_1 (muli (broadcastInDim S64x1 ![0] bcast_S64_S64x1_0 (iotaInDim S64 32 0)) (broadcastInDim S64x1 ![] bcast_S_S64x1 (constantI S_ 32 128#32)))) (broadcastInDim S64x128 ![0, 1] bcast_S1x128_S64x128_0_1 (broadcastInDim S1x128 ![1] bcast_S128_S1x128_1 (iotaInDim S128 32 0)))))) (broadcastInDim S64x128x384 ![0, 1, 2] bcast_S64x1x384_S64x128x384_0_1_2 (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0)))))))) (broadcastInDim S64x128x384 ![] bcast_S_S64x128x384 (constantI S_ 32 128#32))) (broadcastInDim S64x128x384 ![0, 1, 2] bcast_S64x1x384_S64x128x384_0_1_2 (cmpi .sge (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0))))) (broadcastInDim S64x1x384 ![] bcast_S_S64x1x384 (constantI S_ 32 0#32))))) (broadcastInDim S64x128x384 ![0, 1, 2] bcast_S64x1x384_S64x128x384_0_1_2 (cmpi .slt (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0))))) (broadcastInDim S64x1x384 ![] bcast_S_S64x1x384 (constantI S_ 32 8192#32))))))) (addf (Host.divf (transpose S1x64x4x4x128x384 [0, 1, 2, 5, 4, 3] (Host.dotGeneral dot_S1x64x384x4x128_S1x64x128x4x4x128_S1x64x4x384x128x4_4_5_2_24_013_013 none ((concatenate S1x64x384x4x128 2 [⟨S1x64x128x4x128, ((extractStridedSlice S1x64x128x4x128 ![0, 0, 0, 0, 0] (pad S1x66x128x4x128 ![0, 1, 0, 0, 0] ![0, 1, 0, 0, 0] ![0, 0, 0, 0, 0] (shapeCast _ (extractStridedSlice S1x8192x512 ![0, 0, 10240] (m ((c.tc : Thread nD τ).loc main_arg0)) slices_S1x8192x13312_S1x8192x512_0_0_10240) shapeCasts_S1x8192x512_S1x64x128x4x128) (sitofp .f32 (constantI S_ 32 0#32)) pads_S1x64x128x4x128_S1x66x128x4x128_000_110_000_000_000 h_S_) slices_S1x66x128x4x128_S1x64x128x4x128_0_0_0_0_0) : (⟨S1x64x128x4x128, .f32⟩ : BufTy).Contents (Elt F))⟩, ⟨S1x64x128x4x128, ((extractStridedSlice S1x64x128x4x128 ![0, 1, 0, 0, 0] (pad S1x66x128x4x128 ![0, 1, 0, 0, 0] ![0, 1, 0, 0, 0] ![0, 0, 0, 0, 0] (shapeCast _ (extractStridedSlice S1x8192x512 ![0, 0, 10240] (m ((c.tc : Thread nD τ).loc main_arg0)) slices_S1x8192x13312_S1x8192x512_0_0_10240) shapeCasts_S1x8192x512_S1x64x128x4x128) (sitofp .f32 (constantI S_ 32 0#32)) pads_S1x64x128x4x128_S1x66x128x4x128_000_110_000_000_000 h_S_) slices_S1x66x128x4x128_S1x64x128x4x128_0_1_0_0_0) : (⟨S1x64x128x4x128, .f32⟩ : BufTy).Contents (Elt F))⟩, ⟨S1x64x128x4x128, ((extractStridedSlice S1x64x128x4x128 ![0, 2, 0, 0, 0] (pad S1x66x128x4x128 ![0, 1, 0, 0, 0] ![0, 1, 0, 0, 0] ![0, 0, 0, 0, 0] (shapeCast _ (extractStridedSlice S1x8192x512 ![0, 0, 10240] (m ((c.tc : Thread nD τ).loc main_arg0)) slices_S1x8192x13312_S1x8192x512_0_0_10240) shapeCasts_S1x8192x512_S1x64x128x4x128) (sitofp .f32 (constantI S_ 32 0#32)) pads_S1x64x128x4x128_S1x66x128x4x128_000_110_000_000_000 h_S_) slices_S1x66x128x4x128_S1x64x128x4x128_0_2_0_0_0) : (⟨S1x64x128x4x128, .f32⟩ : BufTy).Contents (Elt F))⟩] concatenates_S1x64x128x4x128_S1x64x128x4x128_S1x64x128x4x128_S1x64x384x4x128_d2 : (⟨S1x64x384x4x128, .f32⟩ : BufTy).Contents (Elt F))) (shapeCast _ (extractStridedSlice S1x8192x2048 ![0, 0, 8192] (m ((c.tc : Thread nD τ).loc main_arg0)) slices_S1x8192x13312_S1x8192x2048_0_0_8192) shapeCasts_S1x8192x2048_S1x64x128x4x4x128)) transposes_S1x64x4x384x128x4_S1x64x4x4x128x384_0_1_2_5_4_3) (broadcastInDim S1x64x4x4x128x384 ![] bcast_S_S1x64x4x4x128x384 (Host.sqrt (constant S_ .f32 0x43000000#32)))) (mulf (broadcastInDim S1x64x4x4x128x384 ![0, 1, 2, 3, 4, 5] bcast_S1x1x4x4x1x1_S1x64x4x4x128x384_0_1_2_3_4_5 (Host.negf (broadcastInDim S1x1x4x4x1x1 ![2, 3] bcast_S4x4_S1x1x4x4x1x1_2_3 (shapeCast _ (Host.powf (broadcastInDim S16 ![] bcast_S_S16 (constant S_ .f32 0x40000000#32)) (Host.divf (mulf (broadcastInDim S16 ![] bcast_S_S16 (constant S_ .f32 0xC1000000#32)) (addf (broadcastInDim S16 ![] bcast_S_S16 (constant S_ .f32 0x3F800000#32)) (sitofp .f32 (iotaInDim S16 32 0)))) (broadcastInDim S16 ![] bcast_S_S16 (constant S_ .f32 0x41800000#32)))) shapeCasts_S16_S4x4)))) (broadcastInDim S1x64x4x4x128x384 ![0, 1, 2, 3, 4, 5] bcast_S1x64x1x1x128x384_S1x64x4x4x128x384_0_1_2_3_4_5 (sitofp .f32 (broadcastInDim S1x64x1x1x128x384 ![1, 4, 5] bcast_S64x128x384_S1x64x1x1x128x384_1_4_5 (absi (subi (broadcastInDim S64x128x384 ![0, 1, 2] bcast_S64x128x1_S64x128x384_0_1_2 (broadcastInDim S64x128x1 ![0, 1] bcast_S64x128_S64x128x1_0_1 (addi (broadcastInDim S64x128 ![0, 1] bcast_S64x1_S64x128_0_1 (muli (broadcastInDim S64x1 ![0] bcast_S64_S64x1_0 (iotaInDim S64 32 0)) (broadcastInDim S64x1 ![] bcast_S_S64x1 (constantI S_ 32 128#32)))) (broadcastInDim S64x128 ![0, 1] bcast_S1x128_S64x128_0_1 (broadcastInDim S1x128 ![1] bcast_S128_S1x128_1 (iotaInDim S128 32 0)))))) (broadcastInDim S64x128x384 ![0, 1, 2] bcast_S64x1x384_S64x128x384_0_1_2 (broadcastInDim S64x1x384 ![0, 2] bcast_S64x384_S64x1x384_0_2 (addi (broadcastInDim S64x384 ![0, 1] bcast_S64x1_S64x384_0_1 (muli (subi (broadcastInDim S64x1 ![0] bcast_S64_S64x1_0 (iotaInDim S64 32 0)) (broadcastInDim S64x1 ![] bcast_S_S64x1 (constantI S_ 32 1#32))) (broadcastInDim S64x1 ![] bcast_S_S64x1 (constantI S_ 32 128#32)))) (broadcastInDim S64x384 ![0, 1] bcast_S1x384_S64x384_0_1 (broadcastInDim S1x384 ![1] bcast_S384_S1x384_1 (iotaInDim S384 32 0))))))))))))) (broadcastInDim S1x64x4x4x128x384 ![] bcast_S_S1x64x4x4x128x384 (id (constant S_ .f32 0xFF800000#32)))) (constant S_ .f32 0xFF800000#32) reducesTo_S1x64x4x4x128x384_S1x64x4x4x128_d5 h_S_)) (broadcastInDim S1x64x4x4x128x1 ![0, 1, 2, 3, 4, 5] bcast_S1x1x4x4x1x1_S1x64x4x4x128x1_0_1_2_3_4_5 (shapeCast _ (shapeCast _ (m ((c.tc : Thread nD τ).loc main_arg2)) shapeCasts_S1x16_S16) shapeCasts_S16_S1x1x4x4x1x1))))))))) transposes_S1x64x4x128x4x128_S1x64x128x4x4x128_0_1_5_2_4_3) shapeCasts_S1x64x128x4x4x128_S1x8192x2048) (mulf (extractStridedSlice S1x8192x2048 ![0, 0, 11264] (m ((c.tc : Thread nD τ).loc main_arg0)) slices_S1x8192x13312_S1x8192x2048_0_0_11264) (Host.divf (broadcastInDim S1x8192x2048 ![] bcast_S_S1x8192x2048 (constant S_ .f32 0x3F800000#32)) (addf (broadcastInDim S1x8192x2048 ![] bcast_S_S1x8192x2048 (constant S_ .f32 0x3F800000#32)) (Host.exp (Host.negf (extractStridedSlice S1x8192x2048 ![0, 0, 11264] (m ((c.tc : Thread nD τ).loc main_arg0)) slices_S1x8192x13312_S1x8192x2048_0_0_11264)))))))⟩] concatenates_S1x8192x2048_S1x8192x2048_S1x8192x4096_d2) slices_S1x8192x4096_S1x512x4096_0_0_0) shapeCasts_S1x512x4096_S512x4096) bitsLt_bf16_f32

/-- `res_main_v133` by its position among the values @main returns, 0 counting from 0: the name for hand proofs to cite, since
    a re-print renumbers `main_v133`. An abbreviation: it unfolds to the `res_main_v133` that `run` states. -/
abbrev res_out0 (m : (ℓ : Loc nD τ sig) → Buf (Elt F) ℓ) (c : Dev nD) : Buf (Elt F) ((c.tc : Thread nD τ).loc main_v133) := res_main_v133 m c

set_option maxRecDepth 8192 in
set_option maxHeartbeats 69200000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v133) = res_main_v133 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v133).trans (by simp only [ops, TRef.binary, TRef.nullary, TRef.ternary, TRef.unary, TRef.toBuf, TRef.ofBuf, cast_eq]; after_results_simp <;> (try dsimp only [Matrix.cons_val]) <;> (try after_results_simp) <;> rfl <;> (unfold res_main_v133; rfl)),
      (h c main_arg0).trans (by simp only [ops, TRef.binary, TRef.nullary, TRef.ternary, TRef.unary, TRef.toBuf, TRef.ofBuf, cast_eq]; after_results_simp <;> (try dsimp only [Matrix.cons_val]) <;> (try after_results_simp) <;> rfl),
      (h c main_arg1).trans (by simp only [ops, TRef.binary, TRef.nullary, TRef.ternary, TRef.unary, TRef.toBuf, TRef.ofBuf, cast_eq]; after_results_simp <;> (try dsimp only [Matrix.cons_val]) <;> (try after_results_simp) <;> rfl),
      (h c main_arg2).trans (by simp only [ops, TRef.binary, TRef.nullary, TRef.ternary, TRef.unary, TRef.toBuf, TRef.ofBuf, cast_eq]; after_results_simp <;> (try dsimp only [Matrix.cons_val]) <;> (try after_results_simp) <;> rfl)⟩)
    (run_seq scopedRefs_eq scopedSems_eq defs main (fun _ => ops) main_eq (fun _ => ops_sub) m ρ)

end Cert.ReferenceIdeal.Value

end
-- ==== Proof.Ref.Read.lean ====
/- The reference, one operation at a time: the value that each writes, as a function of the arguments. -/
module

public import proofs.«01_k».proof.Proof.Ref.Run
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.slice %arg0 [0:1, 0:8192, 0:2048] : (tensor<1x8192x13312xf32>) -> tensor<1x8192x2048xf32>
def val_main_v0 (x0 : (⟨S1x8192x13312, .f32⟩ : BufTy).Contents (Elt F)) : (⟨S1x8192x2048, .f32⟩ : BufTy).Contents (Elt F) :=
  extractStridedSlice S1x8192x2048 ![0, 0, 0] (x0) slices_S1x8192x13312_S1x8192x2048_0_0_0
-- %1 = stablehlo.slice %arg0 [0:1, 0:8192, 2048:4096] : (tensor<1x8192x13312xf32>) -> tensor<1x8192x2048xf32>
def val_main_v1 (x0 : (⟨S1x8192x13312, .f32⟩ : BufTy).Contents (Elt F)) : (⟨S1x8192x2048, .f32⟩ : BufTy).Contents (Elt F) :=
  extractStridedSlice S1x8192x2048 ![0, 0, 2048] (x0) slices_S1x8192x13312_S1x8192x2048_0_0_2048
-- %2 = stablehlo.slice %arg0 [0:1, 0:8192, 4096:6144] : (tensor<1x8192x13312xf32>) -> tensor<1x8192x2048xf32>
def val_main_v2 (x0 : (⟨S1x8192x13312, .f32⟩ : BufTy).Contents (Elt F)) : (⟨S1x8192x2048, .f32⟩ : BufTy).Contents (Elt F) :=
  extractStridedSlice S1x8192x2048 ![0, 0, 4096] (x0) slices_S1x8192x13312_S1x8192x2048_0_0_4096
-- %3 = stablehlo.slice %arg0 [0:1, 0:8192, 6144:8192] : (tensor<1x8192x13312xf32>) -> tensor<1x8192x2048xf32>
def val_main_v3 (x0 : (⟨S1x8192x13312, .f32⟩ : BufTy).Contents (Elt F)) : (⟨S1x8192x2048, .f32⟩ : BufTy).Contents (Elt F) :=
  extractStridedSlice S1x8192x2048 ![0, 0, 6144] (x0) slices_S1x8192x13312_S1x8192x2048_0_0_6144
-- %4 = stablehlo.slice %arg0 [0:1, 0:8192, 8192:10240] : (tensor<1x8192x13312xf32>) -> tensor<1x8192x2048xf32>
def val_main_v4 (x0 : (⟨S1x8192x13312, .f32⟩ : BufTy).Contents (Elt F)) : (⟨S1x8192x2048, .f32⟩ : BufTy).Contents (Elt F) :=
  extractStridedSlice S1x8192x2048 ![0, 0, 8192] (x0) slices_S1x8192x13312_S1x8192x2048_0_0_8192
-- %5 = stablehlo.slice %arg0 [0:1, 0:8192, 10240:10752] : (tensor<1x8192x13312xf32>) -> tensor<1x8192x512xf32>
def val_main_v5 (x0 : (⟨S1x8192x13312, .f32⟩ : BufTy).Contents (Elt F)) : (⟨S1x8192x512, .f32⟩ : BufTy).Contents (Elt F) :=
  extractStridedSlice S1x8192x512 ![0, 0, 10240] (x0) slices_S1x8192x13312_S1x8192x512_0_0_10240
-- %6 = stablehlo.slice %arg0 [0:1, 0:8192, 10752:11264] : (tensor<1x8192x13312xf32>) -> tensor<1x8192x512xf32>
def val_main_v6 (x0 : (⟨S1x8192x13312, .f32⟩ : BufTy).Contents (Elt F)) : (⟨S1x8192x512, .f32⟩ : BufTy).Contents (Elt F) :=
  extractStridedSlice S1x8192x512 ![0, 0, 10752] (x0) slices_S1x8192x13312_S1x8192x512_0_0_10752
-- %7 = stablehlo.slice %arg0 [0:1, 0:8192, 11264:13312] : (tensor<1x8192x13312xf32>) -> tensor<1x8192x2048xf32>
def val_main_v7 (x0 : (⟨S1x8192x13312, .f32⟩ : BufTy).Contents (Elt F)) : (⟨S1x8192x2048, .f32⟩ : BufTy).Contents (Elt F) :=
  extractStridedSlice S1x8192x2048 ![0, 0, 11264] (x0) slices_S1x8192x13312_S1x8192x2048_0_0_11264
-- %8 = stablehlo.multiply %1, %2 : tensor<1x8192x2048xf32>
def val_main_v8 (x0 : (⟨S1x8192x13312, .f32⟩ : BufTy).Contents (Elt F)) : (⟨S1x8192x2048, .f32⟩ : BufTy).Contents (Elt F) :=
  mulf (val_main_v1 (F := F) x0) (val_main_v2 (F := F) x0)
-- %9 = stablehlo.reshape %arg1 : (tensor<1x3x2048xf32>) -> tensor<3x2048xf32>
def val_main_v9 (x1 : (⟨S1x3x2048, .f32⟩ : BufTy).Contents (Elt F)) : (⟨S3x2048, .f32⟩ : BufTy).Contents (Elt F) :=
  shapeCast _ (x1) shapeCasts_S1x3x2048_S3x2048
-- %c = stablehlo.constant dense<0> : tensor<i32>
def val_main_c : (⟨S_, .i32⟩ : BufTy).Contents (Elt F) :=
  constantI S_ 32 0#32
def val_main_call0_v0 : (⟨S_, .f32⟩ : BufTy).Contents (Elt F) :=
  sitofp .f32 (val_main_c (F := F))
-- %10 = func.call @_pad(…) (record main_call0) result 0: @_pad's %1 = stablehlo.pad %arg0, %0, low = [0, 1, 0], high = [0, 1, 0], interior = [0, 0, 0] : (tensor<1x8192x2048xf32>, tensor<f32>) -> tensor<1x8194x2048xf32>
def val_main_v10 (x0 : (⟨S1x8192x13312, .f32⟩ : BufTy).Contents (Elt F)) : (⟨S1x8194x2048, .f32⟩ : BufTy).Contents (Elt F) :=
  pad S1x8194x2048 ![0, 1, 0] ![0, 1, 0] ![0, 0, 0] (val_main_v8 (F := F) x0) (val_main_call0_v0 (F := F)) pads_S1x8192x2048_S1x8194x2048_000_110_000 h_S_

-- %11 = stablehlo.slice %10 [0:1, 0:8192, 0:2048] : (tensor<1x8194x2048xf32>) -> tensor<1x8192x2048xf32>
def val_main_v11 (x0 : (⟨S1x8192x13312, .f32⟩ : BufTy).Contents (Elt F)) : (⟨S1x8192x2048, .f32⟩ : BufTy).Contents (Elt F) :=
  extractStridedSlice S1x8192x2048 ![0, 0, 0] (val_main_v10 (F := F) x0) slices_S1x8194x2048_S1x8192x2048_0_0_0
-- %12 = stablehlo.slice %9 [0:1, 0:2048] : (tensor<3x2048xf32>) -> tensor<1x2048xf32>
def val_main_v12 (x1 : (⟨S1x3x2048, .f32⟩ : BufTy).Contents (Elt F)) : (⟨S1x2048, .f32⟩ : BufTy).Contents (Elt F) :=
  extractStridedSlice S1x2048 ![0, 0] (val_main_v9 (F := F) x1) slices_S3x2048_S1x2048_0_0
-- %13 = stablehlo.reshape %12 : (tensor<1x2048xf32>) -> tensor<2048xf32>
def val_main_v13 (x1 : (⟨S1x3x2048, .f32⟩ : BufTy).Contents (Elt F)) : (⟨S2048, .f32⟩ : BufTy).Contents (Elt F) :=
  shapeCast _ (val_main_v12 (F := F) x1) shapeCasts_S1x2048_S2048
-- %14 = stablehlo.broadcast_in_dim %13, dims = [2] : (tensor<2048xf32>) -> tensor<1x1x2048xf32>
def val_main_v14 (x1 : (⟨S1x3x2048, .f32⟩ : BufTy).Contents (Elt F)) : (⟨S1x1x2048, .f32⟩ : BufTy).Contents (Elt F) :=
  broadcastInDim S1x1x2048 ![2] bcast_S2048_S1x1x2048_2 (val_main_v13 (F := F) x1)
-- %15 = stablehlo.broadcast_in_dim %14, dims = [0, 1, 2] : (tensor<1x1x2048xf32>) -> tensor<1x8192x2048xf32>
def val_main_v15 (x1 : (⟨S1x3x2048, .f32⟩ : BufTy).Contents (Elt F)) : (⟨S1x8192x2048, .f32⟩ : BufTy).Contents (Elt F) :=
  broadcastInDim S1x8192x2048 ![0, 1, 2] bcast_S1x1x2048_S1x8192x2048_0_1_2 (val_main_v14 (F := F) x1)
-- %16 = stablehlo.multiply %11, %15 : tensor<1x8192x2048xf32>
def val_main_v16 (x0 : (⟨S1x8192x13312, .f32⟩ : BufTy).Contents (Elt F)) (x1 : (⟨S1x3x2048, .f32⟩ : BufTy).Contents (Elt F)) : (⟨S1x8192x2048, .f32⟩ : BufTy).Contents (Elt F) :=
  mulf (val_main_v11 (F := F) x0) (val_main_v15 (F := F) x1)
-- %17 = stablehlo.slice %10 [0:1, 1:8193, 0:2048] : (tensor<1x8194x2048xf32>) -> tensor<1x8192x2048xf32>
def val_main_v17 (x0 : (⟨S1x8192x13312, .f32⟩ : BufTy).Contents (Elt F)) : (⟨S1x8192x2048, .f32⟩ : BufTy).Contents (Elt F) :=
  extractStridedSlice S1x8192x2048 ![0, 1, 0] (val_main_v10 (F := F) x0) slices_S1x8194x2048_S1x8192x2048_0_1_0
-- %18 = stablehlo.slice %9 [1:2, 0:2048] : (tensor<3x2048xf32>) -> tensor<1x2048xf32>
def val_main_v18 (x1 : (⟨S1x3x2048, .f32⟩ : BufTy).Contents (Elt F)) : (⟨S1x2048, .f32⟩ : BufTy).Contents (Elt F) :=
  extractStridedSlice S1x2048 ![1, 0] (val_main_v9 (F := F) x1) slices_S3x2048_S1x2048_1_0
-- %19 = stablehlo.reshape %18 : (tensor<1x2048xf32>) -> tensor<2048xf32>
def val_main_v19 (x1 : (⟨S1x3x2048, .f32⟩ : BufTy).Contents (Elt F)) : (⟨S2048, .f32⟩ : BufTy).Contents (Elt F) :=
  shapeCast _ (val_main_v18 (F := F) x1) shapeCasts_S1x2048_S2048
-- %20 = stablehlo.broadcast_in_dim %19, dims = [2] : (tensor<2048xf32>) -> tensor<1x1x2048xf32>
def val_main_v20 (x1 : (⟨S1x3x2048, .f32⟩ : BufTy).Contents (Elt F)) : (⟨S1x1x2048, .f32⟩ : BufTy).Contents (Elt F) :=
  broadcastInDim S1x1x2048 ![2] bcast_S2048_S1x1x2048_2 (val_main_v19 (F := F) x1)
-- %21 = stablehlo.broadcast_in_dim %20, dims = [0, 1, 2] : (tensor<1x1x2048xf32>) -> tensor<1x8192x2048xf32>
def val_main_v21 (x1 : (⟨S1x3x2048, .f32⟩ : BufTy).Contents (Elt F)) : (⟨S1x8192x2048, .f32⟩ : BufTy).Contents (Elt F) :=
  broadcastInDim S1x8192x2048 ![0, 1, 2] bcast_S1x1x2048_S1x8192x2048_0_1_2 (val_main_v20 (F := F) x1)
-- %22 = stablehlo.multiply %17, %21 : tensor<1x8192x2048xf32>
def val_main_v22 (x0 : (⟨S1x8192x13312, .f32⟩ : BufTy).Contents (Elt F)) (x1 : (⟨S1x3x2048, .f32⟩ : BufTy).Contents (Elt F)) : (⟨S1x8192x2048, .f32⟩ : BufTy).Contents (Elt F) :=
  mulf (val_main_v17 (F := F) x0) (val_main_v21 (F := F) x1)
-- %23 = stablehlo.add %16, %22 : tensor<1x8192x2048xf32>
def val_main_v23 (x0 : (⟨S1x8192x13312, .f32⟩ : BufTy).Contents (Elt F)) (x1 : (⟨S1x3x2048, .f32⟩ : BufTy).Contents (Elt F)) : (⟨S1x8192x2048, .f32⟩ : BufTy).Contents (Elt F) :=
  addf (val_main_v16 (F := F) x0 x1) (val_main_v22 (F := F) x0 x1)
-- %24 = stablehlo.slice %10 [0:1, 2:8194, 0:2048] : (tensor<1x8194x2048xf32>) -> tensor<1x8192x2048xf32>
def val_main_v24 (x0 : (⟨S1x8192x13312, .f32⟩ : BufTy).Contents (Elt F)) : (⟨S1x8192x2048, .f32⟩ : BufTy).Contents (Elt F) :=
  extractStridedSlice S1x8192x2048 ![0, 2, 0] (val_main_v10 (F := F) x0) slices_S1x8194x2048_S1x8192x2048_0_2_0
-- %25 = stablehlo.slice %9 [2:3, 0:2048] : (tensor<3x2048xf32>) -> tensor<1x2048xf32>
def val_main_v25 (x1 : (⟨S1x3x2048, .f32⟩ : BufTy).Contents (Elt F)) : (⟨S1x2048, .f32⟩ : BufTy).Contents (Elt F) :=
  extractStridedSlice S1x2048 ![2, 0] (val_main_v9 (F := F) x1) slices_S3x2048_S1x2048_2_0
-- %26 = stablehlo.reshape %25 : (tensor<1x2048xf32>) -> tensor<2048xf32>
def val_main_v26 (x1 : (⟨S1x3x2048, .f32⟩ : BufTy).Contents (Elt F)) : (⟨S2048, .f32⟩ : BufTy).Contents (Elt F) :=
  shapeCast _ (val_main_v25 (F := F) x1) shapeCasts_S1x2048_S2048
-- %27 = stablehlo.broadcast_in_dim %26, dims = [2] : (tensor<2048xf32>) -> tensor<1x1x2048xf32>
def val_main_v27 (x1 : (⟨S1x3x2048, .f32⟩ : BufTy).Contents (Elt F)) : (⟨S1x1x2048, .f32⟩ : BufTy).Contents (Elt F) :=
  broadcastInDim S1x1x2048 ![2] bcast_S2048_S1x1x2048_2 (val_main_v26 (F := F) x1)
-- %28 = stablehlo.broadcast_in_dim %27, dims = [0, 1, 2] : (tensor<1x1x2048xf32>) -> tensor<1x8192x2048xf32>
def val_main_v28 (x1 : (⟨S1x3x2048, .f32⟩ : BufTy).Contents (Elt F)) : (⟨S1x8192x2048, .f32⟩ : BufTy).Contents (Elt F) :=
  broadcastInDim S1x8192x2048 ![0, 1, 2] bcast_S1x1x2048_S1x8192x2048_0_1_2 (val_main_v27 (F := F) x1)
-- %29 = stablehlo.multiply %24, %28 : tensor<1x8192x2048xf32>
def val_main_v29 (x0 : (⟨S1x8192x13312, .f32⟩ : BufTy).Contents (Elt F)) (x1 : (⟨S1x3x2048, .f32⟩ : BufTy).Contents (Elt F)) : (⟨S1x8192x2048, .f32⟩ : BufTy).Contents (Elt F) :=
  mulf (val_main_v24 (F := F) x0) (val_main_v28 (F := F) x1)
-- %30 = stablehlo.add %23, %29 : tensor<1x8192x2048xf32>
def val_main_v30 (x0 : (⟨S1x8192x13312, .f32⟩ : BufTy).Contents (Elt F)) (x1 : (⟨S1x3x2048, .f32⟩ : BufTy).Contents (Elt F)) : (⟨S1x8192x2048, .f32⟩ : BufTy).Contents (Elt F) :=
  addf (val_main_v23 (F := F) x0 x1) (val_main_v29 (F := F) x0 x1)
-- %31 = stablehlo.multiply %0, %30 : tensor<1x8192x2048xf32>
def val_main_v31 (x0 : (⟨S1x8192x13312, .f32⟩ : BufTy).Contents (Elt F)) (x1 : (⟨S1x3x2048, .f32⟩ : BufTy).Contents (Elt F)) : (⟨S1x8192x2048, .f32⟩ : BufTy).Contents (Elt F) :=
  mulf (val_main_v0 (F := F) x0) (val_main_v30 (F := F) x0 x1)
def val_main_call1_v0 (x0 : (⟨S1x8192x13312, .f32⟩ : BufTy).Contents (Elt F)) : (⟨S1x8192x2048, .f32⟩ : BufTy).Contents (Elt F) :=
  Host.negf (val_main_v3 (F := F) x0)
def val_main_call1_v1 (x0 : (⟨S1x8192x13312, .f32⟩ : BufTy).Contents (Elt F)) : (⟨S1x8192x2048, .f32⟩ : BufTy).Contents (Elt F) :=
  Host.exp (val_main_call1_v0 (F := F) x0)
def val_main_call1_cst : (⟨S_, .f32⟩ : BufTy).Contents (Elt F) :=
  constant S_ .f32 0x3F800000#32
def val_main_call1_v2 : (⟨S1x8192x2048, .f32⟩ : BufTy).Contents (Elt F) :=
  broadcastInDim S1x8192x2048 ![] bcast_S_S1x8192x2048 (val_main_call1_cst (F := F))
def val_main_call1_v3 (x0 : (⟨S1x8192x13312, .f32⟩ : BufTy).Contents (Elt F)) : (⟨S1x8192x2048, .f32⟩ : BufTy).Contents (Elt F) :=
  addf (val_main_call1_v2 (F := F)) (val_main_call1_v1 (F := F) x0)
def val_main_call1_cst_0 : (⟨S_, .f32⟩ : BufTy).Contents (Elt F) :=
  constant S_ .f32 0x3F800000#32
def val_main_call1_v4 : (⟨S1x8192x2048, .f32⟩ : BufTy).Contents (Elt F) :=
  broadcastInDim S1x8192x2048 ![] bcast_S_S1x8192x2048 (val_main_call1_cst_0 (F := F))
def val_main_call1_v5 (x0 : (⟨S1x8192x13312, .f32⟩ : BufTy).Contents (Elt F)) : (⟨S1x8192x2048, .f32⟩ : BufTy).Contents (Elt F) :=
  Host.divf (val_main_call1_v4 (F := F)) (val_main_call1_v3 (F := F) x0)
-- %32 = func.call @silu(…) (record main_call1) result 0: @silu's %6 = stablehlo.multiply %arg0, %5 : tensor<1x8192x2048xf32>
def val_main_v32 (x0 : (⟨S1x8192x13312, .f32⟩ : BufTy).Contents (Elt F)) : (⟨S1x8192x2048, .f32⟩ : BufTy).Contents (Elt F) :=
  mulf (val_main_v3 (F := F) x0) (val_main_call1_v5 (F := F) x0)
-- %33 = stablehlo.multiply %31, %32 : tensor<1x8192x2048xf32>
def val_main_v33 (x0 : (⟨S1x8192x13312, .f32⟩ : BufTy).Contents (Elt F)) (x1 : (⟨S1x3x2048, .f32⟩ : BufTy).Contents (Elt F)) : (⟨S1x8192x2048, .f32⟩ : BufTy).Contents (Elt F) :=
  mulf (val_main_v31 (F := F) x0 x1) (val_main_v32 (F := F) x0)
-- %34 = stablehlo.reshape %arg2 : (tensor<1x16xf32>) -> tensor<16xf32>
def val_main_v34 (x2 : (⟨S1x16, .f32⟩ : BufTy).Contents (Elt F)) : (⟨S16, .f32⟩ : BufTy).Contents (Elt F) :=
  shapeCast _ (x2) shapeCasts_S1x16_S16
-- %35 = stablehlo.reshape %4 : (tensor<1x8192x2048xf32>) -> tensor<1x64x128x4x4x128xf32>
def val_main_v35 (x0 : (⟨S1x8192x13312, .f32⟩ : BufTy).Contents (Elt F)) : (⟨S1x64x128x4x4x128, .f32⟩ : BufTy).Contents (Elt F) :=
  shapeCast _ (val_main_v4 (F := F) x0) shapeCasts_S1x8192x2048_S1x64x128x4x4x128

-- %36 = stablehlo.reshape %5 : (tensor<1x8192x512xf32>) -> tensor<1x64x128x4x128xf32>
def val_main_v36 (x0 : (⟨S1x8192x13312, .f32⟩ : BufTy).Contents (Elt F)) : (⟨S1x64x128x4x128, .f32⟩ : BufTy).Contents (Elt F) :=
  shapeCast _ (val_main_v5 (F := F) x0) shapeCasts_S1x8192x512_S1x64x128x4x128
-- %c_0 = stablehlo.constant dense<0> : tensor<i32>
def val_main_c_0 : (⟨S_, .i32⟩ : BufTy).Contents (Elt F) :=
  constantI S_ 32 0#32
def val_main_call2_v0 : (⟨S_, .f32⟩ : BufTy).Contents (Elt F) :=
  sitofp .f32 (val_main_c_0 (F := F))
-- %37 = func.call @_pad_0(…) (record main_call2) result 0: @_pad_0's %1 = stablehlo.pad %arg0, %0, low = [0, 1, 0, 0, 0], high = [0, 1, 0, 0, 0], interior = [0, 0, 0, 0, 0] : (tensor<1x64x128x4x128xf32>, tensor<f32>) -> tensor<1x66x128x4x128xf32>
def val_main_v37 (x0 : (⟨S1x8192x13312, .f32⟩ : BufTy).Contents (Elt F)) : (⟨S1x66x128x4x128, .f32⟩ : BufTy).Contents (Elt F) :=
  pad S1x66x128x4x128 ![0, 1, 0, 0, 0] ![0, 1, 0, 0, 0] ![0, 0, 0, 0, 0] (val_main_v36 (F := F) x0) (val_main_call2_v0 (F := F)) pads_S1x64x128x4x128_S1x66x128x4x128_000_110_000_000_000 h_S_

-- %38 = stablehlo.slice %37 [0:1, 0:64, 0:128, 0:4, 0:128] : (tensor<1x66x128x4x128xf32>) -> tensor<1x64x128x4x128xf32>
def val_main_v38 (x0 : (⟨S1x8192x13312, .f32⟩ : BufTy).Contents (Elt F)) : (⟨S1x64x128x4x128, .f32⟩ : BufTy).Contents (Elt F) :=
  extractStridedSlice S1x64x128x4x128 ![0, 0, 0, 0, 0] (val_main_v37 (F := F) x0) slices_S1x66x128x4x128_S1x64x128x4x128_0_0_0_0_0
-- %39 = stablehlo.slice %37 [0:1, 1:65, 0:128, 0:4, 0:128] : (tensor<1x66x128x4x128xf32>) -> tensor<1x64x128x4x128xf32>
def val_main_v39 (x0 : (⟨S1x8192x13312, .f32⟩ : BufTy).Contents (Elt F)) : (⟨S1x64x128x4x128, .f32⟩ : BufTy).Contents (Elt F) :=
  extractStridedSlice S1x64x128x4x128 ![0, 1, 0, 0, 0] (val_main_v37 (F := F) x0) slices_S1x66x128x4x128_S1x64x128x4x128_0_1_0_0_0
-- %40 = stablehlo.slice %37 [0:1, 2:66, 0:128, 0:4, 0:128] : (tensor<1x66x128x4x128xf32>) -> tensor<1x64x128x4x128xf32>
def val_main_v40 (x0 : (⟨S1x8192x13312, .f32⟩ : BufTy).Contents (Elt F)) : (⟨S1x64x128x4x128, .f32⟩ : BufTy).Contents (Elt F) :=
  extractStridedSlice S1x64x128x4x128 ![0, 2, 0, 0, 0] (val_main_v37 (F := F) x0) slices_S1x66x128x4x128_S1x64x128x4x128_0_2_0_0_0
-- %41 = stablehlo.concatenate %38, %39, %40, dim = 2 : (tensor<1x64x128x4x128xf32>, tensor<1x64x128x4x128xf32>, tensor<1x64x128x4x128xf32>) -> tensor<1x64x384x4x128xf32>
def val_main_v41 (x0 : (⟨S1x8192x13312, .f32⟩ : BufTy).Contents (Elt F)) : (⟨S1x64x384x4x128, .f32⟩ : BufTy).Contents (Elt F) :=
  (concatenate S1x64x384x4x128 2 [⟨S1x64x128x4x128, ((val_main_v38 (F := F) x0) : (⟨S1x64x128x4x128, .f32⟩ : BufTy).Contents (Elt F))⟩, ⟨S1x64x128x4x128, ((val_main_v39 (F := F) x0) : (⟨S1x64x128x4x128, .f32⟩ : BufTy).Contents (Elt F))⟩, ⟨S1x64x128x4x128, ((val_main_v40 (F := F) x0) : (⟨S1x64x128x4x128, .f32⟩ : BufTy).Contents (Elt F))⟩] concatenates_S1x64x128x4x128_S1x64x128x4x128_S1x64x128x4x128_S1x64x384x4x128_d2 : (⟨S1x64x384x4x128, .f32⟩ : BufTy).Contents (Elt F))

-- %42 = stablehlo.reshape %6 : (tensor<1x8192x512xf32>) -> tensor<1x64x128x4x128xf32>
def val_main_v42 (x0 : (⟨S1x8192x13312, .f32⟩ : BufTy).Contents (Elt F)) : (⟨S1x64x128x4x128, .f32⟩ : BufTy).Contents (Elt F) :=
  shapeCast _ (val_main_v6 (F := F) x0) shapeCasts_S1x8192x512_S1x64x128x4x128
-- %c_1 = stablehlo.constant dense<0> : tensor<i32>
def val_main_c_1 : (⟨S_, .i32⟩ : BufTy).Contents (Elt F) :=
  constantI S_ 32 0#32
def val_main_call3_v0 : (⟨S_, .f32⟩ : BufTy).Contents (Elt F) :=
  sitofp .f32 (val_main_c_1 (F := F))
-- %43 = func.call @_pad_0(…) (record main_call3) result 0: @_pad_0's %1 = stablehlo.pad %arg0, %0, low = [0, 1, 0, 0, 0], high = [0, 1, 0, 0, 0], interior = [0, 0, 0, 0, 0] : (tensor<1x64x128x4x128xf32>, tensor<f32>) -> tensor<1x66x128x4x128xf32>
def val_main_v43 (x0 : (⟨S1x8192x13312, .f32⟩ : BufTy).Contents (Elt F)) : (⟨S1x66x128x4x128, .f32⟩ : BufTy).Contents (Elt F) :=
  pad S1x66x128x4x128 ![0, 1, 0, 0, 0] ![0, 1, 0, 0, 0] ![0, 0, 0, 0, 0] (val_main_v42 (F := F) x0) (val_main_call3_v0 (F := F)) pads_S1x64x128x4x128_S1x66x128x4x128_000_110_000_000_000 h_S_

-- %44 = stablehlo.slice %43 [0:1, 0:64, 0:128, 0:4, 0:128] : (tensor<1x66x128x4x128xf32>) -> tensor<1x64x128x4x128xf32>
def val_main_v44 (x0 : (⟨S1x8192x13312, .f32⟩ : BufTy).Contents (Elt F)) : (⟨S1x64x128x4x128, .f32⟩ : BufTy).Contents (Elt F) :=
  extractStridedSlice S1x64x128x4x128 ![0, 0, 0, 0, 0] (val_main_v43 (F := F) x0) slices_S1x66x128x4x128_S1x64x128x4x128_0_0_0_0_0
-- %45 = stablehlo.slice %43 [0:1, 1:65, 0:128, 0:4, 0:128] : (tensor<1x66x128x4x128xf32>) -> tensor<1x64x128x4x128xf32>
def val_main_v45 (x0 : (⟨S1x8192x13312, .f32⟩ : BufTy).Contents (Elt F)) : (⟨S1x64x128x4x128, .f32⟩ : BufTy).Contents (Elt F) :=
  extractStridedSlice S1x64x128x4x128 ![0, 1, 0, 0, 0] (val_main_v43 (F := F) x0) slices_S1x66x128x4x128_S1x64x128x4x128_0_1_0_0_0
-- %46 = stablehlo.slice %43 [0:1, 2:66, 0:128, 0:4, 0:128] : (tensor<1x66x128x4x128xf32>) -> tensor<1x64x128x4x128xf32>
def val_main_v46 (x0 : (⟨S1x8192x13312, .f32⟩ : BufTy).Contents (Elt F)) : (⟨S1x64x128x4x128, .f32⟩ : BufTy).Contents (Elt F) :=
  extractStridedSlice S1x64x128x4x128 ![0, 2, 0, 0, 0] (val_main_v43 (F := F) x0) slices_S1x66x128x4x128_S1x64x128x4x128_0_2_0_0_0
-- %47 = stablehlo.concatenate %44, %45, %46, dim = 2 : (tensor<1x64x128x4x128xf32>, tensor<1x64x128x4x128xf32>, tensor<1x64x128x4x128xf32>) -> tensor<1x64x384x4x128xf32>
def val_main_v47 (x0 : (⟨S1x8192x13312, .f32⟩ : BufTy).Contents (Elt F)) : (⟨S1x64x384x4x128, .f32⟩ : BufTy).Contents (Elt F) :=
  (concatenate S1x64x384x4x128 2 [⟨S1x64x128x4x128, ((val_main_v44 (F := F) x0) : (⟨S1x64x128x4x128, .f32⟩ : BufTy).Contents (Elt F))⟩, ⟨S1x64x128x4x128, ((val_main_v45 (F := F) x0) : (⟨S1x64x128x4x128, .f32⟩ : BufTy).Contents (Elt F))⟩, ⟨S1x64x128x4x128, ((val_main_v46 (F := F) x0) : (⟨S1x64x128x4x128, .f32⟩ : BufTy).Contents (Elt F))⟩] concatenates_S1x64x128x4x128_S1x64x128x4x128_S1x64x128x4x128_S1x64x384x4x128_d2 : (⟨S1x64x384x4x128, .f32⟩ : BufTy).Contents (Elt F))

-- %48 = stablehlo.dot_general %41, %35, batching_dims = [0, 1, 3] x [0, 1, 3], contracting_dims = [4] x [5], precision = [DEFAULT, DEFAULT] : (tensor<1x64x384x4x128xf32>, tensor<1x64x128x4x4x128xf32>) -> tensor<1x64x4x384x128x4xf32>
def val_main_v48 (x0 : (⟨S1x8192x13312, .f32⟩ : BufTy).Contents (Elt F)) : (⟨S1x64x4x384x128x4, .f32⟩ : BufTy).Contents (Elt F) :=
  Host.dotGeneral dot_S1x64x384x4x128_S1x64x128x4x4x128_S1x64x4x384x128x4_4_5_2_24_013_013 none (val_main_v41 (F := F) x0) (val_main_v35 (F := F) x0)
/-- Stated at `F := Ideal`, where the host's `dot_general` is this sum; at a bit-exact instance it is an opaque function of its operands. -/
-- %49 = stablehlo.transpose %48, dims = [0, 1, 2, 5, 4, 3] : (tensor<1x64x4x384x128x4xf32>) -> tensor<1x64x4x4x128x384xf32>
def val_main_v49 (x0 : (⟨S1x8192x13312, .f32⟩ : BufTy).Contents (Elt F)) : (⟨S1x64x4x4x128x384, .f32⟩ : BufTy).Contents (Elt F) :=
  transpose S1x64x4x4x128x384 [0, 1, 2, 5, 4, 3] (val_main_v48 (F := F) x0) transposes_S1x64x4x384x128x4_S1x64x4x4x128x384_0_1_2_5_4_3
-- %cst = stablehlo.constant dense<1.280000e+02> : tensor<f32>
def val_main_cst : (⟨S_, .f32⟩ : BufTy).Contents (Elt F) :=
  constant S_ .f32 0x43000000#32
-- %50 = stablehlo.sqrt %cst : tensor<f32>
def val_main_v50 : (⟨S_, .f32⟩ : BufTy).Contents (Elt F) :=
  Host.sqrt (val_main_cst (F := F))
-- %51 = stablehlo.broadcast_in_dim %50, dims = [] : (tensor<f32>) -> tensor<1x64x4x4x128x384xf32>
def val_main_v51 : (⟨S1x64x4x4x128x384, .f32⟩ : BufTy).Contents (Elt F) :=
  broadcastInDim S1x64x4x4x128x384 ![] bcast_S_S1x64x4x4x128x384 (val_main_v50 (F := F))
-- %52 = stablehlo.divide %49, %51 : tensor<1x64x4x4x128x384xf32>
def val_main_v52 (x0 : (⟨S1x8192x13312, .f32⟩ : BufTy).Contents (Elt F)) : (⟨S1x64x4x4x128x384, .f32⟩ : BufTy).Contents (Elt F) :=
  Host.divf (val_main_v49 (F := F) x0) (val_main_v51 (F := F))
-- %53 = stablehlo.iota dim = 0 : tensor<64xi32>
def val_main_v53 : (⟨S64, .i32⟩ : BufTy).Contents (Elt F) :=
  iotaInDim S64 32 0
-- %54 = stablehlo.broadcast_in_dim %53, dims = [0] : (tensor<64xi32>) -> tensor<64x1xi32>
def val_main_v54 : (⟨S64x1, .i32⟩ : BufTy).Contents (Elt F) :=
  broadcastInDim S64x1 ![0] bcast_S64_S64x1_0 (val_main_v53 (F := F))
-- %c_2 = stablehlo.constant dense<128> : tensor<i32>
def val_main_c_2 : (⟨S_, .i32⟩ : BufTy).Contents (Elt F) :=
  constantI S_ 32 128#32
-- %55 = stablehlo.broadcast_in_dim %c_2, dims = [] : (tensor<i32>) -> tensor<64x1xi32>
def val_main_v55 : (⟨S64x1, .i32⟩ : BufTy).Contents (Elt F) :=
  broadcastInDim S64x1 ![] bcast_S_S64x1 (val_main_c_2 (F := F))
-- %56 = stablehlo.multiply %54, %55 : tensor<64x1xi32>
def val_main_v56 : (⟨S64x1, .i32⟩ : BufTy).Contents (Elt F) :=
  muli (val_main_v54 (F := F)) (val_main_v55 (F := F))
-- %57 = stablehlo.iota dim = 0 : tensor<128xi32>
def val_main_v57 : (⟨S128, .i32⟩ : BufTy).Contents (Elt F) :=
  iotaInDim S128 32 0
-- %58 = stablehlo.broadcast_in_dim %57, dims = [1] : (tensor<128xi32>) -> tensor<1x128xi32>
def val_main_v58 : (⟨S1x128, .i32⟩ : BufTy).Contents (Elt F) :=
  broadcastInDim S1x128 ![1] bcast_S128_S1x128_1 (val_main_v57 (F := F))
-- %59 = stablehlo.broadcast_in_dim %56, dims = [0, 1] : (tensor<64x1xi32>) -> tensor<64x128xi32>
def val_main_v59 : (⟨S64x128, .i32⟩ : BufTy).Contents (Elt F) :=
  broadcastInDim S64x128 ![0, 1] bcast_S64x1_S64x128_0_1 (val_main_v56 (F := F))
-- %60 = stablehlo.broadcast_in_dim %58, dims = [0, 1] : (tensor<1x128xi32>) -> tensor<64x128xi32>
def val_main_v60 : (⟨S64x128, .i32⟩ : BufTy).Contents (Elt F) :=
  broadcastInDim S64x128 ![0, 1] bcast_S1x128_S64x128_0_1 (val_main_v58 (F := F))
-- %61 = stablehlo.add %59, %60 : tensor<64x128xi32>
def val_main_v61 : (⟨S64x128, .i32⟩ : BufTy).Contents (Elt F) :=
  addi (val_main_v59 (F := F)) (val_main_v60 (F := F))
-- %c_3 = stablehlo.constant dense<1> : tensor<i32>
def val_main_c_3 : (⟨S_, .i32⟩ : BufTy).Contents (Elt F) :=
  constantI S_ 32 1#32
-- %62 = stablehlo.broadcast_in_dim %c_3, dims = [] : (tensor<i32>) -> tensor<64x1xi32>
def val_main_v62 : (⟨S64x1, .i32⟩ : BufTy).Contents (Elt F) :=
  broadcastInDim S64x1 ![] bcast_S_S64x1 (val_main_c_3 (F := F))
-- %63 = stablehlo.subtract %54, %62 : tensor<64x1xi32>
def val_main_v63 : (⟨S64x1, .i32⟩ : BufTy).Contents (Elt F) :=
  subi (val_main_v54 (F := F)) (val_main_v62 (F := F))
-- %c_4 = stablehlo.constant dense<128> : tensor<i32>
def val_main_c_4 : (⟨S_, .i32⟩ : BufTy).Contents (Elt F) :=
  constantI S_ 32 128#32
-- %64 = stablehlo.broadcast_in_dim %c_4, dims = [] : (tensor<i32>) -> tensor<64x1xi32>
def val_main_v64 : (⟨S64x1, .i32⟩ : BufTy).Contents (Elt F) :=
  broadcastInDim S64x1 ![] bcast_S_S64x1 (val_main_c_4 (F := F))
-- %65 = stablehlo.multiply %63, %64 : tensor<64x1xi32>
def val_main_v65 : (⟨S64x1, .i32⟩ : BufTy).Contents (Elt F) :=
  muli (val_main_v63 (F := F)) (val_main_v64 (F := F))
-- %66 = stablehlo.iota dim = 0 : tensor<384xi32>
def val_main_v66 : (⟨S384, .i32⟩ : BufTy).Contents (Elt F) :=
  iotaInDim S384 32 0
-- %67 = stablehlo.broadcast_in_dim %66, dims = [1] : (tensor<384xi32>) -> tensor<1x384xi32>
def val_main_v67 : (⟨S1x384, .i32⟩ : BufTy).Contents (Elt F) :=
  broadcastInDim S1x384 ![1] bcast_S384_S1x384_1 (val_main_v66 (F := F))
-- %68 = stablehlo.broadcast_in_dim %65, dims = [0, 1] : (tensor<64x1xi32>) -> tensor<64x384xi32>
def val_main_v68 : (⟨S64x384, .i32⟩ : BufTy).Contents (Elt F) :=
  broadcastInDim S64x384 ![0, 1] bcast_S64x1_S64x384_0_1 (val_main_v65 (F := F))
-- %69 = stablehlo.broadcast_in_dim %67, dims = [0, 1] : (tensor<1x384xi32>) -> tensor<64x384xi32>
def val_main_v69 : (⟨S64x384, .i32⟩ : BufTy).Contents (Elt F) :=
  broadcastInDim S64x384 ![0, 1] bcast_S1x384_S64x384_0_1 (val_main_v67 (F := F))
-- %70 = stablehlo.add %68, %69 : tensor<64x384xi32>
def val_main_v70 : (⟨S64x384, .i32⟩ : BufTy).Contents (Elt F) :=
  addi (val_main_v68 (F := F)) (val_main_v69 (F := F))
-- %71 = stablehlo.broadcast_in_dim %61, dims = [0, 1] : (tensor<64x128xi32>) -> tensor<64x128x1xi32>
def val_main_v71 : (⟨S64x128x1, .i32⟩ : BufTy).Contents (Elt F) :=
  broadcastInDim S64x128x1 ![0, 1] bcast_S64x128_S64x128x1_0_1 (val_main_v61 (F := F))
-- %72 = stablehlo.broadcast_in_dim %70, dims = [0, 2] : (tensor<64x384xi32>) -> tensor<64x1x384xi32>
def val_main_v72 : (⟨S64x1x384, .i32⟩ : BufTy).Contents (Elt F) :=
  broadcastInDim S64x1x384 ![0, 2] bcast_S64x384_S64x1x384_0_2 (val_main_v70 (F := F))
-- %73 = stablehlo.broadcast_in_dim %71, dims = [0, 1, 2] : (tensor<64x128x1xi32>) -> tensor<64x128x384xi32>
def val_main_v73 : (⟨S64x128x384, .i32⟩ : BufTy).Contents (Elt F) :=
  broadcastInDim S64x128x384 ![0, 1, 2] bcast_S64x128x1_S64x128x384_0_1_2 (val_main_v71 (F := F))
-- %74 = stablehlo.broadcast_in_dim %72, dims = [0, 1, 2] : (tensor<64x1x384xi32>) -> tensor<64x128x384xi32>
def val_main_v74 : (⟨S64x128x384, .i32⟩ : BufTy).Contents (Elt F) :=
  broadcastInDim S64x128x384 ![0, 1, 2] bcast_S64x1x384_S64x128x384_0_1_2 (val_main_v72 (F := F))
-- %75 = stablehlo.subtract %73, %74 : tensor<64x128x384xi32>
def val_main_v75 : (⟨S64x128x384, .i32⟩ : BufTy).Contents (Elt F) :=
  subi (val_main_v73 (F := F)) (val_main_v74 (F := F))
-- %76 = stablehlo.abs %75 : tensor<64x128x384xi32>
def val_main_v76 : (⟨S64x128x384, .i32⟩ : BufTy).Contents (Elt F) :=
  absi (val_main_v75 (F := F))
-- %c_5 = stablehlo.constant dense<128> : tensor<i32>
def val_main_c_5 : (⟨S_, .i32⟩ : BufTy).Contents (Elt F) :=
  constantI S_ 32 128#32
-- %77 = stablehlo.broadcast_in_dim %c_5, dims = [] : (tensor<i32>) -> tensor<64x128x384xi32>
def val_main_v77 : (⟨S64x128x384, .i32⟩ : BufTy).Contents (Elt F) :=
  broadcastInDim S64x128x384 ![] bcast_S_S64x128x384 (val_main_c_5 (F := F))
-- %78 = stablehlo.compare LE, %76, %77, SIGNED : (tensor<64x128x384xi32>, tensor<64x128x384xi32>) -> tensor<64x128x384xi1>
def val_main_v78 : (⟨S64x128x384, .i1⟩ : BufTy).Contents (Elt F) :=
  cmpi .sle (val_main_v76 (F := F)) (val_main_v77 (F := F))
-- %79 = stablehlo.broadcast_in_dim %70, dims = [0, 2] : (tensor<64x384xi32>) -> tensor<64x1x384xi32>
def val_main_v79 : (⟨S64x1x384, .i32⟩ : BufTy).Contents (Elt F) :=
  broadcastInDim S64x1x384 ![0, 2] bcast_S64x384_S64x1x384_0_2 (val_main_v70 (F := F))
-- %c_6 = stablehlo.constant dense<0> : tensor<i32>
def val_main_c_6 : (⟨S_, .i32⟩ : BufTy).Contents (Elt F) :=
  constantI S_ 32 0#32
-- %80 = stablehlo.broadcast_in_dim %c_6, dims = [] : (tensor<i32>) -> tensor<64x1x384xi32>
def val_main_v80 : (⟨S64x1x384, .i32⟩ : BufTy).Contents (Elt F) :=
  broadcastInDim S64x1x384 ![] bcast_S_S64x1x384 (val_main_c_6 (F := F))
-- %81 = stablehlo.compare GE, %79, %80, SIGNED : (tensor<64x1x384xi32>, tensor<64x1x384xi32>) -> tensor<64x1x384xi1>
def val_main_v81 : (⟨S64x1x384, .i1⟩ : BufTy).Contents (Elt F) :=
  cmpi .sge (val_main_v79 (F := F)) (val_main_v80 (F := F))
-- %82 = stablehlo.broadcast_in_dim %81, dims = [0, 1, 2] : (tensor<64x1x384xi1>) -> tensor<64x128x384xi1>
def val_main_v82 : (⟨S64x128x384, .i1⟩ : BufTy).Contents (Elt F) :=
  broadcastInDim S64x128x384 ![0, 1, 2] bcast_S64x1x384_S64x128x384_0_1_2 (val_main_v81 (F := F))
-- %83 = stablehlo.and %78, %82 : tensor<64x128x384xi1>
def val_main_v83 : (⟨S64x128x384, .i1⟩ : BufTy).Contents (Elt F) :=
  andi (val_main_v78 (F := F)) (val_main_v82 (F := F))
-- %84 = stablehlo.broadcast_in_dim %70, dims = [0, 2] : (tensor<64x384xi32>) -> tensor<64x1x384xi32>
def val_main_v84 : (⟨S64x1x384, .i32⟩ : BufTy).Contents (Elt F) :=
  broadcastInDim S64x1x384 ![0, 2] bcast_S64x384_S64x1x384_0_2 (val_main_v70 (F := F))
-- %c_7 = stablehlo.constant dense<8192> : tensor<i32>
def val_main_c_7 : (⟨S_, .i32⟩ : BufTy).Contents (Elt F) :=
  constantI S_ 32 8192#32
-- %85 = stablehlo.broadcast_in_dim %c_7, dims = [] : (tensor<i32>) -> tensor<64x1x384xi32>
def val_main_v85 : (⟨S64x1x384, .i32⟩ : BufTy).Contents (Elt F) :=
  broadcastInDim S64x1x384 ![] bcast_S_S64x1x384 (val_main_c_7 (F := F))
-- %86 = stablehlo.compare LT, %84, %85, SIGNED : (tensor<64x1x384xi32>, tensor<64x1x384xi32>) -> tensor<64x1x384xi1>
def val_main_v86 : (⟨S64x1x384, .i1⟩ : BufTy).Contents (Elt F) :=
  cmpi .slt (val_main_v84 (F := F)) (val_main_v85 (F := F))
-- %87 = stablehlo.broadcast_in_dim %86, dims = [0, 1, 2] : (tensor<64x1x384xi1>) -> tensor<64x128x384xi1>
def val_main_v87 : (⟨S64x128x384, .i1⟩ : BufTy).Contents (Elt F) :=
  broadcastInDim S64x128x384 ![0, 1, 2] bcast_S64x1x384_S64x128x384_0_1_2 (val_main_v86 (F := F))
-- %88 = stablehlo.and %83, %87 : tensor<64x128x384xi1>
def val_main_v88 : (⟨S64x128x384, .i1⟩ : BufTy).Contents (Elt F) :=
  andi (val_main_v83 (F := F)) (val_main_v87 (F := F))
-- %89 = stablehlo.iota dim = 0 : tensor<16xf32>
def val_main_v89 : (⟨S16, .f32⟩ : BufTy).Contents (Elt F) :=
  sitofp .f32 (iotaInDim S16 32 0)

-- %cst_8 = stablehlo.constant dense<1.000000e+00> : tensor<f32>
def val_main_cst_8 : (⟨S_, .f32⟩ : BufTy).Contents (Elt F) :=
  constant S_ .f32 0x3F800000#32
-- %90 = stablehlo.broadcast_in_dim %cst_8, dims = [] : (tensor<f32>) -> tensor<16xf32>
def val_main_v90 : (⟨S16, .f32⟩ : BufTy).Contents (Elt F) :=
  broadcastInDim S16 ![] bcast_S_S16 (val_main_cst_8 (F := F))
-- %91 = stablehlo.add %90, %89 : tensor<16xf32>
def val_main_v91 : (⟨S16, .f32⟩ : BufTy).Contents (Elt F) :=
  addf (val_main_v90 (F := F)) (val_main_v89 (F := F))
-- %cst_9 = stablehlo.constant dense<-8.000000e+00> : tensor<f32>
def val_main_cst_9 : (⟨S_, .f32⟩ : BufTy).Contents (Elt F) :=
  constant S_ .f32 0xC1000000#32
-- %92 = stablehlo.broadcast_in_dim %cst_9, dims = [] : (tensor<f32>) -> tensor<16xf32>
def val_main_v92 : (⟨S16, .f32⟩ : BufTy).Contents (Elt F) :=
  broadcastInDim S16 ![] bcast_S_S16 (val_main_cst_9 (F := F))
-- %93 = stablehlo.multiply %92, %91 : tensor<16xf32>
def val_main_v93 : (⟨S16, .f32⟩ : BufTy).Contents (Elt F) :=
  mulf (val_main_v92 (F := F)) (val_main_v91 (F := F))
-- %cst_10 = stablehlo.constant dense<1.600000e+01> : tensor<f32>
def val_main_cst_10 : (⟨S_, .f32⟩ : BufTy).Contents (Elt F) :=
  constant S_ .f32 0x41800000#32
-- %94 = stablehlo.broadcast_in_dim %cst_10, dims = [] : (tensor<f32>) -> tensor<16xf32>
def val_main_v94 : (⟨S16, .f32⟩ : BufTy).Contents (Elt F) :=
  broadcastInDim S16 ![] bcast_S_S16 (val_main_cst_10 (F := F))
-- %95 = stablehlo.divide %93, %94 : tensor<16xf32>
def val_main_v95 : (⟨S16, .f32⟩ : BufTy).Contents (Elt F) :=
  Host.divf (val_main_v93 (F := F)) (val_main_v94 (F := F))
-- %cst_11 = stablehlo.constant dense<2.000000e+00> : tensor<f32>
def val_main_cst_11 : (⟨S_, .f32⟩ : BufTy).Contents (Elt F) :=
  constant S_ .f32 0x40000000#32
-- %96 = stablehlo.broadcast_in_dim %cst_11, dims = [] : (tensor<f32>) -> tensor<16xf32>
def val_main_v96 : (⟨S16, .f32⟩ : BufTy).Contents (Elt F) :=
  broadcastInDim S16 ![] bcast_S_S16 (val_main_cst_11 (F := F))
-- %97 = stablehlo.power %96, %95 : tensor<16xf32>
def val_main_v97 : (⟨S16, .f32⟩ : BufTy).Contents (Elt F) :=
  Host.powf (val_main_v96 (F := F)) (val_main_v95 (F := F))
-- %98 = stablehlo.reshape %97 : (tensor<16xf32>) -> tensor<4x4xf32>
def val_main_v98 : (⟨S4x4, .f32⟩ : BufTy).Contents (Elt F) :=
  shapeCast _ (val_main_v97 (F := F)) shapeCasts_S16_S4x4
-- %99 = stablehlo.broadcast_in_dim %98, dims = [2, 3] : (tensor<4x4xf32>) -> tensor<1x1x4x4x1x1xf32>
def val_main_v99 : (⟨S1x1x4x4x1x1, .f32⟩ : BufTy).Contents (Elt F) :=
  broadcastInDim S1x1x4x4x1x1 ![2, 3] bcast_S4x4_S1x1x4x4x1x1_2_3 (val_main_v98 (F := F))
-- %100 = stablehlo.negate %99 : tensor<1x1x4x4x1x1xf32>
def val_main_v100 : (⟨S1x1x4x4x1x1, .f32⟩ : BufTy).Contents (Elt F) :=
  Host.negf (val_main_v99 (F := F))
-- %101 = stablehlo.broadcast_in_dim %76, dims = [1, 4, 5] : (tensor<64x128x384xi32>) -> tensor<1x64x1x1x128x384xi32>
def val_main_v101 : (⟨S1x64x1x1x128x384, .i32⟩ : BufTy).Contents (Elt F) :=
  broadcastInDim S1x64x1x1x128x384 ![1, 4, 5] bcast_S64x128x384_S1x64x1x1x128x384_1_4_5 (val_main_v76 (F := F))
-- %102 = stablehlo.convert %101 : (tensor<1x64x1x1x128x384xi32>) -> tensor<1x64x1x1x128x384xf32>
def val_main_v102 : (⟨S1x64x1x1x128x384, .f32⟩ : BufTy).Contents (Elt F) :=
  sitofp .f32 (val_main_v101 (F := F))
-- %103 = stablehlo.broadcast_in_dim %100, dims = [0, 1, 2, 3, 4, 5] : (tensor<1x1x4x4x1x1xf32>) -> tensor<1x64x4x4x128x384xf32>
def val_main_v103 : (⟨S1x64x4x4x128x384, .f32⟩ : BufTy).Contents (Elt F) :=
  broadcastInDim S1x64x4x4x128x384 ![0, 1, 2, 3, 4, 5] bcast_S1x1x4x4x1x1_S1x64x4x4x128x384_0_1_2_3_4_5 (val_main_v100 (F := F))
-- %104 = stablehlo.broadcast_in_dim %102, dims = [0, 1, 2, 3, 4, 5] : (tensor<1x64x1x1x128x384xf32>) -> tensor<1x64x4x4x128x384xf32>
def val_main_v104 : (⟨S1x64x4x4x128x384, .f32⟩ : BufTy).Contents (Elt F) :=
  broadcastInDim S1x64x4x4x128x384 ![0, 1, 2, 3, 4, 5] bcast_S1x64x1x1x128x384_S1x64x4x4x128x384_0_1_2_3_4_5 (val_main_v102 (F := F))
-- %105 = stablehlo.multiply %103, %104 : tensor<1x64x4x4x128x384xf32>
def val_main_v105 : (⟨S1x64x4x4x128x384, .f32⟩ : BufTy).Contents (Elt F) :=
  mulf (val_main_v103 (F := F)) (val_main_v104 (F := F))
-- %106 = stablehlo.broadcast_in_dim %88, dims = [1, 4, 5] : (tensor<64x128x384xi1>) -> tensor<1x64x1x1x128x384xi1>
def val_main_v106 : (⟨S1x64x1x1x128x384, .i1⟩ : BufTy).Contents (Elt F) :=
  broadcastInDim S1x64x1x1x128x384 ![1, 4, 5] bcast_S64x128x384_S1x64x1x1x128x384_1_4_5 (val_main_v88 (F := F))
-- %107 = stablehlo.add %52, %105 : tensor<1x64x4x4x128x384xf32>
def val_main_v107 (x0 : (⟨S1x8192x13312, .f32⟩ : BufTy).Contents (Elt F)) : (⟨S1x64x4x4x128x384, .f32⟩ : BufTy).Contents (Elt F) :=
  addf (val_main_v52 (F := F) x0) (val_main_v105 (F := F))
-- %cst_12 = stablehlo.constant dense<0xFF800000> : tensor<f32>
def val_main_cst_12 : (⟨S_, .f32⟩ : BufTy).Contents (Elt F) :=
  constant S_ .f32 0xFF800000#32
def val_main_call4_v0 : (⟨S_, .f32⟩ : BufTy).Contents (Elt F) :=
  id (val_main_cst_12 (F := F))
def val_main_call4_v1 : (⟨S1x64x4x4x128x384, .i1⟩ : BufTy).Contents (Elt F) :=
  broadcastInDim S1x64x4x4x128x384 ![0, 1, 2, 3, 4, 5] bcast_S1x64x1x1x128x384_S1x64x4x4x128x384_0_1_2_3_4_5 (val_main_v106 (F := F))
def val_main_call4_v2 : (⟨S1x64x4x4x128x384, .f32⟩ : BufTy).Contents (Elt F) :=
  broadcastInDim S1x64x4x4x128x384 ![] bcast_S_S1x64x4x4x128x384 (val_main_call4_v0 (F := F))
-- %108 = func.call @_where(…) (record main_call4) result 0: @_where's %3 = stablehlo.select %1, %arg1, %2 : tensor<1x64x4x4x128x384xi1>, tensor<1x64x4x4x128x384xf32>
def val_main_v108 (x0 : (⟨S1x8192x13312, .f32⟩ : BufTy).Contents (Elt F)) : (⟨S1x64x4x4x128x384, .f32⟩ : BufTy).Contents (Elt F) :=
  select (val_main_call4_v1 (F := F)) (val_main_v107 (F := F) x0) (val_main_call4_v2 (F := F))
-- %109 = stablehlo.reshape %34 : (tensor<16xf32>) -> tensor<1x1x4x4x1x1xf32>
def val_main_v109 (x2 : (⟨S1x16, .f32⟩ : BufTy).Contents (Elt F)) : (⟨S1x1x4x4x1x1, .f32⟩ : BufTy).Contents (Elt F) :=
  shapeCast _ (val_main_v34 (F := F) x2) shapeCasts_S16_S1x1x4x4x1x1

-- %cst_13 = stablehlo.constant dense<0xFF800000> : tensor<f32>
def val_main_cst_13 : (⟨S_, .f32⟩ : BufTy).Contents (Elt F) :=
  constant S_ .f32 0xFF800000#32
-- %110 = stablehlo.reduce(%108 init: %cst_13) applies stablehlo.maximum across dimensions = [5] : (tensor<1x64x4x4x128x384xf32>, tensor<f32>) -> tensor<1x64x4x4x128xf32> {
def val_main_v110 (x0 : (⟨S1x8192x13312, .f32⟩ : BufTy).Contents (Elt F)) : (⟨S1x64x4x4x128, .f32⟩ : BufTy).Contents (Elt F) :=
  Host.reduce FloatOps.maximumf (val_main_v108 (F := F) x0) (val_main_cst_13 (F := F)) reducesTo_S1x64x4x4x128x384_S1x64x4x4x128_d5 h_S_

-- %111 = stablehlo.broadcast_in_dim %110, dims = [0, 1, 2, 3, 4] : (tensor<1x64x4x4x128xf32>) -> tensor<1x64x4x4x128x1xf32>
def val_main_v111 (x0 : (⟨S1x8192x13312, .f32⟩ : BufTy).Contents (Elt F)) : (⟨S1x64x4x4x128x1, .f32⟩ : BufTy).Contents (Elt F) :=
  broadcastInDim S1x64x4x4x128x1 ![0, 1, 2, 3, 4] bcast_S1x64x4x4x128_S1x64x4x4x128x1_0_1_2_3_4 (val_main_v110 (F := F) x0)
-- %112 = stablehlo.broadcast_in_dim %109, dims = [0, 1, 2, 3, 4, 5] : (tensor<1x1x4x4x1x1xf32>) -> tensor<1x64x4x4x128x1xf32>
def val_main_v112 (x2 : (⟨S1x16, .f32⟩ : BufTy).Contents (Elt F)) : (⟨S1x64x4x4x128x1, .f32⟩ : BufTy).Contents (Elt F) :=
  broadcastInDim S1x64x4x4x128x1 ![0, 1, 2, 3, 4, 5] bcast_S1x1x4x4x1x1_S1x64x4x4x128x1_0_1_2_3_4_5 (val_main_v109 (F := F) x2)
-- %113 = stablehlo.maximum %111, %112 : tensor<1x64x4x4x128x1xf32>
def val_main_v113 (x0 : (⟨S1x8192x13312, .f32⟩ : BufTy).Contents (Elt F)) (x2 : (⟨S1x16, .f32⟩ : BufTy).Contents (Elt F)) : (⟨S1x64x4x4x128x1, .f32⟩ : BufTy).Contents (Elt F) :=
  maximumf (val_main_v111 (F := F) x0) (val_main_v112 (F := F) x2)
-- %114 = stablehlo.broadcast_in_dim %113, dims = [0, 1, 2, 3, 4, 5] : (tensor<1x64x4x4x128x1xf32>) -> tensor<1x64x4x4x128x384xf32>
def val_main_v114 (x0 : (⟨S1x8192x13312, .f32⟩ : BufTy).Contents (Elt F)) (x2 : (⟨S1x16, .f32⟩ : BufTy).Contents (Elt F)) : (⟨S1x64x4x4x128x384, .f32⟩ : BufTy).Contents (Elt F) :=
  broadcastInDim S1x64x4x4x128x384 ![0, 1, 2, 3, 4, 5] bcast_S1x64x4x4x128x1_S1x64x4x4x128x384_0_1_2_3_4_5 (val_main_v113 (F := F) x0 x2)
-- %115 = stablehlo.subtract %108, %114 : tensor<1x64x4x4x128x384xf32>
def val_main_v115 (x0 : (⟨S1x8192x13312, .f32⟩ : BufTy).Contents (Elt F)) (x2 : (⟨S1x16, .f32⟩ : BufTy).Contents (Elt F)) : (⟨S1x64x4x4x128x384, .f32⟩ : BufTy).Contents (Elt F) :=
  subf (val_main_v108 (F := F) x0) (val_main_v114 (F := F) x0 x2)
-- %116 = stablehlo.exponential %115 : tensor<1x64x4x4x128x384xf32>
def val_main_v116 (x0 : (⟨S1x8192x13312, .f32⟩ : BufTy).Contents (Elt F)) (x2 : (⟨S1x16, .f32⟩ : BufTy).Contents (Elt F)) : (⟨S1x64x4x4x128x384, .f32⟩ : BufTy).Contents (Elt F) :=
  Host.exp (val_main_v115 (F := F) x0 x2)
-- %cst_14 = stablehlo.constant dense<0.000000e+00> : tensor<f32>
def val_main_cst_14 : (⟨S_, .f32⟩ : BufTy).Contents (Elt F) :=
  constant S_ .f32 0x00000000#32
-- %117 = stablehlo.reduce(%116 init: %cst_14) applies stablehlo.add across dimensions = [5] : (tensor<1x64x4x4x128x384xf32>, tensor<f32>) -> tensor<1x64x4x4x128xf32> {
def val_main_v117 (x0 : (⟨S1x8192x13312, .f32⟩ : BufTy).Contents (Elt F)) (x2 : (⟨S1x16, .f32⟩ : BufTy).Contents (Elt F)) : (⟨S1x64x4x4x128, .f32⟩ : BufTy).Contents (Elt F) :=
  Host.reduceAdd (val_main_v116 (F := F) x0 x2) (val_main_cst_14 (F := F)) reducesTo_S1x64x4x4x128x384_S1x64x4x4x128_d5 h_S_
/-- Stated at `F := Ideal`, where the host's float sum is this sum; at a bit-exact instance it is an opaque function of its operand. -/
-- %118 = stablehlo.broadcast_in_dim %117, dims = [0, 1, 2, 3, 4] : (tensor<1x64x4x4x128xf32>) -> tensor<1x64x4x4x128x1xf32>
def val_main_v118 (x0 : (⟨S1x8192x13312, .f32⟩ : BufTy).Contents (Elt F)) (x2 : (⟨S1x16, .f32⟩ : BufTy).Contents (Elt F)) : (⟨S1x64x4x4x128x1, .f32⟩ : BufTy).Contents (Elt F) :=
  broadcastInDim S1x64x4x4x128x1 ![0, 1, 2, 3, 4] bcast_S1x64x4x4x128_S1x64x4x4x128x1_0_1_2_3_4 (val_main_v117 (F := F) x0 x2)
-- %119 = stablehlo.broadcast_in_dim %109, dims = [0, 1, 2, 3, 4, 5] : (tensor<1x1x4x4x1x1xf32>) -> tensor<1x64x4x4x128x1xf32>
def val_main_v119 (x2 : (⟨S1x16, .f32⟩ : BufTy).Contents (Elt F)) : (⟨S1x64x4x4x128x1, .f32⟩ : BufTy).Contents (Elt F) :=
  broadcastInDim S1x64x4x4x128x1 ![0, 1, 2, 3, 4, 5] bcast_S1x1x4x4x1x1_S1x64x4x4x128x1_0_1_2_3_4_5 (val_main_v109 (F := F) x2)
-- %120 = stablehlo.subtract %119, %113 : tensor<1x64x4x4x128x1xf32>
def val_main_v120 (x0 : (⟨S1x8192x13312, .f32⟩ : BufTy).Contents (Elt F)) (x2 : (⟨S1x16, .f32⟩ : BufTy).Contents (Elt F)) : (⟨S1x64x4x4x128x1, .f32⟩ : BufTy).Contents (Elt F) :=
  subf (val_main_v119 (F := F) x2) (val_main_v113 (F := F) x0 x2)
-- %121 = stablehlo.exponential %120 : tensor<1x64x4x4x128x1xf32>
def val_main_v121 (x0 : (⟨S1x8192x13312, .f32⟩ : BufTy).Contents (Elt F)) (x2 : (⟨S1x16, .f32⟩ : BufTy).Contents (Elt F)) : (⟨S1x64x4x4x128x1, .f32⟩ : BufTy).Contents (Elt F) :=
  Host.exp (val_main_v120 (F := F) x0 x2)
-- %122 = stablehlo.add %118, %121 : tensor<1x64x4x4x128x1xf32>
def val_main_v122 (x0 : (⟨S1x8192x13312, .f32⟩ : BufTy).Contents (Elt F)) (x2 : (⟨S1x16, .f32⟩ : BufTy).Contents (Elt F)) : (⟨S1x64x4x4x128x1, .f32⟩ : BufTy).Contents (Elt F) :=
  addf (val_main_v118 (F := F) x0 x2) (val_main_v121 (F := F) x0 x2)
-- %123 = stablehlo.broadcast_in_dim %122, dims = [0, 1, 2, 3, 4, 5] : (tensor<1x64x4x4x128x1xf32>) -> tensor<1x64x4x4x128x384xf32>
def val_main_v123 (x0 : (⟨S1x8192x13312, .f32⟩ : BufTy).Contents (Elt F)) (x2 : (⟨S1x16, .f32⟩ : BufTy).Contents (Elt F)) : (⟨S1x64x4x4x128x384, .f32⟩ : BufTy).Contents (Elt F) :=
  broadcastInDim S1x64x4x4x128x384 ![0, 1, 2, 3, 4, 5] bcast_S1x64x4x4x128x1_S1x64x4x4x128x384_0_1_2_3_4_5 (val_main_v122 (F := F) x0 x2)
-- %124 = stablehlo.divide %116, %123 : tensor<1x64x4x4x128x384xf32>
def val_main_v124 (x0 : (⟨S1x8192x13312, .f32⟩ : BufTy).Contents (Elt F)) (x2 : (⟨S1x16, .f32⟩ : BufTy).Contents (Elt F)) : (⟨S1x64x4x4x128x384, .f32⟩ : BufTy).Contents (Elt F) :=
  Host.divf (val_main_v116 (F := F) x0 x2) (val_main_v123 (F := F) x0 x2)
-- %125 = stablehlo.dot_general %47, %124, batching_dims = [0, 1, 3] x [0, 1, 2], contracting_dims = [2] x [5], precision = [DEFAULT, DEFAULT] : (tensor<1x64x384x4x128xf32>, tensor<1x64x4x4x128x384xf32>) -> tensor<1x64x4x128x4x128xf32>
def val_main_v125 (x0 : (⟨S1x8192x13312, .f32⟩ : BufTy).Contents (Elt F)) (x2 : (⟨S1x16, .f32⟩ : BufTy).Contents (Elt F)) : (⟨S1x64x4x128x4x128, .f32⟩ : BufTy).Contents (Elt F) :=
  Host.dotGeneral dot_S1x64x384x4x128_S1x64x4x4x128x384_S1x64x4x128x4x128_2_5_4_34_013_012 none (val_main_v47 (F := F) x0) (val_main_v124 (F := F) x0 x2)
/-- Stated at `F := Ideal`, where the host's `dot_general` is this sum; at a bit-exact instance it is an opaque function of its operands. -/
-- %126 = stablehlo.transpose %125, dims = [0, 1, 5, 2, 4, 3] : (tensor<1x64x4x128x4x128xf32>) -> tensor<1x64x128x4x4x128xf32>
def val_main_v126 (x0 : (⟨S1x8192x13312, .f32⟩ : BufTy).Contents (Elt F)) (x2 : (⟨S1x16, .f32⟩ : BufTy).Contents (Elt F)) : (⟨S1x64x128x4x4x128, .f32⟩ : BufTy).Contents (Elt F) :=
  transpose S1x64x128x4x4x128 [0, 1, 5, 2, 4, 3] (val_main_v125 (F := F) x0 x2) transposes_S1x64x4x128x4x128_S1x64x128x4x4x128_0_1_5_2_4_3
-- %127 = stablehlo.reshape %126 : (tensor<1x64x128x4x4x128xf32>) -> tensor<1x8192x2048xf32>
def val_main_v127 (x0 : (⟨S1x8192x13312, .f32⟩ : BufTy).Contents (Elt F)) (x2 : (⟨S1x16, .f32⟩ : BufTy).Contents (Elt F)) : (⟨S1x8192x2048, .f32⟩ : BufTy).Contents (Elt F) :=
  shapeCast _ (val_main_v126 (F := F) x0 x2) shapeCasts_S1x64x128x4x4x128_S1x8192x2048

-- @silu's %0 = stablehlo.negate %arg0 : tensor<1x8192x2048xf32>, in %128 = func.call @silu(…) (record main_call5)
def val_main_call5_v0 (x0 : (⟨S1x8192x13312, .f32⟩ : BufTy).Contents (Elt F)) : (⟨S1x8192x2048, .f32⟩ : BufTy).Contents (Elt F) :=
  Host.negf (val_main_v7 (F := F) x0)
def val_main_call5_v1 (x0 : (⟨S1x8192x13312, .f32⟩ : BufTy).Contents (Elt F)) : (⟨S1x8192x2048, .f32⟩ : BufTy).Contents (Elt F) :=
  Host.exp (val_main_call5_v0 (F := F) x0)
def val_main_call5_cst : (⟨S_, .f32⟩ : BufTy).Contents (Elt F) :=
  constant S_ .f32 0x3F800000#32
def val_main_call5_v2 : (⟨S1x8192x2048, .f32⟩ : BufTy).Contents (Elt F) :=
  broadcastInDim S1x8192x2048 ![] bcast_S_S1x8192x2048 (val_main_call5_cst (F := F))
def val_main_call5_v3 (x0 : (⟨S1x8192x13312, .f32⟩ : BufTy).Contents (Elt F)) : (⟨S1x8192x2048, .f32⟩ : BufTy).Contents (Elt F) :=
  addf (val_main_call5_v2 (F := F)) (val_main_call5_v1 (F := F) x0)
def val_main_call5_cst_0 : (⟨S_, .f32⟩ : BufTy).Contents (Elt F) :=
  constant S_ .f32 0x3F800000#32
def val_main_call5_v4 : (⟨S1x8192x2048, .f32⟩ : BufTy).Contents (Elt F) :=
  broadcastInDim S1x8192x2048 ![] bcast_S_S1x8192x2048 (val_main_call5_cst_0 (F := F))
def val_main_call5_v5 (x0 : (⟨S1x8192x13312, .f32⟩ : BufTy).Contents (Elt F)) : (⟨S1x8192x2048, .f32⟩ : BufTy).Contents (Elt F) :=
  Host.divf (val_main_call5_v4 (F := F)) (val_main_call5_v3 (F := F) x0)
-- %128 = func.call @silu(…) (record main_call5) result 0: @silu's %6 = stablehlo.multiply %arg0, %5 : tensor<1x8192x2048xf32>
def val_main_v128 (x0 : (⟨S1x8192x13312, .f32⟩ : BufTy).Contents (Elt F)) : (⟨S1x8192x2048, .f32⟩ : BufTy).Contents (Elt F) :=
  mulf (val_main_v7 (F := F) x0) (val_main_call5_v5 (F := F) x0)
-- %129 = stablehlo.multiply %127, %128 : tensor<1x8192x2048xf32>
def val_main_v129 (x0 : (⟨S1x8192x13312, .f32⟩ : BufTy).Contents (Elt F)) (x2 : (⟨S1x16, .f32⟩ : BufTy).Contents (Elt F)) : (⟨S1x8192x2048, .f32⟩ : BufTy).Contents (Elt F) :=
  mulf (val_main_v127 (F := F) x0 x2) (val_main_v128 (F := F) x0)
-- %130 = stablehlo.concatenate %33, %129, dim = 2 : (tensor<1x8192x2048xf32>, tensor<1x8192x2048xf32>) -> tensor<1x8192x4096xf32>
def val_main_v130 (x0 : (⟨S1x8192x13312, .f32⟩ : BufTy).Contents (Elt F)) (x1 : (⟨S1x3x2048, .f32⟩ : BufTy).Contents (Elt F)) (x2 : (⟨S1x16, .f32⟩ : BufTy).Contents (Elt F)) : (⟨S1x8192x4096, .f32⟩ : BufTy).Contents (Elt F) :=
  concatenate S1x8192x4096 2 [⟨S1x8192x2048, (val_main_v33 (F := F) x0 x1)⟩, ⟨S1x8192x2048, (val_main_v129 (F := F) x0 x2)⟩] concatenates_S1x8192x2048_S1x8192x2048_S1x8192x4096_d2

-- %131 = stablehlo.slice %130 [0:1, 0:512, 0:4096] : (tensor<1x8192x4096xf32>) -> tensor<1x512x4096xf32>
def val_main_v131 (x0 : (⟨S1x8192x13312, .f32⟩ : BufTy).Contents (Elt F)) (x1 : (⟨S1x3x2048, .f32⟩ : BufTy).Contents (Elt F)) (x2 : (⟨S1x16, .f32⟩ : BufTy).Contents (Elt F)) : (⟨S1x512x4096, .f32⟩ : BufTy).Contents (Elt F) :=
  extractStridedSlice S1x512x4096 ![0, 0, 0] (val_main_v130 (F := F) x0 x1 x2) slices_S1x8192x4096_S1x512x4096_0_0_0
-- %132 = stablehlo.reshape %131 : (tensor<1x512x4096xf32>) -> tensor<512x4096xf32>
def val_main_v132 (x0 : (⟨S1x8192x13312, .f32⟩ : BufTy).Contents (Elt F)) (x1 : (⟨S1x3x2048, .f32⟩ : BufTy).Contents (Elt F)) (x2 : (⟨S1x16, .f32⟩ : BufTy).Contents (Elt F)) : (⟨S512x4096, .f32⟩ : BufTy).Contents (Elt F) :=
  shapeCast _ (val_main_v131 (F := F) x0 x1 x2) shapeCasts_S1x512x4096_S512x4096
-- %133 = stablehlo.convert %132 : (tensor<512x4096xf32>) -> tensor<512x4096xbf16>
def val_main_v133 (x0 : (⟨S1x8192x13312, .f32⟩ : BufTy).Contents (Elt F)) (x1 : (⟨S1x3x2048, .f32⟩ : BufTy).Contents (Elt F)) (x2 : (⟨S1x16, .f32⟩ : BufTy).Contents (Elt F)) : (⟨S512x4096, .bf16⟩ : BufTy).Contents (Elt F) :=
  truncf .bf16 (val_main_v132 (F := F) x0 x1 x2) bitsLt_bf16_f32
/-- The term the Run module names `res_main_v133` is the stage. -/
theorem val_main_v133_eq (m : (ℓ : Loc nD τ sig) → Buf (Elt F) ℓ) (c : Dev nD) :
    Cert.ReferenceIdeal.Value.res_main_v133 m c = val_main_v133 (F := F) (m ((c.tc : Thread nD τ).loc main_arg0)) (m ((c.tc : Thread nD τ).loc main_arg1)) (m ((c.tc : Thread nD τ).loc main_arg2)) := by
  unfold Cert.ReferenceIdeal.Value.res_main_v133; rfl

end Cert.ReferenceIdeal.Read

end
-- ==== Proof.Mix.Run.lean ====
/- The body of the mixers call run once at symbolic operands, part by part. -/
module

public import proofs.«01_k».proof.Proof.Gen.KernelIdeal.Frame
public import proofs.«01_k».proof.Proof.Gen.KernelIdeal.Skeleton

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's triple: on whole staging memrefs, the eight inputs at their contents and the output at what it holds, the body
    runs to the continuation with the inputs as they were and the output at the contents the run finds. -/
noncomputable def kernelRun (c : Dev nD) (i : grid0.Coords) (arg2 : Memref sig .tc .smem S16 .f32) (harg2 : arg2.IsWhole) (arg3 : Memref sig .tc .vmem S128x6144 .bf16) (harg3 : arg3.IsWhole) (arg4 : Memref sig .tc .vmem S16x6144 .bf16) (harg4 : arg4.IsWhole) (arg5 : Memref sig .tc .vmem S16x6144 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S3x1024 .f32) (harg9 : arg9.IsWhole) (arg10 : Memref sig .tc .vmem S128x4096 .bf16) (harg10 : arg10.IsWhole)
    (x0 : Vec F S16 .f32) (x1 : Vec F S128x6144 .bf16) (x2 : Vec F S16x6144 .bf16) (x3 : Vec F S16x6144 .bf16) (x4 : Vec F S128x1024 .bf16) (x5 : Vec F S128x1024 .bf16) (x6 : Vec F S128x1024 .bf16) (x7 : Vec F S3x1024 .f32) (x8 : Vec F S128x4096 .bf16) :
    { W : Vec F S128x4096 .bf16 //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare W) -∗ K ⟨⟩))
          ⊢ wp frame (wpE (defs₀ (F := F)) Variants.none c none) E (cc0_mixers i arg2 harg2 arg3 harg3 arg4 harg4 arg5 harg5 arg6 harg6 arg7 harg7 arg8 harg8 arg9 harg9 arg10 harg10) K } := by
  refine ⟨?_, fun E K => ?run⟩
  case run =>
    simp only [cc0_mixers_eq_skeleton]; unfold cc0_mixers_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec_parts
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; isplitr; swap; · iexact H8
    ipureintro; rfl

end Cert.KernelIdeal.Mix

end
-- ==== Proof.Mix.Tiles.lean ====
/- The values the mixers call's body stores, each as a function of the blocks it loads: eight column blocks of the gated
   short convolution and eight attention heads. -/
module

public import proofs.«01_k».proof.Proof.Mix.Run

@[expose] public section

set_option maxRecDepth 65536

noncomputable section

namespace Cert.KernelIdeal.Mix

open Cert.KernelIdeal Cert.KernelIdeal.Gen
open Idealize.ShloMosaic Idealize.ShloMosaic.TcCoe

variable {F : FTy → Type} [FloatOps F] [Named F]

/-- One column block of the gated short convolution, of the blocks it reads: the two factors of the convolved product with
    the rows before and after the block, the three taps, and the two gates. -/
def convTile (i : grid0.Coords) (cc ch : Vec F S128x128 .bf16) (pc ph nc nh : Vec F S1x128 .bf16) (w0 w1 w2 : Vec F S1x128 .f32)
    (cb cz : Vec F S128x128 .bf16) : FVec F S128x128 .bf16 :=
  k0_pay5 (k0_pay4 (iota .tc S128x128 32 [0] iota_S128x128_d0_w32) (k0_pay1 cc ch) (k0_pay2 i pc ph)
    (Scalar.cmpi .slt (BitVec.ofNat 32 (i 0).val) 63#32) (k0_pay3 nc) nh w0 w1 w2 cb) cz

/-- The word of one over a power of two that scales the second half's slopes, or one. -/
def halfWord (a1 : BitVec 32) : F .f32 :=
  Scalar.select (Scalar.cmpi .eq a1 1#32) (Scalar.ofBits .f32 0x3D800000#32) (Scalar.ofBits .f32 0x3F800000#32)

/-- One head's masked scores. -/
def scoreTile (a1 : BitVec 32) (sc : FVec F S512x768 .f32) (mk : IVec S128x384 1) (ds : FVec F S128x384 .f32) (off : Fin 2 → ℕ)
    (h : S512x768.Slices off S128x384) (sl : F .f32) : FVec F S128x384 .f32 :=
  select mk
    (addf (mulf (extractStridedSlice S128x384 off sc h) (broadcast S128x384 (Named.named κ "scale_log2_e" 0x3E0293EE#32 : F .f32)))
      (mulf ds (broadcast S128x384 (Scalar.mulf (halfWord (F := F) a1) sl))))
    (broadcast S128x384 (Named.named κ "mask" 0xF149F2CA#32 : F .f32))

/-- The sink's logit in base two. -/
def sinkWord (v : F .f32) : F .f32 := Scalar.mulf v (Named.named κ "log2_e" 0x3FB8AA3B#32 : F .f32)

/-- One head's row maximum, the sink included. -/
def topTile (s : FVec F S128x384 .f32) (v : F .f32) : FVec F S128x1 .f32 :=
  maximumf (shapeCast S128x1 (multiReduction .maximumf [1] S128 s 0xFF800000#32 reduces_S128x384_S128 (.inl rfl) rfl) shapeCasts_S128_S128x1)
    (broadcast S128x1 (sinkWord v))

/-- One head's weights before the division. -/
def expTile (s : FVec F S128x384 .f32) (v : F .f32) : FVec F S128x384 .f32 :=
  exp2 (subf s (broadcastTo S128x384 (topTile s v) broadcasts_S128x1_S128x384))

/-- One head's denominator, the sink included. -/
def denTile (s : FVec F S128x384 .f32) (v : F .f32) : FVec F S128x1 .f32 :=
  addf (shapeCast S128x1 (multiReduction .add [1] S128 (expTile s v) 0x00000000#32 reduces_S128x384_S128 (.inl rfl) rfl) shapeCasts_S128_S128x1)
    (exp2 (subf (broadcast S128x1 (sinkWord v)) (topTile s v)))

/-- One head's gated output, of the weighted values of all heads. -/
def gateTile (pv : FVec F S512x256 .f32) (off : Fin 2 → ℕ) (h : S512x256.Slices off S128x128) (dn : FVec F S128x1 .f32)
    (z : Vec F S128x128 .bf16) : FVec F S128x128 .bf16 :=
  truncf .bf16 (mulf (divf (extractStridedSlice S128x128 off pv h) (broadcastTo S128x128 dn broadcasts_S128x1_S128x128))
    (divf (extf .f32 (shapeCast S128x128 z shapeCasts_S128x128_S128x128 : FVec F S128x128 .bf16) bitsLt_bf16_f32)
      (addf (broadcast S128x128 (Scalar.ofBits .f32 0x3F800000#32 : F .f32))
        (exp (subf (broadcast S128x128 (Scalar.ofBits .f32 0x00000000#32 : F .f32))
          (extf .f32 (shapeCast S128x128 z shapeCasts_S128x128_S128x128 : FVec F S128x128 .bf16) bitsLt_bf16_f32)))))) bitsLt_bf16_f32

/-- All heads' scores at once: the queries of the eight heads stacked, against the two key heads on the diagonal. -/
def scoresTile (q0 q1 q2 q3 q4 q5 q6 q7 ka0 ka1 ka2 kb0 kb1 kb2 : Vec F S128x128 .bf16) : FVec F S512x768 .f32 :=
  k0_pay49 (k0_pay45 q0 q4) (k0_pay46 q1 q5) (k0_pay47 q2 q6) (k0_pay48 q3) q7 ka0 ka1 ka2 kb0 kb1 kb2

/-- The absolute distance of a key from a query. -/
def distTile : FVec F S128x384 .f32 := k0_pay54 (F := F) k0_pay51

/-- Which keys a query attends to. -/
def maskTile (i : grid0.Coords) : IVec S128x384 1 := k0_pay53 k0_pay51 (k0_pay52 (BitVec.ofNat 32 (i 0).val)) 128#32

/-- All heads' weighted values at once. -/
def valuesTile (p0 p1 p2 p3 p4 p5 p6 p7 : FVec F S128x384 .bf16) (va0 va1 va2 vb0 vb1 vb2 : Vec F S128x128 .bf16) : FVec F S512x256 .f32 :=
  k0_pay112 (concatenate S512x768 0 [⟨S128x768, concatenate S128x768 1 [⟨S128x384, p0⟩, ⟨S128x384, p4⟩] concatenates_S128x384_S128x384_S128x768_d1⟩,
      ⟨S128x768, concatenate S128x768 1 [⟨S128x384, p1⟩, ⟨S128x384, p5⟩] concatenates_S128x384_S128x384_S128x768_d1⟩,
      ⟨S128x768, concatenate S128x768 1 [⟨S128x384, p2⟩, ⟨S128x384, p6⟩] concatenates_S128x384_S128x384_S128x768_d1⟩,
      ⟨S128x768, concatenate S128x768 1 [⟨S128x384, p3⟩, ⟨S128x384, p7⟩] concatenates_S128x384_S128x384_S128x768_d1⟩]
      concatenates_S128x768_S128x768_S128x768_S128x768_S512x768_d0)
    (k0_pay110 va0) (k0_pay111 va1) va2 vb0 vb1 vb2

/-- A square block of the main window, through its slice of a thousand columns. -/
def ldMain (M : Memref sig .tc .vmem S128x6144 .bf16) (hM : M.IsWhole) (x : Vec F S128x6144 .bf16) (a b : ℕ)
    (ha : ∀ k, (![0, a] : Fin 2 → ℕ) k + S128x1024.size k ≤ S128x6144.size k) (hb : ∀ k, (![0, b] : Fin 2 → ℕ) k + S128x128.size k ≤ S128x1024.size k) :
    Vec F S128x128 .bf16 :=
  View.readAt (Elt F) M.view ((Rect.unit (s := S128x6144) ![0, a] S128x1024.size ha).withinL
    (Rect.unit (s := S128x1024) ![0, b] S128x128.size hb).toLoadRect (fun _ => rfl)) (hM.unread x)

/-- A row of a neighbouring block, through its slice of a thousand columns. -/
def ldHalo (M : Memref sig .tc .vmem S16x6144 .bf16) (hM : M.IsWhole) (x : Vec F S16x6144 .bf16) (a r b : ℕ)
    (ha : ∀ k, (![0, a] : Fin 2 → ℕ) k + S16x1024.size k ≤ S16x6144.size k) (hb : ∀ k, (![r, b] : Fin 2 → ℕ) k + S1x128.size k ≤ S16x1024.size k) :
    Vec F S1x128 .bf16 :=
  View.readAt (Elt F) M.view ((Rect.unit (s := S16x6144) ![0, a] S16x1024.size ha).withinL
    (Rect.unit (s := S16x1024) ![r, b] S1x128.size hb).toLoadRect (fun _ => rfl)) (hM.unread x)

/-- One tap of the convolution. -/
def ldTap (M : Memref sig .tc .vmem S3x1024 .f32) (hM : M.IsWhole) (x : Vec F S3x1024 .f32) (r b : ℕ)
    (hb : ∀ k, (![r, b] : Fin 2 → ℕ) k + S1x128.size k ≤ S3x1024.size k) : Vec F S1x128 .f32 :=
  View.readAt (Elt F) M.view (Rect.unit (s := S3x1024) ![r, b] S1x128.size hb).toLoadRect (hM.unread x)

/-- One head's block of keys or values, through the half's slice of the window. -/
def ldKv (M : Memref sig .tc .vmem S128x1024 .bf16) (hM : M.IsWhole) (x : Vec F S128x1024 .bf16) (off : Fin 2 → ℕ) (b : ℕ)
    (ha : ∀ k, off k + S128x256.size k ≤ S128x1024.size k) (hb : ∀ k, (![0, b] : Fin 2 → ℕ) k + S128x128.size k ≤ S128x256.size k) :
    Vec F S128x128 .bf16 :=
  View.readAt (Elt F) M.view ((Rect.unit (s := S128x1024) off S128x256.size ha).withinL
    (Rect.unit (s := S128x256) ![0, b] S128x128.size hb).toLoadRect (fun _ => rfl)) (hM.unread x)

/-- One head's sink logit. -/
def ldSink (M : Memref sig .tc .smem S16 .f32) (hM : M.IsWhole) (x : Vec F S16 .f32) (off : Fin 1 → ℕ)
    (ha : ∀ k, off k + S1.size k ≤ S16.size k) : F .f32 :=
  View.readAt (Elt F) M.view (Rect.unit (s := S16) off S1.size ha).toLoadRect (hM.unread x) (Shape.Idx.first ((numel1_S1 : (Rect.unit (s := S16) off S1.size ha).shape.numel = 1).symm ▸ Nat.one_pos))

variable (c : Dev nD) (i : grid0.Coords) (arg2 : Memref sig .tc .smem S16 .f32) (harg2 : arg2.IsWhole) (arg3 : Memref sig .tc .vmem S128x6144 .bf16) (harg3 : arg3.IsWhole) (arg4 : Memref sig .tc .vmem S16x6144 .bf16) (harg4 : arg4.IsWhole) (arg5 : Memref sig .tc .vmem S16x6144 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S3x1024 .f32) (harg9 : arg9.IsWhole) (arg10 : Memref sig .tc .vmem S128x4096 .bf16) (harg10 : arg10.IsWhole)
    (x0 : Vec F S16 .f32) (x1 : Vec F S128x6144 .bf16) (x2 : Vec F S16x6144 .bf16) (x3 : Vec F S16x6144 .bf16) (x4 : Vec F S128x1024 .bf16) (x5 : Vec F S128x1024 .bf16) (x6 : Vec F S128x1024 .bf16) (x7 : Vec F S3x1024 .f32) (x8 : Vec F S128x4096 .bf16)

/-- The convolution's column block at column `b`. -/
def convAt (b : ℕ) (hb : ∀ k, (![0, b] : Fin 2 → ℕ) k + S128x128.size k ≤ S128x1024.size k)
    (h15 : ∀ k, (![15, b] : Fin 2 → ℕ) k + S1x128.size k ≤ S16x1024.size k) (h00 : ∀ k, (![0, b] : Fin 2 → ℕ) k + S1x128.size k ≤ S16x1024.size k)
    (h0 : ∀ k, (![0, b] : Fin 2 → ℕ) k + S1x128.size k ≤ S3x1024.size k) (h1 : ∀ k, (![1, b] : Fin 2 → ℕ) k + S1x128.size k ≤ S3x1024.size k)
    (h2 : ∀ k, (![2, b] : Fin 2 → ℕ) k + S1x128.size k ≤ S3x1024.size k) : FVec F S128x128 .bf16 :=
  convTile i (ldMain arg3 harg3 x1 1024 b (by decide) hb) (ldMain arg3 harg3 x1 2048 b (by decide) hb)
    (ldHalo arg4 harg4 x2 1024 15 b (by decide) h15) (ldHalo arg4 harg4 x2 2048 15 b (by decide) h15)
    (ldHalo arg5 harg5 x3 1024 0 b (by decide) h00) (ldHalo arg5 harg5 x3 2048 0 b (by decide) h00)
    (ldTap arg9 harg9 x7 0 b h0) (ldTap arg9 harg9 x7 1 b h1) (ldTap arg9 harg9 x7 2 b h2)
    (ldMain arg3 harg3 x1 0 b (by decide) hb) (ldMain arg3 harg3 x1 3072 b (by decide) hb)

/-- The scores of the half's eight heads. -/
def scoresAt : FVec F S512x768 .f32 :=
  scoresTile (ldMain arg3 harg3 x1 4096 0 (by decide) (by decide)) (ldMain arg3 harg3 x1 4096 128 (by decide) (by decide)) (ldMain arg3 harg3 x1 4096 256 (by decide) (by decide)) (ldMain arg3 harg3 x1 4096 384 (by decide) (by decide)) (ldMain arg3 harg3 x1 4096 512 (by decide) (by decide)) (ldMain arg3 harg3 x1 4096 640 (by decide) (by decide)) (ldMain arg3 harg3 x1 4096 768 (by decide) (by decide)) (ldMain arg3 harg3 x1 4096 896 (by decide) (by decide))
    (ldKv arg6 harg6 x4 (k0_off2 i) 0 (k0_off2_inb i) (by decide)) (ldKv arg7 harg7 x5 (k0_off2 i) 0 (k0_off2_inb i) (by decide)) (ldKv arg8 harg8 x6 (k0_off2 i) 0 (k0_off2_inb i) (by decide))
    (ldKv arg6 harg6 x4 (k0_off2 i) 128 (k0_off2_inb i) (by decide)) (ldKv arg7 harg7 x5 (k0_off2 i) 128 (k0_off2_inb i) (by decide)) (ldKv arg8 harg8 x6 (k0_off2 i) 128 (k0_off2_inb i) (by decide))

/-- One head's masked scores at this point. -/
def scoreAt (off : Fin 2 → ℕ) (h : S512x768.Slices off S128x384) (sl : F .f32) : FVec F S128x384 .f32 :=
  scoreTile (BitVec.ofNat 32 (i 1).val) (scoresAt i arg3 harg3 arg6 harg6 arg7 harg7 arg8 harg8 x1 x4 x5 x6) (maskTile i) distTile off h sl

/-- Head 0's masked scores. -/
def s0 : FVec F S128x384 .f32 := scoreAt i arg3 harg3 arg6 harg6 arg7 harg7 arg8 harg8 x1 x4 x5 x6 ![0, 0] slices_S512x768_o0_0_S128x384 (Named.named κ "slope1" 0x3F3504F3#32)
/-- Head 0's sink logit. -/
def v0 : F .f32 := ldSink arg2 harg2 x0 (k0_off3 i 0#32) (k0_off3_inb i 0)
/-- Head 1's masked scores. -/
def s1 : FVec F S128x384 .f32 := scoreAt i arg3 harg3 arg6 harg6 arg7 harg7 arg8 harg8 x1 x4 x5 x6 ![128, 0] slices_S512x768_o128_0_S128x384 (Scalar.ofBits .f32 0x3F000000#32)
/-- Head 1's sink logit. -/
def v1 : F .f32 := ldSink arg2 harg2 x0 (k0_off3 i 1#32) (k0_off3_inb i 1)
/-- Head 2's masked scores. -/
def s2 : FVec F S128x384 .f32 := scoreAt i arg3 harg3 arg6 harg6 arg7 harg7 arg8 harg8 x1 x4 x5 x6 ![256, 0] slices_S512x768_o256_0_S128x384 (Named.named κ "slope3" 0x3EB504F3#32)
/-- Head 2's sink logit. -/
def v2 : F .f32 := ldSink arg2 harg2 x0 (k0_off3 i 2#32) (k0_off3_inb i 2)
/-- Head 3's masked scores. -/
def s3 : FVec F S128x384 .f32 := scoreAt i arg3 harg3 arg6 harg6 arg7 harg7 arg8 harg8 x1 x4 x5 x6 ![384, 0] slices_S512x768_o384_0_S128x384 (Scalar.ofBits .f32 0x3E800000#32)
/-- Head 3's sink logit. -/
def v3 : F .f32 := ldSink arg2 harg2 x0 (k0_off3 i 3#32) (k0_off3_inb i 3)
/-- Head 4's masked scores. -/
def s4 : FVec F S128x384 .f32 := scoreAt i arg3 harg3 arg6 harg6 arg7 harg7 arg8 harg8 x1 x4 x5 x6 ![0, 384] slices_S512x768_o0_384_S128x384 (Named.named κ "slope5" 0x3E3504F3#32)
/-- Head 4's sink logit. -/
def v4 : F .f32 := ldSink arg2 harg2 x0 (k0_off3 i 4#32) (k0_off3_inb i 4)
/-- Head 5's masked scores. -/
def s5 : FVec F S128x384 .f32 := scoreAt i arg3 harg3 arg6 harg6 arg7 harg7 arg8 harg8 x1 x4 x5 x6 ![128, 384] slices_S512x768_o128_384_S128x384 (Scalar.ofBits .f32 0x3E000000#32)
/-- Head 5's sink logit. -/
def v5 : F .f32 := ldSink arg2 harg2 x0 (k0_off3 i 5#32) (k0_off3_inb i 5)
/-- Head 6's masked scores. -/
def s6 : FVec F S128x384 .f32 := scoreAt i arg3 harg3 arg6 harg6 arg7 harg7 arg8 harg8 x1 x4 x5 x6 ![256, 384] slices_S512x768_o256_384_S128x384 (Named.named κ "slope7" 0x3DB504F3#32)
/-- Head 6's sink logit. -/
def v6 : F .f32 := ldSink arg2 harg2 x0 (k0_off3 i 6#32) (k0_off3_inb i 6)
/-- Head 7's masked scores. -/
def s7 : FVec F S128x384 .f32 := scoreAt i arg3 harg3 arg6 harg6 arg7 harg7 arg8 harg8 x1 x4 x5 x6 ![384, 384] slices_S512x768_o384_384_S128x384 (Scalar.ofBits .f32 0x3D800000#32)
/-- Head 7's sink logit. -/
def v7 : F .f32 := ldSink arg2 harg2 x0 (k0_off3 i 7#32) (k0_off3_inb i 7)

/-- The weighted values of the half's eight heads. -/
def valuesAt : FVec F S512x256 .f32 :=
  valuesTile (truncf .bf16 (expTile (s0 i arg3 harg3 arg6 harg6 arg7 harg7 arg8 harg8 x1 x4 x5 x6) (v0 i arg2 harg2 x0)) bitsLt_bf16_f32) (truncf .bf16 (expTile (s1 i arg3 harg3 arg6 harg6 arg7 harg7 arg8 harg8 x1 x4 x5 x6) (v1 i arg2 harg2 x0)) bitsLt_bf16_f32) (truncf .bf16 (expTile (s2 i arg3 harg3 arg6 harg6 arg7 harg7 arg8 harg8 x1 x4 x5 x6) (v2 i arg2 harg2 x0)) bitsLt_bf16_f32) (truncf .bf16 (expTile (s3 i arg3 harg3 arg6 harg6 arg7 harg7 arg8 harg8 x1 x4 x5 x6) (v3 i arg2 harg2 x0)) bitsLt_bf16_f32) (truncf .bf16 (expTile (s4 i arg3 harg3 arg6 harg6 arg7 harg7 arg8 harg8 x1 x4 x5 x6) (v4 i arg2 harg2 x0)) bitsLt_bf16_f32) (truncf .bf16 (expTile (s5 i arg3 harg3 arg6 harg6 arg7 harg7 arg8 harg8 x1 x4 x5 x6) (v5 i arg2 harg2 x0)) bitsLt_bf16_f32) (truncf .bf16 (expTile (s6 i arg3 harg3 arg6 harg6 arg7 harg7 arg8 harg8 x1 x4 x5 x6) (v6 i arg2 harg2 x0)) bitsLt_bf16_f32) (truncf .bf16 (expTile (s7 i arg3 harg3 arg6 harg6 arg7 harg7 arg8 harg8 x1 x4 x5 x6) (v7 i arg2 harg2 x0)) bitsLt_bf16_f32)
    (ldKv arg6 harg6 x4 (k0_off4 i) 0 (k0_off4_inb i) (by decide)) (ldKv arg7 harg7 x5 (k0_off4 i) 0 (k0_off4_inb i) (by decide)) (ldKv arg8 harg8 x6 (k0_off4 i) 0 (k0_off4_inb i) (by decide))
    (ldKv arg6 harg6 x4 (k0_off4 i) 128 (k0_off4_inb i) (by decide)) (ldKv arg7 harg7 x5 (k0_off4 i) 128 (k0_off4_inb i) (by decide)) (ldKv arg8 harg8 x6 (k0_off4 i) 128 (k0_off4_inb i) (by decide))

/-- Head 0's gated output. -/
def h0 : FVec F S128x128 .bf16 := gateTile (valuesAt i arg2 harg2 arg3 harg3 arg6 harg6 arg7 harg7 arg8 harg8 x0 x1 x4 x5 x6) ![0, 0] slices_S512x256_o0_0_S128x128 (denTile (s0 i arg3 harg3 arg6 harg6 arg7 harg7 arg8 harg8 x1 x4 x5 x6) (v0 i arg2 harg2 x0)) (ldMain arg3 harg3 x1 5120 0 (by decide) (by decide))
/-- Head 1's gated output. -/
def h1 : FVec F S128x128 .bf16 := gateTile (valuesAt i arg2 harg2 arg3 harg3 arg6 harg6 arg7 harg7 arg8 harg8 x0 x1 x4 x5 x6) ![128, 0] slices_S512x256_o128_0_S128x128 (denTile (s1 i arg3 harg3 arg6 harg6 arg7 harg7 arg8 harg8 x1 x4 x5 x6) (v1 i arg2 harg2 x0)) (ldMain arg3 harg3 x1 5120 128 (by decide) (by decide))
/-- Head 2's gated output. -/
def h2 : FVec F S128x128 .bf16 := gateTile (valuesAt i arg2 harg2 arg3 harg3 arg6 harg6 arg7 harg7 arg8 harg8 x0 x1 x4 x5 x6) ![256, 0] slices_S512x256_o256_0_S128x128 (denTile (s2 i arg3 harg3 arg6 harg6 arg7 harg7 arg8 harg8 x1 x4 x5 x6) (v2 i arg2 harg2 x0)) (ldMain arg3 harg3 x1 5120 256 (by decide) (by decide))
/-- Head 3's gated output. -/
def h3 : FVec F S128x128 .bf16 := gateTile (valuesAt i arg2 harg2 arg3 harg3 arg6 harg6 arg7 harg7 arg8 harg8 x0 x1 x4 x5 x6) ![384, 0] slices_S512x256_o384_0_S128x128 (denTile (s3 i arg3 harg3 arg6 harg6 arg7 harg7 arg8 harg8 x1 x4 x5 x6) (v3 i arg2 harg2 x0)) (ldMain arg3 harg3 x1 5120 384 (by decide) (by decide))
/-- Head 4's gated output. -/
def h4 : FVec F S128x128 .bf16 := gateTile (valuesAt i arg2 harg2 arg3 harg3 arg6 harg6 arg7 harg7 arg8 harg8 x0 x1 x4 x5 x6) ![0, 128] slices_S512x256_o0_128_S128x128 (denTile (s4 i arg3 harg3 arg6 harg6 arg7 harg7 arg8 harg8 x1 x4 x5 x6) (v4 i arg2 harg2 x0)) (ldMain arg3 harg3 x1 5120 512 (by decide) (by decide))
/-- Head 5's gated output. -/
def h5 : FVec F S128x128 .bf16 := gateTile (valuesAt i arg2 harg2 arg3 harg3 arg6 harg6 arg7 harg7 arg8 harg8 x0 x1 x4 x5 x6) ![128, 128] slices_S512x256_o128_128_S128x128 (denTile (s5 i arg3 harg3 arg6 harg6 arg7 harg7 arg8 harg8 x1 x4 x5 x6) (v5 i arg2 harg2 x0)) (ldMain arg3 harg3 x1 5120 640 (by decide) (by decide))
/-- Head 6's gated output. -/
def h6 : FVec F S128x128 .bf16 := gateTile (valuesAt i arg2 harg2 arg3 harg3 arg6 harg6 arg7 harg7 arg8 harg8 x0 x1 x4 x5 x6) ![256, 128] slices_S512x256_o256_128_S128x128 (denTile (s6 i arg3 harg3 arg6 harg6 arg7 harg7 arg8 harg8 x1 x4 x5 x6) (v6 i arg2 harg2 x0)) (ldMain arg3 harg3 x1 5120 768 (by decide) (by decide))
/-- Head 7's gated output. -/
def h7 : FVec F S128x128 .bf16 := gateTile (valuesAt i arg2 harg2 arg3 harg3 arg6 harg6 arg7 harg7 arg8 harg8 x0 x1 x4 x5 x6) ![384, 128] slices_S512x256_o384_128_S128x128 (denTile (s7 i arg3 harg3 arg6 harg6 arg7 harg7 arg8 harg8 x1 x4 x5 x6) (v7 i arg2 harg2 x0)) (ldMain arg3 harg3 x1 5120 896 (by decide) (by decide))

/-- The convolution's column block 0. -/
def c0 : FVec F S128x128 .bf16 := convAt i arg3 harg3 arg4 harg4 arg5 harg5 arg9 harg9 x1 x2 x3 x7 0 (by decide) (by decide) (by decide) (by decide) (by decide) (by decide)
/-- The convolution's column block 1. -/
def c1 : FVec F S128x128 .bf16 := convAt i arg3 harg3 arg4 harg4 arg5 harg5 arg9 harg9 x1 x2 x3 x7 128 (by decide) (by decide) (by decide) (by decide) (by decide) (by decide)
/-- The convolution's column block 2. -/
def c2 : FVec F S128x128 .bf16 := convAt i arg3 harg3 arg4 harg4 arg5 harg5 arg9 harg9 x1 x2 x3 x7 256 (by decide) (by decide) (by decide) (by decide) (by decide) (by decide)
/-- The convolution's column block 3. -/
def c3 : FVec F S128x128 .bf16 := convAt i arg3 harg3 arg4 harg4 arg5 harg5 arg9 harg9 x1 x2 x3 x7 384 (by decide) (by decide) (by decide) (by decide) (by decide) (by decide)
/-- The convolution's column block 4. -/
def c4 : FVec F S128x128 .bf16 := convAt i arg3 harg3 arg4 harg4 arg5 harg5 arg9 harg9 x1 x2 x3 x7 512 (by decide) (by decide) (by decide) (by decide) (by decide) (by decide)
/-- The convolution's column block 5. -/
def c5 : FVec F S128x128 .bf16 := convAt i arg3 harg3 arg4 harg4 arg5 harg5 arg9 harg9 x1 x2 x3 x7 640 (by decide) (by decide) (by decide) (by decide) (by decide) (by decide)
/-- The convolution's column block 6. -/
def c6 : FVec F S128x128 .bf16 := convAt i arg3 harg3 arg4 harg4 arg5 harg5 arg9 harg9 x1 x2 x3 x7 768 (by decide) (by decide) (by decide) (by decide) (by decide) (by decide)
/-- The convolution's column block 7. -/
def c7 : FVec F S128x128 .bf16 := convAt i arg3 harg3 arg4 harg4 arg5 harg5 arg9 harg9 x1 x2 x3 x7 896 (by decide) (by decide) (by decide) (by decide) (by decide) (by decide)

/-- What the body leaves in the output's buffer: what it found there with sixteen blocks written over it. -/
theorem kernelRun_val : (kernelRun c i arg2 harg2 arg3 harg3 arg4 harg4 arg5 harg5 arg6 harg6 arg7 harg7 arg8 harg8 arg9 harg9 arg10 harg10 x0 x1 x2 x3 x4 x5 x6 x7 x8).1
    = View.read (Elt F) arg10.view (arg10.view.writes (Elt F) (harg10.unread x8)
      [⟨Rect.unit (s := S128x4096) (k0_off1 i 2944#32) S128x128.size (k0_off1_inb i 15), h7 i arg2 harg2 arg3 harg3 arg6 harg6 arg7 harg7 arg8 harg8 x0 x1 x4 x5 x6⟩,
       ⟨Rect.unit (s := S128x4096) (k0_off1 i 2816#32) S128x128.size (k0_off1_inb i 14), h6 i arg2 harg2 arg3 harg3 arg6 harg6 arg7 harg7 arg8 harg8 x0 x1 x4 x5 x6⟩,
       ⟨Rect.unit (s := S128x4096) (k0_off1 i 2688#32) S128x128.size (k0_off1_inb i 13), h5 i arg2 harg2 arg3 harg3 arg6 harg6 arg7 harg7 arg8 harg8 x0 x1 x4 x5 x6⟩,
       ⟨Rect.unit (s := S128x4096) (k0_off1 i 2560#32) S128x128.size (k0_off1_inb i 12), h4 i arg2 harg2 arg3 harg3 arg6 harg6 arg7 harg7 arg8 harg8 x0 x1 x4 x5 x6⟩,
       ⟨Rect.unit (s := S128x4096) (k0_off1 i 2432#32) S128x128.size (k0_off1_inb i 11), h3 i arg2 harg2 arg3 harg3 arg6 harg6 arg7 harg7 arg8 harg8 x0 x1 x4 x5 x6⟩,
       ⟨Rect.unit (s := S128x4096) (k0_off1 i 2304#32) S128x128.size (k0_off1_inb i 10), h2 i arg2 harg2 arg3 harg3 arg6 harg6 arg7 harg7 arg8 harg8 x0 x1 x4 x5 x6⟩,
       ⟨Rect.unit (s := S128x4096) (k0_off1 i 2176#32) S128x128.size (k0_off1_inb i 9), h1 i arg2 harg2 arg3 harg3 arg6 harg6 arg7 harg7 arg8 harg8 x0 x1 x4 x5 x6⟩,
       ⟨Rect.unit (s := S128x4096) (k0_off1 i 2048#32) S128x128.size (k0_off1_inb i 8), h0 i arg2 harg2 arg3 harg3 arg6 harg6 arg7 harg7 arg8 harg8 x0 x1 x4 x5 x6⟩,
       ⟨Rect.unit (s := S128x4096) (k0_off1 i 896#32) S128x128.size (k0_off1_inb i 7), c7 i arg3 harg3 arg4 harg4 arg5 harg5 arg9 harg9 x1 x2 x3 x7⟩,
       ⟨Rect.unit (s := S128x4096) (k0_off1 i 768#32) S128x128.size (k0_off1_inb i 6), c6 i arg3 harg3 arg4 harg4 arg5 harg5 arg9 harg9 x1 x2 x3 x7⟩,
       ⟨Rect.unit (s := S128x4096) (k0_off1 i 640#32) S128x128.size (k0_off1_inb i 5), c5 i arg3 harg3 arg4 harg4 arg5 harg5 arg9 harg9 x1 x2 x3 x7⟩,
       ⟨Rect.unit (s := S128x4096) (k0_off1 i 512#32) S128x128.size (k0_off1_inb i 4), c4 i arg3 harg3 arg4 harg4 arg5 harg5 arg9 harg9 x1 x2 x3 x7⟩,
       ⟨Rect.unit (s := S128x4096) (k0_off1 i 384#32) S128x128.size (k0_off1_inb i 3), c3 i arg3 harg3 arg4 harg4 arg5 harg5 arg9 harg9 x1 x2 x3 x7⟩,
       ⟨Rect.unit (s := S128x4096) (k0_off1 i 256#32) S128x128.size (k0_off1_inb i 2), c2 i arg3 harg3 arg4 harg4 arg5 harg5 arg9 harg9 x1 x2 x3 x7⟩,
       ⟨Rect.unit (s := S128x4096) (k0_off1 i 128#32) S128x128.size (k0_off1_inb i 1), c1 i arg3 harg3 arg4 harg4 arg5 harg5 arg9 harg9 x1 x2 x3 x7⟩,
       ⟨Rect.unit (s := S128x4096) (k0_off1 i 0#32) S128x128.size (k0_off1_inb i 0), c0 i arg3 harg3 arg4 harg4 arg5 harg5 arg9 harg9 x1 x2 x3 x7⟩]) := rfl

end Cert.KernelIdeal.Mix

end
-- ==== Proof.Mix.Point.lean ====
/- What each block that the mixers call stores holds, element by element, over the extended reals. -/
module

public import proofs.«01_k».proof.Proof.Mix.Tiles
public import Idealize.ShloMosaic.Lib.Pointwise
public import Idealize.ShloMosaic.Lib.WholeRead
public import Idealize.ShloMosaic.Lib.WritesUnit

@[expose] public section

set_option maxRecDepth 16384

noncomputable section

namespace Cert.KernelIdeal.Mix

open Cert.KernelIdeal Cert.KernelIdeal.Gen
open Idealize.ShloMosaic Idealize.ShloMosaic.TcCoe

/-- A load of a square block read at an element. -/
theorem ldMain_apply (M : Memref sig .tc .vmem S128x6144 .bf16) (hM : M.IsWhole) (x : Vec Ideal S128x6144 .bf16) (a b : ℕ) (ha hb)
    (r l : Fin 128) (col : Fin 6144) (hc : col.val = a + b + l.val) : ldMain M hM x a b ha hb (ix2 r l) = x (ix2 r col) := by
  refine (hM.readAt_unread x _ _).trans (congrArg x (funext fun k => Fin.ext ?_))
  match k with
  | 0 => show (0 + 0) + 1 * r.val = r.val; omega
  | 1 => show (a + b) + 1 * l.val = col.val; omega

/-- A load of a neighbouring row read at a column. -/
theorem ldHalo_apply (M : Memref sig .tc .vmem S16x6144 .bf16) (hM : M.IsWhole) (x : Vec Ideal S16x6144 .bf16) (a r b : ℕ) (ha hb)
    (l : Fin 128) (row : Fin 16) (hr : row.val = r) (col : Fin 6144) (hc : col.val = a + b + l.val) :
    ldHalo M hM x a r b ha hb (ix2 0 l) = x (ix2 row col) := by
  refine (hM.readAt_unread x _ _).trans (congrArg x (funext fun k => Fin.ext ?_))
  match k with
  | 0 => show (0 + r) + 1 * 0 = row.val; omega
  | 1 => show (a + b) + 1 * l.val = col.val; omega

/-- A load of a tap read at a column. -/
theorem ldTap_apply (M : Memref sig .tc .vmem S3x1024 .f32) (hM : M.IsWhole) (x : Vec Ideal S3x1024 .f32) (r b : ℕ) (hb)
    (l : Fin 128) (row : Fin 3) (hr : row.val = r) (col : Fin 1024) (hc : col.val = b + l.val) :
    ldTap M hM x r b hb (ix2 0 l) = x (ix2 row col) := by
  refine (hM.readAt_unread x _ _).trans (congrArg x (funext fun k => Fin.ext ?_))
  match k with
  | 0 => show r + 1 * 0 = row.val; omega
  | 1 => show b + 1 * l.val = col.val; omega

/-- A load of a block of keys or values read at an element. -/
theorem ldKv_apply (M : Memref sig .tc .vmem S128x1024 .bf16) (hM : M.IsWhole) (x : Vec Ideal S128x1024 .bf16) (off : Fin 2 → ℕ)
    (a b : ℕ) (ho : off = ![0, a]) (ha hb) (r l : Fin 128) (col : Fin 1024) (hc : col.val = a + b + l.val) :
    ldKv M hM x off b ha hb (ix2 r l) = x (ix2 r col) := by
  subst ho
  refine (hM.readAt_unread x _ _).trans (congrArg x (funext fun k => Fin.ext ?_))
  match k with
  | 0 => show (0 + 0) + 1 * r.val = r.val; omega
  | 1 => show (a + b) + 1 * l.val = col.val; omega

/-- The load of a sink logit. -/
theorem ldSink_apply (M : Memref sig .tc .smem S16 .f32) (hM : M.IsWhole) (x : Vec Ideal S16 .f32) (off : Fin 1 → ℕ)
    (a : Fin 16) (ho : off = ![a.val]) (ha) : ldSink M hM x off ha = x (ix1 a) := by
  subst ho
  refine (hM.readAt_unread x _ _).trans (congrArg x (funext fun k => Fin.ext ?_))
  match k with
  | 0 => show a.val + 1 * 0 = a.val; omega

/-- The stacked scores at a head's row and a key of its band: the head's queries against its own key head. -/
theorem scoresTile_apply (q : Fin 8 → Vec Ideal S128x128 .bf16) (k : Fin 2 → Fin 3 → Vec Ideal S128x128 .bf16) (j : Fin 8)
    (r : Fin 128) (t : Fin 384) (R : Fin 512) (T : Fin 768) (hR : R.val = 128 * (j.val % 4) + r.val)
    (hT : T.val = 384 * (j.val / 4) + t.val) :
    scoresTile (q 0) (q 1) (q 2) (q 3) (q 4) (q 5) (q 6) (q 7) (k 0 0) (k 0 1) (k 0 2) (k 1 0) (k 1 1) (k 1 2) (ix2 R T)
      = ∑ x : Fin 128, q j (ix2 r x) * k ⟨j.val / 4, by omega⟩ ⟨t.val / 128, by omega⟩ (ix2 ⟨t.val % 128, by omega⟩ x) := by
  obtain ⟨R, hR'⟩ := R
  obtain ⟨T, hT'⟩ := T
  simp only at hR hT
  pointwise [scoresTile, k0_pay49, k0_pay45, k0_pay46, k0_pay47, k0_pay48]
  have ht : t.val / 128 = 0 ∨ t.val / 128 = 1 ∨ t.val / 128 = 2 := by omega
  fin_cases j <;> simp only [Nat.reduceMod, Nat.reduceDiv, Nat.reduceMul, zero_add, Fin.mk_zero, Fin.zero_eta, Fin.mk_one, Fin.reduceFinMk] at hR hT ⊢ <;> subst hR <;> subst hT <;>
  rcases ht with h | h | h <;>
  simp (disch := omega) only [dif_pos, dif_neg, if_pos, if_neg, mul_zero, Finset.sum_const_zero, add_zero, zero_add] <;>
  refine Finset.sum_congr rfl fun x _ => ?_ <;>
  simp only [h] <;>
  (congr 3 <;> first | rfl | (apply Fin.ext; simp <;> omega))

/-- A sum over two halves of which one is zero. -/
theorem sum_half (f : Fin 768 → EReal) (g : Fin 384 → EReal) (k : ℕ) (hk : k < 2)
    (h : ∀ t : Fin 384, f ⟨384 * k + t.val, by omega⟩ = g t) (h0 : ∀ t : Fin 384, f ⟨384 * (1 - k) + t.val, by omega⟩ = 0) :
    ∑ x, f x = ∑ t, g t := by
  have e : ∑ x, f x = ∑ t : Fin 384, f ⟨t.val, by omega⟩ + ∑ t : Fin 384, f ⟨384 + t.val, by omega⟩ := by
    have := Fin.sum_univ_add (a := 384) (b := 384) f
    exact this
  rw [e]
  obtain rfl | rfl : k = 0 ∨ k = 1 := by omega
  · rw [Finset.sum_congr rfl fun t _ => (congrArg f (Fin.ext (by simp))).trans (h t),
      Finset.sum_congr rfl fun t _ => (congrArg f (Fin.ext (by simp))).trans (h0 t), Finset.sum_const_zero, add_zero]
  · rw [Finset.sum_congr rfl fun t _ => (congrArg f (Fin.ext (by simp))).trans (h0 t),
      Finset.sum_congr rfl fun t _ => (congrArg f (Fin.ext (by simp))).trans (h t), Finset.sum_const_zero, zero_add]

set_option maxHeartbeats 2000000 in
/-- The weighted values at a head's row and a column of its value head. -/
theorem valuesTile_apply (p : Fin 8 → FVec Ideal S128x384 .bf16) (v : Fin 2 → Fin 3 → Vec Ideal S128x128 .bf16) (j : Fin 8)
    (r l : Fin 128) (R : Fin 512) (C : Fin 256) (hR : R.val = 128 * (j.val % 4) + r.val)
    (hC : C.val = 128 * (j.val / 4) + l.val) :
    valuesTile (p 0) (p 1) (p 2) (p 3) (p 4) (p 5) (p 6) (p 7) (v 0 0) (v 0 1) (v 0 2) (v 1 0) (v 1 1) (v 1 2) (ix2 R C)
      = ∑ t : Fin 384, p j (ix2 r t) * v ⟨j.val / 4, by omega⟩ ⟨t.val / 128, by omega⟩ (ix2 ⟨t.val % 128, by omega⟩ l) := by
  obtain ⟨R, hR'⟩ := R
  obtain ⟨C, hC'⟩ := C
  simp only at hR hC
  pointwise [valuesTile, k0_pay110, k0_pay111, k0_pay112]
  refine sum_half _ _ (j.val / 4) (by omega) (fun t => ?_) (fun t => ?_)
  · have ht : t.val / 128 = 0 ∨ t.val / 128 = 1 ∨ t.val / 128 = 2 := by omega
    fin_cases j <;> simp only [Nat.reduceMod, Nat.reduceDiv, Nat.reduceMul, zero_add, Fin.mk_zero, Fin.zero_eta, Fin.mk_one, Fin.reduceFinMk] at hR hC ⊢ <;> subst hR <;> subst hC <;>
    rcases ht with h | h | h <;>
    simp (disch := omega) only [dif_pos, dif_neg, if_pos, if_neg] <;>
    simp only [h] <;>
    (congr 3 <;> first | rfl | (apply Fin.ext; simp <;> omega) | (congr 1 <;> first | rfl | (apply Fin.ext; simp <;> omega)))
  · fin_cases j <;> simp only [Nat.reduceMod, Nat.reduceDiv, Nat.reduceMul, Nat.reduceSub, zero_add, Fin.mk_zero, Fin.zero_eta, Fin.mk_one, Fin.reduceFinMk] at hR hC ⊢ <;> subst hR <;> subst hC <;>
    simp (disch := omega) only [dif_pos, dif_neg, if_pos, if_neg, mul_zero]

/-- An entry of a band of keys or values: the previous block, the block itself, the next block. -/
def band (x4 x5 x6 : Vec Ideal S128x1024 .bf16) (t : Fin 384) (col : Fin 1024) : EReal :=
  (![x4, x5, x6] : Fin 3 → Vec Ideal S128x1024 .bf16) ⟨t.val / 128, by omega⟩ (ix2 ⟨t.val % 128, by omega⟩ col)

/-- The factor of each of a half's eight slopes. -/
def slopeW : Fin 8 → Ideal .f32 :=
  ![Named.named κ "slope1" 0x3F3504F3#32, Scalar.ofBits .f32 0x3F000000#32, Named.named κ "slope3" 0x3EB504F3#32, Scalar.ofBits .f32 0x3E800000#32,
    Named.named κ "slope5" 0x3E3504F3#32, Scalar.ofBits .f32 0x3E000000#32, Named.named κ "slope7" 0x3DB504F3#32, Scalar.ofBits .f32 0x3D800000#32]

/-- A head's masked score of a key of the band, in base two. -/
def scoreS (i : grid0.Coords) (x1 : Vec Ideal S128x6144 .bf16) (x4 x5 x6 : Vec Ideal S128x1024 .bf16) (j : Fin 8) (r : Fin 128) (t : Fin 384) : EReal :=
  Scalar.select (maskTile i (ix2 r t))
    ((∑ d : Fin 128, x1 (ix2 r ⟨4096 + 128 * j.val + d.val, by omega⟩)
        * band x4 x5 x6 t ⟨256 * (i 1).val + 128 * (j.val / 4) + d.val, by have : (i 1).val < 2 := (i 1).isLt; omega⟩)
        * (Named.named κ "scale_log2_e" 0x3E0293EE#32 : Ideal .f32)
      + distTile (F := Ideal) (ix2 r t) * (halfWord (F := Ideal) (BitVec.ofNat 32 (i 1).val) * slopeW j))
    (Named.named κ "mask" 0xF149F2CA#32 : Ideal .f32)

/-- The largest of a row's scores and the sink. -/
def topS (f : Fin 384 → EReal) (v : EReal) : EReal :=
  max (Finset.univ.fold max (Ideal.ofBits .f32 0xFF800000#32) f) (v * (Named.named κ "log2_e" 0x3FB8AA3B#32 : Ideal .f32))

/-- A row's denominator, the sink included. -/
def denS (f : Fin 384 → EReal) (v : EReal) : EReal :=
  ∑ t, FloatOps.exp2 (F := Ideal) (φ := .f32) (f t - topS f v)
    + FloatOps.exp2 (F := Ideal) (φ := .f32) (v * (Named.named κ "log2_e" 0x3FB8AA3B#32 : Ideal .f32) - topS f v)

/-- A head's gated output at a row and a column. -/
def attnS (i : grid0.Coords) (x0 : Vec Ideal S16 .f32) (x1 : Vec Ideal S128x6144 .bf16) (x4 x5 x6 : Vec Ideal S128x1024 .bf16)
    (j : Fin 8) (r l : Fin 128) : EReal :=
  Ideal.div (∑ t, FloatOps.exp2 (F := Ideal) (φ := .f32) (scoreS i x1 x4 x5 x6 j r t
          - topS (scoreS i x1 x4 x5 x6 j r) (x0 (ix1 ⟨8 * (i 1).val + j.val, by have : (i 1).val < 2 := (i 1).isLt; omega⟩)))
        * band x4 x5 x6 t ⟨256 * (i 1).val + 512 + 128 * (j.val / 4) + l.val, by have : (i 1).val < 2 := (i 1).isLt; omega⟩)
      (denS (scoreS i x1 x4 x5 x6 j r) (x0 (ix1 ⟨8 * (i 1).val + j.val, by have : (i 1).val < 2 := (i 1).isLt; omega⟩)))
    * Ideal.div (x1 (ix2 r ⟨5120 + 128 * j.val + l.val, by omega⟩))
        (1 + Ideal.exp (0 - x1 (ix2 r ⟨5120 + 128 * j.val + l.val, by omega⟩)))

/-- The gated short convolution at a row and a column of the half. -/
def convS (i : grid0.Coords) (x1 : Vec Ideal S128x6144 .bf16) (x2 x3 : Vec Ideal S16x6144 .bf16) (x7 : Vec Ideal S3x1024 .f32)
    (r : Fin 128) (k : Fin 1024) : EReal :=
  x1 (ix2 r ⟨k.val, by omega⟩)
      * (Scalar.select (IntOp.cmpi .eq (BitVec.ofNat 32 r.val) 0#32)
            (Scalar.select (Scalar.cmpi .sgt (BitVec.ofNat 32 (i 0).val) 0#32)
              (x2 (ix2 15 ⟨1024 + k.val, by omega⟩) * x2 (ix2 15 ⟨2048 + k.val, by omega⟩)) 0)
            (x1 (ix2 ⟨(r.val + 128 - 1) % 128, by omega⟩ ⟨1024 + k.val, by omega⟩) * x1 (ix2 ⟨(r.val + 128 - 1) % 128, by omega⟩ ⟨2048 + k.val, by omega⟩))
          * x7 (ix2 0 k)
        + x1 (ix2 r ⟨1024 + k.val, by omega⟩) * x1 (ix2 r ⟨2048 + k.val, by omega⟩) * x7 (ix2 1 k)
        + Scalar.select (IntOp.cmpi .eq (BitVec.ofNat 32 r.val) 127#32)
            (Scalar.select (Scalar.cmpi .slt (BitVec.ofNat 32 (i 0).val) 63#32)
              (x3 (ix2 0 ⟨1024 + k.val, by omega⟩) * x3 (ix2 0 ⟨2048 + k.val, by omega⟩)) 0)
            (x1 (ix2 ⟨(r.val + 128 - 127) % 128, by omega⟩ ⟨1024 + k.val, by omega⟩) * x1 (ix2 ⟨(r.val + 128 - 127) % 128, by omega⟩ ⟨2048 + k.val, by omega⟩))
          * x7 (ix2 2 k))
    * Ideal.div (x1 (ix2 r ⟨3072 + k.val, by omega⟩)) (1 + Ideal.exp (0 - x1 (ix2 r ⟨3072 + k.val, by omega⟩)))

variable (c : Dev nD) (i : grid0.Coords) (arg2 : Memref sig .tc .smem S16 .f32) (harg2 : arg2.IsWhole) (arg3 : Memref sig .tc .vmem S128x6144 .bf16) (harg3 : arg3.IsWhole) (arg4 : Memref sig .tc .vmem S16x6144 .bf16) (harg4 : arg4.IsWhole) (arg5 : Memref sig .tc .vmem S16x6144 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S3x1024 .f32) (harg9 : arg9.IsWhole) (arg10 : Memref sig .tc .vmem S128x4096 .bf16) (harg10 : arg10.IsWhole)
    (x0 : Vec Ideal S16 .f32) (x1 : Vec Ideal S128x6144 .bf16) (x2 : Vec Ideal S16x6144 .bf16) (x3 : Vec Ideal S16x6144 .bf16) (x4 : Vec Ideal S128x1024 .bf16) (x5 : Vec Ideal S128x1024 .bf16) (x6 : Vec Ideal S128x1024 .bf16) (x7 : Vec Ideal S3x1024 .f32) (x8 : Vec Ideal S128x4096 .bf16)

/-- A column block of the convolution read at an element. -/
theorem convAt_apply (b : ℕ) (hb h15 h00 h0 h1 h2) (r l : Fin 128) (k : Fin 1024) (hk : k.val = b + l.val) :
    convAt i arg3 harg3 arg4 harg4 arg5 harg5 arg9 harg9 x1 x2 x3 x7 b hb h15 h00 h0 h1 h2 (ix2 r l) = convS i x1 x2 x3 x7 r k := by
  unfold convAt
  pointwise [convTile, k0_pay5, k0_pay4, k0_pay3, k0_pay2, k0_pay1]
  rw [ldMain_apply arg3 harg3 x1 1024 b _ _ r l ⟨1024 + k.val, by omega⟩ (by simp only; omega),
    ldMain_apply arg3 harg3 x1 2048 b _ _ r l ⟨2048 + k.val, by omega⟩ (by simp only; omega),
    ldMain_apply arg3 harg3 x1 0 b _ _ r l ⟨k.val, by omega⟩ (by simp only; omega),
    ldMain_apply arg3 harg3 x1 3072 b _ _ r l ⟨3072 + k.val, by omega⟩ (by simp only; omega),
    ldMain_apply arg3 harg3 x1 1024 b _ _ ⟨(r.val + 128 - 1) % 128, by omega⟩ l ⟨1024 + k.val, by omega⟩ (by simp only; omega),
    ldMain_apply arg3 harg3 x1 2048 b _ _ ⟨(r.val + 128 - 1) % 128, by omega⟩ l ⟨2048 + k.val, by omega⟩ (by simp only; omega),
    ldMain_apply arg3 harg3 x1 1024 b _ _ ⟨(r.val + 128 - 127) % 128, by omega⟩ l ⟨1024 + k.val, by omega⟩ (by simp only; omega),
    ldMain_apply arg3 harg3 x1 2048 b _ _ ⟨(r.val + 128 - 127) % 128, by omega⟩ l ⟨2048 + k.val, by omega⟩ (by simp only; omega),
    ldHalo_apply arg4 harg4 x2 1024 15 b _ _ l 15 rfl ⟨1024 + k.val, by omega⟩ (by simp only; omega),
    ldHalo_apply arg4 harg4 x2 2048 15 b _ _ l 15 rfl ⟨2048 + k.val, by omega⟩ (by simp only; omega),
    ldHalo_apply arg5 harg5 x3 1024 0 b _ _ l 0 rfl ⟨1024 + k.val, by omega⟩ (by simp only; omega),
    ldHalo_apply arg5 harg5 x3 2048 0 b _ _ l 0 rfl ⟨2048 + k.val, by omega⟩ (by simp only; omega),
    ldTap_apply arg9 harg9 x7 0 b _ l 0 rfl k hk, ldTap_apply arg9 harg9 x7 1 b _ l 1 rfl k hk, ldTap_apply arg9 harg9 x7 2 b _ l 2 rfl k hk]
  rfl

/-- The half's scores at a head's row and a key. -/
theorem scoresAt_apply (j : Fin 8) (r : Fin 128) (t : Fin 384) (R : Fin 512) (T : Fin 768) (hR : R.val = 128 * (j.val % 4) + r.val)
    (hT : T.val = 384 * (j.val / 4) + t.val) :
    scoresAt i arg3 harg3 arg6 harg6 arg7 harg7 arg8 harg8 x1 x4 x5 x6 (ix2 R T)
      = ∑ d : Fin 128, x1 (ix2 r ⟨4096 + 128 * j.val + d.val, by omega⟩)
        * band x4 x5 x6 t ⟨256 * (i 1).val + 128 * (j.val / 4) + d.val, by have : (i 1).val < 2 := (i 1).isLt; omega⟩ := by
  have hi : (i 1).val < 2 := (i 1).isLt
  have hm : ∀ j : Fin 8, ∀ k, (![0, 128 * j.val] : Fin 2 → ℕ) k + S128x128.size k ≤ S128x1024.size k := by decide
  have hv : ∀ g : Fin 2, ∀ k, (![0, 128 * g.val] : Fin 2 → ℕ) k + S128x128.size k ≤ S128x256.size k := by decide
  refine (scoresTile_apply (fun j => ldMain arg3 harg3 x1 4096 (128 * j.val) (by decide) (hm j))
    (fun g => ![ldKv arg6 harg6 x4 (k0_off2 i) (128 * g.val) (k0_off2_inb i) (hv g), ldKv arg7 harg7 x5 (k0_off2 i) (128 * g.val) (k0_off2_inb i) (hv g),
      ldKv arg8 harg8 x6 (k0_off2 i) (128 * g.val) (k0_off2_inb i) (hv g)]) j r t R T hR hT).trans ?_
  refine Finset.sum_congr rfl fun d _ => ?_
  rw [ldMain_apply arg3 harg3 x1 4096 _ _ _ r d ⟨4096 + 128 * j.val + d.val, by omega⟩ rfl]
  congr 1
  unfold band
  have ht : t.val / 128 = 0 ∨ t.val / 128 = 1 ∨ t.val / 128 = 2 := by omega
  rcases ht with h | h | h <;> simp only [h]
  · exact ldKv_apply arg6 harg6 x4 _ _ _ (k0_off2_eq i) _ _ _ _ _ rfl
  · exact ldKv_apply arg7 harg7 x5 _ _ _ (k0_off2_eq i) _ _ _ _ _ rfl
  · exact ldKv_apply arg8 harg8 x6 _ _ _ (k0_off2_eq i) _ _ _ _ _ rfl

/-- A head's masked scores, named by the head. -/
def sF (j : Fin 8) : FVec Ideal S128x384 .f32 :=
  (![s0 i arg3 harg3 arg6 harg6 arg7 harg7 arg8 harg8 x1 x4 x5 x6, s1 i arg3 harg3 arg6 harg6 arg7 harg7 arg8 harg8 x1 x4 x5 x6,
    s2 i arg3 harg3 arg6 harg6 arg7 harg7 arg8 harg8 x1 x4 x5 x6, s3 i arg3 harg3 arg6 harg6 arg7 harg7 arg8 harg8 x1 x4 x5 x6,
    s4 i arg3 harg3 arg6 harg6 arg7 harg7 arg8 harg8 x1 x4 x5 x6, s5 i arg3 harg3 arg6 harg6 arg7 harg7 arg8 harg8 x1 x4 x5 x6,
    s6 i arg3 harg3 arg6 harg6 arg7 harg7 arg8 harg8 x1 x4 x5 x6, s7 i arg3 harg3 arg6 harg6 arg7 harg7 arg8 harg8 x1 x4 x5 x6] : Fin 8 → FVec Ideal S128x384 .f32) j

/-- A head's sink logit, named by the head. -/
def vF (j : Fin 8) : Ideal .f32 :=
  (![v0 i arg2 harg2 x0, v1 i arg2 harg2 x0, v2 i arg2 harg2 x0, v3 i arg2 harg2 x0, v4 i arg2 harg2 x0, v5 i arg2 harg2 x0, v6 i arg2 harg2 x0,
    v7 i arg2 harg2 x0] : Fin 8 → Ideal .f32) j

/-- A head's gated output, named by the head. -/
def hF (j : Fin 8) : FVec Ideal S128x128 .bf16 :=
  (![h0 i arg2 harg2 arg3 harg3 arg6 harg6 arg7 harg7 arg8 harg8 x0 x1 x4 x5 x6, h1 i arg2 harg2 arg3 harg3 arg6 harg6 arg7 harg7 arg8 harg8 x0 x1 x4 x5 x6,
    h2 i arg2 harg2 arg3 harg3 arg6 harg6 arg7 harg7 arg8 harg8 x0 x1 x4 x5 x6, h3 i arg2 harg2 arg3 harg3 arg6 harg6 arg7 harg7 arg8 harg8 x0 x1 x4 x5 x6,
    h4 i arg2 harg2 arg3 harg3 arg6 harg6 arg7 harg7 arg8 harg8 x0 x1 x4 x5 x6, h5 i arg2 harg2 arg3 harg3 arg6 harg6 arg7 harg7 arg8 harg8 x0 x1 x4 x5 x6,
    h6 i arg2 harg2 arg3 harg3 arg6 harg6 arg7 harg7 arg8 harg8 x0 x1 x4 x5 x6, h7 i arg2 harg2 arg3 harg3 arg6 harg6 arg7 harg7 arg8 harg8 x0 x1 x4 x5 x6] : Fin 8 → FVec Ideal S128x128 .bf16) j

/-- The masked scores of one head read at an element. -/
theorem scoreTile_apply (a1 : BitVec 32) (sc : FVec Ideal S512x768 .f32) (mk : IVec S128x384 1) (ds : FVec Ideal S128x384 .f32) (a b : ℕ)
    (h : S512x768.Slices ![a, b] S128x384) (sl : Ideal .f32) (r : Fin 128) (t : Fin 384) (R : Fin 512) (T : Fin 768) (hR : R.val = a + r.val) (hT : T.val = b + t.val) :
    scoreTile a1 sc mk ds ![a, b] h sl (ix2 r t)
      = Scalar.select (mk (ix2 r t)) (sc (ix2 R T) * (Named.named κ "scale_log2_e" 0x3E0293EE#32 : Ideal .f32)
          + ds (ix2 r t) * (halfWord (F := Ideal) a1 * sl)) (Named.named κ "mask" 0xF149F2CA#32 : Ideal .f32) := by
  obtain ⟨R, hR'⟩ := R
  obtain ⟨T, hT'⟩ := T
  simp only at hR hT
  subst hR hT
  pointwise [scoreTile]

/-- A head's masked scores read at an element. -/
theorem sF_apply (j : Fin 8) (r : Fin 128) (t : Fin 384) :
    sF i arg3 harg3 arg6 harg6 arg7 harg7 arg8 harg8 x1 x4 x5 x6 j (ix2 r t) = scoreS i x1 x4 x5 x6 j r t := by
  have key : ∀ (h : S512x768.Slices ![128 * (j.val % 4), 384 * (j.val / 4)] S128x384),
      scoreAt i arg3 harg3 arg6 harg6 arg7 harg7 arg8 harg8 x1 x4 x5 x6 ![128 * (j.val % 4), 384 * (j.val / 4)] h (slopeW j) (ix2 r t)
        = scoreS i x1 x4 x5 x6 j r t := by
    intro h
    refine (scoreTile_apply _ _ _ _ _ _ h _ r t ⟨128 * (j.val % 4) + r.val, by omega⟩ ⟨384 * (j.val / 4) + t.val, by omega⟩ rfl rfl).trans ?_
    rw [scoresAt_apply i arg3 harg3 arg6 harg6 arg7 harg7 arg8 harg8 x1 x4 x5 x6 j r t _ _ rfl rfl]
    rfl
  fin_cases j <;> exact key _

/-- A head's sink logit is the sink's entry. -/
theorem vF_eq (j : Fin 8) : vF i arg2 harg2 x0 j = x0 (ix1 ⟨8 * (i 1).val + j.val, by have : (i 1).val < 2 := (i 1).isLt; omega⟩) := by
  have key : ∀ ha, ldSink arg2 harg2 x0 (k0_off3 i (BitVec.ofNat 32 j.val)) ha
      = x0 (ix1 ⟨8 * (i 1).val + j.val, by have : (i 1).val < 2 := (i 1).isLt; omega⟩) :=
    fun ha => ldSink_apply arg2 harg2 x0 _ _ (k0_off3_eq i j) ha
  fin_cases j <;> exact key _

/-- A row's weights read at an element. -/
theorem expTile_apply (s : FVec Ideal S128x384 .f32) (v : Ideal .f32) (f : Fin 384 → EReal) (r : Fin 128) (hs : ∀ t, s (ix2 r t) = f t) (t : Fin 384) :
    expTile s v (ix2 r t) = FloatOps.exp2 (F := Ideal) (φ := .f32) (f t - topS f v) := by
  pointwise [expTile, topTile, sinkWord]
  simp only [hs]
  rfl

/-- A row's denominator read at its element. -/
theorem denTile_apply (s : FVec Ideal S128x384 .f32) (v : Ideal .f32) (f : Fin 384 → EReal) (r : Fin 128) (hs : ∀ t, s (ix2 r t) = f t) :
    denTile s v (ix2 r 0) = denS f v := by
  pointwise [denTile, expTile, topTile, sinkWord]
  simp only [hs]
  rfl

/-- A head's gated output read at an element. -/
theorem gateTile_apply (pv : FVec Ideal S512x256 .f32) (a b : ℕ) (h : S512x256.Slices ![a, b] S128x128) (dn : FVec Ideal S128x1 .f32) (z : Vec Ideal S128x128 .bf16)
    (r l : Fin 128) (R : Fin 512) (C : Fin 256) (hR : R.val = a + r.val) (hC : C.val = b + l.val) :
    gateTile pv ![a, b] h dn z (ix2 r l) = Ideal.div (pv (ix2 R C)) (dn (ix2 r 0)) * Ideal.div (z (ix2 r l)) (1 + Ideal.exp (0 - z (ix2 r l))) := by
  obtain ⟨R, hR'⟩ := R
  obtain ⟨C, hC'⟩ := C
  simp only at hR hC
  subst hR hC
  pointwise [gateTile]

/-- The half's weighted values at a head's row and a column. -/
theorem valuesAt_apply (j : Fin 8) (r l : Fin 128) (R : Fin 512) (C : Fin 256) (hR : R.val = 128 * (j.val % 4) + r.val)
    (hC : C.val = 128 * (j.val / 4) + l.val) :
    valuesAt i arg2 harg2 arg3 harg3 arg6 harg6 arg7 harg7 arg8 harg8 x0 x1 x4 x5 x6 (ix2 R C)
      = ∑ t, FloatOps.exp2 (F := Ideal) (φ := .f32) (scoreS i x1 x4 x5 x6 j r t
          - topS (scoreS i x1 x4 x5 x6 j r) (x0 (ix1 ⟨8 * (i 1).val + j.val, by have : (i 1).val < 2 := (i 1).isLt; omega⟩)))
        * band x4 x5 x6 t ⟨256 * (i 1).val + 512 + 128 * (j.val / 4) + l.val, by have : (i 1).val < 2 := (i 1).isLt; omega⟩ := by
  have hi : (i 1).val < 2 := (i 1).isLt
  have hv : ∀ g : Fin 2, ∀ k, (![0, 128 * g.val] : Fin 2 → ℕ) k + S128x128.size k ≤ S128x256.size k := by decide
  refine (valuesTile_apply (fun j => truncf .bf16 (expTile (sF i arg3 harg3 arg6 harg6 arg7 harg7 arg8 harg8 x1 x4 x5 x6 j) (vF i arg2 harg2 x0 j)) bitsLt_bf16_f32)
    (fun g => ![ldKv arg6 harg6 x4 (k0_off4 i) (128 * g.val) (k0_off4_inb i) (hv g), ldKv arg7 harg7 x5 (k0_off4 i) (128 * g.val) (k0_off4_inb i) (hv g),
      ldKv arg8 harg8 x6 (k0_off4 i) (128 * g.val) (k0_off4_inb i) (hv g)]) j r l R C hR hC).trans ?_
  refine Finset.sum_congr rfl fun t _ => ?_
  have e : truncf .bf16 (expTile (sF i arg3 harg3 arg6 harg6 arg7 harg7 arg8 harg8 x1 x4 x5 x6 j) (vF i arg2 harg2 x0 j)) bitsLt_bf16_f32 (ix2 r t)
      = FloatOps.exp2 (F := Ideal) (φ := .f32) (scoreS i x1 x4 x5 x6 j r t
          - topS (scoreS i x1 x4 x5 x6 j r) (x0 (ix1 ⟨8 * (i 1).val + j.val, by omega⟩))) := by
    rw [← vF_eq i arg2 harg2 x0 j]
    exact expTile_apply _ _ (scoreS i x1 x4 x5 x6 j r) r (sF_apply i arg3 harg3 arg6 harg6 arg7 harg7 arg8 harg8 x1 x4 x5 x6 j r) t
  rw [e]
  congr 1
  unfold band
  have ht : t.val / 128 = 0 ∨ t.val / 128 = 1 ∨ t.val / 128 = 2 := by omega
  rcases ht with h | h | h <;> simp only [h]
  · exact ldKv_apply arg6 harg6 x4 _ _ _ (k0_off4_eq i) _ _ _ _ _ rfl
  · exact ldKv_apply arg7 harg7 x5 _ _ _ (k0_off4_eq i) _ _ _ _ _ rfl
  · exact ldKv_apply arg8 harg8 x6 _ _ _ (k0_off4_eq i) _ _ _ _ _ rfl

/-- A head's gated output read at an element. -/
theorem hF_apply (j : Fin 8) (r l : Fin 128) :
    hF i arg2 harg2 arg3 harg3 arg6 harg6 arg7 harg7 arg8 harg8 x0 x1 x4 x5 x6 j (ix2 r l) = attnS i x0 x1 x4 x5 x6 j r l := by
  have key : ∀ (h : S512x256.Slices ![128 * (j.val % 4), 128 * (j.val / 4)] S128x128) (hb),
      gateTile (valuesAt i arg2 harg2 arg3 harg3 arg6 harg6 arg7 harg7 arg8 harg8 x0 x1 x4 x5 x6) ![128 * (j.val % 4), 128 * (j.val / 4)] h
        (denTile (sF i arg3 harg3 arg6 harg6 arg7 harg7 arg8 harg8 x1 x4 x5 x6 j) (vF i arg2 harg2 x0 j))
        (ldMain arg3 harg3 x1 5120 (128 * j.val) (by decide) hb) (ix2 r l) = attnS i x0 x1 x4 x5 x6 j r l := by
    intro h hb
    rw [gateTile_apply _ _ _ h _ _ r l ⟨128 * (j.val % 4) + r.val, by omega⟩ ⟨128 * (j.val / 4) + l.val, by omega⟩ rfl rfl,
      valuesAt_apply i arg2 harg2 arg3 harg3 arg6 harg6 arg7 harg7 arg8 harg8 x0 x1 x4 x5 x6 j r l _ _ rfl rfl,
      denTile_apply _ _ (scoreS i x1 x4 x5 x6 j r) r (sF_apply i arg3 harg3 arg6 harg6 arg7 harg7 arg8 harg8 x1 x4 x5 x6 j r),
      ldMain_apply arg3 harg3 x1 5120 _ _ _ r l ⟨5120 + 128 * j.val + l.val, by omega⟩ rfl, vF_eq]
    rfl
  fin_cases j <;> exact key _ _

end Cert.KernelIdeal.Mix

end
-- ==== Proof.Mix.Block.lean ====
/- What one point of the mixers call leaves in the buffer of its output, element by element. -/
module

public import proofs.«01_k».proof.Proof.Mix.Point

@[expose] public section

set_option maxRecDepth 16384

noncomputable section

namespace Cert.KernelIdeal.Mix

open Cert.KernelIdeal Cert.KernelIdeal.Gen
open Idealize.ShloMosaic Idealize.ShloMosaic.TcCoe

variable (c : Dev nD) (i : grid0.Coords) (arg2 : Memref sig .tc .smem S16 .f32) (harg2 : arg2.IsWhole) (arg3 : Memref sig .tc .vmem S128x6144 .bf16) (harg3 : arg3.IsWhole) (arg4 : Memref sig .tc .vmem S16x6144 .bf16) (harg4 : arg4.IsWhole) (arg5 : Memref sig .tc .vmem S16x6144 .bf16) (harg5 : arg5.IsWhole) (arg6 : Memref sig .tc .vmem S128x1024 .bf16) (harg6 : arg6.IsWhole) (arg7 : Memref sig .tc .vmem S128x1024 .bf16) (harg7 : arg7.IsWhole) (arg8 : Memref sig .tc .vmem S128x1024 .bf16) (harg8 : arg8.IsWhole) (arg9 : Memref sig .tc .vmem S3x1024 .f32) (harg9 : arg9.IsWhole) (arg10 : Memref sig .tc .vmem S128x4096 .bf16) (harg10 : arg10.IsWhole)
    (x0 : Vec Ideal S16 .f32) (x1 : Vec Ideal S128x6144 .bf16) (x2 : Vec Ideal S16x6144 .bf16) (x3 : Vec Ideal S16x6144 .bf16) (x4 : Vec Ideal S128x1024 .bf16) (x5 : Vec Ideal S128x1024 .bf16) (x6 : Vec Ideal S128x1024 .bf16) (x7 : Vec Ideal S3x1024 .f32) (x8 : Vec Ideal S128x4096 .bf16)

/-- The column offset of each of the sixteen blocks within a half. -/
def blockCol (q : Fin 16) : ℕ := if q.val < 8 then 128 * q.val else 2048 + 128 * (q.val - 8)

/-- Where each of the sixteen blocks is stored. -/
theorem off1_eq : ∀ (i : grid0.Coords) (q : Fin 16), k0_off1 i (BitVec.ofNat 32 (blockCol q)) = ![0, 1024 * (i 1).val + blockCol q] := by
  decide +kernel

/-- The convolution's column block, named by its number. -/
def cF (j : Fin 8) : FVec Ideal S128x128 .bf16 :=
  (![c0 i arg3 harg3 arg4 harg4 arg5 harg5 arg9 harg9 x1 x2 x3 x7, c1 i arg3 harg3 arg4 harg4 arg5 harg5 arg9 harg9 x1 x2 x3 x7,
    c2 i arg3 harg3 arg4 harg4 arg5 harg5 arg9 harg9 x1 x2 x3 x7, c3 i arg3 harg3 arg4 harg4 arg5 harg5 arg9 harg9 x1 x2 x3 x7,
    c4 i arg3 harg3 arg4 harg4 arg5 harg5 arg9 harg9 x1 x2 x3 x7, c5 i arg3 harg3 arg4 harg4 arg5 harg5 arg9 harg9 x1 x2 x3 x7,
    c6 i arg3 harg3 arg4 harg4 arg5 harg5 arg9 harg9 x1 x2 x3 x7, c7 i arg3 harg3 arg4 harg4 arg5 harg5 arg9 harg9 x1 x2 x3 x7] : Fin 8 → FVec Ideal S128x128 .bf16) j

/-- A column block of the convolution read at an element. -/
theorem cF_apply (j : Fin 8) (r l : Fin 128) (k : Fin 1024) (hk : k.val = 128 * j.val + l.val) :
    cF i arg3 harg3 arg4 harg4 arg5 harg5 arg9 harg9 x1 x2 x3 x7 j (ix2 r l) = convS i x1 x2 x3 x7 r k := by
  have key : ∀ hb h15 h00 h0 h1 h2, convAt i arg3 harg3 arg4 harg4 arg5 harg5 arg9 harg9 x1 x2 x3 x7 (128 * j.val) hb h15 h00 h0 h1 h2 (ix2 r l)
      = convS i x1 x2 x3 x7 r k :=
    fun hb h15 h00 h0 h1 h2 => convAt_apply i arg3 harg3 arg4 harg4 arg5 harg5 arg9 harg9 x1 x2 x3 x7 _ hb h15 h00 h0 h1 h2 r l k hk
  fin_cases j <;> exact key _ _ _ _ _ _

/-- What is stored at block `q`. -/
def pF (q : Fin 16) : FVec Ideal S128x128 .bf16 :=
  if h : q.val < 8 then cF i arg3 harg3 arg4 harg4 arg5 harg5 arg9 harg9 x1 x2 x3 x7 ⟨q.val, h⟩
  else hF i arg2 harg2 arg3 harg3 arg6 harg6 arg7 harg7 arg8 harg8 x0 x1 x4 x5 x6 ⟨q.val - 8, by omega⟩

/-- A block lies inside the buffer. -/
theorem off1_inb (q : Fin 16) : ∀ k, k0_off1 i (BitVec.ofNat 32 (blockCol q)) k + S128x128.size k ≤ S128x4096.size k := by
  have hi : (i 1).val < 2 := (i 1).isLt
  have hb : blockCol q ≤ 2944 := by unfold blockCol; split <;> omega
  rw [off1_eq]
  intro k
  match k with
  | ⟨0, _⟩ => show 0 + 128 ≤ 128; omega
  | ⟨1, _⟩ => show 1024 * (i 1).val + blockCol q + 128 ≤ 4096; omega

/-- One store of the body. -/
def piece (q : Fin 16) : View.Piece (Elt Ideal) S128x4096 .bf16 :=
  ⟨Rect.unit (s := S128x4096) (k0_off1 i (BitVec.ofNat 32 (blockCol q))) S128x128.size (off1_inb i q),
    pF i arg2 harg2 arg3 harg3 arg4 harg4 arg5 harg5 arg6 harg6 arg7 harg7 arg8 harg8 arg9 harg9 x0 x1 x2 x3 x4 x5 x6 x7 q⟩

/-- The body's result is what it found with the sixteen blocks stored over it. -/
theorem kernelRun_pieces :
    (kernelRun c i arg2 harg2 arg3 harg3 arg4 harg4 arg5 harg5 arg6 harg6 arg7 harg7 arg8 harg8 arg9 harg9 arg10 harg10 x0 x1 x2 x3 x4 x5 x6 x7 x8).1
      = View.read (Elt Ideal) arg10.view (arg10.view.writes (Elt Ideal) (harg10.unread x8)
        (([15, 14, 13, 12, 11, 10, 9, 8, 7, 6, 5, 4, 3, 2, 1, 0] : List (Fin 16)).map
          (piece i arg2 harg2 arg3 harg3 arg4 harg4 arg5 harg5 arg6 harg6 arg7 harg7 arg8 harg8 arg9 harg9 x0 x1 x2 x3 x4 x5 x6 x7))) := by
  rw [kernelRun_val]
  rfl

/-- A block that does not hold the element leaves it. -/
theorem piece_skip (f) (L) (q : Fin 16) (r : Fin 128) (col : Fin 4096)
    (h : col.val < 1024 * (i 1).val + blockCol q ∨ 1024 * (i 1).val + blockCol q + 128 ≤ col.val) :
    View.read (Elt Ideal) arg10.view (arg10.view.writes (Elt Ideal) f
      (piece i arg2 harg2 arg3 harg3 arg4 harg4 arg5 harg5 arg6 harg6 arg7 harg7 arg8 harg8 arg9 harg9 x0 x1 x2 x3 x4 x5 x6 x7 q :: L)) (ix2 r col)
      = View.read (Elt Ideal) arg10.view (arg10.view.writes (Elt Ideal) f L) (ix2 r col) :=
  View.read_writes_cons_unit_of_not_mem _ _ (off1_inb i q) _ L (ix2 r col) (off1_eq i q) 1 h

/-- The body's result at an element of block `q` is what that block stores. -/
theorem kernelRun_at (q : Fin 16) (r l : Fin 128) (col : Fin 4096) (hc : col.val = 1024 * (i 1).val + blockCol q + l.val) :
    (kernelRun c i arg2 harg2 arg3 harg3 arg4 harg4 arg5 harg5 arg6 harg6 arg7 harg7 arg8 harg8 arg9 harg9 arg10 harg10 x0 x1 x2 x3 x4 x5 x6 x7 x8).1 (ix2 r col)
      = pF i arg2 harg2 arg3 harg3 arg4 harg4 arg5 harg5 arg6 harg6 arg7 harg7 arg8 harg8 arg9 harg9 x0 x1 x2 x3 x4 x5 x6 x7 q (ix2 r l) := by
  rw [kernelRun_pieces]
  have key : ∀ L : List (Fin 16), q ∈ L →
      View.read (Elt Ideal) arg10.view (arg10.view.writes (Elt Ideal) (harg10.unread x8)
        (L.map (piece i arg2 harg2 arg3 harg3 arg4 harg4 arg5 harg5 arg6 harg6 arg7 harg7 arg8 harg8 arg9 harg9 x0 x1 x2 x3 x4 x5 x6 x7))) (ix2 r col)
      = pF i arg2 harg2 arg3 harg3 arg4 harg4 arg5 harg5 arg6 harg6 arg7 harg7 arg8 harg8 arg9 harg9 x0 x1 x2 x3 x4 x5 x6 x7 q (ix2 r l) := by
    intro L hq
    induction L with
    | nil => exact absurd hq (by simp)
    | cons q' L ih =>
      rw [List.map_cons]
      by_cases e : q = q'
      · subst e
        exact View.read_writes_cons_unit_of_mem _ _ (off1_inb i q) _ _ (ix2 r col) (ix2 r l) (off1_eq i q) (fun a => by
          match a with
          | ⟨0, _⟩ => show r.val = 0 + r.val; omega
          | ⟨1, _⟩ => exact hc)
      · rw [piece_skip]
        · exact ih ((List.mem_cons.mp hq).resolve_left e)
        · have : q.val ≠ q'.val := fun h => e (Fin.ext h)
          rw [hc]
          unfold blockCol
          split <;> split <;> omega
  exact key _ (by fin_cases q <;> simp)

/-- The body leaves the other half's columns as it found them. -/
theorem kernelRun_off (r : Fin 128) (col : Fin 4096) (hc : col.val / 1024 % 2 ≠ (i 1).val) :
    (kernelRun c i arg2 harg2 arg3 harg3 arg4 harg4 arg5 harg5 arg6 harg6 arg7 harg7 arg8 harg8 arg9 harg9 arg10 harg10 x0 x1 x2 x3 x4 x5 x6 x7 x8).1 (ix2 r col)
      = x8 (ix2 r col) := by
  rw [kernelRun_pieces]
  have hi : (i 1).val < 2 := (i 1).isLt
  have key : ∀ L : List (Fin 16),
      View.read (Elt Ideal) arg10.view (arg10.view.writes (Elt Ideal) (harg10.unread x8)
        (L.map (piece i arg2 harg2 arg3 harg3 arg4 harg4 arg5 harg5 arg6 harg6 arg7 harg7 arg8 harg8 arg9 harg9 x0 x1 x2 x3 x4 x5 x6 x7))) (ix2 r col)
      = x8 (ix2 r col) := by
    intro L
    induction L with
    | nil => exact congrFun (harg10.read_unread x8) (ix2 r col)
    | cons q' L ih =>
      rw [List.map_cons, piece_skip]
      · exact ih
      · unfold blockCol
        split <;> omega
  exact key _

/-- The element of the gated convolution that a point stores. -/
theorem kernelRun_conv (r : Fin 128) (k : Fin 1024) (col : Fin 4096) (hc : col.val = 1024 * (i 1).val + k.val) :
    (kernelRun c i arg2 harg2 arg3 harg3 arg4 harg4 arg5 harg5 arg6 harg6 arg7 harg7 arg8 harg8 arg9 harg9 arg10 harg10 x0 x1 x2 x3 x4 x5 x6 x7 x8).1 (ix2 r col)
      = convS i x1 x2 x3 x7 r k := by
  rw [kernelRun_at c i arg2 harg2 arg3 harg3 arg4 harg4 arg5 harg5 arg6 harg6 arg7 harg7 arg8 harg8 arg9 harg9 arg10 harg10 x0 x1 x2 x3 x4 x5 x6 x7 x8
    ⟨k.val / 128, by omega⟩ r ⟨k.val % 128, by omega⟩ col (by
      have : k.val / 128 < 8 := by omega
      simp only [blockCol, this, if_true]; omega)]
  unfold pF
  rw [dif_pos (show k.val / 128 < 8 by omega)]
  exact cF_apply i arg3 harg3 arg4 harg4 arg5 harg5 arg9 harg9 x1 x2 x3 x7 _ r _ k (by simp only; omega)

/-- The element of the gated attention that a point stores. -/
theorem kernelRun_attn (r : Fin 128) (j : Fin 8) (l : Fin 128) (col : Fin 4096) (hc : col.val = 2048 + 1024 * (i 1).val + 128 * j.val + l.val) :
    (kernelRun c i arg2 harg2 arg3 harg3 arg4 harg4 arg5 harg5 arg6 harg6 arg7 harg7 arg8 harg8 arg9 harg9 arg10 harg10 x0 x1 x2 x3 x4 x5 x6 x7 x8).1 (ix2 r col)
      = attnS i x0 x1 x4 x5 x6 j r l := by
  rw [kernelRun_at c i arg2 harg2 arg3 harg3 arg4 harg4 arg5 harg5 arg6 harg6 arg7 harg7 arg8 harg8 arg9 harg9 arg10 harg10 x0 x1 x2 x3 x4 x5 x6 x7 x8
    ⟨8 + j.val, by omega⟩ r l col (by
      have : ¬ 8 + j.val < 8 := by omega
      simp only [blockCol, this, if_false]; omega)]
  unfold pF
  rw [dif_neg (show ¬ 8 + j.val < 8 by omega)]
  have e : (⟨(⟨8 + j.val, by omega⟩ : Fin 16).val - 8, by simp only; omega⟩ : Fin 8) = j := Fin.ext (by simp)
  rw [← hF_apply i arg2 harg2 arg3 harg3 arg6 harg6 arg7 harg7 arg8 harg8 x0 x1 x4 x5 x6 j r l]
  exact congrArg (fun j => hF i arg2 harg2 arg3 harg3 arg6 harg6 arg7 harg7 arg8 harg8 x0 x1 x4 x5 x6 j (ix2 r l)) e

end Cert.KernelIdeal.Mix

end
-- ==== Proof.Mix.Frame.lean ====
/- The mixers call on the machine: what each window holds at a grid point, the body's obligation there, and the run of
   the whole program. The output's block is written by two grid points, one half each, so that what the body leaves in
   its buffer depends on what it found there: the proof data relate the two. -/
module

public import proofs.«01_k».proof.Proof.Mix.Run
public import Idealize.ShloMosaic.Lib.Pipeline.ArrRel

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The inputs' proof data: every input's buffer keeps its block; of the output nothing is named here. -/
def dat0 (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q w := Pipeline.shareOf spec0 w
  owed _ := 0

/-- The arrays of the proof data are the contents at the region's entry. -/
theorem dat0_A (c : Dev nD) (w : Fin cfg0.W) : (dat0 m c).A w = V m c (Pipeline.arrRef spec0 w) := by
  dsimp only [dat0]

/-- What the body leaves in input window 0: its block. -/
theorem after_0 (c : Dev nD) (t : Fin cfg0.N) : (dat0 m c).after 0 t = iblk m c 0 t := by dsimp only [dat0]
/-- What the body finds in input window 0: its block. -/
theorem before_0 (c : Dev nD) (t : Fin cfg0.N) (d) : (dat0 m c).before 0 t d = iblk m c 0 t :=
  before0_0_of m (dat0 m c) (dat0_A m c 0) (after_0 m c) t d
/-- What the body leaves in input window 1: its block. -/
theorem after_1 (c : Dev nD) (t : Fin cfg0.N) : (dat0 m c).after 1 t = X0_1 m c t := by dsimp only [dat0]
/-- What the body finds in input window 1: its block. -/
theorem before_1 (c : Dev nD) (t : Fin cfg0.N) (d) : (dat0 m c).before 1 t d = X0_1 m c t :=
  before0_1_of m (dat0 m c) (dat0_A m c 1) (after_1 m c) t d
/-- What the body leaves in input window 2: its block. -/
theorem after_2 (c : Dev nD) (t : Fin cfg0.N) : (dat0 m c).after 2 t = X0_2 m c t := by dsimp only [dat0]
/-- What the body finds in input window 2: its block. -/
theorem before_2 (c : Dev nD) (t : Fin cfg0.N) (d) : (dat0 m c).before 2 t d = X0_2 m c t :=
  before0_2_of m (dat0 m c) (dat0_A m c 2) (after_2 m c) t d
/-- What the body leaves in input window 3: its block. -/
theorem after_3 (c : Dev nD) (t : Fin cfg0.N) : (dat0 m c).after 3 t = X0_3 m c t := by dsimp only [dat0]
/-- What the body finds in input window 3: its block. -/
theorem before_3 (c : Dev nD) (t : Fin cfg0.N) (d) : (dat0 m c).before 3 t d = X0_3 m c t :=
  before0_3_of m (dat0 m c) (dat0_A m c 3) (after_3 m c) t d
/-- What the body leaves in input window 4: its block. -/
theorem after_4 (c : Dev nD) (t : Fin cfg0.N) : (dat0 m c).after 4 t = iblk m c 4 t := by dsimp only [dat0]
/-- What the body finds in input window 4: its block. -/
theorem before_4 (c : Dev nD) (t : Fin cfg0.N) (d) : (dat0 m c).before 4 t d = iblk m c 4 t :=
  before0_4_of m (dat0 m c) (dat0_A m c 4) (after_4 m c) t d
/-- What the body leaves in input window 5: its block. -/
theorem after_5 (c : Dev nD) (t : Fin cfg0.N) : (dat0 m c).after 5 t = iblk m c 5 t := by dsimp only [dat0]
/-- What the body finds in input window 5: its block. -/
theorem before_5 (c : Dev nD) (t : Fin cfg0.N) (d) : (dat0 m c).before 5 t d = iblk m c 5 t :=
  before0_5_of m (dat0 m c) (dat0_A m c 5) (after_5 m c) t d
/-- What the body leaves in input window 6: its block. -/
theorem after_6 (c : Dev nD) (t : Fin cfg0.N) : (dat0 m c).after 6 t = iblk m c 6 t := by dsimp only [dat0]
/-- What the body finds in input window 6: its block. -/
theorem before_6 (c : Dev nD) (t : Fin cfg0.N) (d) : (dat0 m c).before 6 t d = iblk m c 6 t :=
  before0_6_of m (dat0 m c) (dat0_A m c 6) (after_6 m c) t d
/-- What the body leaves in input window 7: its block. -/
theorem after_7 (c : Dev nD) (t : Fin cfg0.N) : (dat0 m c).after 7 t = iblk m c 7 t := by dsimp only [dat0]
/-- What the body finds in input window 7: its block. -/
theorem before_7 (c : Dev nD) (t : Fin cfg0.N) (d) : (dat0 m c).before 7 t d = iblk m c 7 t :=
  before0_7_of m (dat0 m c) (dat0_A m c 7) (after_7 m c) t d

/-- What the body leaves in the output's buffer at point `t`, of what it found there. -/
def outv (c : Dev nD) (t : Fin cfg0.N) (Y : Vec F S128x4096 .bf16) : Vec F S128x4096 .bf16 :=
  (kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8))
    (iblk m c 0 t) (X0_1 m c t) (X0_2 m c t) (X0_3 m c t) (iblk m c 4 t) (iblk m c 5 t) (iblk m c 6 t) (iblk m c 7 t) Y).1

/-- The output's relation, in place of the named contents. -/
def outRel (c : Dev nD) (w : Fin cfg0.W) : Option (Fin cfg0.N → (Y X : (cfg0.win w).block.Idx → Elt F (cfg0.win w).elt) → Prop) :=
  match w with
  | ⟨8, _⟩ => some (fun t Y X => X = outv m c t Y)
  | ⟨_, _⟩ => none

/-- The proof data of the call. -/
def rdat (c : Dev nD) : RDat τ (Elt F) Unit ℕ (UR sig nD τ) ℕ cfg0 c := (dat0 m c).toR.override (outRel m c)

/-- The output's relation read off the proof data. -/
theorem rdat_after_8 (c : Dev nD) (t : Fin cfg0.N) (Y X) : (rdat m c).after 8 t Y X ↔ X = outv m c t Y := Iff.rfl

/-- Input window 0: what the body finds. -/
theorem finds_0 (c : Dev nD) (t : Fin cfg0.N) (X) (h : (rdat m c).Finds 0 t X) : X = iblk m c 0 t := by
  obtain ⟨d, rfl⟩ := (dat0 m c).toR_finds 0 t X (((dat0 m c).toR.override_finds (ovr := outRel m c) (w := 0) rfl t X).mp h)
  exact before_0 m c t d
/-- Input window 0: what the body may leave. -/
theorem leaves_0 (c : Dev nD) (t : Fin cfg0.N) (Y) : (rdat m c).after 0 t Y (iblk m c 0 t) :=
  (after_0 m c t).symm
/-- Input window 1: what the body finds. -/
theorem finds_1 (c : Dev nD) (t : Fin cfg0.N) (X) (h : (rdat m c).Finds 1 t X) : X = X0_1 m c t := by
  obtain ⟨d, rfl⟩ := (dat0 m c).toR_finds 1 t X (((dat0 m c).toR.override_finds (ovr := outRel m c) (w := 1) rfl t X).mp h)
  exact before_1 m c t d
/-- Input window 1: what the body may leave. -/
theorem leaves_1 (c : Dev nD) (t : Fin cfg0.N) (Y) : (rdat m c).after 1 t Y (X0_1 m c t) :=
  (show ∃ d, X0_1 m c t = (cfg0.win 1).fill (cfg0.grid.coords t) d ((cfg0.win 1).cut (cfg0.grid.coords t) ((dat0 m c).after 1 t)) from
    ⟨X0_1 m c t, by rw [after_1, Pipeline.Window.fill_cut]⟩)
/-- Input window 2: what the body finds. -/
theorem finds_2 (c : Dev nD) (t : Fin cfg0.N) (X) (h : (rdat m c).Finds 2 t X) : X = X0_2 m c t := by
  obtain ⟨d, rfl⟩ := (dat0 m c).toR_finds 2 t X (((dat0 m c).toR.override_finds (ovr := outRel m c) (w := 2) rfl t X).mp h)
  exact before_2 m c t d
/-- Input window 2: what the body may leave. -/
theorem leaves_2 (c : Dev nD) (t : Fin cfg0.N) (Y) : (rdat m c).after 2 t Y (X0_2 m c t) :=
  (show ∃ d, X0_2 m c t = (cfg0.win 2).fill (cfg0.grid.coords t) d ((cfg0.win 2).cut (cfg0.grid.coords t) ((dat0 m c).after 2 t)) from
    ⟨X0_2 m c t, by rw [after_2, Pipeline.Window.fill_cut]⟩)
/-- Input window 3: what the body finds. -/
theorem finds_3 (c : Dev nD) (t : Fin cfg0.N) (X) (h : (rdat m c).Finds 3 t X) : X = X0_3 m c t := by
  obtain ⟨d, rfl⟩ := (dat0 m c).toR_finds 3 t X (((dat0 m c).toR.override_finds (ovr := outRel m c) (w := 3) rfl t X).mp h)
  exact before_3 m c t d
/-- Input window 3: what the body may leave. -/
theorem leaves_3 (c : Dev nD) (t : Fin cfg0.N) (Y) : (rdat m c).after 3 t Y (X0_3 m c t) :=
  (show ∃ d, X0_3 m c t = (cfg0.win 3).fill (cfg0.grid.coords t) d ((cfg0.win 3).cut (cfg0.grid.coords t) ((dat0 m c).after 3 t)) from
    ⟨X0_3 m c t, by rw [after_3, Pipeline.Window.fill_cut]⟩)
/-- Input window 4: what the body finds. -/
theorem finds_4 (c : Dev nD) (t : Fin cfg0.N) (X) (h : (rdat m c).Finds 4 t X) : X = iblk m c 4 t := by
  obtain ⟨d, rfl⟩ := (dat0 m c).toR_finds 4 t X (((dat0 m c).toR.override_finds (ovr := outRel m c) (w := 4) rfl t X).mp h)
  exact before_4 m c t d
/-- Input window 4: what the body may leave. -/
theorem leaves_4 (c : Dev nD) (t : Fin cfg0.N) (Y) : (rdat m c).after 4 t Y (iblk m c 4 t) :=
  (after_4 m c t).symm
/-- Input window 5: what the body finds. -/
theorem finds_5 (c : Dev nD) (t : Fin cfg0.N) (X) (h : (rdat m c).Finds 5 t X) : X = iblk m c 5 t := by
  obtain ⟨d, rfl⟩ := (dat0 m c).toR_finds 5 t X (((dat0 m c).toR.override_finds (ovr := outRel m c) (w := 5) rfl t X).mp h)
  exact before_5 m c t d
/-- Input window 5: what the body may leave. -/
theorem leaves_5 (c : Dev nD) (t : Fin cfg0.N) (Y) : (rdat m c).after 5 t Y (iblk m c 5 t) :=
  (after_5 m c t).symm
/-- Input window 6: what the body finds. -/
theorem finds_6 (c : Dev nD) (t : Fin cfg0.N) (X) (h : (rdat m c).Finds 6 t X) : X = iblk m c 6 t := by
  obtain ⟨d, rfl⟩ := (dat0 m c).toR_finds 6 t X (((dat0 m c).toR.override_finds (ovr := outRel m c) (w := 6) rfl t X).mp h)
  exact before_6 m c t d
/-- Input window 6: what the body may leave. -/
theorem leaves_6 (c : Dev nD) (t : Fin cfg0.N) (Y) : (rdat m c).after 6 t Y (iblk m c 6 t) :=
  (after_6 m c t).symm
/-- Input window 7: what the body finds. -/
theorem finds_7 (c : Dev nD) (t : Fin cfg0.N) (X) (h : (rdat m c).Finds 7 t X) : X = iblk m c 7 t := by
  obtain ⟨d, rfl⟩ := (dat0 m c).toR_finds 7 t X (((dat0 m c).toR.override_finds (ovr := outRel m c) (w := 7) rfl t X).mp h)
  exact before_7 m c t d
/-- Input window 7: what the body may leave. -/
theorem leaves_7 (c : Dev nD) (t : Fin cfg0.N) (Y) : (rdat m c).after 7 t Y (iblk m c 7 t) :=
  (after_7 m c t).symm

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 1600000 in
/-- The body's obligation at every point. -/
theorem body_obligation (c : Dev nD) : (rdat m c).BodyObligation (defs₀ (F := F)) Variants.none () Set.univ := fun t Y hY => by
  rw [bigSep_W0, bigSep_W0, defs₀_row, show (rdat m c).Φ t.succ = (rdat m c).Φ t.castSucc from rfl,
    show (rdat m c).owesAt () t.succ = (rdat m c).owesAt () t.castSucc from rfl]
  rw [finds_0 m c t _ (hY 0)]
  rw [finds_1 m c t _ (hY 1)]
  rw [finds_2 m c t _ (hY 2)]
  rw [finds_3 m c t _ (hY 3)]
  rw [finds_4 m c t _ (hY 4)]
  rw [finds_5 m c t _ (hY 5)]
  rw [finds_6 m c t _ (hY 6)]
  rw [finds_7 m c t _ (hY 7)]
  iintro ⟨HΦ, Ho, H0, H1, H2, H3, H4, H5, H6, H7, H8⟩
  iapply ((kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8))
    (iblk m c 0 t) (X0_1 m c t) (X0_2 m c t) (X0_3 m c t) (iblk m c 4 t) (iblk m c 5 t) (iblk m c 6 t) (iblk m c 7 t) (Y 8)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]
  · iexists _; isplitr; · ipureintro; exact leaves_0 m c t _
    iexact H0
  isplitl [H1]
  · iexists _; isplitr; · ipureintro; exact leaves_1 m c t _
    iexact H1
  isplitl [H2]
  · iexists _; isplitr; · ipureintro; exact leaves_2 m c t _
    iexact H2
  isplitl [H3]
  · iexists _; isplitr; · ipureintro; exact leaves_3 m c t _
    iexact H3
  isplitl [H4]
  · iexists _; isplitr; · ipureintro; exact leaves_4 m c t _
    iexact H4
  isplitl [H5]
  · iexists _; isplitr; · ipureintro; exact leaves_5 m c t _
    iexact H5
  isplitl [H6]
  · iexists _; isplitr; · ipureintro; exact leaves_6 m c t _
    iexact H6
  isplitl [H7]
  · iexists _; isplitr; · ipureintro; exact leaves_7 m c t _
    iexact H7
  iexists _; isplitr; · ipureintro; exact (rdat_after_8 m c t _ _).mpr rfl
  iexact H8

set_option backward.isDefEq.respectTransparency.types false in
/-- The run of the whole program: it ends with every array as the proof data say, and with every counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := body_obligation m) (hq := fun _ _ _ => rfl)
    (howed := fun _ _ => rfl) (V := V m) (hmain := hmain m Variants.none) (hA := dat0_A m) (hin := fun _ => .rfl) (hout := fun _ => .rfl)
    (hQ' := fun _ h => h)

/-- The frame: the argument arrays end as they began, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.KernelIdeal.Mix

end
-- ==== Proof.Mix.Inputs.lean ====
module

public import proofs.«01_k».proof.Proof.Mix.Block
public import proofs.«01_k».proof.Proof.Mix.Frame
public import Idealize.ShloMosaic.Lib.Claim
public import Idealize.ShloMosaic.Lib.Pointwise
public import Idealize.ShloMosaic.Lib.Pipeline.ValueKit.Geometry
public import Idealize.ShloMosaic.Lib.Pipeline.ArrRel

@[expose] public section

set_option maxRecDepth 16384

noncomputable section

namespace Cert.KernelIdeal.Mix

open Cert.KernelIdeal Cert.KernelIdeal.Gen
open Idealize.ShloMosaic Idealize.ShloMosaic.TcCoe

variable (m : (ℓ : Loc nD τ sig) → Buf (Elt Ideal) ℓ)

/-- A window's buffer over its block, at an element that every transfer moves. -/
theorem fill_apply {g : Pipeline.Grid} (w : Pipeline.Window sig g) (i : g.Coords) (d : w.block.Idx → Elt Ideal w.elt)
    (v : (w.xblock i).Idx → Elt Ideal w.elt) (j : w.block.Idx) (h : w.moved i j = true) (y : (w.xblock i).Idx) (hy : ∀ a, (y a).val = (j a).val) : w.fill i d v j = v y := by
  unfold Pipeline.Window.fill
  rw [dif_pos h]
  exact congrArg v (funext fun a => Fin.ext (hy a).symm)

/-- Where each window's block lies at each point. -/
theorem index_eq : ∀ t : Fin grid0.N,
    win0_1.index t = ![t.val / 2, t.val % 2] ∧ win0_2.index t = ![t.val / 2 * 8 - 1, t.val % 2] ∧ win0_3.index t = ![t.val / 2 * 8 + 8, t.val % 2]
    ∧ win0_4.index t = ![t.val / 2 - 1, 12] ∧ win0_5.index t = ![t.val / 2, 12] ∧ win0_6.index t = ![t.val / 2 + 1, 12]
    ∧ win0_7.index t = ![0, t.val % 2] ∧ win0_8.index t = ![t.val / 2, 0] ∧ win0_0.index t = ![0] := by
  decide +kernel

/-- The point's grid coordinates. -/
theorem coords_eq : ∀ t : Fin grid0.N, (grid0.coords t 0).val = t.val / 2 ∧ (grid0.coords t 1).val = t.val % 2 := by decide +kernel

/-- The entries of the projection, by row and column. -/
def rowcol (x : Vec Ideal S1x8192x13312 .f32) (a n : ℕ) : EReal := if h : a < 8192 ∧ n < 13312 then x (ix3 0 ⟨a, h.1⟩ ⟨n, h.2⟩) else 0
/-- The entries of the convolution's weights. -/
def tapcol (x : Vec Ideal S1x3x2048 .f32) (a n : ℕ) : EReal := if h : a < 3 ∧ n < 2048 then x (ix3 0 ⟨a, h.1⟩ ⟨n, h.2⟩) else 0
/-- The sinks. -/
def sinkof (x : Vec Ideal S1x16 .f32) (n : ℕ) : EReal := if h : n < 16 then x (ix2 0 ⟨n, h⟩) else 0

theorem rowcol_eq (x : Vec Ideal S1x8192x13312 .f32) (z : Fin 1) (a : Fin 8192) (n : Fin 13312) : x (ix3 z a n) = rowcol x a.val n.val := by
  rw [rowcol, dif_pos ⟨a.isLt, n.isLt⟩, Subsingleton.elim z 0]
theorem tapcol_eq (x : Vec Ideal S1x3x2048 .f32) (z : Fin 1) (a : Fin 3) (n : Fin 2048) : x (ix3 z a n) = tapcol x a.val n.val := by
  rw [tapcol, dif_pos ⟨a.isLt, n.isLt⟩, Subsingleton.elim z 0]
theorem sinkof_eq (x : Vec Ideal S1x16 .f32) (z : Fin 1) (n : Fin 16) : x (ix2 z n) = sinkof x n.val := by
  rw [sinkof, dif_pos n.isLt, Subsingleton.elim z 0]

/-- 1024 of the projection's columns, from column `o` on. -/
def cut1024 (p : Vec Ideal S1x8192x13312 .f32) (o : ℕ) (h : Shape.Slices S8192x13312 ![0, o] S8192x1024) : FVec Ideal S8192x1024 .f32 :=
  extractStridedSlice S8192x1024 ![0, o] (shapeCast S8192x13312 p shapeCasts_S1x8192x13312_S8192x13312) h
/-- 512 of the projection's columns, from column `o` on. -/
def cut512 (p : Vec Ideal S1x8192x13312 .f32) (o : ℕ) (h : Shape.Slices S8192x13312 ![0, o] S8192x512) : FVec Ideal S8192x512 .f32 :=
  extractStridedSlice S8192x512 ![0, o] (shapeCast S8192x13312 p shapeCasts_S1x8192x13312_S8192x13312) h

theorem cut1024_apply (p : Vec Ideal S1x8192x13312 .f32) (o : ℕ) (h) (row : Fin 8192) (k : Fin 1024) : cut1024 p o h (ix2 row k) = rowcol p row.val (o + k.val) := by
  pointwise [cut1024]
  exact rowcol_eq _ _ _ _
theorem cut512_apply (p : Vec Ideal S1x8192x13312 .f32) (o : ℕ) (h) (row : Fin 8192) (k : Fin 512) : cut512 p o h (ix2 row k) = rowcol p row.val (o + k.val) := by
  pointwise [cut512]
  exact rowcol_eq _ _ _ _

/-- The projection as the call's operand: its columns gathered half by half. -/
def hostP (p : Vec Ideal S1x8192x13312 .f32) : Vec Ideal S8192x13312 .bf16 :=
  truncf .bf16 (concatenate S8192x13312 1 [⟨S8192x1024, cut1024 p 0 slices_S8192x13312_S8192x1024_0_0⟩, ⟨S8192x1024, cut1024 p 2048 slices_S8192x13312_S8192x1024_0_2048⟩, ⟨S8192x1024, cut1024 p 4096 slices_S8192x13312_S8192x1024_0_4096⟩, ⟨S8192x1024, cut1024 p 6144 slices_S8192x13312_S8192x1024_0_6144⟩, ⟨S8192x1024, cut1024 p 8192 slices_S8192x13312_S8192x1024_0_8192⟩, ⟨S8192x1024, cut1024 p 11264 slices_S8192x13312_S8192x1024_0_11264⟩, ⟨S8192x1024, cut1024 p 1024 slices_S8192x13312_S8192x1024_0_1024⟩, ⟨S8192x1024, cut1024 p 3072 slices_S8192x13312_S8192x1024_0_3072⟩, ⟨S8192x1024, cut1024 p 5120 slices_S8192x13312_S8192x1024_0_5120⟩, ⟨S8192x1024, cut1024 p 7168 slices_S8192x13312_S8192x1024_0_7168⟩, ⟨S8192x1024, cut1024 p 9216 slices_S8192x13312_S8192x1024_0_9216⟩, ⟨S8192x1024, cut1024 p 12288 slices_S8192x13312_S8192x1024_0_12288⟩, ⟨S8192x512, cut512 p 10240 slices_S8192x13312_S8192x512_0_10240⟩, ⟨S8192x512, cut512 p 10752 slices_S8192x13312_S8192x512_0_10752⟩]
    concatenates_S8192x1024_S8192x1024_S8192x1024_S8192x1024_S8192x1024_S8192x1024_S8192x1024_S8192x1024_S8192x1024_S8192x1024_S8192x1024_S8192x1024_S8192x512_S8192x512_S8192x13312_d1 : FVec Ideal S8192x13312 .f32) bitsLt_bf16_f32

set_option maxHeartbeats 4000000 in
theorem V_main_v16 (c : Dev nD) : V m c main_v16 = hostP (m ((c.tc : Thread nD τ).loc main_arg0)) := by
  simp only [V, hostOps0]
  after_results_simp
  dsimp only [Matrix.cons_val]
  unfold hostP cut1024 cut512
  rfl

/-- The projection's column that lies at column `C` of the call's operand. -/
def natCol (C : ℕ) : ℕ := if C < 12288 then (if C % 6144 / 1024 < 5 then 2048 * (C % 6144 / 1024) else 11264) + 1024 * (C / 6144) + C % 1024 else C - 2048

/-- A choice of two values is any value that both are. -/
theorem dite_to {p : Prop} [Decidable p] {α : Type} {x : p → α} {y : ¬p → α} {z : α} (hx : ∀ h, x h = z) (hy : ∀ h, y h = z) :
    (if h : p then x h else y h) = z := by
  split
  · exact hx _
  · exact hy _

set_option maxHeartbeats 4000000 in
/-- The operand's entry, as an entry of the projection. -/
theorem hostP_apply (p : Vec Ideal S1x8192x13312 .f32) (row : Fin 8192) (C : Fin 13312) : hostP p (ix2 row C) = rowcol p row.val (natCol C.val) := by
  pointwise [hostP, cut1024_apply, cut512_apply]
  iterate 13 (refine dite_to (fun _ => ?_) (fun _ => ?_); · (refine congrArg (rowcol p row.val) ?_; unfold natCol; split_ifs <;> omega))
  exact congrArg (rowcol p row.val) (by unfold natCol; split_ifs <;> omega)

/-- What the three arrays at the region's entry hold. -/
abbrev Pm (c : Dev nD) : Vec Ideal S1x8192x13312 .f32 := m ((c.tc : Thread nD τ).loc main_arg0)
abbrev Wm (c : Dev nD) : Vec Ideal S1x3x2048 .f32 := m ((c.tc : Thread nD τ).loc main_arg1)
abbrev Sm (c : Dev nD) : Vec Ideal S1x16 .f32 := m ((c.tc : Thread nD τ).loc main_arg2)

theorem V16_apply (c : Dev nD) (row : Fin 8192) (C : Fin 13312) : (V m c main_v16 (ix2 row C) : EReal) = rowcol (Pm m c) row.val (natCol C.val) := by
  rw [V_main_v16]; exact hostP_apply _ _ _
theorem V17_apply (c : Dev nD) (row : Fin 3) (C : Fin 2048) : (V m c main_v17 (ix2 row C) : EReal) = tapcol (Wm m c) row.val C.val := by
  entry_read; pointwise; exact tapcol_eq _ _ _ _
theorem V18_apply (c : Dev nD) (row : Fin 16) : (V m c main_v18 (ix1 row) : EReal) = sinkof (Sm m c) row.val := by
  entry_read; pointwise; exact sinkof_eq _ _ _

/-- The point's own rows. -/
theorem x1_apply (c : Dev nD) (t : Fin cfg0.N) (r : Fin 128) (col : Fin 6144) :
    (X0_1 m c t (ix2 r col) : EReal) = rowcol (Pm m c) (128 * (t.val / 2) + r.val) (natCol (6144 * (t.val % 2) + col.val)) := by
  have h := (index_eq t).1
  have hN : t.val < 8 := t.isLt
  rw [← V16_apply m c ⟨128 * (t.val / 2) + r.val, by omega⟩ ⟨6144 * (t.val % 2) + col.val, by omega⟩]
  unfold X0_1
  rw [fill_apply (cfg0.win 1) _ _ _ _ (moved0_1 t _) (fun a => ⟨(ix2 r col a).val, by have := xsize0_1 t a; rw [show ((cfg0.win 1).xblock (cfg0.grid.coords t)).size a = _ from this]; exact (ix2 r col a).isLt⟩) (fun a => rfl)]
  blk_ext [iblk, h]
/-- The sixteen rows that end just above the point's own. -/
theorem x2_apply (c : Dev nD) (t : Fin cfg0.N) (r : Fin 16) (col : Fin 6144) :
    (X0_2 m c t (ix2 r col) : EReal) = rowcol (Pm m c) (16 * (t.val / 2 * 8 - 1) + r.val) (natCol (6144 * (t.val % 2) + col.val)) := by
  have h := (index_eq t).2.1
  have hN : t.val < 8 := t.isLt
  rw [← V16_apply m c ⟨16 * (t.val / 2 * 8 - 1) + r.val, by omega⟩ ⟨6144 * (t.val % 2) + col.val, by omega⟩]
  unfold X0_2
  rw [fill_apply (cfg0.win 2) _ _ _ _ (moved0_2 t _) (fun a => ⟨(ix2 r col a).val, by have := xsize0_2 t a; rw [show ((cfg0.win 2).xblock (cfg0.grid.coords t)).size a = _ from this]; exact (ix2 r col a).isLt⟩) (fun a => rfl)]
  blk_ext [iblk, h]
/-- The sixteen rows that begin just below the point's own. -/
theorem x3_apply (c : Dev nD) (t : Fin cfg0.N) (r : Fin 16) (col : Fin 6144) :
    (X0_3 m c t (ix2 r col) : EReal) = rowcol (Pm m c) (16 * (t.val / 2 * 8 + 8) + r.val) (natCol (6144 * (t.val % 2) + col.val)) := by
  have h := (index_eq t).2.2.1
  have hN : t.val < 8 := t.isLt
  rw [← V16_apply m c ⟨16 * (t.val / 2 * 8 + 8) + r.val, by omega⟩ ⟨6144 * (t.val % 2) + col.val, by omega⟩]
  unfold X0_3
  rw [fill_apply (cfg0.win 3) _ _ _ _ (moved0_3 t _) (fun a => ⟨(ix2 r col a).val, by have := xsize0_3 t a; rw [show ((cfg0.win 3).xblock (cfg0.grid.coords t)).size a = _ from this]; exact (ix2 r col a).isLt⟩) (fun a => rfl)]
  blk_ext [iblk, h]
/-- The keys and values of the block above (of the block itself at the top). -/
theorem x4_apply (c : Dev nD) (t : Fin cfg0.N) (r : Fin 128) (col : Fin 1024) :
    (iblk m c 4 t (ix2 r col) : EReal) = rowcol (Pm m c) (128 * (t.val / 2 - 1) + r.val) (10240 + col.val) := by
  have h := (index_eq t).2.2.2.1
  have hN : t.val < 8 := t.isLt
  rw [show 10240 + col.val = natCol (12288 + col.val) by simp [natCol]; omega,
    ← V16_apply m c ⟨128 * (t.val / 2 - 1) + r.val, by omega⟩ ⟨12288 + col.val, by omega⟩]
  blk_ext [iblk, h]
/-- The keys and values of the block itself. -/
theorem x5_apply (c : Dev nD) (t : Fin cfg0.N) (r : Fin 128) (col : Fin 1024) :
    (iblk m c 5 t (ix2 r col) : EReal) = rowcol (Pm m c) (128 * (t.val / 2) + r.val) (10240 + col.val) := by
  have h := (index_eq t).2.2.2.2.1
  have hN : t.val < 8 := t.isLt
  rw [show 10240 + col.val = natCol (12288 + col.val) by simp [natCol]; omega,
    ← V16_apply m c ⟨128 * (t.val / 2) + r.val, by omega⟩ ⟨12288 + col.val, by omega⟩]
  blk_ext [iblk, h]
/-- The keys and values of the block below. -/
theorem x6_apply (c : Dev nD) (t : Fin cfg0.N) (r : Fin 128) (col : Fin 1024) :
    (iblk m c 6 t (ix2 r col) : EReal) = rowcol (Pm m c) (128 * (t.val / 2 + 1) + r.val) (10240 + col.val) := by
  have h := (index_eq t).2.2.2.2.2.1
  have hN : t.val < 8 := t.isLt
  rw [show 10240 + col.val = natCol (12288 + col.val) by simp [natCol]; omega,
    ← V16_apply m c ⟨128 * (t.val / 2 + 1) + r.val, by omega⟩ ⟨12288 + col.val, by omega⟩]
  blk_ext [iblk, h]
/-- The half's taps. -/
theorem x7_apply (c : Dev nD) (t : Fin cfg0.N) (r : Fin 3) (col : Fin 1024) :
    (iblk m c 7 t (ix2 r col) : EReal) = tapcol (Wm m c) r.val (1024 * (t.val % 2) + col.val) := by
  have h := (index_eq t).2.2.2.2.2.2.1
  have hN : t.val < 8 := t.isLt
  rw [← V17_apply m c r ⟨1024 * (t.val % 2) + col.val, by omega⟩]
  blk_ext [iblk, h]
/-- All the sinks. -/
theorem x0_apply (c : Dev nD) (t : Fin cfg0.N) (n : Fin 16) : (iblk m c 0 t (ix1 n) : EReal) = sinkof (Sm m c) n.val := by
  have h := (index_eq t).2.2.2.2.2.2.2.2
  rw [← V18_apply m c n]
  blk_ext [iblk, h]

/-- The band of keys and values around the point's rows: position `t` of it is row `128 b - 128 + t`, clamped at the
    top. -/
theorem band_apply (c : Dev nD) (p : Fin cfg0.N) (t : Fin 384) (col : Fin 1024) :
    (band (iblk m c 4 p) (iblk m c 5 p) (iblk m c 6 p) t col : EReal)
      = rowcol (Pm m c) (128 * (if t.val < 128 then p.val / 2 - 1 else if t.val < 256 then p.val / 2 else p.val / 2 + 1) + t.val % 128) (10240 + col.val) := by
  unfold band
  have ht := t.isLt
  rcases (by omega : t.val / 128 = 0 ∨ t.val / 128 = 1 ∨ t.val / 128 = 2) with h | h | h
  · rw [show (⟨t.val / 128, by omega⟩ : Fin 3) = 0 from Fin.ext h, if_pos (by omega)]
    exact x4_apply m c p _ _
  · rw [show (⟨t.val / 128, by omega⟩ : Fin 3) = 1 from Fin.ext h, if_neg (by omega), if_pos (by omega)]
    exact x5_apply m c p _ _
  · rw [show (⟨t.val / 128, by omega⟩ : Fin 3) = 2 from Fin.ext h, if_neg (by omega), if_neg (by omega)]
    exact x6_apply m c p _ _
-- ==== Proof.Mix.Words.lean ====
/- Words that hold small integers, and the constants of the two programs. -/
module

public import proofs.«01_k».proof.Proof.Mix.Point
public import Idealize.ShloMosaic.Lib.Pointwise

@[expose] public section

set_option maxRecDepth 16384

noncomputable section

namespace Cert.KernelIdeal.Mix

open Cert.KernelIdeal Cert.KernelIdeal.Gen
open Idealize.ShloMosaic Idealize.ShloMosaic.TcCoe

/-- A choice on a truth word. -/
theorem select_ofBool {α : Type} (p : Bool) (a b : α) : Scalar.select (BitVec.ofBool p) a b = if p then a else b := by
  cases p <;> rfl

theorem toInt_small (a : ℤ) (h : -2147483648 ≤ a ∧ a < 2147483648) : (BitVec.ofInt 32 a).toInt = a := by
  rw [BitVec.toInt_ofInt]
  exact Int.bmod_eq_of_le (by norm_num; omega) (by norm_num; omega)

/-- A word of a natural number, as one of an integer. -/
theorem ofNat_int (n : ℕ) : BitVec.ofNat 32 n = BitVec.ofInt 32 (n : ℤ) := (BitVec.ofInt_natCast 32 n).symm
theorem addi_int (a b : ℤ) : IntOp.addi (BitVec.ofInt 32 a) (BitVec.ofInt 32 b) = BitVec.ofInt 32 (a + b) := (BitVec.ofInt_add a b).symm
theorem muli_int (a b : ℤ) : IntOp.muli (BitVec.ofInt 32 a) (BitVec.ofInt 32 b) = BitVec.ofInt 32 (a * b) := (BitVec.ofInt_mul a b).symm
theorem subi_int (a b : ℤ) : IntOp.subi (BitVec.ofInt 32 a) (BitVec.ofInt 32 b) = BitVec.ofInt 32 (a - b) := by
  show BitVec.ofInt 32 a - BitVec.ofInt 32 b = _
  rw [sub_eq_add_neg, BitVec.ofInt_add, BitVec.ofInt_neg, ← BitVec.sub_eq_add_neg]
theorem absi_int (a : ℤ) (h : -2147483648 < a ∧ a < 2147483648) : IntOp.absi (BitVec.ofInt 32 a) = BitVec.ofInt 32 |a| := by
  show (if (BitVec.ofInt 32 a).msb then -BitVec.ofInt 32 a else BitVec.ofInt 32 a) = _
  rw [BitVec.msb_eq_toInt, toInt_small a (by omega)]
  by_cases h0 : a < 0
  · rw [if_pos (by simpa using h0), ← BitVec.ofInt_neg, abs_of_neg h0]
  · rw [if_neg (by simpa using h0), abs_of_nonneg (by omega)]
theorem sle_int (a b : ℤ) (ha : -2147483648 ≤ a ∧ a < 2147483648) (hb : -2147483648 ≤ b ∧ b < 2147483648) :
    IntOp.cmpi .sle (BitVec.ofInt 32 a) (BitVec.ofInt 32 b) = BitVec.ofBool (decide (a ≤ b)) := by
  show BitVec.ofBool ((BitVec.ofInt 32 a).sle (BitVec.ofInt 32 b)) = _
  rw [BitVec.sle_eq_decide, toInt_small a ha, toInt_small b hb]
theorem sge_int (a b : ℤ) (ha : -2147483648 ≤ a ∧ a < 2147483648) (hb : -2147483648 ≤ b ∧ b < 2147483648) :
    IntOp.cmpi .sge (BitVec.ofInt 32 a) (BitVec.ofInt 32 b) = BitVec.ofBool (decide (b ≤ a)) := by
  show BitVec.ofBool ((BitVec.ofInt 32 b).sle (BitVec.ofInt 32 a)) = _
  rw [BitVec.sle_eq_decide, toInt_small a ha, toInt_small b hb]
theorem slt_int (a b : ℤ) (ha : -2147483648 ≤ a ∧ a < 2147483648) (hb : -2147483648 ≤ b ∧ b < 2147483648) :
    IntOp.cmpi .slt (BitVec.ofInt 32 a) (BitVec.ofInt 32 b) = BitVec.ofBool (decide (a < b)) := by
  show BitVec.ofBool ((BitVec.ofInt 32 a).slt (BitVec.ofInt 32 b)) = _
  rw [BitVec.slt_eq_decide, toInt_small a ha, toInt_small b hb]
theorem andi_bool (p q : Bool) : IntOp.andi (BitVec.ofBool p) (BitVec.ofBool q) = BitVec.ofBool (p && q) := by
  cases p <;> cases q <;> rfl
theorem sitofp_int (a : ℤ) (h : -2147483648 ≤ a ∧ a < 2147483648) : (FloatOps.sitofp FTy.f32 (BitVec.ofInt 32 a) : Ideal .f32) = ((a : ℝ) : EReal) := by
  show (((BitVec.ofInt 32 a).toInt : ℝ) : EReal) = _
  rw [toInt_small a h]

/-- The distance between a query's row and a key of its band. -/
def gap (r t : ℕ) : ℤ := |(r : ℤ) - ((t : ℤ) - 128)|
/-- Whether the key is in the window and in the sequence. -/
def seen (b r t : ℕ) : Bool := decide (gap r t ≤ 128) && decide (0 ≤ (t : ℤ) - 128 + (b : ℤ) * 128) && decide ((t : ℤ) - 128 + (b : ℤ) * 128 < 8192)

theorem gap_bound (r : Fin 128) (t : Fin 384) : 0 ≤ gap r.val t.val ∧ gap r.val t.val ≤ 256 := by
  unfold gap
  have := r.isLt
  have := t.isLt
  constructor
  · exact abs_nonneg _
  · rw [abs_le]; omega

/-- The kernel's distances, in base two. -/
theorem distTile_apply (r : Fin 128) (t : Fin 384) :
    (distTile (F := Ideal) (ix2 r t) : EReal) = (((gap r.val t.val : ℤ) : ℝ) : EReal) * (Named.named (F := Ideal) κ "neg_log2_e" (φ := .f32) 3216550459#32 : EReal) := by
  have hr := r.isLt
  have ht := t.isLt
  have hg := gap_bound r t
  pointwise [distTile, k0_pay50, k0_pay51, k0_pay54]
  rw [ofNat_int r.val, ofNat_int t.val, show (128#32 : BitVec 32) = BitVec.ofInt 32 128 from rfl, subi_int, subi_int, absi_int _ (by omega)]
  rw [show |(r.val : ℤ) - ((t.val : ℤ) - 128)| = gap r.val t.val from rfl, sitofp_int _ (by omega)]

/-- The kernel's mask. -/
theorem maskTile_apply (i : grid0.Coords) (r : Fin 128) (t : Fin 384) : maskTile i (ix2 r t) = BitVec.ofBool (seen (i 0).val r.val t.val) := by
  have hr := r.isLt
  have ht := t.isLt
  have hg := gap_bound r t
  have hi : (i 0).val < 4 := (i 0).isLt
  pointwise [maskTile, k0_pay50, k0_pay51, k0_pay52, k0_pay53]
  simp only [show ∀ a b : BitVec 32, Scalar.muli a b = IntOp.muli a b from fun _ _ => rfl]
  rw [ofNat_int r.val, ofNat_int t.val, ofNat_int (i 0).val, show (128#32 : BitVec 32) = BitVec.ofInt 32 128 from rfl, show (0#32 : BitVec 32) = BitVec.ofInt 32 0 from rfl,
    show (8192#32 : BitVec 32) = BitVec.ofInt 32 8192 from rfl]
  rw [subi_int, subi_int, absi_int _ (by omega), muli_int, addi_int]
  rw [show |(r.val : ℤ) - ((t.val : ℤ) - 128)| = gap r.val t.val from rfl]
  rw [sle_int _ _ (by omega) (by omega), sge_int _ _ (by omega) (by omega), slt_int _ _ (by omega) (by omega), andi_bool, andi_bool]
  rfl

theorem k_log2_e : (Named.named (F := Ideal) κ "log2_e" (φ := .f32) 0x3FB8AA3B#32 : EReal) = (((Real.log 2)⁻¹ : ℝ) : EReal) := IdealRules.named_const.ideal_named_scalar _ _ _ _ rfl
theorem k_neg_log2_e : (Named.named (F := Ideal) κ "neg_log2_e" (φ := .f32) 3216550459#32 : EReal) = ((-((Real.log 2)⁻¹) : ℝ) : EReal) := IdealRules.named_const.ideal_named_scalar _ _ _ _ rfl
theorem k_scale : (Named.named (F := Ideal) κ "scale_log2_e" (φ := .f32) 0x3E0293EE#32 : EReal) = (((Real.sqrt 128)⁻¹ * (Real.log 2)⁻¹ : ℝ) : EReal) := IdealRules.named_const.ideal_named_scalar _ _ _ _ rfl
theorem k_mask : (Named.named (F := Ideal) κ "mask" (φ := .f32) 0xF149F2CA#32 : EReal) = ⊥ := IdealRules.named_const.ideal_named_scalar _ _ _ _ rfl

theorem sqrt_two_pow (n : ℕ) : Real.sqrt (2 ^ (2 * n + 1)) = (2 : ℝ) ^ ((n : ℝ) + 1 / 2) := by
  rw [Real.sqrt_eq_rpow, ← Real.rpow_natCast, ← Real.rpow_mul (by norm_num)]
  congr 1; push_cast; ring

/-- The slope of head `8 half + j`, a power of two. -/
def slope (n : ℕ) : ℝ := (2 : ℝ) ^ (-(((n : ℝ) + 1) / 2))

theorem half_bits : (Ideal.ofBits .f32 0x3F000000#32 : EReal) = ((1 / 2 : ℝ) : EReal) := by
  simp [Ideal.ofBits, Ideal.ieee, -EReal.coe_mul]; norm_num
theorem quarter_bits : (Ideal.ofBits .f32 0x3E800000#32 : EReal) = ((1 / 4 : ℝ) : EReal) := by
  simp [Ideal.ofBits, Ideal.ieee, -EReal.coe_mul]; norm_num
theorem eighth_bits : (Ideal.ofBits .f32 0x3E000000#32 : EReal) = ((1 / 8 : ℝ) : EReal) := by
  simp [Ideal.ofBits, Ideal.ieee, -EReal.coe_mul]; norm_num
theorem sixteenth_bits : (Ideal.ofBits .f32 0x3D800000#32 : EReal) = ((1 / 16 : ℝ) : EReal) := by
  simp [Ideal.ofBits, Ideal.ieee, -EReal.coe_mul]; norm_num
theorem inf_bits : (Ideal.ofBits .f32 0xFF800000#32 : EReal) = ⊥ := by
  simp [Ideal.ofBits, Ideal.ieee]

theorem slope_odd (n : ℕ) (x : ℝ) (hx : x = 2 ^ (2 * n + 1)) : (Real.sqrt x)⁻¹ = slope (2 * n) := by
  rw [hx, sqrt_two_pow, slope, ← Real.rpow_neg (by norm_num)]
  congr 1; push_cast; ring
theorem slope_even (n : ℕ) : ((2 : ℝ) ^ (n + 1))⁻¹ = slope (2 * n + 1) := by
  rw [slope, ← Real.rpow_natCast, ← Real.rpow_neg (by norm_num)]
  congr 1; push_cast; ring

/-- The slopes' words. -/
theorem slopeW_apply (j : Fin 8) : (slopeW j : EReal) = ((slope j.val : ℝ) : EReal) := by
  have e1 : (Named.named (F := Ideal) κ "slope1" (φ := .f32) 0x3F3504F3#32 : EReal) = (((Real.sqrt 2)⁻¹ : ℝ) : EReal) := IdealRules.named_const.ideal_named_scalar _ _ _ _ rfl
  have e3 : (Named.named (F := Ideal) κ "slope3" (φ := .f32) 0x3EB504F3#32 : EReal) = (((Real.sqrt 8)⁻¹ : ℝ) : EReal) := IdealRules.named_const.ideal_named_scalar _ _ _ _ rfl
  have e5 : (Named.named (F := Ideal) κ "slope5" (φ := .f32) 0x3E3504F3#32 : EReal) = (((Real.sqrt 32)⁻¹ : ℝ) : EReal) := IdealRules.named_const.ideal_named_scalar _ _ _ _ rfl
  have e7 : (Named.named (F := Ideal) κ "slope7" (φ := .f32) 0x3DB504F3#32 : EReal) = (((Real.sqrt 128)⁻¹ : ℝ) : EReal) := IdealRules.named_const.ideal_named_scalar _ _ _ _ rfl
  fin_cases j
  · exact e1.trans (congrArg _ (slope_odd 0 2 (by norm_num)))
  · exact half_bits.trans (congrArg _ (by rw [← slope_even 0]; norm_num))
  · exact e3.trans (congrArg _ (slope_odd 1 8 (by norm_num)))
  · exact quarter_bits.trans (congrArg _ (by rw [← slope_even 1]; norm_num))
  · exact e5.trans (congrArg _ (slope_odd 2 32 (by norm_num)))
  · exact eighth_bits.trans (congrArg _ (by rw [← slope_even 2]; norm_num))
  · exact e7.trans (congrArg _ (slope_odd 3 128 (by norm_num)))
  · exact sixteenth_bits.trans (congrArg _ (by rw [← slope_even 3]; norm_num))

/-- A half's factor times a slope of the first half is the slope of its head. -/
theorem half_slope (h : Fin 2) (j : Fin 8) :
    (halfWord (F := Ideal) (BitVec.ofNat 32 h.val) * slopeW j : EReal) = ((slope (8 * h.val + j.val) : ℝ) : EReal) := by
  rw [slopeW_apply]
  have one : (Ideal.ofBits .f32 0x3F800000#32 : EReal) = ((1 : ℝ) : EReal) := by simp
  fin_cases h
  · show (Ideal.ofBits .f32 0x3F800000#32 : EReal) * _ = _
    rw [one, ← EReal.coe_mul]; congr 1; simp
  · show (Ideal.ofBits .f32 0x3D800000#32 : EReal) * _ = _
    rw [sixteenth_bits, ← EReal.coe_mul]; congr 1
    simp only [slope]
    rw [show (1 / 16 : ℝ) = (2 : ℝ) ^ (-(4 : ℝ)) by rw [Real.rpow_neg (by norm_num)]; norm_num, ← Real.rpow_add (by norm_num)]
    congr 1; push_cast; ring
-- ==== Proof.Mix.Array.lean ====
/- What the mixers call writes: every entry of its output, in terms of the entries of its arguments. -/
module

public import proofs.«01_k».proof.Proof.Mix.Inputs
public import proofs.«01_k».proof.Proof.Mix.Words

@[expose] public section

set_option maxRecDepth 16384

noncomputable section

namespace Cert.KernelIdeal.Mix

open Cert.KernelIdeal Cert.KernelIdeal.Gen
open Idealize.ShloMosaic Idealize.ShloMosaic.TcCoe

variable (m : (ℓ : Loc nD τ sig) → Buf (Elt Ideal) ℓ)

/-- The gate `z / (1 + exp (-z))`. -/
def gateK (z : EReal) : EReal := Ideal.div z (1 + Ideal.exp (0 - z))
/-- The convolution's operand. -/
def convU (P : ℕ → ℕ → EReal) (a k : ℕ) : EReal := P a (2048 + k) * P a (4096 + k)
/-- The gated short convolution of the rows and columns `P` under the taps `W`. -/
def convK (P W : ℕ → ℕ → EReal) (a k : ℕ) : EReal :=
  P a k * ((if a = 0 then 0 else convU P (a - 1) k) * W 0 k + convU P a k * W 1 k + convU P (a + 1) k * W 2 k) * gateK (P a (6144 + k))

/-- The row that position `t` of block `b`'s band holds. -/
def bandRow (b t : ℕ) : ℕ := 128 * (if t < 128 then b - 1 else if t < 256 then b else b + 1) + t % 128
/-- Head `h`'s product of a query's row and a key's. -/
def dotK (P : ℕ → ℕ → EReal) (h a n : ℕ) : EReal := ∑ d : Fin 128, P a (8192 + 128 * h + d.val) * P n (10240 + 128 * (h / 4) + d.val)
/-- Head `h`'s masked score, in base two. -/
def scoreK (P : ℕ → ℕ → EReal) (b r h : ℕ) (t : Fin 384) : EReal :=
  if seen b r t.val then dotK P h (128 * b + r) (bandRow b t.val) * (((Real.sqrt 128)⁻¹ * (Real.log 2)⁻¹ : ℝ) : EReal)
    + ((gap r t.val : ℝ) : EReal) * ((-((Real.log 2)⁻¹) : ℝ) : EReal) * ((slope h : ℝ) : EReal) else ⊥
/-- The gated attention. -/
def attnK (P : ℕ → ℕ → EReal) (S : ℕ → EReal) (b r h l : ℕ) : EReal :=
  Ideal.div (∑ t, FloatOps.exp2 (F := Ideal) (φ := .f32) (scoreK P b r h t - topS (scoreK P b r h) (S h)) * P (bandRow b t.val) (10752 + 128 * (h / 4) + l))
    (denS (scoreK P b r h) (S h)) * gateK (P (128 * b + r) (11264 + 128 * h + l))

theorem conv_point (c : Dev nD) (t : Fin cfg0.N) (r : Fin 128) (k : Fin 1024) :
    convS (grid0.coords t) (X0_1 m c t) (X0_2 m c t) (X0_3 m c t) (iblk m c 7 t) r k
      = convK (rowcol (Pm m c)) (tapcol (Wm m c)) (128 * (t.val / 2) + r.val) (1024 * (t.val % 2) + k.val) := by
  have hN : t.val < 8 := t.isLt
  have hr := r.isLt
  have hk := k.isLt
  have hc := (coords_eq t).1
  unfold convS
  rw [hc]
  have e0 : IntOp.cmpi .eq (BitVec.ofNat 32 r.val) 0#32 = BitVec.ofBool (decide (r.val = 0)) := by
    revert r; decide
  have e1 : IntOp.cmpi .eq (BitVec.ofNat 32 r.val) 127#32 = BitVec.ofBool (decide (r.val = 127)) := by
    revert r; decide
  have e2 : Scalar.cmpi .sgt (BitVec.ofNat 32 (t.val / 2)) 0#32 = BitVec.ofBool (decide (0 < t.val / 2)) := by
    revert t; decide
  have e3 : Scalar.cmpi .slt (BitVec.ofNat 32 (t.val / 2)) 63#32 = BitVec.ofBool true := by
    revert t; decide
  rw [e0, e1, e2, e3]
  simp only [select_ofBool, x1_apply, x2_apply, x3_apply, x7_apply]
  have n0 : natCol (6144 * (t.val % 2) + k.val) = 1024 * (t.val % 2) + k.val := by unfold natCol; split_ifs <;> omega
  have n1 : natCol (6144 * (t.val % 2) + (1024 + k.val)) = 2048 + (1024 * (t.val % 2) + k.val) := by unfold natCol; split_ifs <;> omega
  have n2 : natCol (6144 * (t.val % 2) + (2048 + k.val)) = 4096 + (1024 * (t.val % 2) + k.val) := by unfold natCol; split_ifs <;> omega
  have n3 : natCol (6144 * (t.val % 2) + (3072 + k.val)) = 6144 + (1024 * (t.val % 2) + k.val) := by unfold natCol; split_ifs <;> omega
  simp only [n0, n1, n2, n3]
  unfold convK gateK
  generalize 1024 * (t.val % 2) + k.val = κ'
  have above : (if decide (r.val = 0) = true then (if decide (0 < t.val / 2) = true then
        rowcol (Pm m c) (16 * (t.val / 2 * 8 - 1) + (15 : Fin 16).val) (2048 + κ') * rowcol (Pm m c) (16 * (t.val / 2 * 8 - 1) + (15 : Fin 16).val) (4096 + κ') else 0)
      else rowcol (Pm m c) (128 * (t.val / 2) + (r.val + 128 - 1) % 128) (2048 + κ') * rowcol (Pm m c) (128 * (t.val / 2) + (r.val + 128 - 1) % 128) (4096 + κ'))
      = if 128 * (t.val / 2) + r.val = 0 then 0 else convU (rowcol (Pm m c)) (128 * (t.val / 2) + r.val - 1) κ' := by
    unfold convU
    simp only [decide_eq_true_eq]
    by_cases hr0 : r.val = 0
    · by_cases ht0 : 0 < t.val / 2
      · rw [if_pos hr0, if_pos ht0, if_neg (by omega), show 16 * (t.val / 2 * 8 - 1) + (15 : Fin 16).val = 128 * (t.val / 2) + r.val - 1 by
          rw [show (15 : Fin 16).val = 15 from rfl]; omega]
      · rw [if_pos hr0, if_neg ht0, if_pos (by omega)]
    · rw [if_neg hr0, if_neg (by omega), show 128 * (t.val / 2) + (r.val + 128 - 1) % 128 = 128 * (t.val / 2) + r.val - 1 by omega]
  have below : (if decide (r.val = 127) = true then (if True then
        rowcol (Pm m c) (16 * (t.val / 2 * 8 + 8) + (0 : Fin 16).val) (2048 + κ') * rowcol (Pm m c) (16 * (t.val / 2 * 8 + 8) + (0 : Fin 16).val) (4096 + κ') else 0)
      else rowcol (Pm m c) (128 * (t.val / 2) + (r.val + 128 - 127) % 128) (2048 + κ') * rowcol (Pm m c) (128 * (t.val / 2) + (r.val + 128 - 127) % 128) (4096 + κ'))
      = convU (rowcol (Pm m c)) (128 * (t.val / 2) + r.val + 1) κ' := by
    unfold convU
    simp only [decide_eq_true_eq, if_true]
    by_cases hr0 : r.val = 127
    · rw [if_pos hr0, show 16 * (t.val / 2 * 8 + 8) + (0 : Fin 16).val = 128 * (t.val / 2) + r.val + 1 by
          rw [show (0 : Fin 16).val = 0 from rfl]; omega]
    · rw [if_neg hr0, show 128 * (t.val / 2) + (r.val + 128 - 127) % 128 = 128 * (t.val / 2) + r.val + 1 by omega]
  rw [above, below]
  rfl

theorem score_point (c : Dev nD) (t : Fin cfg0.N) (j : Fin 8) (r : Fin 128) :
    scoreS (grid0.coords t) (X0_1 m c t) (iblk m c 4 t) (iblk m c 5 t) (iblk m c 6 t) j r
      = scoreK (rowcol (Pm m c)) (t.val / 2) r.val (8 * (t.val % 2) + j.val) := by
  have hN : t.val < 8 := t.isLt
  have hr := r.isLt
  have hj := j.isLt
  have hc := coords_eq t
  funext u
  unfold scoreS scoreK dotK
  have hs : (halfWord (F := Ideal) (BitVec.ofNat 32 (grid0.coords t 1).val) * slopeW j : EReal) = ((slope (8 * (t.val % 2) + j.val) : ℝ) : EReal) := by
    rw [← hc.2]; exact half_slope (grid0.coords t 1) j
  rw [maskTile_apply, select_ofBool, distTile_apply, k_scale, k_neg_log2_e, k_mask, hs, hc.1]
  congr 3
  · refine Finset.sum_congr rfl fun d _ => ?_
    have hd := d.isLt
    rw [x1_apply, band_apply]
    rw [show natCol (6144 * (t.val % 2) + (4096 + 128 * j.val + d.val)) = 8192 + 128 * (8 * (t.val % 2) + j.val) + d.val by unfold natCol; split_ifs <;> omega]
    congr 2
    simp only [hc.2]; omega

theorem attn_point (c : Dev nD) (t : Fin cfg0.N) (j : Fin 8) (r l : Fin 128) :
    attnS (grid0.coords t) (iblk m c 0 t) (X0_1 m c t) (iblk m c 4 t) (iblk m c 5 t) (iblk m c 6 t) j r l
      = attnK (rowcol (Pm m c)) (sinkof (Sm m c)) (t.val / 2) r.val (8 * (t.val % 2) + j.val) l.val := by
  have hN : t.val < 8 := t.isLt
  have hr := r.isLt
  have hl := l.isLt
  have hj := j.isLt
  have hc := coords_eq t
  unfold attnS attnK gateK
  rw [score_point, x0_apply, x1_apply]
  simp only [hc.2, band_apply]
  rw [show natCol (6144 * (t.val % 2) + (5120 + 128 * j.val + l.val)) = 11264 + 128 * (8 * (t.val % 2) + j.val) + l.val by unfold natCol; split_ifs <;> omega]
  congr 2
  refine Finset.sum_congr rfl fun u _ => ?_
  unfold bandRow
  congr 2
  omega

/-- Every entry of the mixers' output. -/
def mixK (P W : ℕ → ℕ → EReal) (S : ℕ → EReal) (a k : ℕ) : EReal :=
  if k < 2048 then convK P W a k else attnK P S (a / 128) (a % 128) ((k - 2048) / 128) ((k - 2048) % 128)

/-- A point writes nothing of the other half's columns. -/
theorem outv_off (c : Dev nD) (t : Fin cfg0.N) (Y : Vec Ideal S128x4096 .bf16) (r : Fin 128) (col : Fin 4096) (hc : col.val / 1024 % 2 ≠ t.val % 2) :
    outv m c t Y (ix2 r col) = Y (ix2 r col) := by
  unfold outv
  exact kernelRun_off _ _ _ _ _ _ _ _ _ _ _ _ _ _ _ _ _ _ _ _ _ _ _ _ _ _ _ _ _ r col (by rw [(coords_eq t).2]; exact hc)

/-- What a point leaves in its own half's columns. -/
theorem outv_own (c : Dev nD) (t : Fin cfg0.N) (Y : Vec Ideal S128x4096 .bf16) (r : Fin 128) (col : Fin 4096) (hc : col.val / 1024 % 2 = t.val % 2) :
    (outv m c t Y (ix2 r col) : EReal) = mixK (rowcol (Pm m c)) (tapcol (Wm m c)) (sinkof (Sm m c)) (128 * (t.val / 2) + r.val) col.val := by
  have hr := r.isLt
  have hcol := col.isLt
  unfold outv mixK
  by_cases h : col.val < 2048
  · rw [if_pos h]
    refine (kernelRun_conv _ _ _ _ _ _ _ _ _ _ _ _ _ _ _ _ _ _ _ _ _ _ _ _ _ _ _ _ _ r ⟨col.val % 1024, by omega⟩ col (by rw [(coords_eq t).2]; simp only; omega)).trans ?_
    refine (conv_point m c t r _).trans ?_
    congr 1; dsimp only; omega
  · rw [if_neg h]
    refine (kernelRun_attn _ _ _ _ _ _ _ _ _ _ _ _ _ _ _ _ _ _ _ _ _ _ _ _ _ _ _ _ _ r ⟨col.val % 1024 / 128, by omega⟩ ⟨col.val % 128, by omega⟩ col (by rw [(coords_eq t).2]; simp only; omega)).trans ?_
    refine (attn_point m c t _ r _).trans ?_
    congr 1 <;> first | omega | (dsimp only; omega)

/-- The output's block after its two points. -/
theorem block_value (c : Dev nD) (t : Fin cfg0.N) (hf : t.val % 2 = 1) (X : Vec Ideal S128x4096 .bf16) (hX : (rdat m c).Leaves 8 t X) (r : Fin 128) (col : Fin 4096) :
    (X (ix2 r col) : EReal) = mixK (rowcol (Pm m c)) (tapcol (Wm m c)) (sinkof (Sm m c)) (128 * (t.val / 2) + r.val) col.val := by
  have hN : t.val < 8 := t.isLt
  obtain ⟨Y, hY, hA⟩ := hX
  rw [rdat_after_8] at hA
  subst hA
  by_cases h : col.val / 1024 % 2 = t.val % 2
  · exact outv_own m c t Y r col h
  · rw [outv_off m c t Y r col h]
    have hpos : 0 < t.val := by omega
    have hfe : (cfg0.win 8).fetch t = false := (show ∀ t : Fin cfg0.N, (cfg0.win 8).fetch t = false by decide) t
    rcases (Pipeline.RDat.finds_of_pos _ hfe (by omega) Y).mp hY with hfl | hl
    · have := (flush0_8 _).mp hfl
      simp only at this
      omega
    · obtain ⟨Z, _, hB⟩ := hl
      rw [rdat_after_8] at hB
      subst hB
      rw [outv_own m c _ Z r col (by simp only; omega)]
      congr 1; simp only; omega

/-- The output after the run. -/
theorem result {r : PUnit × MemSt nD τ sig (Elt Ideal)} (h : Pipeline.RDat.FramePost (cfgs 0) (rdat m) (V m) r) (c : Dev nD) :
    r.2.mem ((c.tc : Thread nD τ).loc main_v19)
      = fun j : S512x4096.Idx => mixK (rowcol (Pm m c)) (tapcol (Wm m c)) (sinkof (Sm m c)) (j 0).val (j 1).val := by
  obtain ⟨after, hL, hA⟩ := h.exists_exact c
  refine (hA 8).trans ?_
  refine Pipeline.Dat.arrAt_eq_of_covers _ 8 _ (by decide +kernel) fun t hf y => ?_
  have hodd := (flush0_8 t).mp hf
  have hb := block_value m c t hodd _ (hL 8 t hf)
  have hi := (index_eq t).2.2.2.2.2.2.2.1
  blk_simp [hi]
  rw [Pipeline.RDat.withAfter_after]
  refine Eq.trans (congrArg (after 8 t) (?_ : _ = ix2 ⟨(y 0).val, (y 0).isLt⟩ ⟨(y 1).val, (y 1).isLt⟩)) ((hb _ _).trans ?_)
  · exact eq_ix2 _
  · congr 1; dsimp only; omega
-- ==== Proof.Ref.Value.lean ====
/- The reference's stages, read entry by entry. -/
module

public import proofs.«01_k».proof.Proof.Ref.Read
public import proofs.«01_k».proof.Proof.Mix.Array

@[expose] public section

set_option maxRecDepth 16384

noncomputable section

namespace Cert.ReferenceIdeal.Read

open Cert.ReferenceIdeal Cert.ReferenceIdeal.Gen
open Idealize.ShloMosaic Idealize.ShloMosaic.TcCoe
open Cert.KernelIdeal.Mix (rowcol tapcol sinkof rowcol_eq tapcol_eq sinkof_eq convU gap seen gap_bound)

variable (x0 : Vec Ideal S1x8192x13312 .f32) (x1 : Vec Ideal S1x3x2048 .f32) (x2 : Vec Ideal S1x16 .f32)

theorem two_bits : (Ideal.ofBits .f32 1073741824#32 : EReal) = ((2 : ℝ) : EReal) := by
  simp [Ideal.ofBits, Ideal.ieee, -EReal.coe_mul]; norm_num
theorem meight_bits : (Ideal.ofBits .f32 3238002688#32 : EReal) = ((-8 : ℝ) : EReal) := by
  simp [Ideal.ofBits, Ideal.ieee, -EReal.coe_mul]; norm_num
theorem sixteen_bits : (Ideal.ofBits .f32 1098907648#32 : EReal) = ((16 : ℝ) : EReal) := by
  simp [Ideal.ofBits, Ideal.ieee, -EReal.coe_mul]; norm_num
theorem dim_bits : (Ideal.ofBits .f32 1124073472#32 : EReal) = ((128 : ℝ) : EReal) := by
  simp [Ideal.ofBits, Ideal.ieee, -EReal.coe_mul]; norm_num

/-- The reference's gate. -/
def gateR (z : EReal) : EReal := z * Ideal.div 1 (1 + Ideal.exp (-z))
/-- The band of a block: zero outside the sequence. -/
def bandR (P : ℕ → ℕ → EReal) (b t n : ℕ) : EReal := if 128 ≤ 128 * b + t ∧ 128 * b + t < 8320 then P (128 * b + t - 128) n else 0
/-- Head `h`'s masked score. -/
def scoreR (P : ℕ → ℕ → EReal) (b r h : ℕ) (t : Fin 384) : EReal :=
  if seen b r t.val then Ideal.div (∑ d : Fin 128, bandR P b t.val (10240 + 128 * (h / 4) + d.val) * P (128 * b + r) (8192 + 128 * h + d.val)) ((Real.sqrt 128 : ℝ) : EReal)
    + -((Cert.KernelIdeal.Mix.slope h : ℝ) : EReal) * ((gap r t.val : ℝ) : EReal) else ⊥
/-- The largest of a row's scores and the sink. -/
def topR (f : Fin 384 → EReal) (v : EReal) : EReal := max (Finset.univ.fold max ⊥ f) v
/-- A row's denominator. -/
def denR (f : Fin 384 → EReal) (v : EReal) : EReal := ∑ t, Ideal.exp (f t - topR f v) + Ideal.exp (v - topR f v)
/-- The gated attention. -/
def attnR (P : ℕ → ℕ → EReal) (S : ℕ → EReal) (b r h l : ℕ) : EReal :=
  (∑ t : Fin 384, bandR P b t.val (10752 + 128 * (h / 4) + l) * Ideal.div (Ideal.exp (scoreR P b r h t - topR (scoreR P b r h) (S h))) (denR (scoreR P b r h) (S h)))
    * gateR (P (128 * b + r) (11264 + 128 * h + l))
/-- The gated short convolution. -/
def convR (P W : ℕ → ℕ → EReal) (a k : ℕ) : EReal :=
  P a k * ((if a = 0 then 0 else convU P (a - 1) k) * W 0 k + convU P a k * W 1 k + convU P (a + 1) k * W 2 k) * gateR (P a (6144 + k))
/-- Every entry of the reference's result. -/
def mixR (P W : ℕ → ℕ → EReal) (S : ℕ → EReal) (a k : ℕ) : EReal :=
  if k < 2048 then convR P W a k else attnR P S (a / 128) (a % 128) ((k - 2048) / 128) ((k - 2048) % 128)

theorem zero_word : (FloatOps.sitofp FTy.f32 0#32 : Ideal .f32) = (0 : EReal) := by
  show (((0#32 : BitVec 32).toInt : ℝ) : EReal) = 0
  simp

theorem v8_apply (z : Fin 1) (a : Fin 8192) (k : Fin 2048) : (val_main_v8 (F := Ideal) x0 (ix3 z a k) : EReal) = convU (rowcol x0) a.val k.val := by
  pointwise [val_main_v8, val_main_v1, val_main_v2]
  rw [rowcol_eq x0, rowcol_eq x0]; rfl

theorem v10_apply (z : Fin 1) (a : Fin 8194) (k : Fin 2048) :
    (val_main_v10 (F := Ideal) x0 (ix3 z a k) : EReal) = if 1 ≤ a.val ∧ a.val - 1 < 8192 then convU (rowcol x0) (a.val - 1) k.val else 0 := by
  pointwise [val_main_v10, val_main_call0_v0, val_main_c]
  simp only [v8_apply, zero_word, dite_eq_ite]

/-- The gated convolution's entries. -/
theorem v33_apply (z : Fin 1) (a : Fin 8192) (k : Fin 2048) (ha : a.val < 512) :
    (val_main_v33 (F := Ideal) x0 x1 (ix3 z a k) : EReal) = convR (rowcol x0) (tapcol x1) a.val k.val := by
  pointwise [val_main_v33, val_main_v31, val_main_v32, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v9, val_main_v3, val_main_v0, val_main_call1_v5, val_main_call1_v4, val_main_call1_v3, val_main_call1_v2, val_main_call1_v1, val_main_call1_v0, val_main_call1_cst, val_main_call1_cst_0]
  simp only [v10_apply, rowcol_eq, tapcol_eq]
  rw [if_pos (show 1 ≤ 1 + a.val ∧ 1 + a.val - 1 < 8192 by omega), if_pos (show 1 ≤ 2 + a.val ∧ 2 + a.val - 1 < 8192 by omega)]
  unfold convR gateR
  rw [show 1 + a.val - 1 = a.val by omega, show 2 + a.val - 1 = a.val + 1 by omega]
  by_cases h0 : a.val = 0
  · rw [if_neg (by omega), if_pos h0]; rfl
  · rw [if_pos (by omega), if_neg h0]; rfl

/-- The queries, by block, row, head and lane. -/
theorem v35_apply (z : Fin 1) (b : Fin 64) (r : Fin 128) (g q : Fin 4) (d : Fin 128) :
    (val_main_v35 (F := Ideal) x0 (ix6 z b r g q d) : EReal) = rowcol x0 (128 * b.val + r.val) (8192 + 128 * (4 * g.val + q.val) + d.val) := by
  pointwise [val_main_v35, val_main_v4]
  refine (rowcol_eq x0 _ _ _).trans ?_
  congr 1 <;> (dsimp only; omega)
theorem v36_apply (z : Fin 1) (b : Fin 64) (r : Fin 128) (g : Fin 4) (d : Fin 128) :
    (val_main_v36 (F := Ideal) x0 (ix5 z b r g d) : EReal) = rowcol x0 (128 * b.val + r.val) (10240 + 128 * g.val + d.val) := by
  pointwise [val_main_v36, val_main_v5]
  refine (rowcol_eq x0 _ _ _).trans ?_
  congr 1 <;> (dsimp only; omega)
theorem v42_apply (z : Fin 1) (b : Fin 64) (r : Fin 128) (g : Fin 4) (d : Fin 128) :
    (val_main_v42 (F := Ideal) x0 (ix5 z b r g d) : EReal) = rowcol x0 (128 * b.val + r.val) (10752 + 128 * g.val + d.val) := by
  pointwise [val_main_v42, val_main_v6]
  refine (rowcol_eq x0 _ _ _).trans ?_
  congr 1 <;> (dsimp only; omega)

/-- Three blocks one below another, of a padded sequence of blocks. -/
theorem band_cases (P : ℕ → ℕ → EReal) (b t n : ℕ) (hb : b < 64) (ht : t < 384) :
    (if t < 128 then (if (1 ≤ b ∧ b - 1 < 64) ∧ t < 128 then P (128 * (b - 1) + t) n else 0)
      else if t - 128 < 128 then (if t - 128 < 128 then P (128 * b + (t - 128)) n else 0)
      else if (1 ≤ 2 + b ∧ 2 + b - 1 < 64) ∧ t - 128 - 128 < 128 then P (128 * (2 + b - 1) + (t - 128 - 128)) n else 0) = bandR P b t n := by
  unfold bandR
  split_ifs <;> first | rfl | omega | (congr 1; omega)

/-- The keys' band. -/
theorem v41_apply (z : Fin 1) (b : Fin 64) (t : Fin 384) (g : Fin 4) (d : Fin 128) :
    (val_main_v41 (F := Ideal) x0 (ix5 z b t g d) : EReal) = bandR (rowcol x0) b.val t.val (10240 + 128 * g.val + d.val) := by
  pointwise [val_main_v41, val_main_v40, val_main_v39, val_main_v38, val_main_v37, val_main_call2_v0, val_main_c_0]
  simp only [v36_apply, zero_word, dite_eq_ite]
  exact band_cases _ _ _ _ b.isLt t.isLt
/-- The values' band. -/
theorem v47_apply (z : Fin 1) (b : Fin 64) (t : Fin 384) (g : Fin 4) (d : Fin 128) :
    (val_main_v47 (F := Ideal) x0 (ix5 z b t g d) : EReal) = bandR (rowcol x0) b.val t.val (10752 + 128 * g.val + d.val) := by
  pointwise [val_main_v47, val_main_v46, val_main_v45, val_main_v44, val_main_v43, val_main_call3_v0, val_main_c_1]
  simp only [v42_apply, zero_word, dite_eq_ite]
  exact band_cases _ _ _ _ b.isLt t.isLt

/-- The products of queries and keys. -/
theorem v49_apply (z : Fin 1) (b : Fin 64) (g q : Fin 4) (r : Fin 128) (t : Fin 384) :
    (val_main_v49 (F := Ideal) x0 (ix6 z b g q r t) : EReal)
      = ∑ d : Fin 128, bandR (rowcol x0) b.val t.val (10240 + 128 * g.val + d.val) * rowcol x0 (128 * b.val + r.val) (8192 + 128 * (4 * g.val + q.val) + d.val) := by
  pointwise [val_main_v49, val_main_v48]
  simp only [v41_apply, v35_apply]

/-- The distances. -/
theorem v76_apply (b : Fin 64) (r : Fin 128) (t : Fin 384) : (val_main_v76 (F := Ideal) (ix3 b r t)) = BitVec.ofInt 32 (gap r.val t.val) := by
  pointwise [val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_c_2, val_main_c_3, val_main_c_4]
  have hb := b.isLt
  have hr := r.isLt
  have ht := t.isLt
  open Cert.KernelIdeal.Mix in
  rw [ofNat_int b.val, ofNat_int r.val, ofNat_int t.val, show (128#32 : BitVec 32) = BitVec.ofInt 32 128 from rfl, show (1#32 : BitVec 32) = BitVec.ofInt 32 1 from rfl,
    muli_int, addi_int, subi_int, muli_int, addi_int, subi_int, absi_int _ (by omega)]
  unfold gap
  congr 2; ring

/-- The mask. -/
theorem v88_apply (b : Fin 64) (r : Fin 128) (t : Fin 384) : (val_main_v88 (F := Ideal) (ix3 b r t)) = BitVec.ofBool (seen b.val r.val t.val) := by
  pointwise [val_main_v88, val_main_v87, val_main_v86, val_main_v85, val_main_v84, val_main_v83, val_main_v82, val_main_v81, val_main_v80, val_main_v79, val_main_v78, val_main_v77, val_main_v70, val_main_v69, val_main_v68, val_main_v67, val_main_v66, val_main_v65, val_main_v64, val_main_v63, val_main_v62, val_main_v54, val_main_v53, val_main_c_5, val_main_c_6, val_main_c_7, val_main_c_3, val_main_c_4]
  have hb := b.isLt
  have hr := r.isLt
  have ht := t.isLt
  have hg := gap_bound r t
  rw [v76_apply]
  open Cert.KernelIdeal.Mix in
  rw [ofNat_int b.val, ofNat_int t.val, show (128#32 : BitVec 32) = BitVec.ofInt 32 128 from rfl, show (1#32 : BitVec 32) = BitVec.ofInt 32 1 from rfl,
    show (0#32 : BitVec 32) = BitVec.ofInt 32 0 from rfl, show (8192#32 : BitVec 32) = BitVec.ofInt 32 8192 from rfl, subi_int, muli_int, addi_int,
    sle_int _ _ (by omega) (by omega), sge_int _ _ (by omega) (by omega), slt_int _ _ (by omega) (by omega), andi_bool, andi_bool]
  unfold seen
  rw [show ((b.val : ℤ) - 1) * 128 + (t.val : ℤ) = (t.val : ℤ) - 128 + (b.val : ℤ) * 128 by ring]

/-- The slopes. -/
theorem v98_apply (g q : Fin 4) : (val_main_v98 (F := Ideal) (ix2 g q) : EReal) = ((Cert.KernelIdeal.Mix.slope (4 * g.val + q.val) : ℝ) : EReal) := by
  pointwise [val_main_v98, val_main_v97, val_main_v96, val_main_v95, val_main_v94, val_main_v93, val_main_v92, val_main_v91, val_main_v90, val_main_v89, val_main_cst_8, val_main_cst_9, val_main_cst_10, val_main_cst_11]
  have hg := g.isLt
  have hq := q.isLt
  rw [two_bits, meight_bits, sixteen_bits, Cert.KernelIdeal.Mix.ofNat_int, Cert.KernelIdeal.Mix.sitofp_int _ (by omega), Ideal.div_coe (by norm_num)]
  rw [show (1 : EReal) = ((1 : ℝ) : EReal) from rfl, ← EReal.coe_add, ← EReal.coe_mul, ← EReal.coe_mul, Ideal.pow_coe_coe]
  unfold Cert.KernelIdeal.Mix.slope
  congr 1
  rw [Real.rpow_eq_pow]
  congr 1; push_cast; ring

/-- The masked scores. -/
theorem v108_apply (z : Fin 1) (b : Fin 64) (g q : Fin 4) (r : Fin 128) (t : Fin 384) :
    (val_main_v108 (F := Ideal) x0 (ix6 z b g q r t) : EReal) = scoreR (rowcol x0) b.val r.val (4 * g.val + q.val) t := by
  pointwise [val_main_v108, val_main_call4_v1, val_main_call4_v2, val_main_call4_v0, val_main_v107, val_main_v106, val_main_v105, val_main_v104, val_main_v103, val_main_v102, val_main_v101, val_main_v100, val_main_v99, val_main_v52, val_main_v51, val_main_v50, val_main_cst, val_main_cst_12]
  have hg := gap_bound r t
  have hq := q.isLt
  rw [v88_apply, Cert.KernelIdeal.Mix.select_ofBool, v49_apply, dim_bits, v98_apply, v76_apply, Cert.KernelIdeal.Mix.sitofp_int _ (by omega), Ideal.sqrt_coe, if_neg (show ¬ ((128 : ℝ) < 0) by norm_num)]
  unfold scoreR
  rw [show (4 * g.val + q.val) / 4 = g.val by omega]
  exact congrArg (fun w : EReal => if seen b.val r.val t.val = true then _ else w) Cert.KernelIdeal.Mix.inf_bits
-- ==== Proof.Mix.Bridge.lean ====
/- The kernel's softmax in base two is the reference's. -/
module

public import proofs.«01_k».proof.Proof.Ref.Value

@[expose] public section

set_option maxRecDepth 16384

noncomputable section

namespace Cert.KernelIdeal.Mix

open Cert.ReferenceIdeal.Read (gateR bandR scoreR topR denR attnR convR mixR)
open Idealize.ShloMosaic

/-- The factor between the two bases. -/
abbrev L : ℝ := (Real.log 2)⁻¹

theorem L_pos : 0 < L := inv_pos.mpr (Real.log_pos (by norm_num))

theorem one_add_exp_ne (z : EReal) : 1 + Ideal.exp z ≠ 0 := by
  induction z with
  | bot => simp
  | top =>
    rw [Ideal.exp_top, show (1 : EReal) = ((1 : ℝ) : EReal) from rfl, EReal.coe_add_top]
    exact EReal.top_ne_zero
  | coe x =>
    rw [Ideal.exp_coe, show (1 : EReal) = ((1 : ℝ) : EReal) from rfl, ← EReal.coe_add]
    exact_mod_cast (by positivity : (1 + Real.exp x : ℝ) ≠ 0)

/-- The two gates are one. -/
theorem gate_eq (z : EReal) : gateK z = gateR z := by
  unfold gateK gateR Ideal.div
  rw [if_neg (one_add_exp_ne _), if_neg (one_add_exp_ne _), one_mul, sub_eq_add_neg, zero_add]

/-- The convolutions are one. -/
theorem conv_eq (P W : ℕ → ℕ → EReal) (a k : ℕ) : convK P W a k = convR P W a k := by
  unfold convK convR
  rw [gate_eq]

/-- Scaling by a nonnegative real goes through a sum of extended reals. -/
theorem sum_scale {ι : Type} (s : Finset ι) (f : ι → EReal) (x : ℝ) (hx : 0 ≤ x) : (∑ i ∈ s, f i) * (x : EReal) = ∑ i ∈ s, f i * (x : EReal) := by
  classical
  induction s using Finset.induction_on with
  | empty => simp
  | insert a s ha ih =>
    rw [Finset.sum_insert ha, Finset.sum_insert ha, ← ih]
    exact EReal.right_distrib_of_nonneg_of_ne_top (by exact_mod_cast hx) (EReal.coe_ne_top x) _ _

/-- A value that is a real number, or nothing at all. -/
def RealOrBot (a : EReal) : Prop := a = ⊥ ∨ ∃ x : ℝ, a = (x : EReal)

/-- The base-two exponential of a scaled difference. -/
theorem exp2_scaled (a : EReal) (ha : RealOrBot a) (M : ℝ) : Ideal.exp2 (a * (L : EReal) - (M : EReal) * (L : EReal)) = Ideal.exp (a - (M : EReal)) := by
  rcases ha with rfl | ⟨x, rfl⟩
  · rw [EReal.bot_mul_coe_of_pos L_pos, ← EReal.coe_mul, EReal.bot_sub, EReal.bot_sub, Ideal.exp_bot, Ideal.exp2_bot]
  · rw [← EReal.coe_mul, ← EReal.coe_mul, ← EReal.coe_sub, ← EReal.coe_sub, Ideal.exp2_coe, Ideal.exp_coe]
    congr 1
    rw [Real.rpow_eq_pow]
    rw [Real.rpow_def_of_pos (by norm_num)]
    congr 1
    have : Real.log 2 ≠ 0 := (Real.log_pos (by norm_num)).ne'
    field_simp

/-- The exponential of such a difference is a nonnegative real, zero at nothing. -/
theorem exp_real (a : EReal) (ha : RealOrBot a) (M : ℝ) : ∃ e : ℝ, 0 ≤ e ∧ Ideal.exp (a - (M : EReal)) = (e : EReal) ∧ (a = ⊥ → e = 0) := by
  rcases ha with rfl | ⟨x, rfl⟩
  · exact ⟨0, le_rfl, by rw [EReal.bot_sub, Ideal.exp_bot]; rfl, fun _ => rfl⟩
  · exact ⟨Real.exp (x - M), (Real.exp_pos _).le, by rw [← EReal.coe_sub, Ideal.exp_coe], fun h => absurd h (EReal.coe_ne_bot x)⟩

/-- The largest of such values and a real one is real. -/
theorem top_real (f : Fin 384 → EReal) (hf : ∀ t, RealOrBot (f t)) (v : ℝ) : ∃ M : ℝ, topR f (v : EReal) = (M : EReal) := by
  have h1 : topR f (v : EReal) ≠ ⊥ := by
    intro h
    have : (v : EReal) ≤ topR f (v : EReal) := le_max_right _ _
    rw [h, le_bot_iff] at this
    exact EReal.coe_ne_bot v this
  have h2 : topR f (v : EReal) ≠ ⊤ := by
    refine ne_of_lt (max_lt ?_ (EReal.coe_lt_top v))
    rw [Finset.fold_max_lt]
    refine ⟨bot_lt_top, fun t _ => ?_⟩
    rcases hf t with h | ⟨x, h⟩ <;> rw [h]
    · exact bot_lt_top
    · exact EReal.coe_lt_top x
  exact ⟨_, (EReal.coe_toReal h2 h1).symm⟩

/-- Scaling goes through the largest. -/
theorem top_scaled (f : Fin 384 → EReal) (v : EReal) : topS (fun t => f t * (L : EReal)) v = topR f v * (L : EReal) := by
  have hm : Monotone fun x : EReal => x * (L : EReal) := fun x y h => mul_le_mul_of_nonneg_right h (by exact_mod_cast L_pos.le)
  unfold topS topR
  rw [k_log2_e, inf_bits]
  have := Finset.fold_hom (op := (max : EReal → EReal → EReal)) (op' := max) (m := fun x : EReal => x * (L : EReal)) (s := (Finset.univ : Finset (Fin 384))) (b := (⊥ : EReal)) (f := f)
    (fun x y => hm.map_max)
  rw [EReal.bot_mul_coe_of_pos L_pos] at this
  refine Eq.trans ?_ (hm.map_max (a := Finset.univ.fold max ⊥ f) (b := v)).symm
  exact congrArg (fun w => max w _) this

/-- The kernel's weighted mean in base two against the reference's. -/
theorem softmax_eq (f : Fin 384 → EReal) (hf : ∀ t, RealOrBot (f t)) (v : ℝ) (V V' : Fin 384 → EReal) (hV : ∀ t, f t ≠ ⊥ → V t = V' t) :
    Ideal.div (∑ t, FloatOps.exp2 (F := Ideal) (φ := .f32) (f t * (L : EReal) - topS (fun t => f t * (L : EReal)) (v : EReal)) * V t)
        (denS (fun t => f t * (L : EReal)) (v : EReal))
      = ∑ t, V' t * Ideal.div (Ideal.exp (f t - topR f (v : EReal))) (denR f (v : EReal)) := by
  obtain ⟨M, hM⟩ := top_real f hf v
  choose e he using fun t => exp_real (f t) (hf t) M
  have hD : ∃ D : ℝ, 0 < D ∧ denR f (v : EReal) = (D : EReal) := by
    refine ⟨∑ t, e t + Real.exp (v - M), add_pos_of_nonneg_of_pos (Finset.sum_nonneg fun t _ => (he t).1) (Real.exp_pos _), ?_⟩
    unfold denR
    rw [hM, EReal.coe_add, ← EReal.coe_sub, Ideal.exp_coe]
    congr 1
    rw [Finset.sum_congr rfl fun t _ => (he t).2.1]
    exact (map_sum (⟨⟨((↑) : ℝ → EReal), rfl⟩, EReal.coe_add⟩ : ℝ →+ EReal) e Finset.univ).symm
  obtain ⟨D, hD0, hD⟩ := hD
  have hden : denS (fun t => f t * (L : EReal)) (v : EReal) = (D : EReal) := by
    rw [← hD]
    unfold denS denR
    rw [top_scaled, hM, k_log2_e]
    congr 1
    · exact Finset.sum_congr rfl fun t _ => exp2_scaled (f t) (hf t) M
    · exact exp2_scaled (v : EReal) (.inr ⟨v, rfl⟩) M
  rw [hden, hD, Ideal.div_coe hD0.ne', sum_scale _ _ _ (by positivity)]
  refine Finset.sum_congr rfl fun t _ => ?_
  rw [Ideal.div_coe hD0.ne', top_scaled, hM]
  rw [show FloatOps.exp2 (F := Ideal) (φ := .f32) (f t * (L : EReal) - (M : EReal) * (L : EReal)) = Ideal.exp (f t - (M : EReal)) from exp2_scaled (f t) (hf t) M]
  by_cases hb : f t = ⊥
  · rw [(he t).2.1, (he t).2.2 hb]
    simp
  · rw [hV t hb]
    rw [mul_comm (V' t), mul_right_comm]

/-- The projection's queries and keys are real. -/
def RealQK (P : ℕ → ℕ → EReal) : Prop := ∀ a n, 8192 ≤ n → n < 10752 → ∃ x : ℝ, P a n = (x : EReal)

/-- A seen key's row. -/
theorem seen_row (b r t : ℕ) (hb : b < 4) (ht : t < 384) (h : seen b r t = true) : 128 ≤ 128 * b + t ∧ 128 * b + t < 8320 ∧ bandRow b t = 128 * b + t - 128 := by
  unfold seen at h
  simp only [Bool.and_eq_true, decide_eq_true_eq] at h
  refine ⟨by omega, by omega, ?_⟩
  unfold bandRow
  split_ifs <;> omega

/-- A row's scores are real, or nothing; the kernel's are the reference's in base two. -/
theorem score_scaled (P : ℕ → ℕ → EReal) (hP : RealQK P) (b r h : ℕ) (hb : b < 4) (hh : h < 16) (t : Fin 384) :
    RealOrBot (scoreR P b r h t) ∧ scoreK P b r h t = scoreR P b r h t * (L : EReal) ∧ (scoreR P b r h t ≠ ⊥ → seen b r t.val = true) := by
  unfold scoreR scoreK
  by_cases hs : seen b r t.val = true
  · obtain ⟨h1, h2, h3⟩ := seen_row b r t.val hb t.isLt hs
    rw [if_pos hs, if_pos hs]
    choose x hx using fun (a : ℕ) (d : Fin 128) => hP a (8192 + 128 * h + d.val) (by omega) (by omega)
    choose y hy using fun (a : ℕ) (d : Fin 128) => hP a (10240 + 128 * (h / 4) + d.val) (by omega) (by omega)
    have hR : (∑ d : Fin 128, bandR P b t.val (10240 + 128 * (h / 4) + d.val) * P (128 * b + r) (8192 + 128 * h + d.val))
        = ((∑ d, y (128 * b + t.val - 128) d * x (128 * b + r) d : ℝ) : EReal) := by
      refine Eq.trans (Finset.sum_congr rfl fun d _ => ?_) (map_sum (⟨⟨((↑) : ℝ → EReal), rfl⟩, EReal.coe_add⟩ : ℝ →+ EReal) _ Finset.univ).symm
      unfold bandR
      rw [if_pos ⟨h1, h2⟩, hx, hy]
      exact (EReal.coe_mul _ _).symm
    have hK : dotK P h (128 * b + r) (bandRow b t.val) = ((∑ d, y (128 * b + t.val - 128) d * x (128 * b + r) d : ℝ) : EReal) := by
      refine Eq.trans (Finset.sum_congr rfl fun d _ => ?_) (map_sum (⟨⟨((↑) : ℝ → EReal), rfl⟩, EReal.coe_add⟩ : ℝ →+ EReal) _ Finset.univ).symm
      rw [h3, hx, hy, mul_comm]
      exact (EReal.coe_mul _ _).symm
    rw [hR, hK, Ideal.div_coe (by positivity)]
    generalize (∑ d, y (128 * b + t.val - 128) d * x (128 * b + r) d : ℝ) = D
    refine ⟨.inr ⟨D * (1 / Real.sqrt 128) + -slope h * (gap r t.val : ℝ), by push_cast; rfl⟩, ?_, fun _ => hs⟩
    rw [← EReal.coe_mul, ← EReal.coe_mul, ← EReal.coe_mul, ← EReal.coe_mul, ← EReal.coe_neg, ← EReal.coe_mul, ← EReal.coe_add, ← EReal.coe_add, ← EReal.coe_mul]
    congr 1
    unfold L
    ring
  · rw [if_neg hs, if_neg hs]
    exact ⟨.inl rfl, (EReal.bot_mul_coe_of_pos L_pos).symm, fun h => absurd rfl h⟩

/-- The attentions are one. -/
theorem attn_eq (P : ℕ → ℕ → EReal) (S : ℕ → EReal) (hP : RealQK P) (hS : ∀ n, ∃ x : ℝ, S n = (x : EReal)) (b r h l : ℕ) (hb : b < 4) (hh : h < 16) :
    attnK P S b r h l = attnR P S b r h l := by
  unfold attnK attnR
  rw [gate_eq]
  congr 1
  obtain ⟨v, hv⟩ := hS h
  have hsc : scoreK P b r h = fun t => scoreR P b r h t * (L : EReal) := funext fun t => (score_scaled P hP b r h hb hh t).2.1
  rw [hv, hsc]
  refine softmax_eq _ (fun t => (score_scaled P hP b r h hb hh t).1) v _ _ fun t ht => ?_
  obtain ⟨h1, h2, h3⟩ := seen_row b r t.val hb t.isLt ((score_scaled P hP b r h hb hh t).2.2 ht)
  unfold bandR
  rw [if_pos ⟨h1, h2⟩, h3]

/-- The kernel's output is the reference's. -/
theorem mix_eq (P W : ℕ → ℕ → EReal) (S : ℕ → EReal) (hP : RealQK P) (hS : ∀ n, ∃ x : ℝ, S n = (x : EReal)) (a k : ℕ) (ha : a < 512) (hk : k < 4096) :
    mixK P W S a k = mixR P W S a k := by
  unfold mixK mixR
  by_cases h : k < 2048
  · rw [if_pos h, if_pos h, conv_eq]
  · rw [if_neg h, if_neg h, attn_eq P S hP hS _ _ _ _ (by omega) (by omega)]
-- ==== Proof.Mix.Finite.lean ====
/- What the stated condition says: the queries, the keys and the sinks are real numbers. -/
module

public import proofs.«01_k».proof.Proof.Mix.Bridge
public import proofs.«01_k».proof.Proof.Gen.Pre_finite_logits
public import Idealize.ShloMosaic.Lib.ReduceAll

@[expose] public section

set_option maxRecDepth 16384

noncomputable section

namespace Cert.KernelIdeal.Mix

open Idealize.ShloMosaic

/-- A value whose magnitude is below infinity is real. -/
theorem real_of_olt (x : EReal) (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  induction x with
  | bot => simp [Ideal.cmp] at h'
  | top => simp [Ideal.cmp] at h'
  | coe r => exact ⟨r, rfl⟩

section
attribute [local instance] Cert.Pre_finite_logits.Gen.facts

instance : Subsingleton Cert.Pre_finite_logits.S_.Idx := ⟨fun a b => funext fun k => k.elim0⟩

/-- The condition, read: the queries and keys are real, and so is every sink. -/
theorem finite (P : Vec Ideal S1x8192x13312 .f32) (W : Vec Ideal S1x3x2048 .f32) (S : Vec Ideal S1x16 .f32)
    (h : Cert.Pre_finite_logits.fn (F := Ideal) P W S = fun _ => 1#1) : RealQK (rowcol P) ∧ ∀ n, ∃ x : ℝ, sinkof S n = (x : EReal) := by
  have h0 := congrFun h (fun k => k.elim0)
  dsimp only [Cert.Pre_finite_logits.fn] at h0
  have h1 := IntOp.andi_eq_one.mp h0
  refine ⟨fun a n h8 hn => ?_, fun n => ?_⟩
  · unfold rowcol
    split_ifs with hh
    · have := Host.reduce_andi_all _ _ _ _ _ h1.1 (ix3 0 ⟨a, hh.1⟩ ⟨n - 8192, by omega⟩)
      refine real_of_olt _ (Eq.trans (congrArg (fun i => FloatOps.cmpf (F := Ideal) (φ := .f32) .olt (FloatOps.hostAbsf (F := Ideal) (φ := .f32) (P i)) (FloatOps.ofBits (F := Ideal) .f32 0x7F800000#32)) ?_) this)
      funext k
      refine Fin.ext ?_
      match k with
      | ⟨0, _⟩ => rfl
      | ⟨1, _⟩ => exact (Nat.zero_add a).symm
      | ⟨2, _⟩ => show n = 8192 + (n - 8192); omega
    · exact ⟨0, rfl⟩
  · unfold sinkof
    split_ifs with hh
    · exact real_of_olt _ (Host.reduce_andi_all _ _ _ _ _ h1.2 (ix2 0 ⟨n, hh⟩))
    · exact ⟨0, rfl⟩
end
-- ==== Proof.Ref.Result.lean ====
/- The reference's softmax and its result, read entry by entry. -/
module

public import proofs.«01_k».proof.Proof.Ref.Value

@[expose] public section

set_option maxRecDepth 16384

noncomputable section

namespace Cert.ReferenceIdeal.Read

open Cert.ReferenceIdeal Cert.ReferenceIdeal.Gen
open Idealize.ShloMosaic Idealize.ShloMosaic.TcCoe
open Cert.KernelIdeal.Mix (rowcol tapcol sinkof rowcol_eq tapcol_eq sinkof_eq convU gap seen gap_bound)

variable (x0 : Vec Ideal S1x8192x13312 .f32) (x1 : Vec Ideal S1x3x2048 .f32) (x2 : Vec Ideal S1x16 .f32)

/-- The largest score of a row. -/
theorem v110_apply (z : Fin 1) (b : Fin 64) (g q : Fin 4) (r : Fin 128) :
    (val_main_v110 (F := Ideal) x0 (ix5 z b g q r) : EReal) = Finset.univ.fold max ⊥ (scoreR (rowcol x0) b.val r.val (4 * g.val + q.val)) := by
  have hs : (fun t : Fin 384 => (val_main_v108 (F := Ideal) x0 (ix6 z b g q r t) : EReal)) = scoreR (rowcol x0) b.val r.val (4 * g.val + q.val) :=
    funext fun t => v108_apply x0 z b g q r t
  rw [← hs]
  unfold val_main_v110
  generalize val_main_v108 (F := Ideal) x0 = y
  refine (Host.reduce_eq_fold_single (α := Ideal .f32) FloatOps.maximumf y _ reducesTo_S1x64x4x4x128x384_S1x64x4x4x128_d5 (by decide) h_S_ _).trans ?_
  rw [show (val_main_cst_13 (F := Ideal)) (Shape.Idx.first h_S_) = (⊥ : EReal) from Cert.KernelIdeal.Mix.inf_bits]
  show Finset.univ.fold max ⊥ _ = _
  congr 1
  funext k
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

theorem v111_apply (z : Fin 1) (b : Fin 64) (g q : Fin 4) (r : Fin 128) (z' : Fin 1) :
    (val_main_v111 (F := Ideal) x0 (ix6 z b g q r z') : EReal) = Finset.univ.fold max ⊥ (scoreR (rowcol x0) b.val r.val (4 * g.val + q.val)) := by
  rw [← v110_apply x0 z b g q r]
  unfold val_main_v111
  generalize val_main_v110 (F := Ideal) x0 = y
  rw [Subsingleton.elim z 0]
  pointwise []

theorem v112_apply (z : Fin 1) (b : Fin 64) (g q : Fin 4) (r : Fin 128) (z' : Fin 1) :
    (val_main_v112 (F := Ideal) x2 (ix6 z b g q r z') : EReal) = sinkof x2 (4 * g.val + q.val) := by
  pointwise [val_main_v112, val_main_v109, val_main_v34]
  refine (sinkof_eq x2 _ _).trans ?_
  congr 1; dsimp only; omega

/-- The larger of the two readings. -/
theorem v113_max (z : Fin 1) (b : Fin 64) (g q : Fin 4) (r : Fin 128) (z' : Fin 1) (c d : EReal) (hc : (val_main_v111 (F := Ideal) x0 (ix6 z b g q r z') : EReal) = c)
    (hd : (val_main_v112 (F := Ideal) x2 (ix6 z b g q r z') : EReal) = d) : (val_main_v113 (F := Ideal) x0 x2 (ix6 z b g q r z') : EReal) = max c d := by
  rw [← hc, ← hd]
  unfold val_main_v113
  generalize val_main_v111 (F := Ideal) x0 = y
  generalize val_main_v112 (F := Ideal) x2 = y'
  exact Idealize.ShloMosaic.ValueIdx.maximumf_apply y y' _

/-- The largest of a row's scores and the sink. -/
theorem v113_apply (z : Fin 1) (b : Fin 64) (g q : Fin 4) (r : Fin 128) (z' : Fin 1) :
    (val_main_v113 (F := Ideal) x0 x2 (ix6 z b g q r z') : EReal) = topR (scoreR (rowcol x0) b.val r.val (4 * g.val + q.val)) (sinkof x2 (4 * g.val + q.val)) := by
  unfold topR
  exact v113_max x0 x2 z b g q r z' _ _ (v111_apply x0 z b g q r z') (v112_apply x2 z b g q r z')

/-- The exponentials. -/
theorem v116_apply (z : Fin 1) (b : Fin 64) (g q : Fin 4) (r : Fin 128) (t : Fin 384) :
    (val_main_v116 (F := Ideal) x0 x2 (ix6 z b g q r t) : EReal)
      = Ideal.exp (scoreR (rowcol x0) b.val r.val (4 * g.val + q.val) t - topR (scoreR (rowcol x0) b.val r.val (4 * g.val + q.val)) (sinkof x2 (4 * g.val + q.val))) := by
  pointwise [val_main_v116, val_main_v115, val_main_v114]
  rw [v108_apply, v113_apply]

/-- The exponentials' sum. -/
theorem v117_apply (z : Fin 1) (b : Fin 64) (g q : Fin 4) (r : Fin 128) :
    (val_main_v117 (F := Ideal) x0 x2 (ix5 z b g q r) : EReal) = ∑ t : Fin 384, val_main_v116 (F := Ideal) x0 x2 (ix6 z b g q r t) := by
  unfold val_main_v117
  generalize val_main_v116 (F := Ideal) x0 x2 = y
  simp only [Host.reduceAdd, Ideal.hostReduceAdd_def]
  rw [Ideal.hostReduceAdd_single reducesTo_S1x64x4x4x128x384_S1x64x4x4x128_d5 (by decide)]
  rw [show (val_main_cst_14 (F := Ideal)) (Shape.Idx.first h_S_) = (0 : EReal) from Ideal.ofBits_zero_f32, zero_add]
  refine Finset.sum_congr rfl fun k _ => ?_
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- The weights. -/
theorem v124_apply (z : Fin 1) (b : Fin 64) (g q : Fin 4) (r : Fin 128) (t : Fin 384) :
    (val_main_v124 (F := Ideal) x0 x2 (ix6 z b g q r t) : EReal)
      = Ideal.div (Ideal.exp (scoreR (rowcol x0) b.val r.val (4 * g.val + q.val) t - topR (scoreR (rowcol x0) b.val r.val (4 * g.val + q.val)) (sinkof x2 (4 * g.val + q.val))))
          (denR (scoreR (rowcol x0) b.val r.val (4 * g.val + q.val)) (sinkof x2 (4 * g.val + q.val))) := by
  pointwise [val_main_v124, val_main_v123, val_main_v122, val_main_v121, val_main_v120, val_main_v119, val_main_v118, val_main_v109, val_main_v34]
  rw [v116_apply, v113_apply, v117_apply, sinkof_eq x2]
  simp only [v116_apply]
  unfold denR
  rw [show g.val * 4 + q.val = 4 * g.val + q.val by omega]

/-- The attention. -/
theorem v127_apply (z : Fin 1) (a : Fin 8192) (k : Fin 2048) :
    (val_main_v127 (F := Ideal) x0 x2 (ix3 z a k) : EReal)
      = ∑ t : Fin 384, bandR (rowcol x0) (a.val / 128) t.val (10752 + 128 * (k.val / 128 / 4) + k.val % 128)
          * Ideal.div (Ideal.exp (scoreR (rowcol x0) (a.val / 128) (a.val % 128) (k.val / 128) t
              - topR (scoreR (rowcol x0) (a.val / 128) (a.val % 128) (k.val / 128)) (sinkof x2 (k.val / 128))))
            (denR (scoreR (rowcol x0) (a.val / 128) (a.val % 128) (k.val / 128)) (sinkof x2 (k.val / 128))) := by
  pointwise [val_main_v127, val_main_v126, val_main_v125]
  simp only [v47_apply, v124_apply]
  have hk := k.isLt
  rw [show 4 * (k.val / 512) + k.val / 128 % 4 = k.val / 128 by omega, show k.val / 512 = k.val / 128 / 4 by omega]

/-- The reference's result. -/
theorem v133_apply (a : Fin 512) (k : Fin 4096) : (val_main_v133 (F := Ideal) x0 x1 x2 (ix2 a k) : EReal) = mixR (rowcol x0) (tapcol x1) (sinkof x2) a.val k.val := by
  pointwise [val_main_v133, val_main_v132, val_main_v131, val_main_v130, val_main_v129, val_main_v128, val_main_v7, val_main_call5_v5, val_main_call5_v4, val_main_call5_v3, val_main_call5_v2, val_main_call5_v1, val_main_call5_v0, val_main_call5_cst, val_main_call5_cst_0]
  have ha := a.isLt
  have hk := k.isLt
  unfold mixR
  by_cases h : k.val < 2048
  · rw [dif_pos h, if_pos h]
    exact v33_apply x0 x1 _ _ _ ha
  · rw [dif_neg h, if_neg h, v127_apply, rowcol_eq x0]
    unfold attnR gateR
    rw [show 128 * (a.val / 128) + a.val % 128 = a.val by omega,
      show 11264 + 128 * ((k.val - 2048) / 128) + (k.val - 2048) % 128 = 11264 + (k.val - 2048) by omega]
-- ==== Proof.In.Run.lean ====
/- The body of the in_proj call run at symbolic operands: at the first point of the grid, at a tile of even number and at
   a tile of odd number, which differ in the scratch buffer that is read and the one that is filled. -/
module

public import proofs.«01_k».proof.Proof.Gen.Kernel2Ideal.Frame
public import proofs.«01_k».proof.Proof.Gen.Kernel2Ideal.Skeleton

public import Idealize.ShloMosaic.Lib.VecWindow
public import Idealize.ShloMosaic.Lib.WritesUnit
public import Idealize.ShloMosaic.Lib.Pipeline.Value
public import Idealize.ShloMosaic.Lib.Pointwise

@[expose] public section

set_option maxRecDepth 16384

noncomputable section

namespace Cert.Kernel2Ideal.In

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Host
open Idealize.ShloMosaic.Pipeline (Dat Cfg Window BodyObligation cellOf)

variable {F : FTy → Type} [FloatOps F]

local notation "𝕄" => MT nD τ sig Unit (Elt F) ℕ (UR sig nD τ) ℕ

/-- A rank-2 index's row is a row of the shape. -/
theorem idx2_0_lt {n d : ℕ} (y : (⟨2, ![n, d]⟩ : Shape).Idx) : (y (0 : Fin 2)).val < n := (y (0 : Fin 2)).isLt

/-- A rank-2 index's column is a column of the shape. -/
theorem idx2_1_lt {n d : ℕ} (y : (⟨2, ![n, d]⟩ : Shape).Idx) : (y (1 : Fin 2)).val < d := (y (1 : Fin 2)).isLt

/-- The first branch's condition: the first point of the grid. -/
def In1 (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-- Sixteen rows of the 64 a point reads: group `r` of four. -/
def rows16 (x : Vec F S64x4096 .f32) (r : Fin 4) : Vec F S16x4096 .f32 := fun q =>
  x (ix2 ⟨16 * r.val + (q (0 : Fin 2)).val, by have := idx2_0_lt q; omega⟩ ⟨(q (1 : Fin 2)).val, idx2_1_lt q⟩)

/-- The normalised rows of sixteen rows, as the kernel computes them. -/
def normPay (x : Vec F S16x4096 .f32) (g b : Vec F S1x4096 .f32) : Vec F S16x4096 .bf16 :=
  k0_pay16 (k0_pay9 g) (k0_pay10 b) (k0_pay13 x) (k0_pay15 x)

/-- The 64 rows' means, group by group. -/
def muOf (x : Vec F S64x4096 .f32) : Vec F S64x1 .f32 := fun y =>
  k0_pay12 (rows16 x ⟨(y (0 : Fin 2)).val / 16, by have := idx2_0_lt y; omega⟩)
    (ix2 ⟨(y (0 : Fin 2)).val % 16, Nat.mod_lt _ (by decide)⟩ ⟨(y (1 : Fin 2)).val, idx2_1_lt y⟩)

/-- The 64 rows' reciprocal deviations, group by group. -/
def rstdOf (x : Vec F S64x4096 .f32) : Vec F S64x1 .f32 := fun y =>
  k0_pay14 (rows16 x ⟨(y (0 : Fin 2)).val / 16, by have := idx2_0_lt y; omega⟩)
    (ix2 ⟨(y (0 : Fin 2)).val % 16, Nat.mod_lt _ (by decide)⟩ ⟨(y (1 : Fin 2)).val, idx2_1_lt y⟩)

/-- A scratch buffer after its rows from `o` on have taken the 64 rows' normalised values. -/
def normOf (o : ℕ) (x : Vec F S64x4096 .f32) (g b : Vec F S1x4096 .f32) (X : Vec F S1024x4096 .bf16) :
    Vec F S1024x4096 .bf16 := fun y =>
  if h : o ≤ (y (0 : Fin 2)).val ∧ (y (0 : Fin 2)).val < o + 64 then
    normPay (rows16 x ⟨((y (0 : Fin 2)).val - o) / 16, by omega⟩) g b
      (ix2 ⟨((y (0 : Fin 2)).val - o) % 16, Nat.mod_lt _ (by decide)⟩ ⟨(y (1 : Fin 2)).val, idx2_1_lt y⟩)
  else X y

/-- Four stores of sixteen whole rows each, one under the other, read back row by row. -/
theorem read_four {κ : Kind} {sp : Space} {n d : ℕ} {e : EltTy} (v : View sig κ sp (⟨2, ![n, d]⟩ : Shape) e) (f : v.ty.Contents (Elt F))
    (o : ℕ) (W : Fin 4 → (⟨2, ![16, d]⟩ : Shape).Idx → Elt F e) (y : (⟨2, ![n, d]⟩ : Shape).Idx)
    {off0 off1 off2 off3 : Fin 2 → ℕ}
    (inb0 : ∀ a : Fin 2, off0 a + (![16, d] : Fin 2 → ℕ) a ≤ (![n, d] : Fin 2 → ℕ) a)
    (inb1 : ∀ a : Fin 2, off1 a + (![16, d] : Fin 2 → ℕ) a ≤ (![n, d] : Fin 2 → ℕ) a)
    (inb2 : ∀ a : Fin 2, off2 a + (![16, d] : Fin 2 → ℕ) a ≤ (![n, d] : Fin 2 → ℕ) a)
    (inb3 : ∀ a : Fin 2, off3 a + (![16, d] : Fin 2 → ℕ) a ≤ (![n, d] : Fin 2 → ℕ) a)
    (h0 : off0 = ![o + 16 * 0, 0]) (h1 : off1 = ![o + 16 * 1, 0]) (h2 : off2 = ![o + 16 * 2, 0]) (h3 : off3 = ![o + 16 * 3, 0])
    {w0 w1 w2 w3 : (⟨2, ![16, d]⟩ : Shape).Idx → Elt F e}
    (e0 : w0 = W 0) (e1 : w1 = W 1) (e2 : w2 = W 2) (e3 : w3 = W 3) :
    v.read (Elt F) (v.writes (Elt F) f [⟨Rect.unit (s := ⟨2, ![n, d]⟩) off3 ![16, d] inb3, w3⟩, ⟨Rect.unit (s := ⟨2, ![n, d]⟩) off2 ![16, d] inb2, w2⟩,
        ⟨Rect.unit (s := ⟨2, ![n, d]⟩) off1 ![16, d] inb1, w1⟩, ⟨Rect.unit (s := ⟨2, ![n, d]⟩) off0 ![16, d] inb0, w0⟩]) y
      = if h : o ≤ (y (0 : Fin 2)).val ∧ (y (0 : Fin 2)).val < o + 64 then
          W ⟨((y (0 : Fin 2)).val - o) / 16, by omega⟩
            (ix2 ⟨((y (0 : Fin 2)).val - o) % 16, Nat.mod_lt _ (by decide)⟩ ⟨(y (1 : Fin 2)).val, idx2_1_lt y⟩)
        else v.read (Elt F) f y := by
  subst e0 e1 e2 e3
  have key : ∀ (k : Fin 4) (h : o + 16 * k.val ≤ (y (0 : Fin 2)).val ∧ (y (0 : Fin 2)).val < o + 16 * k.val + 16) (h'),
      W k (ix2 ⟨(y (0 : Fin 2)).val - (o + 16 * k.val), by omega⟩ ⟨(y (1 : Fin 2)).val, idx2_1_lt y⟩)
        = W ⟨((y (0 : Fin 2)).val - o) / 16, h'⟩
            (ix2 ⟨((y (0 : Fin 2)).val - o) % 16, Nat.mod_lt _ (by decide)⟩ ⟨(y (1 : Fin 2)).val, idx2_1_lt y⟩) := by
    intro k h h'
    obtain rfl : k = ⟨((y (0 : Fin 2)).val - o) / 16, h'⟩ := Fin.ext (by dsimp only; omega)
    exact congrArg (W _) (congrArg₂ ix2 (Fin.ext (by dsimp only at h ⊢; omega)) rfl)
  by_cases g3 : o + 16 * 3 ≤ (y (0 : Fin 2)).val ∧ (y (0 : Fin 2)).val < o + 16 * 3 + 16
  · rw [dif_pos (by omega), ← key 3 g3 (by omega)]
    exact View.read_writes_cons_rows_of_mem v f inb3 _ _ y (ix2 ⟨(y (0 : Fin 2)).val - (o + 16 * 3), by omega⟩ ⟨(y (1 : Fin 2)).val, idx2_1_lt y⟩) h3
      (by show _ = o + 16 * 3 + ((y (0 : Fin 2)).val - (o + 16 * 3)); omega) rfl
  refine (View.read_writes_cons_rows_of_not_mem (W := 16) v f inb3 _ _ y h3 rfl (by omega)).trans ?_
  by_cases g2 : o + 16 * 2 ≤ (y (0 : Fin 2)).val ∧ (y (0 : Fin 2)).val < o + 16 * 2 + 16
  · rw [dif_pos (by omega), ← key 2 g2 (by omega)]
    exact View.read_writes_cons_rows_of_mem v f inb2 _ _ y (ix2 ⟨(y (0 : Fin 2)).val - (o + 16 * 2), by omega⟩ ⟨(y (1 : Fin 2)).val, idx2_1_lt y⟩) h2
      (by show _ = o + 16 * 2 + ((y (0 : Fin 2)).val - (o + 16 * 2)); omega) rfl
  refine (View.read_writes_cons_rows_of_not_mem (W := 16) v f inb2 _ _ y h2 rfl (by omega)).trans ?_
  by_cases g1 : o + 16 * 1 ≤ (y (0 : Fin 2)).val ∧ (y (0 : Fin 2)).val < o + 16 * 1 + 16
  · rw [dif_pos (by omega), ← key 1 g1 (by omega)]
    exact View.read_writes_cons_rows_of_mem v f inb1 _ _ y (ix2 ⟨(y (0 : Fin 2)).val - (o + 16 * 1), by omega⟩ ⟨(y (1 : Fin 2)).val, idx2_1_lt y⟩) h1
      (by show _ = o + 16 * 1 + ((y (0 : Fin 2)).val - (o + 16 * 1)); omega) rfl
  refine (View.read_writes_cons_rows_of_not_mem (W := 16) v f inb1 _ _ y h1 rfl (by omega)).trans ?_
  by_cases g0 : o + 16 * 0 ≤ (y (0 : Fin 2)).val ∧ (y (0 : Fin 2)).val < o + 16 * 0 + 16
  · rw [dif_pos (by omega), ← key 0 g0 (by omega)]
    exact View.read_writes_cons_rows_of_mem v f inb0 _ _ y (ix2 ⟨(y (0 : Fin 2)).val - (o + 16 * 0), by omega⟩ ⟨(y (1 : Fin 2)).val, idx2_1_lt y⟩) h0
      (by show _ = o + 16 * 0 + ((y (0 : Fin 2)).val - (o + 16 * 0)); omega) rfl
  refine (View.read_writes_cons_rows_of_not_mem (W := 16) v f inb0 _ _ y h0 rfl (by omega)).trans ?_
  rw [dif_neg (by omega)]
  rfl

/-- What a load of sixteen of the 64 rows reads. -/
theorem rows_load {arg3 : Memref sig .tc .vmem S64x4096 .f32} (h : arg3.IsWhole) (x : Vec F S64x4096 .f32) (r : Fin 4)
    (inb : ∀ a : Fin 2, (![16 * r.val, 0] : Fin 2 → ℕ) a + S16x4096.size a ≤ S64x4096.size a) :
    View.readAt (Elt F) arg3.view (Rect.unit (s := S64x4096) ![16 * r.val, 0] S16x4096.size inb).toLoadRect (h.unread x) = rows16 x r := by
  funext q
  rw [View.readAt_apply, h.read_unread]
  exact congrArg x (funext fun a => by
    fin_cases a
    · exact Fin.ext (by show 16 * r.val + 1 * (q (0 : Fin 2)).val = _; rw [Nat.one_mul]; rfl)
    · exact Fin.ext (by show 0 + 1 * (q (1 : Fin 2)).val = _; rw [Nat.one_mul, Nat.zero_add]; rfl))

/-- The normalised rows of one group of sixteen, from what the loads read. -/
theorem norm_load {arg3 : Memref sig .tc .vmem S64x4096 .f32} {arg4 arg5 : Memref sig .tc .vmem S1x4096 .f32} (h : arg3.IsWhole) (h4 : arg4.IsWhole)
    (h5 : arg5.IsWhole) (x : Vec F S64x4096 .f32) (g b : Vec F S1x4096 .f32) (r : Fin 4)
    (inb : ∀ a : Fin 2, (![16 * r.val, 0] : Fin 2 → ℕ) a + S16x4096.size a ≤ S64x4096.size a)
    (inb4 : ∀ a : Fin 2, (![0, 0] : Fin 2 → ℕ) a + S1x4096.size a ≤ S1x4096.size a) (inb5 : ∀ a : Fin 2, (![0, 0] : Fin 2 → ℕ) a + S1x4096.size a ≤ S1x4096.size a) :
    normPay (View.readAt (Elt F) arg3.view (Rect.unit (s := S64x4096) ![16 * r.val, 0] S16x4096.size inb).toLoadRect (h.unread x))
        (View.readAt (Elt F) arg4.view (Rect.unit (s := S1x4096) ![0, 0] S1x4096.size inb4).toLoadRect (h4.unread g))
        (View.readAt (Elt F) arg5.view (Rect.unit (s := S1x4096) ![0, 0] S1x4096.size inb5).toLoadRect (h5.unread b))
      = normPay (rows16 x r) g b := by
  rw [rows_load, View.readAt_full, View.readAt_full, h4.read_unread, h5.read_unread]

/-- The cast of the first block stored is the block. -/
theorem pay_cast (x : Vec F S1024x4096 .bf16) : k0_pay1 x = x := by
  simp only [k0_pay1]; exact shapeCast_self _ _

/-- The 64 rows' means, stored group by group. -/
theorem mu_writes (v : View sig .tc .vmem S64x1 .f32) (f : v.ty.Contents (Elt F)) (x : Vec F S64x4096 .f32)
    {w0 w1 w2 w3 : Vec F S16x1 .f32}
    (e0 : w0 = k0_pay12 (rows16 x 0)) (e1 : w1 = k0_pay12 (rows16 x 1)) (e2 : w2 = k0_pay12 (rows16 x 2)) (e3 : w3 = k0_pay12 (rows16 x 3)) :
    v.read (Elt F) (v.writes (Elt F) f [⟨Rect.unit (s := S64x1) ![48, 0] ![16, 1] inb_S64x1_S16x1_48_0, w3⟩, ⟨Rect.unit (s := S64x1) ![32, 0] ![16, 1] inb_S64x1_S16x1_32_0, w2⟩,
        ⟨Rect.unit (s := S64x1) ![16, 0] ![16, 1] inb_S64x1_S16x1_16_0, w1⟩, ⟨Rect.unit (s := S64x1) ![0, 0] ![16, 1] inb_S64x1_S16x1_0_0, w0⟩])
      = muOf x := by
  funext y
  refine (read_four v f 0 (fun r => k0_pay12 (rows16 x r)) y _ _ _ _ rfl rfl rfl rfl e0 e1 e2 e3).trans ?_
  have := idx2_0_lt y
  rw [dif_pos (by omega)]
  rfl

/-- The 64 rows' reciprocal deviations, stored group by group. -/
theorem rstd_writes (v : View sig .tc .vmem S64x1 .f32) (f : v.ty.Contents (Elt F)) (x : Vec F S64x4096 .f32)
    {w0 w1 w2 w3 : Vec F S16x1 .f32}
    (e0 : w0 = k0_pay14 (rows16 x 0)) (e1 : w1 = k0_pay14 (rows16 x 1)) (e2 : w2 = k0_pay14 (rows16 x 2)) (e3 : w3 = k0_pay14 (rows16 x 3)) :
    v.read (Elt F) (v.writes (Elt F) f [⟨Rect.unit (s := S64x1) ![48, 0] ![16, 1] inb_S64x1_S16x1_48_0, w3⟩, ⟨Rect.unit (s := S64x1) ![32, 0] ![16, 1] inb_S64x1_S16x1_32_0, w2⟩,
        ⟨Rect.unit (s := S64x1) ![16, 0] ![16, 1] inb_S64x1_S16x1_16_0, w1⟩, ⟨Rect.unit (s := S64x1) ![0, 0] ![16, 1] inb_S64x1_S16x1_0_0, w0⟩])
      = rstdOf x := by
  funext y
  refine (read_four v f 0 (fun r => k0_pay14 (rows16 x r)) y _ _ _ _ rfl rfl rfl rfl e0 e1 e2 e3).trans ?_
  have := idx2_0_lt y
  rw [dif_pos (by omega)]
  rfl

/-- The scratch buffer after the four groups' stores. -/
theorem norm_writes (v : View sig .tc .vmem S1024x4096 .bf16) (f : v.ty.Contents (Elt F)) (o : ℕ) (x : Vec F S64x4096 .f32) (g b : Vec F S1x4096 .f32)
    (X : Vec F S1024x4096 .bf16) (hf : v.read (Elt F) f = X) {off0 off1 off2 off3 : Fin 2 → ℕ}
    {inb0 : ∀ a : Fin 2, off0 a + (![16, 4096] : Fin 2 → ℕ) a ≤ (![1024, 4096] : Fin 2 → ℕ) a}
    {inb1 : ∀ a : Fin 2, off1 a + (![16, 4096] : Fin 2 → ℕ) a ≤ (![1024, 4096] : Fin 2 → ℕ) a}
    {inb2 : ∀ a : Fin 2, off2 a + (![16, 4096] : Fin 2 → ℕ) a ≤ (![1024, 4096] : Fin 2 → ℕ) a}
    {inb3 : ∀ a : Fin 2, off3 a + (![16, 4096] : Fin 2 → ℕ) a ≤ (![1024, 4096] : Fin 2 → ℕ) a}
    (h0 : off0 = ![o + 16 * 0, 0]) (h1 : off1 = ![o + 16 * 1, 0]) (h2 : off2 = ![o + 16 * 2, 0]) (h3 : off3 = ![o + 16 * 3, 0])
    {w0 w1 w2 w3 : Vec F S16x4096 .bf16}
    (e0 : w0 = normPay (rows16 x 0) g b) (e1 : w1 = normPay (rows16 x 1) g b) (e2 : w2 = normPay (rows16 x 2) g b) (e3 : w3 = normPay (rows16 x 3) g b) :
    v.read (Elt F) (v.writes (Elt F) f [⟨Rect.unit (s := S1024x4096) off3 ![16, 4096] inb3, w3⟩, ⟨Rect.unit (s := S1024x4096) off2 ![16, 4096] inb2, w2⟩,
        ⟨Rect.unit (s := S1024x4096) off1 ![16, 4096] inb1, w1⟩, ⟨Rect.unit (s := S1024x4096) off0 ![16, 4096] inb0, w0⟩])
      = normOf o x g b X := by
  funext y
  subst hf
  exact read_four v f o (fun r => normPay (rows16 x r) g b) y inb0 inb1 inb2 inb3 h0 h1 h2 h3 e0 e1 e2 e3

set_option maxHeartbeats 4000000 in
/-- The body's triple at the first point: it copies the given block into the even scratch buffer, multiplies it, and fills the odd one's rows. -/
theorem run_first (c : Dev nD) (i : grid0.Coords) (arg2 : Memref sig .tc .vmem S1024x4096 .bf16) (harg2 : arg2.IsWhole) (arg3 : Memref sig .tc .vmem S64x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .f32) (harg6 : arg6.IsWhole) (arg7 : Memref sig .tc .vmem S32x4096 .f32) (harg7 : arg7.IsWhole) (arg8 : Memref sig .tc .vmem S1024x512 .bf16) (harg8 : arg8.IsWhole) (arg9 : Memref sig .tc .vmem S64x1 .f32) (harg9 : arg9.IsWhole) (arg10 : Memref sig .tc .vmem S64x1 .f32) (harg10 : arg10.IsWhole) (arg11 : Memref sig .tc .vmem S32x4096 .bf16) (harg11 : arg11.IsWhole) (arg12 : Memref sig .tc .vmem S1024x4096 .bf16) (harg12 : arg12.IsWhole) (arg13 : Memref sig .tc .vmem S1024x4096 .bf16) (harg13 : arg13.IsWhole)
    (x0 : Vec F S1024x4096 .bf16) (x1 : Vec F S64x4096 .f32) (x2 : Vec F S1x4096 .f32) (x3 : Vec F S1x4096 .f32) (x4 : Vec F S4096x512 .f32) (x5 : Vec F S32x4096 .f32) (x6 : Vec F S1024x512 .bf16) (x7 : Vec F S64x1 .f32) (x8 : Vec F S64x1 .f32) (x9 : Vec F S32x4096 .bf16) (x10 : Vec F S1024x4096 .bf16) (x11 : Vec F S1024x4096 .bf16)
    (h1 : In1 i) (h2 : k0_cond2 i = 1#1) (h3 : ¬ k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay8 x0 x4) ∗ owns (c : Thread nD τ) arg9 fullShare (muOf x1) ∗ owns (c : Thread nD τ) arg10 fullShare (rstdOf x1) ∗ owns (c : Thread nD τ) arg11 fullShare (k0_pay4 x5) ∗ owns (c : Thread nD τ) arg12 fullShare x0 ∗ owns (c : Thread nD τ) arg13 fullShare (normOf (64 * min (i 1).val 15) x1 x2 x3 x11)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  unfold In1 at h1
  simp only [cc0_in_proj_eq_skeleton]; unfold cc0_in_proj_skel
  simp only [h1, h2, h3, dif_pos, dif_neg, dite_true, dite_false, not_false_eq_true]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec_parts
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact (View.read_writes_full _ _ _ _ _).trans (congrArg₂ k0_pay8 ((View.readCov_full _ _ _ _ _).trans ((pay_cast _).trans ((View.readAt_full _ _ _).trans (harg2.read_unread x0)))) ((View.readAt_full _ _ _).trans (harg6.read_unread x4)))
  isplitl [H7]
  · iexists _; isplitr; swap; · iexact H7
    ipureintro; exact mu_writes _ _ x1 (congrArg k0_pay12 (rows_load harg3 x1 0 _)) (congrArg k0_pay12 (rows_load harg3 x1 1 _)) (congrArg k0_pay12 (rows_load harg3 x1 2 _)) (congrArg k0_pay12 (rows_load harg3 x1 3 _))
  isplitl [H8]
  · iexists _; isplitr; swap; · iexact H8
    ipureintro; exact rstd_writes _ _ x1 (congrArg k0_pay14 (rows_load harg3 x1 0 _)) (congrArg k0_pay14 (rows_load harg3 x1 1 _)) (congrArg k0_pay14 (rows_load harg3 x1 2 _)) (congrArg k0_pay14 (rows_load harg3 x1 3 _))
  isplitl [H9]
  · iexists _; isplitr; swap; · iexact H9
    ipureintro; exact (View.read_writes_full _ _ _ _ _).trans (congrArg k0_pay4 ((View.readAt_full _ _ _).trans (harg7.read_unread x5)))
  isplitl [H10]
  · iexists _; isplitr; swap; · iexact H10
    ipureintro; exact (View.read_writes_full _ _ _ _ _).trans ((pay_cast _).trans ((View.readAt_full _ _ _).trans (harg2.read_unread x0)))
  iexists _; isplitr; swap; · iexact H11
  ipureintro; exact norm_writes _ _ _ x1 x2 x3 x11 (harg13.read_unread _) (k0_off1_eq i 0) (k0_off1_eq i 1) (k0_off1_eq i 2) (k0_off1_eq i 3) (norm_load harg3 harg4 harg5 x1 x2 x3 0 _ _ _) (norm_load harg3 harg4 harg5 x1 x2 x3 1 _ _ _) (norm_load harg3 harg4 harg5 x1 x2 x3 2 _ _ _) (norm_load harg3 harg4 harg5 x1 x2 x3 3 _ _ _)

set_option maxHeartbeats 4000000 in
/-- The body's triple at a tile of even number: it multiplies the even scratch buffer and fills the odd one's rows. -/
theorem run_even (c : Dev nD) (i : grid0.Coords) (arg2 : Memref sig .tc .vmem S1024x4096 .bf16) (harg2 : arg2.IsWhole) (arg3 : Memref sig .tc .vmem S64x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .f32) (harg6 : arg6.IsWhole) (arg7 : Memref sig .tc .vmem S32x4096 .f32) (harg7 : arg7.IsWhole) (arg8 : Memref sig .tc .vmem S1024x512 .bf16) (harg8 : arg8.IsWhole) (arg9 : Memref sig .tc .vmem S64x1 .f32) (harg9 : arg9.IsWhole) (arg10 : Memref sig .tc .vmem S64x1 .f32) (harg10 : arg10.IsWhole) (arg11 : Memref sig .tc .vmem S32x4096 .bf16) (harg11 : arg11.IsWhole) (arg12 : Memref sig .tc .vmem S1024x4096 .bf16) (harg12 : arg12.IsWhole) (arg13 : Memref sig .tc .vmem S1024x4096 .bf16) (harg13 : arg13.IsWhole)
    (x0 : Vec F S1024x4096 .bf16) (x1 : Vec F S64x4096 .f32) (x2 : Vec F S1x4096 .f32) (x3 : Vec F S1x4096 .f32) (x4 : Vec F S4096x512 .f32) (x5 : Vec F S32x4096 .f32) (x6 : Vec F S1024x512 .bf16) (x7 : Vec F S64x1 .f32) (x8 : Vec F S64x1 .f32) (x9 : Vec F S32x4096 .bf16) (x10 : Vec F S1024x4096 .bf16) (x11 : Vec F S1024x4096 .bf16)
    (h1 : ¬ In1 i) (h2 : k0_cond2 i = 1#1) (h3 : ¬ k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay8 x10 x4) ∗ owns (c : Thread nD τ) arg9 fullShare (muOf x1) ∗ owns (c : Thread nD τ) arg10 fullShare (rstdOf x1) ∗ owns (c : Thread nD τ) arg11 fullShare (k0_pay4 x5) ∗ owns (c : Thread nD τ) arg12 fullShare x10 ∗ owns (c : Thread nD τ) arg13 fullShare (normOf (64 * min (i 1).val 15) x1 x2 x3 x11)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  unfold In1 at h1
  simp only [cc0_in_proj_eq_skeleton]; unfold cc0_in_proj_skel
  simp only [h1, h2, h3, dif_pos, dif_neg, dite_true, dite_false, not_false_eq_true]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec_parts
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact (View.read_writes_full _ _ _ _ _).trans (congrArg₂ k0_pay8 ((View.readAt_full _ _ _).trans (harg12.read_unread x10)) ((View.readAt_full _ _ _).trans (harg6.read_unread x4)))
  isplitl [H7]
  · iexists _; isplitr; swap; · iexact H7
    ipureintro; exact mu_writes _ _ x1 (congrArg k0_pay12 (rows_load harg3 x1 0 _)) (congrArg k0_pay12 (rows_load harg3 x1 1 _)) (congrArg k0_pay12 (rows_load harg3 x1 2 _)) (congrArg k0_pay12 (rows_load harg3 x1 3 _))
  isplitl [H8]
  · iexists _; isplitr; swap; · iexact H8
    ipureintro; exact rstd_writes _ _ x1 (congrArg k0_pay14 (rows_load harg3 x1 0 _)) (congrArg k0_pay14 (rows_load harg3 x1 1 _)) (congrArg k0_pay14 (rows_load harg3 x1 2 _)) (congrArg k0_pay14 (rows_load harg3 x1 3 _))
  isplitl [H9]
  · iexists _; isplitr; swap; · iexact H9
    ipureintro; exact (View.read_writes_full _ _ _ _ _).trans (congrArg k0_pay4 ((View.readAt_full _ _ _).trans (harg7.read_unread x5)))
  isplitl [H10]
  · iexists _; isplitr; swap; · iexact H10
    ipureintro; exact harg12.read_unread _
  iexists _; isplitr; swap; · iexact H11
  ipureintro; exact norm_writes _ _ _ x1 x2 x3 x11 (harg13.read_unread _) (k0_off1_eq i 0) (k0_off1_eq i 1) (k0_off1_eq i 2) (k0_off1_eq i 3) (norm_load harg3 harg4 harg5 x1 x2 x3 0 _ _ _) (norm_load harg3 harg4 harg5 x1 x2 x3 1 _ _ _) (norm_load harg3 harg4 harg5 x1 x2 x3 2 _ _ _) (norm_load harg3 harg4 harg5 x1 x2 x3 3 _ _ _)

set_option maxHeartbeats 4000000 in
/-- The body's triple at a tile of odd number: it multiplies the odd scratch buffer and fills the even one's rows. -/
theorem run_odd (c : Dev nD) (i : grid0.Coords) (arg2 : Memref sig .tc .vmem S1024x4096 .bf16) (harg2 : arg2.IsWhole) (arg3 : Memref sig .tc .vmem S64x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .f32) (harg6 : arg6.IsWhole) (arg7 : Memref sig .tc .vmem S32x4096 .f32) (harg7 : arg7.IsWhole) (arg8 : Memref sig .tc .vmem S1024x512 .bf16) (harg8 : arg8.IsWhole) (arg9 : Memref sig .tc .vmem S64x1 .f32) (harg9 : arg9.IsWhole) (arg10 : Memref sig .tc .vmem S64x1 .f32) (harg10 : arg10.IsWhole) (arg11 : Memref sig .tc .vmem S32x4096 .bf16) (harg11 : arg11.IsWhole) (arg12 : Memref sig .tc .vmem S1024x4096 .bf16) (harg12 : arg12.IsWhole) (arg13 : Memref sig .tc .vmem S1024x4096 .bf16) (harg13 : arg13.IsWhole)
    (x0 : Vec F S1024x4096 .bf16) (x1 : Vec F S64x4096 .f32) (x2 : Vec F S1x4096 .f32) (x3 : Vec F S1x4096 .f32) (x4 : Vec F S4096x512 .f32) (x5 : Vec F S32x4096 .f32) (x6 : Vec F S1024x512 .bf16) (x7 : Vec F S64x1 .f32) (x8 : Vec F S64x1 .f32) (x9 : Vec F S32x4096 .bf16) (x10 : Vec F S1024x4096 .bf16) (x11 : Vec F S1024x4096 .bf16)
    (h1 : ¬ In1 i) (h2 : ¬ k0_cond2 i = 1#1) (h3 : k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay8 x11 x4) ∗ owns (c : Thread nD τ) arg9 fullShare (muOf x1) ∗ owns (c : Thread nD τ) arg10 fullShare (rstdOf x1) ∗ owns (c : Thread nD τ) arg11 fullShare (k0_pay4 x5) ∗ owns (c : Thread nD τ) arg12 fullShare (normOf (64 * min (i 1).val 15) x1 x2 x3 x10) ∗ owns (c : Thread nD τ) arg13 fullShare x11) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  unfold In1 at h1
  simp only [cc0_in_proj_eq_skeleton]; unfold cc0_in_proj_skel
  simp only [h1, h2, h3, dif_pos, dif_neg, dite_true, dite_false, not_false_eq_true]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
  sl_exec_parts
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact (View.read_writes_full _ _ _ _ _).trans (congrArg₂ k0_pay8 ((View.readAt_full _ _ _).trans (harg13.read_unread x11)) ((View.readAt_full _ _ _).trans (harg6.read_unread x4)))
  isplitl [H7]
  · iexists _; isplitr; swap; · iexact H7
    ipureintro; exact mu_writes _ _ x1 (congrArg k0_pay12 (rows_load harg3 x1 0 _)) (congrArg k0_pay12 (rows_load harg3 x1 1 _)) (congrArg k0_pay12 (rows_load harg3 x1 2 _)) (congrArg k0_pay12 (rows_load harg3 x1 3 _))
  isplitl [H8]
  · iexists _; isplitr; swap; · iexact H8
    ipureintro; exact rstd_writes _ _ x1 (congrArg k0_pay14 (rows_load harg3 x1 0 _)) (congrArg k0_pay14 (rows_load harg3 x1 1 _)) (congrArg k0_pay14 (rows_load harg3 x1 2 _)) (congrArg k0_pay14 (rows_load harg3 x1 3 _))
  isplitl [H9]
  · iexists _; isplitr; swap; · iexact H9
    ipureintro; exact (View.read_writes_full _ _ _ _ _).trans (congrArg k0_pay4 ((View.readAt_full _ _ _).trans (harg7.read_unread x5)))
  isplitl [H10]
  · iexists _; isplitr; swap; · iexact H10
    ipureintro; exact norm_writes _ _ _ x1 x2 x3 x10 (harg12.read_unread _) (k0_off2_eq i 0) (k0_off2_eq i 1) (k0_off2_eq i 2) (k0_off2_eq i 3) (norm_load harg3 harg4 harg5 x1 x2 x3 0 _ _ _) (norm_load harg3 harg4 harg5 x1 x2 x3 1 _ _ _) (norm_load harg3 harg4 harg5 x1 x2 x3 2 _ _ _) (norm_load harg3 harg4 harg5 x1 x2 x3 3 _ _ _)
  iexists _; isplitr; swap; · iexact H11
  ipureintro; exact harg13.read_unread _

end Cert.Kernel2Ideal.In

end
-- ==== Proof.In.Frame.lean ====
/- The in_proj call on the machine: what each window holds at a grid point, what the two scratch buffers hold between
   points, the body's obligation, and the run of the whole program. -/
module

public import proofs.«01_k».proof.Proof.In.Run
public import Idealize.ShloMosaic.Lib.Pipeline.ArrRel
public import Idealize.ShloMosaic.Lib.Claim
public import Idealize.ShloMosaic.Lib.Pipeline.ValueKit.Geometry

@[expose] public section

set_option maxRecDepth 16384

noncomputable section

namespace Cert.Kernel2Ideal.In

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Where each window's block lies at each point. -/
theorem index_eq : ∀ t : Fin grid0.N,
    win0_0.index t = ![0, 0] ∧ win0_1.index t = ![(t.val / 26 + 1) % 8 * 16 + min (t.val % 26) 15, 0]
    ∧ win0_2.index t = ![0, 0] ∧ win0_3.index t = ![0, 0] ∧ win0_4.index t = ![0, t.val % 26] ∧ win0_5.index t = ![min t.val 127, 0] := by
  decide +kernel

/-- The point's grid coordinates. -/
theorem coords_eq : ∀ t : Fin grid0.N, (grid0.coords t 0).val = t.val / 26 ∧ (grid0.coords t 1).val = t.val % 26 := by decide +kernel

/-- The three conditions of the body, by the point. -/
theorem conds_eq : ∀ t : Fin grid0.N, (Scalar.cmpi .ne (Scalar.extui (Scalar.andi (Scalar.cmpi .eq (BitVec.ofNat 32 (grid0.coords t 0).val) 0#32) (Scalar.cmpi .eq (BitVec.ofNat 32 (grid0.coords t 1).val) 0#32)) : BitVec 32) 0#32 = 1#1 ↔ t.val = 0)
    ∧ (k0_cond2 (grid0.coords t) = 1#1 ↔ t.val / 26 % 2 = 0) ∧ (k0_cond3 (grid0.coords t) = 1#1 ↔ t.val / 26 % 2 = 1) := by
  decide +kernel

/-- The given block, read off its array. -/
theorem x0_eq (c : Dev nD) (t : Fin cfg0.N) : (iblk m c 0 t : Vec F S1024x4096 .bf16) = V m c main_arg0 := by
  have h := (index_eq t).1
  funext y; rw [eq_ix2 y]
  blk_ext [iblk, h]

/-- The scale of the norm, read off its array. -/
theorem x2_eq (c : Dev nD) (t : Fin cfg0.N) : (iblk m c 2 t : Vec F S1x4096 .f32) = V m c main_v1 := by
  have h := (index_eq t).2.2.1
  funext y; rw [eq_ix2 y]
  blk_ext [iblk, h]

/-- The shift of the norm, read off its array. -/
theorem x3_eq (c : Dev nD) (t : Fin cfg0.N) : (iblk m c 3 t : Vec F S1x4096 .f32) = V m c main_v2 := by
  have h := (index_eq t).2.2.2.1
  funext y; rw [eq_ix2 y]
  blk_ext [iblk, h]

/-- The rows a point reads, read off their array. -/
theorem x1_apply (c : Dev nD) (t : Fin cfg0.N) (r : Fin 64) (col : Fin 4096)
    (hr : 64 * ((t.val / 26 + 1) % 8 * 16 + min (t.val % 26) 15) + r.val < 8192) :
    (iblk m c 1 t : Vec F S64x4096 .f32) (ix2 r col)
      = (V m c main_v0 : Vec F S8192x4096 .f32) (ix2 ⟨64 * ((t.val / 26 + 1) % 8 * 16 + min (t.val % 26) 15) + r.val, hr⟩ col) := by
  have h := (index_eq t).2.1
  blk_ext [iblk, h]

/-- Sixteen rows of the input from row `o` on. -/
def xrows (c : Dev nD) (o : ℕ) : Vec F S16x4096 .f32 := fun q =>
  (V m c main_v0 : Vec F S8192x4096 .f32) (ix2 ⟨(o + (q (0 : Fin 2)).val) % 8192, Nat.mod_lt _ (by decide)⟩ ⟨(q (1 : Fin 2)).val, idx2_1_lt q⟩)

/-- The normalised rows of tile `k`: the first tile's are given, the others' are computed sixteen rows at a time. -/
def H (c : Dev nD) (k : ℕ) : Vec F S1024x4096 .bf16 :=
  if k = 0 then V m c main_arg0 else fun y =>
    normPay (xrows m c (1024 * (k % 8) + 16 * ((y (0 : Fin 2)).val / 16))) (V m c main_v1) (V m c main_v2)
      (ix2 ⟨(y (0 : Fin 2)).val % 16, Nat.mod_lt _ (by decide)⟩ ⟨(y (1 : Fin 2)).val, idx2_1_lt y⟩)

/-- A group of sixteen of a point's rows, as rows of the input. -/
theorem rows16_eq (c : Dev nD) (t : Fin cfg0.N) (r : Fin 4) :
    rows16 (iblk m c 1 t) r = xrows m c (64 * ((t.val / 26 + 1) % 8 * 16 + min (t.val % 26) 15) + 16 * r.val) := by
  funext q
  have h0 := idx2_0_lt q
  have hr := r.isLt
  have hN : t.val < 208 := t.isLt
  unfold rows16 xrows
  rw [x1_apply m c t _ _ (by dsimp only; omega)]
  exact congrArg (V m c main_v0 : Vec F S8192x4096 .f32) (congrArg₂ ix2 (Fin.ext (by dsimp only; omega)) rfl)

/-- The buffer being filled agrees with the next tile on the rows filled so far, after the point as before it. -/
theorem fill_step (c : Dev nD) (t : Fin cfg0.N) (nxt : Vec F S1024x4096 .bf16)
    (hn : ∀ y : S1024x4096.Idx, (y (0 : Fin 2)).val < 64 * min (t.val % 26) 16 → nxt y = H m c (t.val / 26 + 1) y)
    (y : S1024x4096.Idx) (hy : (y (0 : Fin 2)).val < 64 * min (t.val % 26 + 1) 16) :
    normOf (64 * min (grid0.coords t 1).val 15) (iblk m c 1 t) (iblk m c 2 t) (iblk m c 3 t) nxt y = H m c (t.val / 26 + 1) y := by
  rw [(coords_eq t).2]
  unfold normOf
  have hy0 := idx2_0_lt y
  split_ifs with h
  · rw [x2_eq, x3_eq, rows16_eq]
    unfold H
    rw [if_neg (Nat.succ_ne_zero _)]
    have e1 : 64 * ((t.val / 26 + 1) % 8 * 16 + min (t.val % 26) 15) + 16 * (((y (0 : Fin 2)).val - 64 * min (t.val % 26) 15) / 16)
        = 1024 * ((t.val / 26 + 1) % 8) + 16 * ((y (0 : Fin 2)).val / 16) := by omega
    have e2 : ((y (0 : Fin 2)).val - 64 * min (t.val % 26) 15) % 16 = (y (0 : Fin 2)).val % 16 := by omega
    dsimp only
    rw [e1]
    exact congrArg _ (congrArg₂ ix2 (Fin.ext e2) rfl)
  · exact hn y (by omega)

/-- What the two buffers hold before point `t`: the one read holds the tile, the other its successor's rows so far. -/
def Half (c : Dev nD) (t : ℕ) (cur nxt : Vec F S1024x4096 .bf16) : Prop :=
  cur = H m c (t / 26) ∧ ∀ y : S1024x4096.Idx, (y (0 : Fin 2)).val < 64 * min (t % 26) 16 → nxt y = H m c (t / 26 + 1) y

/-- The scratch buffers before point `t`, the even and the odd one; nothing is said before the first point. -/
def Inv (c : Dev nD) (t : ℕ) (he ho : Vec F S1024x4096 .bf16) : Prop :=
  t ≠ 0 → (t / 26 % 2 = 0 → Half m c t he ho) ∧ (t / 26 % 2 = 1 → Half m c t ho he)

/-- From one point to the next. -/
theorem half_step (c : Dev nD) (t : ℕ) (cur nxt : Vec F S1024x4096 .bf16) (hc : cur = H m c (t / 26))
    (hn : ∀ y : S1024x4096.Idx, (y (0 : Fin 2)).val < 64 * min (t % 26 + 1) 16 → nxt y = H m c (t / 26 + 1) y) :
    ((t + 1) / 26 = t / 26 ∧ Half m c (t + 1) cur nxt) ∨ ((t + 1) / 26 = t / 26 + 1 ∧ Half m c (t + 1) nxt cur) := by
  by_cases h : t % 26 = 25
  · have e : (t + 1) / 26 = t / 26 + 1 := by omega
    have e' : (t + 1) % 26 = 0 := by omega
    refine Or.inr ⟨e, ?_, fun y hy => ?_⟩
    · funext y
      have := idx2_0_lt y
      rw [hn y (by omega), e]
    · rw [e'] at hy; omega
  · have e : (t + 1) / 26 = t / 26 := by omega
    have e' : (t + 1) % 26 = t % 26 + 1 := by omega
    exact Or.inl ⟨e, by rw [e]; exact hc, fun y hy => by rw [e]; exact hn y (by rw [e'] at hy; exact hy)⟩

/-- From one point to the next, at a tile of even number. -/
theorem inv_even (c : Dev nD) (t : ℕ) (he ho : Vec F S1024x4096 .bf16) (hp : t / 26 % 2 = 0) (hc : he = H m c (t / 26))
    (hn : ∀ y : S1024x4096.Idx, (y (0 : Fin 2)).val < 64 * min (t % 26 + 1) 16 → ho y = H m c (t / 26 + 1) y) : Inv m c (t + 1) he ho := fun _ => by
  rcases half_step m c t he ho hc hn with ⟨e, h⟩ | ⟨e, h⟩
  · exact ⟨fun _ => h, fun h' => absurd h' (by omega)⟩
  · exact ⟨fun h' => absurd h' (by omega), fun _ => h⟩

/-- From one point to the next, at a tile of odd number. -/
theorem inv_odd (c : Dev nD) (t : ℕ) (he ho : Vec F S1024x4096 .bf16) (hp : t / 26 % 2 = 1) (hc : ho = H m c (t / 26))
    (hn : ∀ y : S1024x4096.Idx, (y (0 : Fin 2)).val < 64 * min (t % 26 + 1) 16 → he y = H m c (t / 26 + 1) y) : Inv m c (t + 1) he ho := fun _ => by
  rcases half_step m c t ho he hc hn with ⟨e, h⟩ | ⟨e, h⟩
  · exact ⟨fun h' => absurd h' (by omega), fun _ => h⟩
  · exact ⟨fun _ => h, fun h' => absurd h' (by omega)⟩

/-- The scratch buffers before point `t`, and the register the body may use. -/
def Φs (c : Dev nD) (t : ℕ) : sProp 𝕄 :=
  iprop(∃ he : Vec F S1024x4096 .bf16, ∃ ho : Vec F S1024x4096 .bf16, ⌜Inv m c t he ho⌝ ∗ owns (c : Thread nD τ) (Memref.whole cc0_scratch0) fullShare he
    ∗ owns (c : Thread nD τ) (Memref.whole cc0_scratch1) fullShare ho ∗ ∃ r, prngReg c r)

/-- The region hands over the scratch buffers at any contents. -/
theorem Φs_in (c : Dev nD) : (Pipeline.ΦA spec0 c : sProp 𝕄) ⊢ Φs m c 0 := by
  unfold Pipeline.ΦA Φs
  rw [scopedRest0_eq]
  simp only [owns_whole]
  iintro ⟨⟨⟨%f, Hf⟩, ⟨%g, Hg⟩⟩, Hr⟩
  iexists f, g
  isplitr; · ipureintro; exact fun h => absurd rfl h
  isplitl [Hf]; · iexact Hf
  isplitl [Hg]; · iexact Hg
  iexact Hr

/-- It takes them back at any contents. -/
theorem Φs_out (c : Dev nD) (t : ℕ) : Φs m c t ⊢ (Pipeline.ΦA spec0 c : sProp 𝕄) := by
  unfold Pipeline.ΦA Φs
  rw [scopedRest0_eq]
  simp only [owns_whole]
  iintro ⟨%f, %g, -, Hf, Hg, Hr⟩
  isplitl [Hf Hg]
  · isplitl [Hf]
    · iexists _; iexact Hf
    · iexists _; iexact Hg
  iexact Hr

/-- The inputs' proof data: every input's buffer keeps its block; of the outputs nothing is named here. -/
def dat0 (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := Φs m c t.val
  q _ := fullShare
  owed _ := 0

/-- The arrays of the proof data are the contents at the region's entry. -/
theorem dat0_A (c : Dev nD) (w : Fin cfg0.W) : (dat0 m c).A w = V m c (Pipeline.arrRef spec0 w) := by
  dsimp only [dat0]

/-- What the body leaves in the outputs' buffers at point `t`: the tile's rows times the point's columns of the weights,
    the rows' means and reciprocal deviations, and the other weights' rows in the shorter type. -/
def outRel (c : Dev nD) (w : Fin cfg0.W) : Option (Fin cfg0.N → (Y X : (cfg0.win w).block.Idx → Elt F (cfg0.win w).elt) → Prop) :=
  match w with
  | ⟨6, _⟩ => some (fun t _ X => X = k0_pay8 (H m c (t.val / 26)) (iblk m c 4 t))
  | ⟨7, _⟩ => some (fun t _ X => X = muOf (iblk m c 1 t))
  | ⟨8, _⟩ => some (fun t _ X => X = rstdOf (iblk m c 1 t))
  | ⟨9, _⟩ => some (fun t _ X => X = k0_pay4 (iblk m c 5 t))
  | ⟨_, _⟩ => none

/-- The proof data of the call. -/
def rdat (c : Dev nD) : RDat τ (Elt F) Unit ℕ (UR sig nD τ) ℕ cfg0 c := (dat0 m c).toR.override (outRel m c)

/-- Input window 0: what the body finds. -/
theorem finds_0 (c : Dev nD) (t : Fin cfg0.N) (X) (h : (rdat m c).Finds 0 t X) : X = iblk m c 0 t := by
  obtain ⟨d, rfl⟩ := (dat0 m c).toR_finds 0 t X (((dat0 m c).toR.override_finds (ovr := outRel m c) (w := 0) rfl t X).mp h)
  exact before0_0_of m (dat0 m c) (dat0_A m c 0) (fun _ => rfl) t d
/-- Input window 0: what the body may leave. -/
theorem leaves_0 (c : Dev nD) (t : Fin cfg0.N) (Y) : (rdat m c).after 0 t Y (iblk m c 0 t) := rfl
/-- Input window 1: what the body finds. -/
theorem finds_1 (c : Dev nD) (t : Fin cfg0.N) (X) (h : (rdat m c).Finds 1 t X) : X = iblk m c 1 t := by
  obtain ⟨d, rfl⟩ := (dat0 m c).toR_finds 1 t X (((dat0 m c).toR.override_finds (ovr := outRel m c) (w := 1) rfl t X).mp h)
  exact before0_1_of m (dat0 m c) (dat0_A m c 1) (fun _ => rfl) t d
/-- Input window 1: what the body may leave. -/
theorem leaves_1 (c : Dev nD) (t : Fin cfg0.N) (Y) : (rdat m c).after 1 t Y (iblk m c 1 t) := rfl
/-- Input window 2: what the body finds. -/
theorem finds_2 (c : Dev nD) (t : Fin cfg0.N) (X) (h : (rdat m c).Finds 2 t X) : X = iblk m c 2 t := by
  obtain ⟨d, rfl⟩ := (dat0 m c).toR_finds 2 t X (((dat0 m c).toR.override_finds (ovr := outRel m c) (w := 2) rfl t X).mp h)
  exact before0_2_of m (dat0 m c) (dat0_A m c 2) (fun _ => rfl) t d
/-- Input window 2: what the body may leave. -/
theorem leaves_2 (c : Dev nD) (t : Fin cfg0.N) (Y) : (rdat m c).after 2 t Y (iblk m c 2 t) := rfl
/-- Input window 3: what the body finds. -/
theorem finds_3 (c : Dev nD) (t : Fin cfg0.N) (X) (h : (rdat m c).Finds 3 t X) : X = iblk m c 3 t := by
  obtain ⟨d, rfl⟩ := (dat0 m c).toR_finds 3 t X (((dat0 m c).toR.override_finds (ovr := outRel m c) (w := 3) rfl t X).mp h)
  exact before0_3_of m (dat0 m c) (dat0_A m c 3) (fun _ => rfl) t d
/-- Input window 3: what the body may leave. -/
theorem leaves_3 (c : Dev nD) (t : Fin cfg0.N) (Y) : (rdat m c).after 3 t Y (iblk m c 3 t) := rfl
/-- Input window 4: what the body finds. -/
theorem finds_4 (c : Dev nD) (t : Fin cfg0.N) (X) (h : (rdat m c).Finds 4 t X) : X = iblk m c 4 t := by
  obtain ⟨d, rfl⟩ := (dat0 m c).toR_finds 4 t X (((dat0 m c).toR.override_finds (ovr := outRel m c) (w := 4) rfl t X).mp h)
  exact before0_4_of m (dat0 m c) (dat0_A m c 4) (fun _ => rfl) t d
/-- Input window 4: what the body may leave. -/
theorem leaves_4 (c : Dev nD) (t : Fin cfg0.N) (Y) : (rdat m c).after 4 t Y (iblk m c 4 t) := rfl
/-- Input window 5: what the body finds. -/
theorem finds_5 (c : Dev nD) (t : Fin cfg0.N) (X) (h : (rdat m c).Finds 5 t X) : X = iblk m c 5 t := by
  obtain ⟨d, rfl⟩ := (dat0 m c).toR_finds 5 t X (((dat0 m c).toR.override_finds (ovr := outRel m c) (w := 5) rfl t X).mp h)
  exact before0_5_of m (dat0 m c) (dat0_A m c 5) (fun _ => rfl) t d
/-- Input window 5: what the body may leave. -/
theorem leaves_5 (c : Dev nD) (t : Fin cfg0.N) (Y) : (rdat m c).after 5 t Y (iblk m c 5 t) := rfl
/-- Output window 6's relation read off the proof data. -/
theorem rdat_after_6 (c : Dev nD) (t : Fin cfg0.N) (Y X) : (rdat m c).after 6 t Y X ↔ X = k0_pay8 (H m c (t.val / 26)) (iblk m c 4 t) := Iff.rfl
/-- Output window 7's relation read off the proof data. -/
theorem rdat_after_7 (c : Dev nD) (t : Fin cfg0.N) (Y X) : (rdat m c).after 7 t Y X ↔ X = muOf (iblk m c 1 t) := Iff.rfl
/-- Output window 8's relation read off the proof data. -/
theorem rdat_after_8 (c : Dev nD) (t : Fin cfg0.N) (Y X) : (rdat m c).after 8 t Y X ↔ X = rstdOf (iblk m c 1 t) := Iff.rfl
/-- Output window 9's relation read off the proof data. -/
theorem rdat_after_9 (c : Dev nD) (t : Fin cfg0.N) (Y X) : (rdat m c).after 9 t Y X ↔ X = k0_pay4 (iblk m c 5 t) := Iff.rfl

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body at a point, from any buffers to the outputs' values and the scratch buffers of the next point. -/
theorem point (c : Dev nD) (t : Fin cfg0.N) (Y6 : Vec F S1024x512 .bf16) (Y7 Y8 : Vec F S64x1 .f32) (Y9 : Vec F S32x4096 .bf16)
    (he ho : Vec F S1024x4096 .bf16) (hI : Inv m c t.val he ho) (E : Set ℕ) (K : PUnit → sProp 𝕄) :
    iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare Y6 ∗ owns (c : Thread nD τ) (st0_7 t) fullShare Y7 ∗ owns (c : Thread nD τ) (st0_8 t) fullShare Y8 ∗ owns (c : Thread nD τ) (st0_9 t) fullShare Y9 ∗ owns (c : Thread nD τ) (Memref.whole cc0_scratch0) fullShare he ∗ owns (c : Thread nD τ) (Memref.whole cc0_scratch1) fullShare ho
        ∗ (iprop(∃ he' : Vec F S1024x4096 .bf16, ∃ ho' : Vec F S1024x4096 .bf16, ⌜Inv m c (t.val + 1) he' ho'⌝ ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (k0_pay8 (H m c (t.val / 26)) (iblk m c 4 t)) ∗ owns (c : Thread nD τ) (st0_7 t) fullShare (muOf (iblk m c 1 t)) ∗ owns (c : Thread nD τ) (st0_8 t) fullShare (rstdOf (iblk m c 1 t)) ∗ owns (c : Thread nD τ) (st0_9 t) fullShare (k0_pay4 (iblk m c 5 t)) ∗ owns (c : Thread nD τ) (Memref.whole cc0_scratch0) fullShare he' ∗ owns (c : Thread nD τ) (Memref.whole cc0_scratch1) fullShare ho') -∗ K ⟨⟩))
      ⊢ wp frame (wpE (defs₀ (F := F)) Variants.none c none) E (bodyAt0 t) K := by
  have hN : t.val < 208 := t.isLt
  obtain ⟨c1, c2, c3⟩ := conds_eq t
  by_cases hp : t.val / 26 % 2 = 0
  · by_cases h0 : t.val = 0
    · have hH : (iblk m c 0 t : Vec F S1024x4096 .bf16) = H m c (t.val / 26) := by
        rw [x0_eq, show t.val / 26 = 0 by omega]; rfl
      iintro ⟨A0, A1, A2, A3, A4, A5, A6, A7, A8, A9, A10, A11, Hk⟩
      iapply run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) Y6 Y7 Y8 Y9 he ho (c1.mpr h0) (c2.mpr hp) (fun h => by have := c3.mp h; omega)
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      iintro ⟨A0, A1, A2, A3, A4, A5, A6, A7, A8, A9, A10, A11⟩
      iapply Hk
      iexists (iblk m c 0 t), _
      isplitr
      · ipureintro
        exact inv_even m c t.val _ _ hp hH (fill_step m c t ho (fun y hy => by rw [h0] at hy; omega))
      rw [← hH]
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      iexact A11
    · have hI' := (hI h0).1 hp
      iintro ⟨A0, A1, A2, A3, A4, A5, A6, A7, A8, A9, A10, A11, Hk⟩
      iapply run_even c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) Y6 Y7 Y8 Y9 he ho (fun h => h0 (c1.mp h)) (c2.mpr hp) (fun h => by have := c3.mp h; omega)
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      iintro ⟨A0, A1, A2, A3, A4, A5, A6, A7, A8, A9, A10, A11⟩
      iapply Hk
      iexists he, _
      isplitr
      · ipureintro
        exact inv_even m c t.val _ _ hp hI'.1 (fill_step m c t ho hI'.2)
      rw [← hI'.1]
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      iexact A11
  · have hp1 : t.val / 26 % 2 = 1 := by omega
    have hI' := (hI (by omega)).2 hp1
    iintro ⟨A0, A1, A2, A3, A4, A5, A6, A7, A8, A9, A10, A11, Hk⟩
    iapply run_odd c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) Y6 Y7 Y8 Y9 he ho (fun h => by have := c1.mp h; omega) (fun h => hp (c2.mp h)) (c3.mpr hp1)
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    iintro ⟨A0, A1, A2, A3, A4, A5, A6, A7, A8, A9, A10, A11⟩
    iapply Hk
    iexists _, ho
    isplitr
    · ipureintro
      exact inv_odd m c t.val _ _ hp1 hI'.1 (fill_step m c t he hI'.2)
    rw [← hI'.1]
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11

set_option maxHeartbeats 1600000 in
/-- The body's obligation at every point. -/
theorem body_obligation (c : Dev nD) : (rdat m c).BodyObligation (defs₀ (F := F)) Variants.none () Set.univ := fun t Y hY => by
  rw [bigSep_W0, bigSep_W0, defs₀_row, show (rdat m c).Φ t.castSucc = Φs m c t.val from rfl, show (rdat m c).Φ t.succ = Φs m c (t.val + 1) from rfl,
    show (rdat m c).owesAt () t.succ = (rdat m c).owesAt () t.castSucc from rfl]
  rw [finds_0 m c t _ (hY 0)]
  rw [finds_1 m c t _ (hY 1)]
  rw [finds_2 m c t _ (hY 2)]
  rw [finds_3 m c t _ (hY 3)]
  rw [finds_4 m c t _ (hY 4)]
  rw [finds_5 m c t _ (hY 5)]
  unfold Φs
  iintro ⟨⟨%he, %ho, %hI, A10, A11, Hr⟩, Ho, A0, A1, A2, A3, A4, A5, A6, A7, A8, A9⟩
  iapply point m c t (Y 6) (Y 7) (Y 8) (Y 9) he ho hI
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  iintro ⟨%he', %ho', %hI', A0, A1, A2, A3, A4, A5, A6, A7, A8, A9, A10, A11⟩
  isplitl [A10 A11 Hr]
  · iexists he', ho'
    isplitr; · ipureintro; exact hI'
    isplitl [A10]; · iexact A10
    isplitl [A11]; · iexact A11
    iexact Hr
  isplitl [Ho]; · iexact Ho
  isplitl [A0]
  · iexists _; isplitr; swap; · iexact A0
    ipureintro; exact leaves_0 m c t _
  isplitl [A1]
  · iexists _; isplitr; swap; · iexact A1
    ipureintro; exact leaves_1 m c t _
  isplitl [A2]
  · iexists _; isplitr; swap; · iexact A2
    ipureintro; exact leaves_2 m c t _
  isplitl [A3]
  · iexists _; isplitr; swap; · iexact A3
    ipureintro; exact leaves_3 m c t _
  isplitl [A4]
  · iexists _; isplitr; swap; · iexact A4
    ipureintro; exact leaves_4 m c t _
  isplitl [A5]
  · iexists _; isplitr; swap; · iexact A5
    ipureintro; exact leaves_5 m c t _
  isplitl [A6]
  · iexists _; isplitr; swap; · iexact A6
    ipureintro; exact (rdat_after_6 m c t _ _).mpr rfl
  isplitl [A7]
  · iexists _; isplitr; swap; · iexact A7
    ipureintro; exact (rdat_after_7 m c t _ _).mpr rfl
  isplitl [A8]
  · iexists _; isplitr; swap; · iexact A8
    ipureintro; exact (rdat_after_8 m c t _ _).mpr rfl
  iexists _; isplitr; swap; · iexact A9
  ipureintro; exact (rdat_after_9 m c t _ _).mpr rfl

set_option backward.isDefEq.respectTransparency.types false in
/-- The run of the whole program: it ends with every array as the proof data say, and with every counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := body_obligation m) (hshare := fun _ _ => ite_self _)
    (howed := fun _ _ => rfl) (V := V m) (hmain := hmain m Variants.none) (hA := dat0_A m) (hin := fun c => Φs_in m c) (hout := fun c => Φs_out m c _)
    (hQ' := fun _ h => h)

/-- The argument arrays end as they began. -/
theorem args_kept {r : PUnit × MemSt nD τ sig (Elt F)} (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame: the argument arrays end as they began, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_kept m h.1, h.2⟩) (run_main m ρ)

end Cert.Kernel2Ideal.In

end
-- ==== Proof.In.Value.lean ====
/- What the in_proj call's body computes, entry by entry, on exact values: a row's mean, its reciprocal deviation, the
   normalised row, and the product with a block of the weights. -/
module

public import proofs.«01_k».proof.Proof.In.Frame
public import Idealize.ShloMosaic.Lib.Pointwise

@[expose] public section

set_option maxRecDepth 16384

noncomputable section

namespace Cert.Kernel2Ideal.In

open Cert.Kernel2Ideal Cert.Kernel2Ideal.Gen
open Idealize.ShloMosaic Idealize.ShloMosaic.TcCoe

/-- A row's mean. -/
def meanS (f : Fin 4096 → EReal) : EReal := Ideal.div (∑ d, f d) (Ideal.ofBits FTy.f32 0x45800000#32)

/-- A row's reciprocal deviation. -/
def rstdS (f : Fin 4096 → EReal) : EReal :=
  Ideal.rsqrt (meanS (fun d => (f d - meanS f) * (f d - meanS f)) + Ideal.ofBits FTy.f32 0x3727C5AC#32)

/-- A row normalised, scaled and shifted. -/
def normS (f g b : Fin 4096 → EReal) (d : Fin 4096) : EReal := (f d - meanS f) * rstdS f * g d + b d

/-- The means a group of rows takes. -/
theorem pay12_apply (X : Vec Ideal S16x4096 .f32) (r : Fin 16) (z : Fin 1) : (k0_pay12 X (ix2 r z) : EReal) = meanS (fun d => X (ix2 r d)) := by
  pointwise [k0_pay12, k0_pay11]
  rfl

/-- A group of rows with each row's mean taken off. -/
theorem pay13_apply (X : Vec Ideal S16x4096 .f32) (r : Fin 16) (d : Fin 4096) :
    (k0_pay13 X (ix2 r d) : EReal) = X (ix2 r d) - meanS (fun d => X (ix2 r d)) := by
  pointwise [k0_pay13, k0_pay11]
  rw [pay12_apply]

/-- The reciprocal deviations a group of rows takes. -/
theorem pay14_apply (X : Vec Ideal S16x4096 .f32) (r : Fin 16) (z : Fin 1) : (k0_pay14 X (ix2 r z) : EReal) = rstdS (fun d => X (ix2 r d)) := by
  pointwise [k0_pay14]
  simp only [pay13_apply]
  rfl

/-- The normalised rows a group of rows takes. -/
theorem normPay_apply (X : Vec Ideal S16x4096 .f32) (g b : Vec Ideal S1x4096 .f32) (r : Fin 16) (d : Fin 4096) :
    (normPay X g b (ix2 r d) : EReal) = normS (fun d => X (ix2 r d)) (fun d => g (ix2 0 d)) (fun d => b (ix2 0 d)) d := by
  pointwise [normPay, k0_pay16, k0_pay9, k0_pay10, k0_pay15]
  rw [pay13_apply, pay14_apply]
  rfl

/-- The product with a block of the weights. -/
theorem pay8_apply (A : Vec Ideal S1024x4096 .bf16) (B : Vec Ideal S4096x512 .f32) (r : Fin 1024) (n : Fin 512) :
    (k0_pay8 A B (ix2 r n) : EReal) = ∑ k : Fin 4096, A (ix2 r k) * B (ix2 k n) := by
  pointwise [k0_pay8]

/-- The output weights, rounded: on exact values, themselves. -/
theorem pay4_apply (B : Vec Ideal S32x4096 .f32) (r : Fin 32) (n : Fin 4096) : (k0_pay4 B (ix2 r n) : EReal) = B (ix2 r n) := by
  pointwise [k0_pay4]

end Cert.Kernel2Ideal.In

end
-- ==== Proof.In.Result.lean ====
/- The in_proj call's four results after the run, entry by entry, on exact values. -/
module

public import proofs.«01_k».proof.Proof.In.Value
public import proofs.«01_k».proof.Proof.Mix.Inputs

@[expose] public section

set_option maxRecDepth 16384

noncomputable section

namespace Cert.Kernel2Ideal.In

open Cert.Kernel2Ideal Cert.Kernel2Ideal.Gen
open Idealize.ShloMosaic Idealize.ShloMosaic.TcCoe
open Cert.KernelIdeal.Mix (natCol)

variable (m : (ℓ : Loc nD τ sig) → Buf (Elt Ideal) ℓ)

/-- A row of the input. -/
def xrow (X : Vec Ideal S1x8192x4096 .f32) (a : ℕ) (d : Fin 4096) : EReal := if h : a < 8192 then X (ix3 0 ⟨a, h⟩ d) else 0
/-- The norm's scale, or its shift. -/
def vec1 (g : Vec Ideal S4096 .f32) (d : Fin 4096) : EReal := g (ix1 d)
/-- The input projection's entries by row and column. -/
def wcol (W : Vec Ideal S1x4096x13312 .f32) (k : Fin 4096) (n : ℕ) : EReal := if h : n < 13312 then W (ix3 0 k ⟨n, h⟩) else 0
/-- The output projection's entries by row and column. -/
def ocol (O : Vec Ideal S1x4096x4096 .f32) (k n : ℕ) : EReal := if h : k < 4096 ∧ n < 4096 then O (ix3 0 ⟨k, h.1⟩ ⟨n, h.2⟩) else 0
/-- The given block's rows. -/
def hrow (H : Vec Ideal S1024x4096 .bf16) (a : ℕ) (d : Fin 4096) : EReal := if h : a < 1024 then H (ix2 ⟨a, h⟩ d) else 0

/-- The projection's left factor: the given rows, then the normalised rows. -/
def leftS (H : Vec Ideal S1024x4096 .bf16) (X : Vec Ideal S1x8192x4096 .f32) (g b : Vec Ideal S4096 .f32) (a : ℕ) (d : Fin 4096) : EReal :=
  if a < 1024 then hrow H a d else normS (xrow X a) (vec1 g) (vec1 b) d

/-- The projection's entry at a row and one of the weights' columns. -/
def projS (H : Vec Ideal S1024x4096 .bf16) (X : Vec Ideal S1x8192x4096 .f32) (g b : Vec Ideal S4096 .f32) (W : Vec Ideal S1x4096x13312 .f32) (a n : ℕ) : EReal :=
  ∑ k : Fin 4096, leftS H X g b a k * wcol W k n

/-- What the arguments hold. -/
abbrev Hm (c : Dev nD) : Vec Ideal S1024x4096 .bf16 := m ((c.tc : Thread nD τ).loc main_arg0)
abbrev Xm (c : Dev nD) : Vec Ideal S1x8192x4096 .f32 := m ((c.tc : Thread nD τ).loc main_arg1)
abbrev Gm (c : Dev nD) : Vec Ideal S4096 .f32 := m ((c.tc : Thread nD τ).loc main_arg2)
abbrev Bm (c : Dev nD) : Vec Ideal S4096 .f32 := m ((c.tc : Thread nD τ).loc main_arg3)
abbrev Wm (c : Dev nD) : Vec Ideal S1x4096x13312 .f32 := m ((c.tc : Thread nD τ).loc main_arg4)
abbrev Om (c : Dev nD) : Vec Ideal S1x4096x4096 .f32 := m ((c.tc : Thread nD τ).loc main_arg5)

theorem xrow_eq (X : Vec Ideal S1x8192x4096 .f32) (z : Fin 1) (a : Fin 8192) (d : Fin 4096) : X (ix3 z a d) = xrow X a.val d := by
  rw [xrow, dif_pos a.isLt, Subsingleton.elim z 0]
theorem wcol_eq (W : Vec Ideal S1x4096x13312 .f32) (z : Fin 1) (k : Fin 4096) (n : Fin 13312) : W (ix3 z k n) = wcol W k n.val := by
  rw [wcol, dif_pos n.isLt, Subsingleton.elim z 0]
theorem ocol_eq (O : Vec Ideal S1x4096x4096 .f32) (z : Fin 1) (k n : Fin 4096) : O (ix3 z k n) = ocol O k.val n.val := by
  rw [ocol, dif_pos ⟨k.isLt, n.isLt⟩, Subsingleton.elim z 0]
theorem hrow_eq (H : Vec Ideal S1024x4096 .bf16) (a : Fin 1024) (d : Fin 4096) : H (ix2 a d) = hrow H a.val d := by
  rw [hrow, dif_pos a.isLt]

theorem V0_apply (c : Dev nD) (a : Fin 8192) (d : Fin 4096) : (V m c main_v0 (ix2 a d) : EReal) = xrow (Xm m c) a.val d := by
  entry_read; pointwise; exact xrow_eq _ _ _ _
theorem V1_apply (c : Dev nD) (z : Fin 1) (d : Fin 4096) : (V m c main_v1 (ix2 z d) : EReal) = vec1 (Gm m c) d := by
  entry_read; pointwise; rfl
theorem V2_apply (c : Dev nD) (z : Fin 1) (d : Fin 4096) : (V m c main_v2 (ix2 z d) : EReal) = vec1 (Bm m c) d := by
  entry_read; pointwise; rfl
theorem V3_apply (c : Dev nD) (k : Fin 4096) (n : Fin 13312) : (V m c main_v3 (ix2 k n) : EReal) = wcol (Wm m c) k n.val := by
  entry_read; pointwise; exact wcol_eq _ _ _ _
theorem V4_apply (c : Dev nD) (k n : Fin 4096) : (V m c main_v4 (ix2 k n) : EReal) = ocol (Om m c) k.val n.val := by
  entry_read; pointwise; exact ocol_eq _ _ _ _

/-- The column block of the output that a column block of the weights goes to. -/
def place (j : ℕ) : ℕ := if 20 ≤ j ∧ j < 22 then j + 4 else if 22 ≤ j then (j - 22) / 2 * 12 + 10 + (j - 22) % 2 else j % 4 / 2 * 12 + j / 4 * 2 + j % 4 % 2

/-- Where each result's block lies at each point. -/
theorem outIndex_eq : ∀ t : Fin grid0.N,
    win0_6.index t = ![t.val / 26, place (t.val % 26)] ∧ win0_7.index t = ![(t.val / 26 + 1) % 8 * 16 + min (t.val % 26) 15, 0]
    ∧ win0_8.index t = ![(t.val / 26 + 1) % 8 * 16 + min (t.val % 26) 15, 0] ∧ win0_9.index t = ![min t.val 127, 0] := by
  decide +kernel

/-- The weights' block at a point. -/
theorem x4_apply (c : Dev nD) (t : Fin cfg0.N) (k : Fin 4096) (n : Fin 512) :
    ((iblk m c 4 t : Vec Ideal S4096x512 .f32) (ix2 k n) : EReal) = wcol (Wm m c) k (512 * (t.val % 26) + n.val) := by
  have h := (index_eq t).2.2.2.2.1
  have hN : t.val < 208 := t.isLt
  refine Eq.trans ?_ (V3_apply m c k ⟨512 * (t.val % 26) + n.val, by omega⟩)
  blk_ext [iblk, h]

/-- The output weights' block at a point. -/
theorem x5_apply (c : Dev nD) (t : Fin cfg0.N) (r : Fin 32) (n : Fin 4096) :
    ((iblk m c 5 t : Vec Ideal S32x4096 .f32) (ix2 r n) : EReal) = ocol (Om m c) (32 * min t.val 127 + r.val) n.val := by
  have h := (index_eq t).2.2.2.2.2
  have hN : t.val < 208 := t.isLt
  refine Eq.trans ?_ (V4_apply m c ⟨32 * min t.val 127 + r.val, by omega⟩ n)
  blk_ext [iblk, h]

/-- A group of sixteen rows, as rows of the input. -/
theorem xrows_apply (c : Dev nD) (o : ℕ) (r : Fin 16) (d : Fin 4096) : (xrows m c o (ix2 r d) : EReal) = xrow (Xm m c) ((o + r.val) % 8192) d := by
  unfold xrows
  exact V0_apply m c _ _

/-- The left factor a tile's points multiply. -/
theorem H_apply (c : Dev nD) (k : ℕ) (hk : k < 8) (r : Fin 1024) (d : Fin 4096) :
    (H m c k (ix2 r d) : EReal) = leftS (Hm m c) (Xm m c) (Gm m c) (Bm m c) (1024 * k + r.val) d := by
  have hr := r.isLt
  unfold H leftS
  by_cases h : k = 0
  · rw [if_pos h, if_pos (by omega), V_main_arg0]
    refine (hrow_eq _ _ _).trans ?_
    subst h
    rw [Nat.mul_zero, Nat.zero_add]
  · rw [if_neg h, if_neg (by omega)]
    refine (normPay_apply _ _ _ _ _).trans ?_
    rw [show (fun d => (V m c main_v1 (ix2 0 d) : EReal)) = vec1 (Gm m c) from funext fun d => V1_apply m c 0 d,
      show (fun d => (V m c main_v2 (ix2 0 d) : EReal)) = vec1 (Bm m c) from funext fun d => V2_apply m c 0 d]
    refine congrFun (congrArg (fun f => normS f (vec1 (Gm m c)) (vec1 (Bm m c))) (funext fun d => ?_)) d
    refine (xrows_apply m c _ _ _).trans (congrFun (congrArg (xrow (Xm m c)) ?_) d)
    show (1024 * (k % 8) + 16 * (r.val / 16) + r.val % 16) % 8192 = 1024 * k + r.val
    omega

/-- The mean of one of a point's rows. -/
theorem muOf_apply (c : Dev nD) (t : Fin cfg0.N) (r : Fin 64) (z : Fin 1) :
    (muOf (iblk m c 1 t) (ix2 r z) : EReal) = meanS (xrow (Xm m c) (64 * ((t.val / 26 + 1) % 8 * 16 + min (t.val % 26) 15) + r.val)) := by
  have hr := r.isLt
  have hN : t.val < 208 := t.isLt
  unfold muOf
  rw [rows16_eq]
  refine (pay12_apply _ _ _).trans ?_
  simp only [xrows_apply]
  congr 1
  funext d
  congr 1
  show (64 * ((t.val / 26 + 1) % 8 * 16 + min (t.val % 26) 15) + 16 * (r.val / 16) + r.val % 16) % 8192 = _
  omega

/-- The reciprocal deviation of one of a point's rows. -/
theorem rstdOf_apply (c : Dev nD) (t : Fin cfg0.N) (r : Fin 64) (z : Fin 1) :
    (rstdOf (iblk m c 1 t) (ix2 r z) : EReal) = rstdS (xrow (Xm m c) (64 * ((t.val / 26 + 1) % 8 * 16 + min (t.val % 26) 15) + r.val)) := by
  have hr := r.isLt
  have hN : t.val < 208 := t.isLt
  unfold rstdOf
  rw [rows16_eq]
  refine (pay14_apply _ _ _).trans ?_
  simp only [xrows_apply]
  congr 1
  funext d
  congr 1
  show (64 * ((t.val / 26 + 1) % 8 * 16 + min (t.val % 26) 15) + 16 * (r.val / 16) + r.val % 16) % 8192 = _
  omega

/-- The column block a point writes is its weights' column block. -/
theorem natCol_place : ∀ j : Fin 26, ∀ n : ℕ, n < 512 → natCol (512 * place j.val + n) = 512 * j.val + n := by
  intro j n hn
  unfold natCol
  fin_cases j <;> simp only [place] <;> norm_num <;> first | omega | (split_ifs <;> omega)

/-- A point's block of the projection. -/
theorem proj_apply (c : Dev nD) (t : Fin cfg0.N) (r : Fin 1024) (n : Fin 512) :
    (k0_pay8 (H m c (t.val / 26)) (iblk m c 4 t) (ix2 r n) : EReal)
      = projS (Hm m c) (Xm m c) (Gm m c) (Bm m c) (Wm m c) (1024 * (t.val / 26) + r.val) (natCol (512 * place (t.val % 26) + n.val)) := by
  have hN : t.val < 208 := t.isLt
  refine (pay8_apply _ _ _ _).trans ?_
  unfold projS
  rw [natCol_place ⟨t.val % 26, Nat.mod_lt _ (by decide)⟩ n.val n.isLt]
  refine Finset.sum_congr rfl fun k _ => ?_
  rw [H_apply m c _ (by omega), x4_apply]

/-- The projection after the run. -/
theorem result_p {r : PUnit × MemSt nD τ sig (Elt Ideal)} (h : Pipeline.RDat.FramePost (cfgs 0) (rdat m) (V m) r) (c : Dev nD) :
    r.2.mem ((c.tc : Thread nD τ).loc main_v5_0)
      = fun j : S8192x13312.Idx => projS (Hm m c) (Xm m c) (Gm m c) (Bm m c) (Wm m c) (j 0).val (natCol (j 1).val) := by
  obtain ⟨after, hL, hA⟩ := h.exists_exact c
  refine (hA 6).trans ?_
  refine Pipeline.Dat.arrAt_eq_of_covers _ 6 _ (by decide +kernel) fun t hf y => ?_
  obtain ⟨Y, hY, hX⟩ := hL 6 t hf
  rw [rdat_after_6] at hX
  have hi := (outIndex_eq t).1
  blk_simp [hi]
  rw [Pipeline.RDat.withAfter_after, hX]
  refine Eq.trans (congrArg _ (eq_ix2 _)) ((proj_apply m c t _ _).trans ?_)
  congr 1 <;> dsimp only <;> first | omega | (congr 1; omega)

/-- The rows' means after the run. -/
theorem result_mu {r : PUnit × MemSt nD τ sig (Elt Ideal)} (h : Pipeline.RDat.FramePost (cfgs 0) (rdat m) (V m) r) (c : Dev nD) :
    r.2.mem ((c.tc : Thread nD τ).loc main_v5_1) = fun j : S8192x1.Idx => meanS (xrow (Xm m c) (j 0).val) := by
  obtain ⟨after, hL, hA⟩ := h.exists_exact c
  refine (hA 7).trans ?_
  refine Pipeline.Dat.arrAt_eq_of_covers _ 7 _ (by decide +kernel) fun t hf y => ?_
  obtain ⟨Y, hY, hX⟩ := hL 7 t hf
  rw [rdat_after_7] at hX
  have hi := (outIndex_eq t).2.1
  blk_simp [hi]
  rw [Pipeline.RDat.withAfter_after, hX]
  refine Eq.trans (congrArg _ (eq_ix2 _)) ((muOf_apply m c t _ _).trans ?_)
  congr 2; dsimp only; omega

/-- The rows' reciprocal deviations after the run. -/
theorem result_rstd {r : PUnit × MemSt nD τ sig (Elt Ideal)} (h : Pipeline.RDat.FramePost (cfgs 0) (rdat m) (V m) r) (c : Dev nD) :
    r.2.mem ((c.tc : Thread nD τ).loc main_v5_2) = fun j : S8192x1.Idx => rstdS (xrow (Xm m c) (j 0).val) := by
  obtain ⟨after, hL, hA⟩ := h.exists_exact c
  refine (hA 8).trans ?_
  refine Pipeline.Dat.arrAt_eq_of_covers _ 8 _ (by decide +kernel) fun t hf y => ?_
  obtain ⟨Y, hY, hX⟩ := hL 8 t hf
  rw [rdat_after_8] at hX
  have hi := (outIndex_eq t).2.2.1
  blk_simp [hi]
  rw [Pipeline.RDat.withAfter_after, hX]
  refine Eq.trans (congrArg _ (eq_ix2 _)) ((rstdOf_apply m c t _ _).trans ?_)
  congr 2; dsimp only; omega

/-- The output weights after the run. -/
theorem result_w {r : PUnit × MemSt nD τ sig (Elt Ideal)} (h : Pipeline.RDat.FramePost (cfgs 0) (rdat m) (V m) r) (c : Dev nD) :
    r.2.mem ((c.tc : Thread nD τ).loc main_v5_3) = fun j : S4096x4096.Idx => ocol (Om m c) (j 0).val (j 1).val := by
  obtain ⟨after, hL, hA⟩ := h.exists_exact c
  refine (hA 9).trans ?_
  refine Pipeline.Dat.arrAt_eq_of_covers _ 9 _ (by decide +kernel) fun t hf y => ?_
  obtain ⟨Y, hY, hX⟩ := hL 9 t hf
  rw [rdat_after_9] at hX
  have hi := (outIndex_eq t).2.2.2
  blk_simp [hi]
  rw [Pipeline.RDat.withAfter_after, hX]
  refine Eq.trans (congrArg _ (eq_ix2 _)) ((pay4_apply _ _ _).trans ((x5_apply m c t _ _).trans ?_))
  congr 1 <;> dsimp only <;> omega

end Cert.Kernel2Ideal.In

end
-- ==== Proof.In.Reference.lean ====
/- The in_proj part of the reference, read entry by entry on exact values. -/
module

public import proofs.«01_k».proof.Proof.Gen.Reference2Ideal.Read
public import proofs.«01_k».proof.Proof.In.Result

@[expose] public section

set_option maxRecDepth 16384

noncomputable section

namespace Cert.Reference2Ideal.Read

open Cert.Reference2Ideal Cert.Reference2Ideal.Gen
open Idealize.ShloMosaic Idealize.ShloMosaic.TcCoe
open Cert.Kernel2Ideal.In (meanS rstdS normS leftS projS xrow vec1 wcol ocol hrow xrow_eq wcol_eq ocol_eq hrow_eq)
open Cert.KernelIdeal.Mix (natCol dite_to)

variable (x0 : Vec Ideal S1024x4096 .bf16) (x1 : Vec Ideal S1x8192x4096 .f32) (x2 x3 : Vec Ideal S4096 .f32) (x4 : Vec Ideal S1x4096x13312 .f32)
  (x5 : Vec Ideal S1x4096x4096 .f32)

/-- The input's rows. -/
theorem v0_apply (a : Fin 8192) (d : Fin 4096) : (val_main_v0 (F := Ideal) x1 (ix2 a d) : EReal) = xrow x1 a.val d := by
  pointwise [val_main_v0]
  exact xrow_eq _ _ _ _

/-- The rows' means. -/
theorem v4_apply (a : Fin 8192) (z : Fin 1) : (val_main_v4 (F := Ideal) x1 (ix2 a z) : EReal) = meanS (xrow x1 a.val) := by
  pointwise [val_main_v4, val_main_v3, val_main_v2, val_main_v1, val_main_cst, val_main_cst_0]
  simp only [v0_apply]
  rfl

/-- The rows' reciprocal deviations. -/
theorem v14_apply (a : Fin 8192) (z : Fin 1) : (val_main_v14 (F := Ideal) x1 (ix2 a z) : EReal) = rstdS (xrow x1 a.val) := by
  pointwise [val_main_v14, val_main_v13, val_main_v12, val_main_v11, val_main_v10, val_main_v9, val_main_v8, val_main_v7, val_main_v6, val_main_v5, val_main_cst_1, val_main_cst_2, val_main_cst_3]
  simp only [v0_apply, v4_apply]
  rfl

/-- The normalised rows. -/
theorem v24_apply (a : Fin 8192) (d : Fin 4096) : (val_main_v24 (F := Ideal) x1 x2 x3 (ix2 a d) : EReal) = normS (xrow x1 a.val) (vec1 x2) (vec1 x3) d := by
  pointwise [val_main_v24, val_main_v23, val_main_v22, val_main_v21, val_main_v20, val_main_v19, val_main_v18, val_main_v17, val_main_v16, val_main_v15]
  rw [v0_apply, v4_apply, v14_apply]
  rfl

/-- The projection's left factor. -/
theorem v27_apply (a : Fin 8192) (d : Fin 4096) : (val_main_v27 (F := Ideal) x0 x1 x2 x3 (ix2 a d) : EReal) = leftS x0 x1 x2 x3 a.val d := by
  have ha := a.isLt
  pointwise [val_main_v27, val_main_v26, val_main_v25]
  unfold leftS
  by_cases h : a.val < 1024
  · rw [dif_pos h, if_pos h]
    exact hrow_eq _ _ _
  · rw [dif_neg h, if_neg h]
    refine (v24_apply _ _ _ _ _).trans ?_
    refine congrFun (congrArg (fun f => normS f (vec1 x2) (vec1 x3)) (congrArg (xrow x1) ?_)) d
    show 1024 + (a.val - 1024) = a.val
    omega

/-- The projection. -/
theorem v29_apply (a : Fin 8192) (n : Fin 13312) : (val_main_v29 (F := Ideal) x0 x1 x2 x3 x4 (ix2 a n) : EReal) = projS x0 x1 x2 x3 x4 a.val n.val := by
  pointwise [val_main_v29, val_main_v28]
  unfold projS
  refine Finset.sum_congr rfl fun k _ => ?_
  rw [v27_apply, wcol_eq x4]

set_option maxHeartbeats 4000000 in
/-- The projection with its columns gathered half by half. -/
theorem v51_apply (a : Fin 8192) (C : Fin 13312) : (val_main_v51 (F := Ideal) x0 x1 x2 x3 x4 (ix2 a C) : EReal) = projS x0 x1 x2 x3 x4 a.val (natCol C.val) := by
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, v29_apply]
  iterate 13 (refine dite_to (fun _ => ?_) (fun _ => ?_); · (refine congrArg (projS x0 x1 x2 x3 x4 a.val) ?_; unfold natCol; split_ifs <;> omega))
  exact congrArg (projS x0 x1 x2 x3 x4 a.val) (by unfold natCol; split_ifs <;> omega)

/-- The output weights, rounded: on exact values, themselves. -/
theorem v53_apply (k n : Fin 4096) : (val_main_v53 (F := Ideal) x5 (ix2 k n) : EReal) = ocol x5 k.val n.val := by
  pointwise [val_main_v53, val_main_v52]
  exact ocol_eq _ _ _ _

end Cert.Reference2Ideal.Read

end
-- ==== Proof.In.Words.lean ====
/- The in_proj call's frame on machine words, taken from the run of the idealized program: the two programs have one text. -/
module

public import proofs.«01_k».proof.Defs
public import proofs.«01_k».proof.Proof.Gen.Kernel2
public import proofs.«01_k».proof.Proof.In.Frame

@[expose] public section

noncomputable section

namespace Cert.Kernel2.In

open Idealize.ShloMosaic Idealize.SL.Sem

/-- The bodies of one label are one text. -/
theorem defs_row (ℓ : Fin 1) (x) : @Cert.Kernel2.defs₀ Bits _ _ .tc ℓ x = @Cert.Kernel2Ideal.defs₀ Bits _ _ .tc ℓ x := by
  unfold Cert.Kernel2.defs₀ Cert.Kernel2Ideal.defs₀
  rw [Defs.onTc_tc, Defs.onTc_tc]
  match ℓ, x with
  | 0, (t, s) => rfl

/-- The kernels' body tables are one. -/
theorem defs₀_eq : @Cert.Kernel2.defs₀ Bits _ _ = @Cert.Kernel2Ideal.defs₀ Bits _ _ := by
  funext b
  match b with
  | .tc => funext ℓ x; exact defs_row ℓ x
  | .scScalar _ => rfl
  | .scVector _ _ => rfl

/-- The programs' body tables are one. -/
theorem defs_eq : @Cert.Kernel2.defs Bits _ _ = @Cert.Kernel2Ideal.defs Bits _ _ := by
  unfold Cert.Kernel2.defs Cert.Kernel2Ideal.defs
  exact congrArg (Pipeline.defs (Cert.Kernel2Ideal.pcfgs (F := Bits))) defs₀_eq

/-- The frame on machine words: the idealized program's run, read at those float values. -/
theorem frame : Cert.quiescent_Kernel2 (hKernel2 := Cert.Kernel2.Gen.facts) := fun m ρ _ => by
  have h := Cert.Kernel2Ideal.In.frame (F := Bits) m ρ
  rw [← defs_eq] at h
  exact h

end Cert.Kernel2.In

end
-- ==== Proof.Entry.Value.lean ====
/- What the entry norm's body leaves in its block, entry by entry, on exact values: each row normalised, scaled and shifted. -/
module

public import proofs.«01_k».proof.Proof.Gen.Kernel3Ideal.Frame
public import proofs.«01_k».proof.Proof.Gen.Kernel3Ideal.Skeleton
public import proofs.«01_k».proof.Proof.In.Result
public import Idealize.ShloMosaic.Lib.Pointwise

@[expose] public section

set_option maxRecDepth 16384

noncomputable section

namespace Cert.Kernel3Ideal.Entry

open Cert.Kernel3Ideal Cert.Kernel3Ideal.Gen
open Idealize.ShloMosaic Idealize.ShloMosaic.TcCoe
open Cert.Kernel2Ideal.In (meanS rstdS normS xrow vec1 xrow_eq)

/-- The rows of a block, normalised. -/
def blockS (x : Vec Ideal S256x4096 .f32) (g b : Vec Ideal S1x4096 .f32) : Vec Ideal S256x4096 .bf16 := fun y =>
  (normS (fun d => x (ix2 (y 0) d)) (fun d => g (ix2 0 d)) (fun d => b (ix2 0 d)) (y 1) : EReal)

/-- A group of rows, normalised: the last group's form. -/
theorem pay3_apply (X : Vec Ideal S16x4096 .f32) (g b : Vec Ideal S1x4096 .f32) (r : Fin 16) (d : Fin 4096) :
    (k0_pay3 g b X (ix2 r d) : EReal) = normS (fun d => X (ix2 r d)) (fun d => g (ix2 0 d)) (fun d => b (ix2 0 d)) d := by
  pointwise [k0_pay3, k0_pay1, k0_pay2]
  rfl

/-- The first group's form. -/
theorem pay4_apply (X : Vec Ideal S16x4096 .f32) (g b : Vec Ideal S1x4096 .f32) (r : Fin 16) (d : Fin 4096) :
    (k0_pay4 (k0_pay1 g) (k0_pay2 b) X (ix2 r d) : EReal) = normS (fun d => X (ix2 r d)) (fun d => g (ix2 0 d)) (fun d => b (ix2 0 d)) d := by
  pointwise [k0_pay4, k0_pay1, k0_pay2]
  rfl

/-- The second group's form. -/
theorem pay7_apply (X : Vec Ideal S16x4096 .f32) (g b : Vec Ideal S1x4096 .f32) (r : Fin 16) (d : Fin 4096) :
    (k0_pay7 (k0_pay1 g) (k0_pay2 b) (k0_pay5 X) (k0_pay6 X) (ix2 r d) : EReal) = normS (fun d => X (ix2 r d)) (fun d => g (ix2 0 d)) (fun d => b (ix2 0 d)) d := by
  pointwise [k0_pay7, k0_pay5, k0_pay6, k0_pay1, k0_pay2]
  rfl

/-- The third group's form. -/
theorem pay8_apply (X : Vec Ideal S16x4096 .f32) (g b : Vec Ideal S1x4096 .f32) (r : Fin 16) (d : Fin 4096) :
    (k0_pay8 (k0_pay1 g) (k0_pay2 b) X (ix2 r d) : EReal) = normS (fun d => X (ix2 r d)) (fun d => g (ix2 0 d)) (fun d => b (ix2 0 d)) d := by
  pointwise [k0_pay8, k0_pay1, k0_pay2]
  rfl

/-- A piece stored holds the normalised rows at its place. -/
def Good (x : Vec Ideal S256x4096 .f32) (g b : Vec Ideal S1x4096 .f32) (p : View.Piece (Elt Ideal) S256x4096 .bf16) : Prop :=
  ∀ q : p.1.shape.Idx, p.2 q = blockS x g b (p.1.emb q)

/-- Sixteen rows stored where they were read hold the normalised rows. -/
theorem good_piece {arg1 : Memref sig .tc .vmem S256x4096 .f32} (harg1 : arg1.IsWhole) (x : Vec Ideal S256x4096 .f32) (g b : Vec Ideal S1x4096 .f32)
    (off : Fin 2 → ℕ) (o : ℕ) (h : off = ![o, 0]) (inb : ∀ a : Fin 2, off a + (![16, 4096] : Fin 2 → ℕ) a ≤ S256x4096.size a) (w : Vec Ideal S16x4096 .bf16)
    (hw : ∀ (r : Fin 16) (d : Fin 4096), (w (ix2 r d) : EReal)
      = normS (fun d => View.readAt (Elt Ideal) arg1.view (Rect.unit (s := S256x4096) off ![16, 4096] inb).toLoadRect (harg1.unread x) (ix2 r d))
          (fun d => g (ix2 0 d)) (fun d => b (ix2 0 d)) d) :
    Good x g b ⟨Rect.unit (s := S256x4096) off ![16, 4096] inb, w⟩ := by
  subst h
  intro q
  refine (congrArg w (eq_ix2 (n0 := 16) (n1 := 4096) q)).trans ((hw _ _).trans ?_)
  unfold blockS
  simp only [View.readAt_apply, harg1.read_unread]
  refine congr (congrArg (fun f => normS f (fun d => g (ix2 0 d)) (fun d => b (ix2 0 d))) (funext fun d => congrArg x (funext fun a => ?_))) (Fin.ext ?_)
  · fin_cases a
    · rfl
    · exact Fin.ext (by show 0 + 1 * d.val = d.val; omega)
  · show (q (1 : Fin 2)).val = 0 + 1 * (q (1 : Fin 2)).val
    omega

/-- One trip's pieces. -/
theorem trip_good (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .bf16) (harg4 : arg4.IsWhole)
    (x : Vec Ideal S256x4096 .f32) (g b : Vec Ideal S1x4096 .f32) (k : Fin k0_t1_loop.trips) :
    ∀ p ∈ tripL_k0_t1 (F := Ideal) Variants.none c none i arg1 harg1 arg2 harg2 arg3 harg3 arg4 harg4 g b (harg1.unread x) k, Good x g b p := by
  unfold tripL_k0_t1 trip_k0_t1
  dsimp only
  refine List.forall_mem_cons.mpr ⟨?_, List.forall_mem_cons.mpr ⟨?_, List.forall_mem_cons.mpr ⟨?_, List.forall_mem_cons.mpr ⟨?_, fun p hp => absurd hp List.not_mem_nil⟩⟩⟩⟩
  · exact good_piece harg1 x g b _ _ (k0_off1_eq k 3) _ _ fun r d => pay3_apply _ _ _ _ _
  · exact good_piece harg1 x g b _ _ (k0_off1_eq k 2) _ _ fun r d => pay8_apply _ _ _ _ _
  · exact good_piece harg1 x g b _ _ (k0_off1_eq k 1) _ _ fun r d => pay7_apply _ _ _ _ _
  · exact good_piece harg1 x g b _ _ (k0_off1_eq k 0) _ _ fun r d => pay4_apply _ _ _ _ _

/-- The pieces of the trips before `n`. -/
theorem loop_good (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .bf16) (harg4 : arg4.IsWhole)
    (x : Vec Ideal S256x4096 .f32) (g b : Vec Ideal S1x4096 .f32) (n : ℕ) :
    ∀ p ∈ pb_k0_t1 (F := Ideal) Variants.none c none i arg1 harg1 arg2 harg2 arg3 harg3 arg4 harg4 g b (harg1.unread x) n, Good x g b p := by
  induction n with
  | zero => exact fun p hp => absurd hp List.not_mem_nil
  | succ n ih =>
    intro p hp
    rw [pb_k0_t1.eq_2] at hp
    unfold pb_k0_t1Step at hp
    split_ifs at hp with h
    · rcases List.mem_append.mp hp with hp | hp
      · exact trip_good c i arg1 harg1 arg2 harg2 arg3 harg3 arg4 harg4 x g b ⟨n, h⟩ p hp
      · exact ih p hp
    · exact ih p hp

/-- The run's pieces. -/
theorem run_good (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .bf16) (harg4 : arg4.IsWhole)
    (x : Vec Ideal S256x4096 .f32) (g b : Vec Ideal S1x4096 .f32) :
    ∀ p ∈ (kernelRun0_A (F := Ideal) c i arg1 harg1 arg2 harg2 arg3 harg3 arg4 harg4 x g b).1, Good x g b p := by
  unfold kernelRun0_A
  dsimp only
  rw [View.readAt_full, View.readAt_full, harg2.read_unread, harg3.read_unread]
  exact loop_good c i arg1 harg1 arg2 harg2 arg3 harg3 arg4 harg4 x g b _

/-- What the body leaves in its block. -/
theorem out_eq (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .bf16) (harg4 : arg4.IsWhole)
    (x : Vec Ideal S256x4096 .f32) (g b : Vec Ideal S1x4096 .f32) :
    out0_A_3 (F := Ideal) c i arg1 harg1 arg2 harg2 arg3 harg3 arg4 harg4 x g b = blockS x g b :=
  funext fun y => View.read_writes_apply_of_pieces _ _ (blockS x g b) _ (run_good c i arg1 harg1 arg2 harg2 arg3 harg3 arg4 harg4 x g b) y
    (cover0_A_3 c i arg1 harg1 arg2 harg2 arg3 harg3 arg4 harg4 x g b y)

end Cert.Kernel3Ideal.Entry

end
-- ==== Proof.Entry.Result.lean ====
/- The entry norm's result after the run, entry by entry, on exact values. -/
module

public import proofs.«01_k».proof.Proof.Entry.Value

@[expose] public section

set_option maxRecDepth 16384

noncomputable section

namespace Cert.Kernel3Ideal.Entry

open Cert.Kernel3Ideal Cert.Kernel3Ideal.Gen
open Idealize.ShloMosaic Idealize.ShloMosaic.TcCoe
open Cert.Kernel2Ideal.In (meanS rstdS normS xrow vec1 xrow_eq)

variable (m : (ℓ : Loc nD τ sig) → Buf (Elt Ideal) ℓ)

/-- What the arguments hold. -/
abbrev Xm (c : Dev nD) : Vec Ideal S1x8192x4096 .f32 := m ((c.tc : Thread nD τ).loc main_arg0)
abbrev Gm (c : Dev nD) : Vec Ideal S4096 .f32 := m ((c.tc : Thread nD τ).loc main_arg1)
abbrev Bm (c : Dev nD) : Vec Ideal S4096 .f32 := m ((c.tc : Thread nD τ).loc main_arg2)

theorem V0_apply (c : Dev nD) (a : Fin 8192) (d : Fin 4096) : (V m c main_v0 (ix2 a d) : EReal) = xrow (Xm m c) a.val d := by
  entry_read; pointwise; exact xrow_eq _ _ _ _
theorem V1_apply (c : Dev nD) (z : Fin 1) (d : Fin 4096) : (V m c main_v1 (ix2 z d) : EReal) = vec1 (Gm m c) d := by
  entry_read; pointwise; rfl
theorem V2_apply (c : Dev nD) (z : Fin 1) (d : Fin 4096) : (V m c main_v2 (ix2 z d) : EReal) = vec1 (Bm m c) d := by
  entry_read; pointwise; rfl

/-- Where each window's block lies at each point. -/
theorem index_eq : ∀ t : Fin grid0.N,
    win0_0.index t = ![t.val, 0] ∧ win0_1.index t = ![0, 0] ∧ win0_2.index t = ![0, 0] ∧ win0_3.index t = ![t.val, 0] := by
  decide +kernel

/-- The rows a point reads. -/
theorem x0_apply (c : Dev nD) (t : Fin cfg0.N) (r : Fin 256) (d : Fin 4096) :
    ((iblk m c 0 t : Vec Ideal S256x4096 .f32) (ix2 r d) : EReal) = xrow (Xm m c) (256 * t.val + r.val) d := by
  have h := (index_eq t).1
  have hN : t.val < 4 := t.isLt
  refine Eq.trans ?_ (V0_apply m c ⟨256 * t.val + r.val, by omega⟩ d)
  blk_ext [iblk, h]

/-- The scale of the norm. -/
theorem x1_apply (c : Dev nD) (t : Fin cfg0.N) (z : Fin 1) (d : Fin 4096) : ((iblk m c 1 t : Vec Ideal S1x4096 .f32) (ix2 z d) : EReal) = vec1 (Gm m c) d := by
  have h := (index_eq t).2.1
  refine Eq.trans ?_ (V1_apply m c z d)
  blk_ext [iblk, h]

/-- The shift of the norm. -/
theorem x2_apply (c : Dev nD) (t : Fin cfg0.N) (z : Fin 1) (d : Fin 4096) : ((iblk m c 2 t : Vec Ideal S1x4096 .f32) (ix2 z d) : EReal) = vec1 (Bm m c) d := by
  have h := (index_eq t).2.2.1
  refine Eq.trans ?_ (V2_apply m c z d)
  blk_ext [iblk, h]

/-- A point's block of the result. -/
theorem block_apply (c : Dev nD) (t : Fin cfg0.N) (r : Fin 256) (d : Fin 4096) :
    (outsAt0 m c t (ix2 r d) : EReal) = normS (xrow (Xm m c) (256 * t.val + r.val)) (vec1 (Gm m c)) (vec1 (Bm m c)) d := by
  unfold outsAt0
  refine (congrFun (out_eq c (grid0.coords t) (ms0_0 t) (hs0_0 t) (ms0_1 t) (hs0_1 t) (ms0_2 t) (hs0_2 t) (ms0_3 t) (hs0_3 t) (iblk m c 0 t) (iblk m c 1 t) (iblk m c 2 t)) (ix2 r d)).trans ?_
  unfold blockS
  exact congrFun (congr (congr (congrArg normS (funext fun d => x0_apply m c t r d)) (funext fun d => x1_apply m c t 0 d)) (funext fun d => x2_apply m c t 0 d)) d

/-- The normalised rows after the run. -/
theorem result {r : PUnit × MemSt nD τ sig (Elt Ideal)} (h : Pipeline.FramePost cfgs (dats m) 0 (V m) r) (c : Dev nD) :
    r.2.mem ((c.tc : Thread nD τ).loc main_v3)
      = fun j : S1024x4096.Idx => normS (xrow (Xm m c) (j 0).val) (vec1 (Gm m c)) (vec1 (Bm m c)) (j 1) := by
  refine ((h c).1 3).trans ?_
  refine Pipeline.Dat.arrAt_eq_of_covers _ 3 _ (by decide +kernel) fun t hf y => ?_
  have hi := (index_eq t).2.2.2
  blk_simp [hi]
  rw [after0_3]
  refine Eq.trans (congrArg _ (eq_ix2 _)) ((block_apply m c t _ _).trans ?_)
  refine congr (congrArg (fun a => normS (xrow (Xm m c) a) (vec1 (Gm m c)) (vec1 (Bm m c))) ?_) (Fin.ext ?_)
  · dsimp only; omega
  · blk_simp [hi]

/-- The argument arrays end as they began. -/
theorem args_kept {r : PUnit × MemSt nD τ sig (Elt Ideal)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

end Cert.Kernel3Ideal.Entry

end
-- ==== Proof.Entry.Reference.lean ====
/- The entry norm's reference, read entry by entry on exact values. -/
module

public import proofs.«01_k».proof.Proof.Gen.Reference3Ideal.Read
public import proofs.«01_k».proof.Proof.In.Result

@[expose] public section

set_option maxRecDepth 16384

noncomputable section

namespace Cert.Reference3Ideal.Read

open Cert.Reference3Ideal Cert.Reference3Ideal.Gen
open Idealize.ShloMosaic Idealize.ShloMosaic.TcCoe
open Cert.Kernel2Ideal.In (meanS rstdS normS xrow vec1 xrow_eq)

variable (x0 : Vec Ideal S1x8192x4096 .f32) (x1 x2 : Vec Ideal S4096 .f32)

/-- The input's first rows. -/
theorem v1_apply (a : Fin 1024) (d : Fin 4096) : (val_main_v1 (F := Ideal) x0 (ix2 a d) : EReal) = xrow x0 a.val d := by
  pointwise [val_main_v1, val_main_v0]
  exact xrow_eq _ _ _ _

/-- The rows' means. -/
theorem v5_apply (a : Fin 1024) (z : Fin 1) : (val_main_v5 (F := Ideal) x0 (ix2 a z) : EReal) = meanS (xrow x0 a.val) := by
  pointwise [val_main_v5, val_main_v4, val_main_v3, val_main_v2, val_main_cst, val_main_cst_0]
  simp only [v1_apply]
  rfl

/-- The rows' reciprocal deviations. -/
theorem v17_apply (a : Fin 1024) (z : Fin 1) : (val_main_v17 (F := Ideal) x0 (ix2 a z) : EReal) = rstdS (xrow x0 a.val) := by
  pointwise [val_main_v17, val_main_v16, val_main_v15, val_main_v12, val_main_v11, val_main_v10, val_main_v9, val_main_v8, val_main_v7, val_main_v6, val_main_cst_1, val_main_cst_2, val_main_cst_3]
  simp only [v1_apply, v5_apply]
  rfl

/-- The normalised rows. -/
theorem v26_apply (a : Fin 1024) (d : Fin 4096) : (val_main_v26 (F := Ideal) x0 x1 x2 (ix2 a d) : EReal) = normS (xrow x0 a.val) (vec1 x1) (vec1 x2) d := by
  pointwise [val_main_v26, val_main_v25, val_main_v24, val_main_v23, val_main_v22, val_main_v21, val_main_v20, val_main_v19, val_main_v18, val_main_v14, val_main_v13]
  rw [v1_apply, v5_apply, v17_apply]
  rfl

end Cert.Reference3Ideal.Read

end
-- ==== Proof.Entry.Words.lean ====
/- The entry norm's frame on machine words, taken from the run of the idealized program: the two programs have one text. -/
module

public import proofs.«01_k».proof.Defs
public import proofs.«01_k».proof.Proof.Gen.Kernel3
public import proofs.«01_k».proof.Proof.Gen.Kernel3Ideal.Frame

@[expose] public section

noncomputable section

namespace Cert.Kernel3.Entry

open Idealize.ShloMosaic Idealize.SL.Sem

/-- The bodies of one label are one text. -/
theorem defs_row (ℓ : Fin 1) (x) : @Cert.Kernel3.defs₀ Bits _ _ .tc ℓ x = @Cert.Kernel3Ideal.defs₀ Bits _ _ .tc ℓ x := by
  unfold Cert.Kernel3.defs₀ Cert.Kernel3Ideal.defs₀
  rw [Defs.onTc_tc, Defs.onTc_tc]
  match ℓ, x with
  | 0, (t, s) => rfl

/-- The kernels' body tables are one. -/
theorem defs₀_eq : @Cert.Kernel3.defs₀ Bits _ _ = @Cert.Kernel3Ideal.defs₀ Bits _ _ := by
  funext b
  match b with
  | .tc => funext ℓ x; exact defs_row ℓ x
  | .scScalar _ => rfl
  | .scVector _ _ => rfl

/-- The programs' body tables are one. -/
theorem defs_eq : @Cert.Kernel3.defs Bits _ _ = @Cert.Kernel3Ideal.defs Bits _ _ := by
  unfold Cert.Kernel3.defs Cert.Kernel3Ideal.defs
  exact congrArg (Pipeline.defs (Cert.Kernel3Ideal.pcfgs (F := Bits))) defs₀_eq

/-- The frame on machine words: the idealized program's run, read at those float values. -/
theorem frame : Cert.quiescent_Kernel3 (hKernel3 := Cert.Kernel3.Gen.facts) := fun m ρ _ => by
  have h := Cert.Kernel3Ideal.Gen.frame (F := Bits) m ρ
  rw [← defs_eq] at h
  exact h

end Cert.Kernel3.Entry

end
-- ==== Proof.Out.Offs.lean ====
/- Where the out_proj call stores each of its sixteen blocks of mixed rows. -/
module

public import proofs.«01_k».proof.Proof.Gen.Kernel4Ideal.Points

@[expose] public section

set_option maxRecDepth 16384

noncomputable section

namespace Cert.Kernel4Ideal.Out

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The column offset of each of the sixteen blocks within a half. -/
def blockCol (q : Fin 16) : ℕ := if q.val < 8 then 128 * q.val else 2048 + 128 * (q.val - 8)

/-- Where a block is stored in the odd buffer. -/
theorem off1_eq : ∀ (i : grid0.Coords) (q : Fin 16), k0_off1 i (BitVec.ofNat 32 (blockCol q)) = ![128 * ((i 1).val / 2), 1024 * ((i 1).val % 2) + blockCol q] := by
  decide +kernel

/-- Where a block is stored in the even buffer. -/
theorem off13_eq : ∀ (i : grid0.Coords) (q : Fin 16), k0_off13 i (BitVec.ofNat 32 (blockCol q)) = ![128 * ((i 1).val / 2), 1024 * ((i 1).val % 2) + blockCol q] := by
  decide +kernel

instance (i : grid0.Coords) : ClosedOff (k0_off1 i 0#32) := ⟨![128 * ((i 1).val / 2), 1024 * ((i 1).val % 2) + 0], off1_eq i 0⟩
instance (i : grid0.Coords) : ClosedOff (k0_off1 i 128#32) := ⟨![128 * ((i 1).val / 2), 1024 * ((i 1).val % 2) + 128], off1_eq i 1⟩
instance (i : grid0.Coords) : ClosedOff (k0_off1 i 256#32) := ⟨![128 * ((i 1).val / 2), 1024 * ((i 1).val % 2) + 256], off1_eq i 2⟩
instance (i : grid0.Coords) : ClosedOff (k0_off1 i 384#32) := ⟨![128 * ((i 1).val / 2), 1024 * ((i 1).val % 2) + 384], off1_eq i 3⟩
instance (i : grid0.Coords) : ClosedOff (k0_off1 i 512#32) := ⟨![128 * ((i 1).val / 2), 1024 * ((i 1).val % 2) + 512], off1_eq i 4⟩
instance (i : grid0.Coords) : ClosedOff (k0_off1 i 640#32) := ⟨![128 * ((i 1).val / 2), 1024 * ((i 1).val % 2) + 640], off1_eq i 5⟩
instance (i : grid0.Coords) : ClosedOff (k0_off1 i 768#32) := ⟨![128 * ((i 1).val / 2), 1024 * ((i 1).val % 2) + 768], off1_eq i 6⟩
instance (i : grid0.Coords) : ClosedOff (k0_off1 i 896#32) := ⟨![128 * ((i 1).val / 2), 1024 * ((i 1).val % 2) + 896], off1_eq i 7⟩
instance (i : grid0.Coords) : ClosedOff (k0_off1 i 2048#32) := ⟨![128 * ((i 1).val / 2), 1024 * ((i 1).val % 2) + 2048], off1_eq i 8⟩
instance (i : grid0.Coords) : ClosedOff (k0_off1 i 2176#32) := ⟨![128 * ((i 1).val / 2), 1024 * ((i 1).val % 2) + 2176], off1_eq i 9⟩
instance (i : grid0.Coords) : ClosedOff (k0_off1 i 2304#32) := ⟨![128 * ((i 1).val / 2), 1024 * ((i 1).val % 2) + 2304], off1_eq i 10⟩
instance (i : grid0.Coords) : ClosedOff (k0_off1 i 2432#32) := ⟨![128 * ((i 1).val / 2), 1024 * ((i 1).val % 2) + 2432], off1_eq i 11⟩
instance (i : grid0.Coords) : ClosedOff (k0_off1 i 2560#32) := ⟨![128 * ((i 1).val / 2), 1024 * ((i 1).val % 2) + 2560], off1_eq i 12⟩
instance (i : grid0.Coords) : ClosedOff (k0_off1 i 2688#32) := ⟨![128 * ((i 1).val / 2), 1024 * ((i 1).val % 2) + 2688], off1_eq i 13⟩
instance (i : grid0.Coords) : ClosedOff (k0_off1 i 2816#32) := ⟨![128 * ((i 1).val / 2), 1024 * ((i 1).val % 2) + 2816], off1_eq i 14⟩
instance (i : grid0.Coords) : ClosedOff (k0_off1 i 2944#32) := ⟨![128 * ((i 1).val / 2), 1024 * ((i 1).val % 2) + 2944], off1_eq i 15⟩
instance (i : grid0.Coords) : ClosedOff (k0_off13 i 0#32) := ⟨![128 * ((i 1).val / 2), 1024 * ((i 1).val % 2) + 0], off13_eq i 0⟩
instance (i : grid0.Coords) : ClosedOff (k0_off13 i 128#32) := ⟨![128 * ((i 1).val / 2), 1024 * ((i 1).val % 2) + 128], off13_eq i 1⟩
instance (i : grid0.Coords) : ClosedOff (k0_off13 i 256#32) := ⟨![128 * ((i 1).val / 2), 1024 * ((i 1).val % 2) + 256], off13_eq i 2⟩
instance (i : grid0.Coords) : ClosedOff (k0_off13 i 384#32) := ⟨![128 * ((i 1).val / 2), 1024 * ((i 1).val % 2) + 384], off13_eq i 3⟩
instance (i : grid0.Coords) : ClosedOff (k0_off13 i 512#32) := ⟨![128 * ((i 1).val / 2), 1024 * ((i 1).val % 2) + 512], off13_eq i 4⟩
instance (i : grid0.Coords) : ClosedOff (k0_off13 i 640#32) := ⟨![128 * ((i 1).val / 2), 1024 * ((i 1).val % 2) + 640], off13_eq i 5⟩
instance (i : grid0.Coords) : ClosedOff (k0_off13 i 768#32) := ⟨![128 * ((i 1).val / 2), 1024 * ((i 1).val % 2) + 768], off13_eq i 6⟩
instance (i : grid0.Coords) : ClosedOff (k0_off13 i 896#32) := ⟨![128 * ((i 1).val / 2), 1024 * ((i 1).val % 2) + 896], off13_eq i 7⟩
instance (i : grid0.Coords) : ClosedOff (k0_off13 i 2048#32) := ⟨![128 * ((i 1).val / 2), 1024 * ((i 1).val % 2) + 2048], off13_eq i 8⟩
instance (i : grid0.Coords) : ClosedOff (k0_off13 i 2176#32) := ⟨![128 * ((i 1).val / 2), 1024 * ((i 1).val % 2) + 2176], off13_eq i 9⟩
instance (i : grid0.Coords) : ClosedOff (k0_off13 i 2304#32) := ⟨![128 * ((i 1).val / 2), 1024 * ((i 1).val % 2) + 2304], off13_eq i 10⟩
instance (i : grid0.Coords) : ClosedOff (k0_off13 i 2432#32) := ⟨![128 * ((i 1).val / 2), 1024 * ((i 1).val % 2) + 2432], off13_eq i 11⟩
instance (i : grid0.Coords) : ClosedOff (k0_off13 i 2560#32) := ⟨![128 * ((i 1).val / 2), 1024 * ((i 1).val % 2) + 2560], off13_eq i 12⟩
instance (i : grid0.Coords) : ClosedOff (k0_off13 i 2688#32) := ⟨![128 * ((i 1).val / 2), 1024 * ((i 1).val % 2) + 2688], off13_eq i 13⟩
instance (i : grid0.Coords) : ClosedOff (k0_off13 i 2816#32) := ⟨![128 * ((i 1).val / 2), 1024 * ((i 1).val % 2) + 2816], off13_eq i 14⟩
instance (i : grid0.Coords) : ClosedOff (k0_off13 i 2944#32) := ⟨![128 * ((i 1).val / 2), 1024 * ((i 1).val % 2) + 2944], off13_eq i 15⟩

end Cert.Kernel4Ideal.Out

end
-- ==== Proof.Out.Tail.lean ====
/- The buffers of the out_proj call, and its body cut at its five branches: each cut names the rest of the body. -/
module

public import proofs.«01_k».proof.Proof.Out.Offs
public import proofs.«01_k».proof.Proof.Gen.Kernel4Ideal.Frame
public import proofs.«01_k».proof.Proof.Gen.Kernel4Ideal.Skeleton

@[expose] public section

set_option maxRecDepth 16384

noncomputable section

namespace Cert.Kernel4Ideal.Out

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The buffers that the body is given. -/
structure Bufs where
  a2 : Memref sig .tc .smem S16 .f32
  h2 : a2.IsWhole
  a3 : Memref sig .tc .vmem S512x4096 .bf16
  h3 : a3.IsWhole
  a4 : Memref sig .tc .vmem S512x512 .f32
  h4 : a4.IsWhole
  a5 : Memref sig .tc .vmem S512x1 .f32
  h5 : a5.IsWhole
  a6 : Memref sig .tc .vmem S512x1 .f32
  h6 : a6.IsWhole
  a7 : Memref sig .tc .vmem S1x512 .f32
  h7 : a7.IsWhole
  a8 : Memref sig .tc .vmem S1x512 .f32
  h8 : a8.IsWhole
  a9 : Memref sig .tc .vmem S4096x512 .bf16
  h9 : a9.IsWhole
  a10 : Memref sig .tc .vmem S1x4096 .f32
  h10 : a10.IsWhole
  a11 : Memref sig .tc .vmem S1x4096 .f32
  h11 : a11.IsWhole
  a12 : Memref sig .tc .vmem S128x6144 .bf16
  h12 : a12.IsWhole
  a13 : Memref sig .tc .vmem S16x6144 .bf16
  h13 : a13.IsWhole
  a14 : Memref sig .tc .vmem S16x6144 .bf16
  h14 : a14.IsWhole
  a15 : Memref sig .tc .vmem S128x1024 .bf16
  h15 : a15.IsWhole
  a16 : Memref sig .tc .vmem S128x1024 .bf16
  h16 : a16.IsWhole
  a17 : Memref sig .tc .vmem S128x1024 .bf16
  h17 : a17.IsWhole
  a18 : Memref sig .tc .vmem S3x1024 .f32
  h18 : a18.IsWhole
  a19 : Memref sig .tc .vmem S512x4096 .f32
  h19 : a19.IsWhole
  a20 : Memref sig .tc .vmem S8x512x512 .f32
  h20 : a20.IsWhole
  a21 : Memref sig .tc .vmem S512x128 .f32
  h21 : a21.IsWhole
  a22 : Memref sig .tc .vmem S512x128 .f32
  h22 : a22.IsWhole
  a23 : Memref sig .tc .vmem S512x4096 .bf16
  h23 : a23.IsWhole
  a24 : Memref sig .tc .vmem S512x4096 .bf16
  h24 : a24.IsWhole

/-- What they hold: the seventeen inputs, the output, the products, the pieces' means and square sums, the mixed rows of even and of odd row blocks. -/
structure Vals (F : FTy → Type) where
  x0 : Vec F S16 .f32
  x1 : Vec F S512x4096 .bf16
  x2 : Vec F S512x512 .f32
  x3 : Vec F S512x1 .f32
  x4 : Vec F S512x1 .f32
  x5 : Vec F S1x512 .f32
  x6 : Vec F S1x512 .f32
  x7 : Vec F S4096x512 .bf16
  x8 : Vec F S1x4096 .f32
  x9 : Vec F S1x4096 .f32
  x10 : Vec F S128x6144 .bf16
  x11 : Vec F S16x6144 .bf16
  x12 : Vec F S16x6144 .bf16
  x13 : Vec F S128x1024 .bf16
  x14 : Vec F S128x1024 .bf16
  x15 : Vec F S128x1024 .bf16
  x16 : Vec F S3x1024 .f32
  x17 : Vec F S512x4096 .f32
  x18 : Vec F S8x512x512 .f32
  x19 : Vec F S512x128 .f32
  x20 : Vec F S512x128 .f32
  x21 : Vec F S512x4096 .bf16
  x22 : Vec F S512x4096 .bf16

/-- The buffers at their contents. -/
def own (c : Dev nD) (B : Bufs) (x : Vals F) : sProp 𝕄 :=
  iprop(owns (c : Thread nD τ) B.a2 fullShare x.x0 ∗ owns (c : Thread nD τ) B.a3 fullShare x.x1 ∗ owns (c : Thread nD τ) B.a4 fullShare x.x2 ∗ owns (c : Thread nD τ) B.a5 fullShare x.x3 ∗ owns (c : Thread nD τ) B.a6 fullShare x.x4 ∗ owns (c : Thread nD τ) B.a7 fullShare x.x5 ∗ owns (c : Thread nD τ) B.a8 fullShare x.x6 ∗ owns (c : Thread nD τ) B.a9 fullShare x.x7 ∗ owns (c : Thread nD τ) B.a10 fullShare x.x8 ∗ owns (c : Thread nD τ) B.a11 fullShare x.x9 ∗ owns (c : Thread nD τ) B.a12 fullShare x.x10 ∗ owns (c : Thread nD τ) B.a13 fullShare x.x11 ∗ owns (c : Thread nD τ) B.a14 fullShare x.x12 ∗ owns (c : Thread nD τ) B.a15 fullShare x.x13 ∗ owns (c : Thread nD τ) B.a16 fullShare x.x14 ∗ owns (c : Thread nD τ) B.a17 fullShare x.x15 ∗ owns (c : Thread nD τ) B.a18 fullShare x.x16 ∗ owns (c : Thread nD τ) B.a19 fullShare x.x17 ∗ owns (c : Thread nD τ) B.a20 fullShare x.x18 ∗ owns (c : Thread nD τ) B.a21 fullShare x.x19 ∗ owns (c : Thread nD τ) B.a22 fullShare x.x20 ∗ owns (c : Thread nD τ) B.a23 fullShare x.x21 ∗ owns (c : Thread nD τ) B.a24 fullShare x.x22)

/-- The first branch's condition: the first point of the grid. -/
def C1 (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

/-- The second branch's condition: the first column block of a row block. -/
def C2 (i : grid0.Coords) : Prop :=
  Scalar.cmpi .ne (Scalar.extui (Scalar.cmpi .eq (BitVec.ofNat 32 (i 1).val) 0#32) : BitVec 32) 0#32 = 1#1

instance (i : grid0.Coords) : Decidable (C1 i) := inferInstanceAs (Decidable (_ = _))
instance (i : grid0.Coords) : Decidable (C2 i) := inferInstanceAs (Decidable (_ = _))

variable (i : grid0.Coords) (B : Bufs)

/-- The body of the call. -/
abbrev body : Prog (TpuEff nD τ sig (Elt F) Λ₀ .tc) PUnit := cc0_out_proj (F := F) i B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24

/-- The body after its first branch. -/
def tail2 : { T : Prog (TpuEff nD τ sig (Elt F) Λ₀ .tc) PUnit // ∃ f, body (F := F) i B = dite (C1 i) f (fun _ => T) } := by
  refine ⟨?T, ?f, ?h⟩
  case h => unfold body; simp only [cc0_out_proj_eq_skeleton]; unfold cc0_out_proj_skel; rfl

/-- The body after its second branch. -/
def tail3 : { T : Prog (TpuEff nD τ sig (Elt F) Λ₀ .tc) PUnit // ∃ f, (tail2 (F := F) i B).1 = dite (C2 i) f (fun _ => T) } := by
  refine ⟨?T, ?f, ?h⟩
  case h => unfold tail2; rfl

/-- The body after its third branch. -/
def tail4 : { T : Prog (TpuEff nD τ sig (Elt F) Λ₀ .tc) PUnit // ∃ f, (tail3 (F := F) i B).1 = dite (k0_cond3 i = 1#1) f (fun _ => T) } := by
  refine ⟨?T, ?f, ?h⟩
  case h => unfold tail3; rfl

/-- The body after its fourth branch. -/
def tail5 : { T : Prog (TpuEff nD τ sig (Elt F) Λ₀ .tc) PUnit // ∃ f, (tail4 (F := F) i B).1 = dite (k0_cond4 i = 1#1) f (fun _ => T) } := by
  refine ⟨?T, ?f, ?h⟩
  case h => unfold tail4; rfl

end Cert.Kernel4Ideal.Out

end
-- ==== Proof.Out.Heads.lean ====
/- The first two branches of the out_proj call: the given rows of the mixers copied, and the statistics set to zero. -/
module

public import proofs.«01_k».proof.Proof.Out.Tail

@[expose] public section

set_option maxRecDepth 16384

noncomputable section

namespace Cert.Kernel4Ideal.Out

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (B : Bufs) (x : Vals F)

set_option maxHeartbeats 4000000 in
/-- The first branch taken. -/
def run1 (h : C1 i) : { We : Vec F S512x4096 .bf16 // ∀ (E : Set ℕ) (K : PUnit → sProp 𝕄),
        iprop(own c B x ∗ (own c B { x with x21 := We } -∗ wp frame (wpE (defs₀ (F := F)) Variants.none c none) E (tail2 (F := F) i B).1 K)) ⊢ wp frame (wpE (defs₀ (F := F)) Variants.none c none) E (body (F := F) i B) K } := by
  refine ⟨?_, fun E K => ?run⟩
  case run =>
    generalize hT : (tail2 (F := F) i B).1 = T
    unfold tail2 at hT
    dsimp only at hT
    unfold body; simp only [cc0_out_proj_eq_skeleton]; unfold cc0_out_proj_skel
    unfold C1 at h
    simp only [h, dif_pos, dite_true]
    simp only [hT]
    unfold own owns
    dsimp only
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, Hk⟩
    obtain rfl := B.h2.eq_unread hf0; obtain rfl := B.h3.eq_unread hf1; obtain rfl := B.h4.eq_unread hf2; obtain rfl := B.h5.eq_unread hf3; obtain rfl := B.h6.eq_unread hf4; obtain rfl := B.h7.eq_unread hf5; obtain rfl := B.h8.eq_unread hf6; obtain rfl := B.h9.eq_unread hf7; obtain rfl := B.h10.eq_unread hf8; obtain rfl := B.h11.eq_unread hf9; obtain rfl := B.h12.eq_unread hf10; obtain rfl := B.h13.eq_unread hf11; obtain rfl := B.h14.eq_unread hf12; obtain rfl := B.h15.eq_unread hf13; obtain rfl := B.h16.eq_unread hf14; obtain rfl := B.h17.eq_unread hf15; obtain rfl := B.h18.eq_unread hf16; obtain rfl := B.h19.eq_unread hf17; obtain rfl := B.h20.eq_unread hf18; obtain rfl := B.h21.eq_unread hf19; obtain rfl := B.h22.eq_unread hf20; obtain rfl := B.h23.eq_unread hf21; obtain rfl := B.h24.eq_unread hf22
    sl_exec
    iapply Hk
    isplitl [H0]
    · iexists _; isplitr; swap; · iexact H0
      ipureintro; exact B.h2.read_unread _
    isplitl [H1]
    · iexists _; isplitr; swap; · iexact H1
      ipureintro; exact B.h3.read_unread _
    isplitl [H2]
    · iexists _; isplitr; swap; · iexact H2
      ipureintro; exact B.h4.read_unread _
    isplitl [H3]
    · iexists _; isplitr; swap; · iexact H3
      ipureintro; exact B.h5.read_unread _
    isplitl [H4]
    · iexists _; isplitr; swap; · iexact H4
      ipureintro; exact B.h6.read_unread _
    isplitl [H5]
    · iexists _; isplitr; swap; · iexact H5
      ipureintro; exact B.h7.read_unread _
    isplitl [H6]
    · iexists _; isplitr; swap; · iexact H6
      ipureintro; exact B.h8.read_unread _
    isplitl [H7]
    · iexists _; isplitr; swap; · iexact H7
      ipureintro; exact B.h9.read_unread _
    isplitl [H8]
    · iexists _; isplitr; swap; · iexact H8
      ipureintro; exact B.h10.read_unread _
    isplitl [H9]
    · iexists _; isplitr; swap; · iexact H9
      ipureintro; exact B.h11.read_unread _
    isplitl [H10]
    · iexists _; isplitr; swap; · iexact H10
      ipureintro; exact B.h12.read_unread _
    isplitl [H11]
    · iexists _; isplitr; swap; · iexact H11
      ipureintro; exact B.h13.read_unread _
    isplitl [H12]
    · iexists _; isplitr; swap; · iexact H12
      ipureintro; exact B.h14.read_unread _
    isplitl [H13]
    · iexists _; isplitr; swap; · iexact H13
      ipureintro; exact B.h15.read_unread _
    isplitl [H14]
    · iexists _; isplitr; swap; · iexact H14
      ipureintro; exact B.h16.read_unread _
    isplitl [H15]
    · iexists _; isplitr; swap; · iexact H15
      ipureintro; exact B.h17.read_unread _
    isplitl [H16]
    · iexists _; isplitr; swap; · iexact H16
      ipureintro; exact B.h18.read_unread _
    isplitl [H17]
    · iexists _; isplitr; swap; · iexact H17
      ipureintro; exact B.h19.read_unread _
    isplitl [H18]
    · iexists _; isplitr; swap; · iexact H18
      ipureintro; exact B.h20.read_unread _
    isplitl [H19]
    · iexists _; isplitr; swap; · iexact H19
      ipureintro; exact B.h21.read_unread _
    isplitl [H20]
    · iexists _; isplitr; swap; · iexact H20
      ipureintro; exact B.h22.read_unread _
    isplitl [H21]
    · iexists _; isplitr; swap; · iexact H21
      ipureintro; rfl
    iexists _; isplitr; swap; · iexact H22
    ipureintro; exact B.h24.read_unread _

/-- The first branch not taken. -/
theorem skip1 (h : ¬ C1 i) : body (F := F) i B = (tail2 (F := F) i B).1 := by
  obtain ⟨f, hf⟩ := (tail2 (F := F) i B).2
  exact hf.trans (dif_neg h)

set_option maxHeartbeats 4000000 in
/-- The second branch taken. -/
def run2 (h : C2 i) : Σ' (Wm : Vec F S512x128 .f32), { Wv : Vec F S512x128 .f32 // ∀ (E : Set ℕ) (K : PUnit → sProp 𝕄),
        iprop(own c B x ∗ (own c B { x with x19 := Wm, x20 := Wv } -∗ wp frame (wpE (defs₀ (F := F)) Variants.none c none) E (tail3 (F := F) i B).1 K)) ⊢ wp frame (wpE (defs₀ (F := F)) Variants.none c none) E (tail2 (F := F) i B).1 K } := by
  refine ⟨?_, ?_, fun E K => ?run⟩
  case run =>
    generalize hT : (tail3 (F := F) i B).1 = T
    unfold tail3 at hT
    dsimp only at hT
    unfold tail2
    dsimp only
    unfold C2 at h
    simp only [h, dif_pos, dite_true]
    simp only [hT]
    unfold own owns
    dsimp only
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, Hk⟩
    obtain rfl := B.h2.eq_unread hf0; obtain rfl := B.h3.eq_unread hf1; obtain rfl := B.h4.eq_unread hf2; obtain rfl := B.h5.eq_unread hf3; obtain rfl := B.h6.eq_unread hf4; obtain rfl := B.h7.eq_unread hf5; obtain rfl := B.h8.eq_unread hf6; obtain rfl := B.h9.eq_unread hf7; obtain rfl := B.h10.eq_unread hf8; obtain rfl := B.h11.eq_unread hf9; obtain rfl := B.h12.eq_unread hf10; obtain rfl := B.h13.eq_unread hf11; obtain rfl := B.h14.eq_unread hf12; obtain rfl := B.h15.eq_unread hf13; obtain rfl := B.h16.eq_unread hf14; obtain rfl := B.h17.eq_unread hf15; obtain rfl := B.h18.eq_unread hf16; obtain rfl := B.h19.eq_unread hf17; obtain rfl := B.h20.eq_unread hf18; obtain rfl := B.h21.eq_unread hf19; obtain rfl := B.h22.eq_unread hf20; obtain rfl := B.h23.eq_unread hf21; obtain rfl := B.h24.eq_unread hf22
    sl_exec
    iapply Hk
    isplitl [H0]
    · iexists _; isplitr; swap; · iexact H0
      ipureintro; exact B.h2.read_unread _
    isplitl [H1]
    · iexists _; isplitr; swap; · iexact H1
      ipureintro; exact B.h3.read_unread _
    isplitl [H2]
    · iexists _; isplitr; swap; · iexact H2
      ipureintro; exact B.h4.read_unread _
    isplitl [H3]
    · iexists _; isplitr; swap; · iexact H3
      ipureintro; exact B.h5.read_unread _
    isplitl [H4]
    · iexists _; isplitr; swap; · iexact H4
      ipureintro; exact B.h6.read_unread _
    isplitl [H5]
    · iexists _; isplitr; swap; · iexact H5
      ipureintro; exact B.h7.read_unread _
    isplitl [H6]
    · iexists _; isplitr; swap; · iexact H6
      ipureintro; exact B.h8.read_unread _
    isplitl [H7]
    · iexists _; isplitr; swap; · iexact H7
      ipureintro; exact B.h9.read_unread _
    isplitl [H8]
    · iexists _; isplitr; swap; · iexact H8
      ipureintro; exact B.h10.read_unread _
    isplitl [H9]
    · iexists _; isplitr; swap; · iexact H9
      ipureintro; exact B.h11.read_unread _
    isplitl [H10]
    · iexists _; isplitr; swap; · iexact H10
      ipureintro; exact B.h12.read_unread _
    isplitl [H11]
    · iexists _; isplitr; swap; · iexact H11
      ipureintro; exact B.h13.read_unread _
    isplitl [H12]
    · iexists _; isplitr; swap; · iexact H12
      ipureintro; exact B.h14.read_unread _
    isplitl [H13]
    · iexists _; isplitr; swap; · iexact H13
      ipureintro; exact B.h15.read_unread _
    isplitl [H14]
    · iexists _; isplitr; swap; · iexact H14
      ipureintro; exact B.h16.read_unread _
    isplitl [H15]
    · iexists _; isplitr; swap; · iexact H15
      ipureintro; exact B.h17.read_unread _
    isplitl [H16]
    · iexists _; isplitr; swap; · iexact H16
      ipureintro; exact B.h18.read_unread _
    isplitl [H17]
    · iexists _; isplitr; swap; · iexact H17
      ipureintro; exact B.h19.read_unread _
    isplitl [H18]
    · iexists _; isplitr; swap; · iexact H18
      ipureintro; exact B.h20.read_unread _
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; exact B.h23.read_unread _
    iexists _; isplitr; swap; · iexact H22
    ipureintro; exact B.h24.read_unread _

/-- The second branch not taken. -/
theorem skip2 (h : ¬ C2 i) : (tail2 (F := F) i B).1 = (tail3 (F := F) i B).1 := by
  obtain ⟨f, hf⟩ := (tail3 (F := F) i B).2
  exact hf.trans (dif_neg h)

end Cert.Kernel4Ideal.Out

end
-- ==== Proof.Out.RunEven.lean ====
/- The step of the out_proj call at a row block of even number, run at symbolic operands, part by part. -/
module

public import proofs.«01_k».proof.Proof.Out.Tail

@[expose] public section

set_option maxRecDepth 16384

noncomputable section

namespace Cert.Kernel4Ideal.Out

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The step of a row block of even number: from the buffers' contents to those the run finds, and on to the rest of the body. -/
def evenRun (c : Dev nD) (i : grid0.Coords) (B : Bufs) (x : Vals F) (h3 : k0_cond3 i = 1#1) (h4 : ¬ k0_cond4 i = 1#1) :
    Σ' (Wz : Vec F S8x512x512 .f32) (Wm : Vec F S512x128 .f32) (Wv : Vec F S512x128 .f32), { Wy : Vec F S512x4096 .bf16 //
      ∀ (E : Set ℕ) (K : PUnit → sProp 𝕄),
        iprop(own c B x ∗ (own c B { x with x18 := Wz, x19 := Wm, x20 := Wv, x22 := Wy } -∗ wp frame (wpE (defs₀ (F := F)) Variants.none c none) E (tail5 (F := F) i B).1 K))
          ⊢ wp frame (wpE (defs₀ (F := F)) Variants.none c none) E (tail3 (F := F) i B).1 K } := by
  refine ⟨?_, ?_, ?_, ?_, fun E K => ?run⟩
  case run =>
    generalize hT : (tail5 (F := F) i B).1 = T
    unfold tail5 at hT
    dsimp only at hT
    unfold tail3
    dsimp only
    simp only [h3, h4, dif_pos, dif_neg, dite_true, dite_false, not_false_eq_true]
    simp only [hT]
    unfold own owns
    dsimp only
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, Hk⟩
    obtain rfl := B.h2.eq_unread hf0; obtain rfl := B.h3.eq_unread hf1; obtain rfl := B.h4.eq_unread hf2; obtain rfl := B.h5.eq_unread hf3; obtain rfl := B.h6.eq_unread hf4; obtain rfl := B.h7.eq_unread hf5; obtain rfl := B.h8.eq_unread hf6; obtain rfl := B.h9.eq_unread hf7; obtain rfl := B.h10.eq_unread hf8; obtain rfl := B.h11.eq_unread hf9; obtain rfl := B.h12.eq_unread hf10; obtain rfl := B.h13.eq_unread hf11; obtain rfl := B.h14.eq_unread hf12; obtain rfl := B.h15.eq_unread hf13; obtain rfl := B.h16.eq_unread hf14; obtain rfl := B.h17.eq_unread hf15; obtain rfl := B.h18.eq_unread hf16; obtain rfl := B.h19.eq_unread hf17; obtain rfl := B.h20.eq_unread hf18; obtain rfl := B.h21.eq_unread hf19; obtain rfl := B.h22.eq_unread hf20; obtain rfl := B.h23.eq_unread hf21; obtain rfl := B.h24.eq_unread hf22
    sl_exec_parts
    iapply Hk
    isplitl [H0]
    · iexists _; isplitr; swap; · iexact H0
      ipureintro; exact B.h2.read_unread _
    isplitl [H1]
    · iexists _; isplitr; swap; · iexact H1
      ipureintro; exact B.h3.read_unread _
    isplitl [H2]
    · iexists _; isplitr; swap; · iexact H2
      ipureintro; exact B.h4.read_unread _
    isplitl [H3]
    · iexists _; isplitr; swap; · iexact H3
      ipureintro; exact B.h5.read_unread _
    isplitl [H4]
    · iexists _; isplitr; swap; · iexact H4
      ipureintro; exact B.h6.read_unread _
    isplitl [H5]
    · iexists _; isplitr; swap; · iexact H5
      ipureintro; exact B.h7.read_unread _
    isplitl [H6]
    · iexists _; isplitr; swap; · iexact H6
      ipureintro; exact B.h8.read_unread _
    isplitl [H7]
    · iexists _; isplitr; swap; · iexact H7
      ipureintro; exact B.h9.read_unread _
    isplitl [H8]
    · iexists _; isplitr; swap; · iexact H8
      ipureintro; exact B.h10.read_unread _
    isplitl [H9]
    · iexists _; isplitr; swap; · iexact H9
      ipureintro; exact B.h11.read_unread _
    isplitl [H10]
    · iexists _; isplitr; swap; · iexact H10
      ipureintro; exact B.h12.read_unread _
    isplitl [H11]
    · iexists _; isplitr; swap; · iexact H11
      ipureintro; exact B.h13.read_unread _
    isplitl [H12]
    · iexists _; isplitr; swap; · iexact H12
      ipureintro; exact B.h14.read_unread _
    isplitl [H13]
    · iexists _; isplitr; swap; · iexact H13
      ipureintro; exact B.h15.read_unread _
    isplitl [H14]
    · iexists _; isplitr; swap; · iexact H14
      ipureintro; exact B.h16.read_unread _
    isplitl [H15]
    · iexists _; isplitr; swap; · iexact H15
      ipureintro; exact B.h17.read_unread _
    isplitl [H16]
    · iexists _; isplitr; swap; · iexact H16
      ipureintro; exact B.h18.read_unread _
    isplitl [H17]
    · iexists _; isplitr; swap; · iexact H17
      ipureintro; exact B.h19.read_unread _
    isplitl [H18]
    · iexists _; isplitr; swap; · iexact H18
      ipureintro; rfl
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; exact B.h23.read_unread _
    iexists _; isplitr; swap; · iexact H22
    ipureintro; rfl

end Cert.Kernel4Ideal.Out

end
-- ==== Proof.Out.RunOdd.lean ====
/- The step of the out_proj call at a row block of odd number, run at symbolic operands, part by part. -/
module

public import proofs.«01_k».proof.Proof.Out.Tail

@[expose] public section

set_option maxRecDepth 16384

noncomputable section

namespace Cert.Kernel4Ideal.Out

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The step of a row block of odd number: from the buffers' contents to those the run finds, and on to the rest of the body. -/
def oddRun (c : Dev nD) (i : grid0.Coords) (B : Bufs) (x : Vals F) (h3 : ¬ k0_cond3 i = 1#1) (h4 : k0_cond4 i = 1#1) :
    Σ' (Wz : Vec F S8x512x512 .f32) (Wm : Vec F S512x128 .f32) (Wv : Vec F S512x128 .f32), { Wy : Vec F S512x4096 .bf16 //
      ∀ (E : Set ℕ) (K : PUnit → sProp 𝕄),
        iprop(own c B x ∗ (own c B { x with x18 := Wz, x19 := Wm, x20 := Wv, x21 := Wy } -∗ wp frame (wpE (defs₀ (F := F)) Variants.none c none) E (tail5 (F := F) i B).1 K))
          ⊢ wp frame (wpE (defs₀ (F := F)) Variants.none c none) E (tail3 (F := F) i B).1 K } := by
  refine ⟨?_, ?_, ?_, ?_, fun E K => ?run⟩
  case run =>
    generalize hT : (tail5 (F := F) i B).1 = T
    unfold tail5 at hT
    dsimp only at hT
    unfold tail3
    dsimp only
    simp only [h3, h4, dif_pos, dif_neg, dite_true, dite_false, not_false_eq_true]
    simp only [hT]
    unfold own owns
    dsimp only
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, Hk⟩
    obtain rfl := B.h2.eq_unread hf0; obtain rfl := B.h3.eq_unread hf1; obtain rfl := B.h4.eq_unread hf2; obtain rfl := B.h5.eq_unread hf3; obtain rfl := B.h6.eq_unread hf4; obtain rfl := B.h7.eq_unread hf5; obtain rfl := B.h8.eq_unread hf6; obtain rfl := B.h9.eq_unread hf7; obtain rfl := B.h10.eq_unread hf8; obtain rfl := B.h11.eq_unread hf9; obtain rfl := B.h12.eq_unread hf10; obtain rfl := B.h13.eq_unread hf11; obtain rfl := B.h14.eq_unread hf12; obtain rfl := B.h15.eq_unread hf13; obtain rfl := B.h16.eq_unread hf14; obtain rfl := B.h17.eq_unread hf15; obtain rfl := B.h18.eq_unread hf16; obtain rfl := B.h19.eq_unread hf17; obtain rfl := B.h20.eq_unread hf18; obtain rfl := B.h21.eq_unread hf19; obtain rfl := B.h22.eq_unread hf20; obtain rfl := B.h23.eq_unread hf21; obtain rfl := B.h24.eq_unread hf22
    sl_exec_parts
    iapply Hk
    isplitl [H0]
    · iexists _; isplitr; swap; · iexact H0
      ipureintro; exact B.h2.read_unread _
    isplitl [H1]
    · iexists _; isplitr; swap; · iexact H1
      ipureintro; exact B.h3.read_unread _
    isplitl [H2]
    · iexists _; isplitr; swap; · iexact H2
      ipureintro; exact B.h4.read_unread _
    isplitl [H3]
    · iexists _; isplitr; swap; · iexact H3
      ipureintro; exact B.h5.read_unread _
    isplitl [H4]
    · iexists _; isplitr; swap; · iexact H4
      ipureintro; exact B.h6.read_unread _
    isplitl [H5]
    · iexists _; isplitr; swap; · iexact H5
      ipureintro; exact B.h7.read_unread _
    isplitl [H6]
    · iexists _; isplitr; swap; · iexact H6
      ipureintro; exact B.h8.read_unread _
    isplitl [H7]
    · iexists _; isplitr; swap; · iexact H7
      ipureintro; exact B.h9.read_unread _
    isplitl [H8]
    · iexists _; isplitr; swap; · iexact H8
      ipureintro; exact B.h10.read_unread _
    isplitl [H9]
    · iexists _; isplitr; swap; · iexact H9
      ipureintro; exact B.h11.read_unread _
    isplitl [H10]
    · iexists _; isplitr; swap; · iexact H10
      ipureintro; exact B.h12.read_unread _
    isplitl [H11]
    · iexists _; isplitr; swap; · iexact H11
      ipureintro; exact B.h13.read_unread _
    isplitl [H12]
    · iexists _; isplitr; swap; · iexact H12
      ipureintro; exact B.h14.read_unread _
    isplitl [H13]
    · iexists _; isplitr; swap; · iexact H13
      ipureintro; exact B.h15.read_unread _
    isplitl [H14]
    · iexists _; isplitr; swap; · iexact H14
      ipureintro; exact B.h16.read_unread _
    isplitl [H15]
    · iexists _; isplitr; swap; · iexact H15
      ipureintro; exact B.h17.read_unread _
    isplitl [H16]
    · iexists _; isplitr; swap; · iexact H16
      ipureintro; exact B.h18.read_unread _
    isplitl [H17]
    · iexists _; isplitr; swap; · iexact H17
      ipureintro; exact B.h19.read_unread _
    isplitl [H18]
    · iexists _; isplitr; swap; · iexact H18
      ipureintro; rfl
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    iexists _; isplitr; swap; · iexact H22
    ipureintro; exact B.h24.read_unread _

end Cert.Kernel4Ideal.Out

end
-- ==== Proof.Out.Last.lean ====
/- The last column block of a row block: the merged statistics, and the loop that normalises the rows. -/
module

public import proofs.«01_k».proof.Proof.Out.Tail

@[expose] public section

set_option maxRecDepth 16384

noncomputable section

namespace Cert.Kernel4Ideal.Out

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (c : Dev nD) (i : grid0.Coords) (arg2 : Memref sig .tc .smem S16 .f32) (harg2 : arg2.IsWhole) (arg3 : Memref sig .tc .vmem S512x4096 .bf16) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S4096x512 .bf16) (harg9 : arg9.IsWhole) (arg10 : Memref sig .tc .vmem S1x4096 .f32) (harg10 : arg10.IsWhole) (arg11 : Memref sig .tc .vmem S1x4096 .f32) (harg11 : arg11.IsWhole) (arg12 : Memref sig .tc .vmem S128x6144 .bf16) (harg12 : arg12.IsWhole) (arg13 : Memref sig .tc .vmem S16x6144 .bf16) (harg13 : arg13.IsWhole) (arg14 : Memref sig .tc .vmem S16x6144 .bf16) (harg14 : arg14.IsWhole) (arg15 : Memref sig .tc .vmem S128x1024 .bf16) (harg15 : arg15.IsWhole) (arg16 : Memref sig .tc .vmem S128x1024 .bf16) (harg16 : arg16.IsWhole) (arg17 : Memref sig .tc .vmem S128x1024 .bf16) (harg17 : arg17.IsWhole) (arg18 : Memref sig .tc .vmem S3x1024 .f32) (harg18 : arg18.IsWhole) (arg19 : Memref sig .tc .vmem S512x4096 .f32) (harg19 : arg19.IsWhole) (arg20 : Memref sig .tc .vmem S8x512x512 .f32) (harg20 : arg20.IsWhole) (arg21 : Memref sig .tc .vmem S512x128 .f32) (harg21 : arg21.IsWhole) (arg22 : Memref sig .tc .vmem S512x128 .f32) (harg22 : arg22.IsWhole) (arg23 : Memref sig .tc .vmem S512x4096 .bf16) (harg23 : arg23.IsWhole) (arg24 : Memref sig .tc .vmem S512x4096 .bf16) (harg24 : arg24.IsWhole)

/-- The buffers one trip of the loop reads and writes. -/
abbrev Trip (X10 : BufTy.Contents (Elt F) arg10.view.ty) (X11 : BufTy.Contents (Elt F) arg11.view.ty) (X20 : BufTy.Contents (Elt F) arg20.view.ty) (X21 : BufTy.Contents (Elt F) arg21.view.ty) (X22 : BufTy.Contents (Elt F) arg22.view.ty) (f : BufTy.Contents (Elt F) arg19.view.ty) : sProp 𝕄 :=
  iprop((arg10.view.loc (c : Thread nD τ) ↦[arg10.view.set]{fullShare} X10) ∗ (arg11.view.loc (c : Thread nD τ) ↦[arg11.view.set]{fullShare} X11) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗ (arg19.view.loc (c : Thread nD τ) ↦[arg19.view.set]{fullShare} f))

set_option maxHeartbeats 4000000 in
/-- One trip of the loop: the pieces that it writes into the output's buffer. -/
@[irreducible] def trip (h5 : k0_cond5 i = 1#1) (X10 : BufTy.Contents (Elt F) arg10.view.ty) (X11 : BufTy.Contents (Elt F) arg11.view.ty) (X20 : BufTy.Contents (Elt F) arg20.view.ty) (X21 : BufTy.Contents (Elt F) arg21.view.ty) (X22 : BufTy.Contents (Elt F) arg22.view.ty) (k : Fin k0_t1_loop.trips) :
    { L : List (View.Piece (Elt F) S512x4096 .f32) // ∀ (E : Set ℕ) (f : BufTy.Contents (Elt F) arg19.view.ty),
      Trip c arg10 arg11 arg19 arg20 arg21 arg22 X10 X11 X20 X21 X22 f
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h5 k PUnit.unit)
          (fun _ => Trip c arg10 arg11 arg19 arg20 arg21 arg22 X10 X11 X20 X21 X22 (arg19.view.writes (Elt F) f L)) } := by
  have hk : k.val < 8 := Nat.lt_of_lt_of_le k.isLt k0_t1_abs.2.1
  refine ⟨?_, fun E f => ?run⟩
  case run =>
    unfold k0_t1_body
    iintro ⟨H10, H11, H20, H21, H22, H19⟩
    sl_exec
    sl_step
    sl_close

/-- The pieces written by the trips before `k`, the last first. -/
def before (h5 : k0_cond5 i = 1#1) (X10 : BufTy.Contents (Elt F) arg10.view.ty) (X11 : BufTy.Contents (Elt F) arg11.view.ty) (X20 : BufTy.Contents (Elt F) arg20.view.ty) (X21 : BufTy.Contents (Elt F) arg21.view.ty) (X22 : BufTy.Contents (Elt F) arg22.view.ty) : ℕ → List (View.Piece (Elt F) S512x4096 .f32)
  | 0 => []
  | k + 1 => (if h : k < k0_t1_loop.trips then (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h5 X10 X11 X20 X21 X22 ⟨k, h⟩).1 else []) ++ before h5 X10 X11 X20 X21 X22 k

theorem before_succ (h5 : k0_cond5 i = 1#1) (X10 : BufTy.Contents (Elt F) arg10.view.ty) (X11 : BufTy.Contents (Elt F) arg11.view.ty) (X20 : BufTy.Contents (Elt F) arg20.view.ty) (X21 : BufTy.Contents (Elt F) arg21.view.ty) (X22 : BufTy.Contents (Elt F) arg22.view.ty) (k : Fin k0_t1_loop.trips) :
    before c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h5 X10 X11 X20 X21 X22 (k.val + 1) = (trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h5 X10 X11 X20 X21 X22 k).1 ++ before c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h5 X10 X11 X20 X21 X22 k.val := by
  rw [before.eq_2, dif_pos k.isLt]

set_option warn.classDefReducibility false in
/-- The loop by its invariant: before trip `k` the output's buffer holds the pieces of the trips before. -/
@[sl_loop] def loopInv (E : Set ℕ) (h5 : k0_cond5 i = 1#1) (X10 : BufTy.Contents (Elt F) arg10.view.ty) (X11 : BufTy.Contents (Elt F) arg11.view.ty) (X20 : BufTy.Contents (Elt F) arg20.view.ty) (X21 : BufTy.Contents (Elt F) arg21.view.ty) (X22 : BufTy.Contents (Elt F) arg22.view.ty) (G : BufTy.Contents (Elt F) arg19.view.ty) :
    Idealize.ShloMosaic.LoopInv (M := 𝕄) Idealize.ShloMosaic.frame (wpE (defs₀ (F := F)) Variants.none (c : Thread nD τ) none) E
      k0_t1_loop.lb k0_t1_loop.ub k0_t1_loop.st (k0_t1_ok i h5) () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h5) where
  inv := fun k _ => iprop((arg10.view.loc (c : Thread nD τ) ↦[arg10.view.set]{fullShare} X10) ∗ (arg11.view.loc (c : Thread nD τ) ↦[arg11.view.set]{fullShare} X11) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗ (∃ f, (arg19.view.loc (c : Thread nD τ) ↦[arg19.view.set]{fullShare} f) ∗ ⌜f = arg19.view.writes (Elt F) G (before c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h5 X10 X11 X20 X21 X22 k)⌝))
  step k acc := by
    iintro ⟨H10, H11, H20, H21, H22, ⟨%f, H19, %hf⟩⟩
    iapply (wp_wand_r Idealize.ShloMosaic.frame (wpE (defs₀ (F := F)) Variants.none (c : Thread nD τ) none) E)
    isplitl [H10 H11 H20 H21 H22 H19]
    · iapply ((trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h5 X10 X11 X20 X21 X22 k).2 E f)
      isplitl [H10]; · iexact H10
      isplitl [H11]; · iexact H11
      isplitl [H20]; · iexact H20
      isplitl [H21]; · iexact H21
      isplitl [H22]; · iexact H22
      iexact H19
    · iintro %_ ⟨H10, H11, H20, H21, H22, H19⟩
      isplitl [H10]; · iexact H10
      isplitl [H11]; · iexact H11
      isplitl [H20]; · iexact H20
      isplitl [H21]; · iexact H21
      isplitl [H22]; · iexact H22
      rw [before_succ]
      iexists _; isplitl [H19]; · iexact H19
      ipureintro; rw [hf, ← View.writes_append]

end

set_option maxHeartbeats 8000000 in
/-- The end of a row block: the statistics merged, and the rows normalised. -/
def lastRun (c : Dev nD) (i : grid0.Coords) (B : Bufs) (x : Vals F) (h5 : k0_cond5 i = 1#1) :
    Σ' (Wm : Vec F S512x128 .f32) (Wv : Vec F S512x128 .f32), { Wo : Vec F S512x4096 .f32 //
      ∀ (E : Set ℕ) (K : PUnit → sProp 𝕄),
        iprop(own c B x ∗ (own c B { x with x17 := Wo, x19 := Wm, x20 := Wv } -∗ K ⟨⟩)) ⊢ wp frame (wpE (defs₀ (F := F)) Variants.none c none) E (tail5 (F := F) i B).1 K } := by
  refine ⟨?_, ?_, ?_, fun E K => ?run⟩
  case run =>
    unfold tail5
    dsimp only
    simp only [h5, dif_pos, dite_true]
    unfold own owns
    dsimp only
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩⟩, Hk⟩
    obtain rfl := B.h2.eq_unread hf0; obtain rfl := B.h3.eq_unread hf1; obtain rfl := B.h4.eq_unread hf2; obtain rfl := B.h5.eq_unread hf3; obtain rfl := B.h6.eq_unread hf4; obtain rfl := B.h7.eq_unread hf5; obtain rfl := B.h8.eq_unread hf6; obtain rfl := B.h9.eq_unread hf7; obtain rfl := B.h10.eq_unread hf8; obtain rfl := B.h11.eq_unread hf9; obtain rfl := B.h12.eq_unread hf10; obtain rfl := B.h13.eq_unread hf11; obtain rfl := B.h14.eq_unread hf12; obtain rfl := B.h15.eq_unread hf13; obtain rfl := B.h16.eq_unread hf14; obtain rfl := B.h17.eq_unread hf15; obtain rfl := B.h18.eq_unread hf16; obtain rfl := B.h19.eq_unread hf17; obtain rfl := B.h20.eq_unread hf18; obtain rfl := B.h21.eq_unread hf19; obtain rfl := B.h22.eq_unread hf20; obtain rfl := B.h23.eq_unread hf21; obtain rfl := B.h24.eq_unread hf22
    sl_exec
    sl_step
    iapply Hk
    isplitl [H0]
    · iexists _; isplitr; swap; · iexact H0
      ipureintro; exact B.h2.read_unread _
    isplitl [H1]
    · iexists _; isplitr; swap; · iexact H1
      ipureintro; exact B.h3.read_unread _
    isplitl [H2]
    · iexists _; isplitr; swap; · iexact H2
      ipureintro; exact B.h4.read_unread _
    isplitl [H3]
    · iexists _; isplitr; swap; · iexact H3
      ipureintro; exact B.h5.read_unread _
    isplitl [H4]
    · iexists _; isplitr; swap; · iexact H4
      ipureintro; exact B.h6.read_unread _
    isplitl [H5]
    · iexists _; isplitr; swap; · iexact H5
      ipureintro; exact B.h7.read_unread _
    isplitl [H6]
    · iexists _; isplitr; swap; · iexact H6
      ipureintro; exact B.h8.read_unread _
    isplitl [H7]
    · iexists _; isplitr; swap; · iexact H7
      ipureintro; exact B.h9.read_unread _
    isplitl [H8]
    · iexists _; isplitr; swap; · iexact H8
      ipureintro; exact B.h10.read_unread _
    isplitl [H9]
    · iexists _; isplitr; swap; · iexact H9
      ipureintro; exact B.h11.read_unread _
    isplitl [H10]
    · iexists _; isplitr; swap; · iexact H10
      ipureintro; exact B.h12.read_unread _
    isplitl [H11]
    · iexists _; isplitr; swap; · iexact H11
      ipureintro; exact B.h13.read_unread _
    isplitl [H12]
    · iexists _; isplitr; swap; · iexact H12
      ipureintro; exact B.h14.read_unread _
    isplitl [H13]
    · iexists _; isplitr; swap; · iexact H13
      ipureintro; exact B.h15.read_unread _
    isplitl [H14]
    · iexists _; isplitr; swap; · iexact H14
      ipureintro; exact B.h16.read_unread _
    isplitl [H15]
    · iexists _; isplitr; swap; · iexact H15
      ipureintro; exact B.h17.read_unread _
    isplitl [H16]
    · iexists _; isplitr; swap; · iexact H16
      ipureintro; exact B.h18.read_unread _
    isplitl [H17]
    · iexists _; isplitr; swap; · iexact H17
      ipureintro; rfl
    isplitl [H18]
    · iexists _; isplitr; swap; · iexact H18
      ipureintro; exact B.h20.read_unread _
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; exact B.h23.read_unread _
    iexists _; isplitr; swap; · iexact H22
    ipureintro; exact B.h24.read_unread _

/-- At any other column block nothing is left to do. -/
theorem rest_none (i : grid0.Coords) (B : Bufs) (h5 : ¬ k0_cond5 i = 1#1) : (tail5 (F := F) i B).1 = pure ⟨⟩ := by
  unfold tail5
  dsimp only
  simp only [h5, dif_neg, dite_false, not_false_eq_true]

end Cert.Kernel4Ideal.Out

end
-- ==== Proof.Out.Step.lean ====
/- The out_proj call at a grid point: the scratch buffers and the output from point to point as the runs of the body's parts give them. -/
module

public import proofs.«01_k».proof.Proof.Out.Heads
public import proofs.«01_k».proof.Proof.Out.RunEven
public import proofs.«01_k».proof.Proof.Out.RunOdd
public import proofs.«01_k».proof.Proof.Out.Last

@[expose] public section

set_option maxRecDepth 16384

noncomputable section

namespace Cert.Kernel4Ideal.Out

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The buffers at point `t`: the windows' slots and the scratch. -/
abbrev bufs (t : Fin cfg0.N) : Bufs where
  a2 := st0_0 t
  h2 := hstage0_0 ((cfg0.slots t 0).cast nbuf0_0)
  a3 := st0_1 t
  h3 := hstage0_1 ((cfg0.slots t 1).cast nbuf0_1)
  a4 := st0_2 t
  h4 := hstage0_2 ((cfg0.slots t 2).cast nbuf0_2)
  a5 := st0_3 t
  h5 := hstage0_3 ((cfg0.slots t 3).cast nbuf0_3)
  a6 := st0_4 t
  h6 := hstage0_4 ((cfg0.slots t 4).cast nbuf0_4)
  a7 := st0_5 t
  h7 := hstage0_5 ((cfg0.slots t 5).cast nbuf0_5)
  a8 := st0_6 t
  h8 := hstage0_6 ((cfg0.slots t 6).cast nbuf0_6)
  a9 := st0_7 t
  h9 := hstage0_7 ((cfg0.slots t 7).cast nbuf0_7)
  a10 := st0_8 t
  h10 := hstage0_8 ((cfg0.slots t 8).cast nbuf0_8)
  a11 := st0_9 t
  h11 := hstage0_9 ((cfg0.slots t 9).cast nbuf0_9)
  a12 := st0_10 t
  h12 := hstage0_10 ((cfg0.slots t 10).cast nbuf0_10)
  a13 := st0_11 t
  h13 := hstage0_11 ((cfg0.slots t 11).cast nbuf0_11)
  a14 := st0_12 t
  h14 := hstage0_12 ((cfg0.slots t 12).cast nbuf0_12)
  a15 := st0_13 t
  h15 := hstage0_13 ((cfg0.slots t 13).cast nbuf0_13)
  a16 := st0_14 t
  h16 := hstage0_14 ((cfg0.slots t 14).cast nbuf0_14)
  a17 := st0_15 t
  h17 := hstage0_15 ((cfg0.slots t 15).cast nbuf0_15)
  a18 := st0_16 t
  h18 := hstage0_16 ((cfg0.slots t 16).cast nbuf0_16)
  a19 := st0_17 t
  h19 := hstage0_17 ((cfg0.slots t 17).cast nbuf0_17)
  a20 := Memref.whole cc0_scratch0
  h20 := Memref.isWhole_whole _
  a21 := Memref.whole cc0_scratch1
  h21 := Memref.isWhole_whole _
  a22 := Memref.whole cc0_scratch2
  h22 := Memref.isWhole_whole _
  a23 := Memref.whole cc0_scratch3
  h23 := Memref.isWhole_whole _
  a24 := Memref.whole cc0_scratch4
  h24 := Memref.isWhole_whole _

/-- The body at a point, over those buffers. -/
theorem body_at (t : Fin cfg0.N) : bodyAt0 (F := F) t = body (grid0.coords t) (bufs t) := rfl

/-- Exactly one of the two steps runs at each point. -/
theorem halves : ∀ t : Fin grid0.N, (k0_cond3 (grid0.coords t) = 1#1 ∧ ¬ k0_cond4 (grid0.coords t) = 1#1)
    ∨ (¬ k0_cond3 (grid0.coords t) = 1#1 ∧ k0_cond4 (grid0.coords t) = 1#1) := by decide +kernel

section
variable (c : Dev nD) (t : Fin cfg0.N) (x : Vals F)
/-- The runs of the body's parts at a point. -/
@[irreducible] def r1 (h : C1 (grid0.coords t)) := run1 c (grid0.coords t) (bufs t) x h
@[inherit_doc r1, irreducible] def r2 (h : C2 (grid0.coords t)) := run2 c (grid0.coords t) (bufs t) x h
@[inherit_doc r1, irreducible] def rE (h3 : k0_cond3 (grid0.coords t) = 1#1) (h4 : ¬ k0_cond4 (grid0.coords t) = 1#1) := evenRun c (grid0.coords t) (bufs t) x h3 h4
@[inherit_doc r1, irreducible] def rO (h3 : ¬ k0_cond3 (grid0.coords t) = 1#1) (h4 : k0_cond4 (grid0.coords t) = 1#1) := oddRun c (grid0.coords t) (bufs t) x h3 h4
@[inherit_doc r1, irreducible] def rL (h : k0_cond5 (grid0.coords t) = 1#1) := lastRun c (grid0.coords t) (bufs t) x h

open Classical in
/-- What the buffers hold after each part: the two first branches, the row block's step, the closing loop. -/
def s1 : Vals F := if h : C1 (grid0.coords t) then { x with x21 := (r1 c t x h).1 } else x
open Classical in
@[inherit_doc s1] def s2 : Vals F := if h : C2 (grid0.coords t) then { x with x19 := (r2 c t x h).1, x20 := (r2 c t x h).2.1 } else x
open Classical in
@[inherit_doc s1] def s3 : Vals F :=
  if h : k0_cond3 (grid0.coords t) = 1#1 ∧ ¬ k0_cond4 (grid0.coords t) = 1#1 then
    { x with x18 := (rE c t x h.1 h.2).1, x19 := (rE c t x h.1 h.2).2.1, x20 := (rE c t x h.1 h.2).2.2.1, x22 := (rE c t x h.1 h.2).2.2.2.1 }
  else if h : ¬ k0_cond3 (grid0.coords t) = 1#1 ∧ k0_cond4 (grid0.coords t) = 1#1 then
    { x with x18 := (rO c t x h.1 h.2).1, x19 := (rO c t x h.1 h.2).2.1, x20 := (rO c t x h.1 h.2).2.2.1, x21 := (rO c t x h.1 h.2).2.2.2.1 }
  else x
open Classical in
@[inherit_doc s1] def s4 : Vals F := if h : k0_cond5 (grid0.coords t) = 1#1 then
  { x with x17 := (rL c t x h).2.2.1, x19 := (rL c t x h).1, x20 := (rL c t x h).2.1 } else x

/-- What the buffers hold after the point. -/
def after : Vals F := s4 c t (s3 c t (s2 c t (s1 c t x)))

theorem step1 (E : Set ℕ) (K : PUnit → sProp 𝕄) : iprop(own c (bufs t) x ∗ (own c (bufs t) (s1 c t x) -∗ wp frame (wpE (defs₀ (F := F)) Variants.none c none) E (tail2 (F := F) (grid0.coords t) (bufs t)).1 K)) ⊢ wp frame (wpE (defs₀ (F := F)) Variants.none c none) E (bodyAt0 t) K := by
  unfold s1
  by_cases h : C1 (grid0.coords t)
  · rw [dif_pos h]
    rw [body_at]
    exact (r1 c t x h).2 E K
  · rw [dif_neg h, (body_at t).trans (skip1 (F := F) (grid0.coords t) (bufs t) h)]
    iintro ⟨H, Hk⟩
    iapply Hk
    iexact H

theorem step2 (E : Set ℕ) (K : PUnit → sProp 𝕄) : iprop(own c (bufs t) x ∗ (own c (bufs t) (s2 c t x) -∗ wp frame (wpE (defs₀ (F := F)) Variants.none c none) E (tail3 (F := F) (grid0.coords t) (bufs t)).1 K)) ⊢ wp frame (wpE (defs₀ (F := F)) Variants.none c none) E (tail2 (F := F) (grid0.coords t) (bufs t)).1 K := by
  unfold s2
  by_cases h : C2 (grid0.coords t)
  · rw [dif_pos h]
    exact (r2 c t x h).2.2 E K
  · rw [dif_neg h]
    generalize hT : (tail3 (F := F) (grid0.coords t) (bufs t)).1 = T
    rw [(skip2 (F := F) _ _ h).trans hT]
    iintro ⟨H, Hk⟩
    iapply Hk
    iexact H

theorem step3 (E : Set ℕ) (K : PUnit → sProp 𝕄) : iprop(own c (bufs t) x ∗ (own c (bufs t) (s3 c t x) -∗ wp frame (wpE (defs₀ (F := F)) Variants.none c none) E (tail5 (F := F) (grid0.coords t) (bufs t)).1 K)) ⊢ wp frame (wpE (defs₀ (F := F)) Variants.none c none) E (tail3 (F := F) (grid0.coords t) (bufs t)).1 K := by
  unfold s3
  rcases halves t with h | h
  · rw [dif_pos h]
    exact (rE c t x h.1 h.2).2.2.2.2 E K
  · rw [dif_neg (fun h' => h.1 h'.1), dif_pos h]
    exact (rO c t x h.1 h.2).2.2.2.2 E K

theorem step4 (E : Set ℕ) (K : PUnit → sProp 𝕄) : iprop(own c (bufs t) x ∗ (own c (bufs t) (s4 c t x) -∗ K ⟨⟩)) ⊢ wp frame (wpE (defs₀ (F := F)) Variants.none c none) E (tail5 (F := F) (grid0.coords t) (bufs t)).1 K := by
  unfold s4
  by_cases h : k0_cond5 (grid0.coords t) = 1#1
  · rw [dif_pos h]
    exact (rL c t x h).2.2.2 E K
  · rw [dif_neg h, rest_none _ _ h]
    show _ ⊢ wp frame (wpE (defs₀ (F := F)) Variants.none c none) E (Prog.ret PUnit.unit) K
    iintro ⟨H, Hk⟩
    sl_step
    iapply Hk
    iexact H

/-- The body at a point, from any buffers to those the parts leave. -/
theorem point (E : Set ℕ) (K : PUnit → sProp 𝕄) : iprop(own c (bufs t) x ∗ (own c (bufs t) (after c t x) -∗ K ⟨⟩)) ⊢ wp frame (wpE (defs₀ (F := F)) Variants.none c none) E (bodyAt0 t) K := by
  iintro ⟨H, Hk⟩
  iapply step1 c t x E K
  isplitl [H]; · iexact H
  iintro H
  iapply step2 c t _ E K
  isplitl [H]; · iexact H
  iintro H
  iapply step3 c t _ E K
  isplitl [H]; · iexact H
  iintro H
  iapply step4 c t _ E K
  isplitl [H]; · iexact H
  iintro H
  iapply Hk
  iexact H
end

/-- What the output and the scratch hold. -/
structure Sc (F : FTy → Type) where
  y : Vec F S512x4096 .f32
  z : Vec F S8x512x512 .f32
  zm : Vec F S512x128 .f32
  zv : Vec F S512x128 .f32
  e : Vec F S512x4096 .bf16
  o : Vec F S512x4096 .bf16

/-- The output and the scratch of a point's buffers. -/
def scOf (x : Vals F) : Sc F := ⟨x.x17, x.x18, x.x19, x.x20, x.x21, x.x22⟩

/-- Buffers with the output and the scratch at the given contents. -/
def put (x : Vals F) (s : Sc F) : Vals F := { x with x17 := s.y, x18 := s.z, x19 := s.zm, x20 := s.zv, x21 := s.e, x22 := s.o }

/-- No part changes the inputs. -/
theorem after_put (c : Dev nD) (t : Fin cfg0.N) (x : Vals F) : after c t x = put x (scOf (after c t x)) := by
  have e1 : ∀ x : Vals F, ∃ s, s1 c t x = put x s := fun x => by
    unfold s1; split
    · exact ⟨⟨x.x17, x.x18, x.x19, x.x20, _, x.x22⟩, rfl⟩
    · exact ⟨scOf x, rfl⟩
  have e2 : ∀ x : Vals F, ∃ s, s2 c t x = put x s := fun x => by
    unfold s2; split
    · exact ⟨⟨x.x17, x.x18, _, _, x.x21, x.x22⟩, rfl⟩
    · exact ⟨scOf x, rfl⟩
  have e3 : ∀ x : Vals F, ∃ s, s3 c t x = put x s := fun x => by
    unfold s3; split
    · exact ⟨⟨x.x17, _, _, _, x.x21, _⟩, rfl⟩
    · split
      · exact ⟨⟨x.x17, _, _, _, _, x.x22⟩, rfl⟩
      · exact ⟨scOf x, rfl⟩
  have e4 : ∀ x : Vals F, ∃ s, s4 c t x = put x s := fun x => by
    unfold s4; split
    · exact ⟨⟨_, x.x18, _, _, x.x21, x.x22⟩, rfl⟩
    · exact ⟨scOf x, rfl⟩
  have hp : ∀ (x : Vals F) (s s' : Sc F), put (put x s) s' = put x s' := fun _ _ _ => rfl
  have hs : ∀ (x : Vals F) (s : Sc F), scOf (put x s) = s := fun _ _ => rfl
  unfold after
  obtain ⟨a, ha⟩ := e1 x
  obtain ⟨b, hb⟩ := e2 (put x a)
  obtain ⟨d, hd⟩ := e3 (put x b)
  obtain ⟨e, he⟩ := e4 (put x d)
  rw [ha, hb, hp, hd, hp, he, hp, hs]

end Cert.Kernel4Ideal.Out

end
-- ==== Proof.Out.Frame.lean ====
/- The out_proj call on the machine: the body's obligation under any invariant that the points keep, and the run of the whole program. -/
module

public import proofs.«01_k».proof.Proof.Out.Step
public import proofs.«01_k».proof.Proof.Gen.Kernel4Ideal.Frame
public import Idealize.ShloMosaic.Lib.Pipeline.ArrRel
public import Idealize.ShloMosaic.Lib.Claim
public import Idealize.ShloMosaic.Lib.Pipeline.ValueKit.Geometry

@[expose] public section

set_option maxRecDepth 16384

noncomputable section

namespace Cert.Kernel4Ideal.Out

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Some words for what lies beyond the array in a window's buffer. -/
def dflt (w : Fin cfg0.W) : (cfg0.win w).block.Idx → Elt F (cfg0.win w).elt := fun _ => Classical.choice inferInstance

/-- A window whose blocks never overhang holds its block, whatever lay there before. -/
theorem fill_any (w : Fin cfg0.W) (t : Fin cfg0.N) (hx : ∀ a, (cfg0.win w).xsize (cfg0.grid.coords t) a = (cfg0.win w).size a)
    (d d' : (cfg0.win w).block.Idx → Elt F (cfg0.win w).elt) (g) : (cfg0.win w).fill (cfg0.grid.coords t) d g = (cfg0.win w).fill (cfg0.grid.coords t) d' g := by
  have hm (j : (cfg0.win w).block.Idx) : (cfg0.win w).moved (cfg0.grid.coords t) j = true :=
    ((cfg0.win w).moved_iff _ j).mpr fun a => by rw [hx a]; exact (j a).isLt
  funext j; unfold Pipeline.Window.fill; rw [dif_pos (hm j), dif_pos (hm j)]

/-- Input window 10's buffer at point `t`: its block. -/
def X0_10 (c : Dev nD) (t : Fin cfg0.N) : (cfg0.win 10).block.Idx → Elt F (cfg0.win 10).elt :=
  (cfg0.win 10).fill (cfg0.grid.coords t) (dflt 10) (iblk m c 10 t)
theorem xsize0_10 : ∀ t : Fin cfg0.N, ∀ a, (cfg0.win 10).xsize (cfg0.grid.coords t) a = (cfg0.win 10).size a := by decide +kernel
theorem before0_10_of {c : Dev nD} (dat : Dat τ (Elt F) Unit ℕ (UR sig nD τ) ℕ cfg0 c) (hA : dat.A 10 = V m c (Pipeline.arrRef spec0 10))
    (hafter : ∀ t, dat.after 10 t = X0_10 m c t) (t : Fin cfg0.N) (d) : dat.before 10 t d = X0_10 m c t :=
  (dat.before_in_eq_fetched 10 rfl (fun _ => rfl)
      (fun t t' h => funext fun a => congrArg (fun n => Pipeline.Clip.of n ((cfg0.win 10).size a) (S8192x13312.size a)) (congrFun h a))
      (fun t => by rw [hafter]; unfold X0_10; rw [Pipeline.Window.cut_fill]; unfold Dat.blockOf iblk; rw [hA]; try rfl) t d).trans
    (by unfold Dat.fetched X0_10; rw [fill_any 10 t (xsize0_10 t) d (dflt 10)]; unfold Dat.blockOf iblk; rw [hA]; try rfl)

/-- Input window 11's buffer at point `t`: its block. -/
def X0_11 (c : Dev nD) (t : Fin cfg0.N) : (cfg0.win 11).block.Idx → Elt F (cfg0.win 11).elt :=
  (cfg0.win 11).fill (cfg0.grid.coords t) (dflt 11) (iblk m c 11 t)
theorem xsize0_11 : ∀ t : Fin cfg0.N, ∀ a, (cfg0.win 11).xsize (cfg0.grid.coords t) a = (cfg0.win 11).size a := by decide +kernel
theorem before0_11_of {c : Dev nD} (dat : Dat τ (Elt F) Unit ℕ (UR sig nD τ) ℕ cfg0 c) (hA : dat.A 11 = V m c (Pipeline.arrRef spec0 11))
    (hafter : ∀ t, dat.after 11 t = X0_11 m c t) (t : Fin cfg0.N) (d) : dat.before 11 t d = X0_11 m c t :=
  (dat.before_in_eq_fetched 11 rfl (fun _ => rfl)
      (fun t t' h => funext fun a => congrArg (fun n => Pipeline.Clip.of n ((cfg0.win 11).size a) (S8192x13312.size a)) (congrFun h a))
      (fun t => by rw [hafter]; unfold X0_11; rw [Pipeline.Window.cut_fill]; unfold Dat.blockOf iblk; rw [hA]; try rfl) t d).trans
    (by unfold Dat.fetched X0_11; rw [fill_any 11 t (xsize0_11 t) d (dflt 11)]; unfold Dat.blockOf iblk; rw [hA]; try rfl)

/-- Input window 12's buffer at point `t`: its block. -/
def X0_12 (c : Dev nD) (t : Fin cfg0.N) : (cfg0.win 12).block.Idx → Elt F (cfg0.win 12).elt :=
  (cfg0.win 12).fill (cfg0.grid.coords t) (dflt 12) (iblk m c 12 t)
theorem xsize0_12 : ∀ t : Fin cfg0.N, ∀ a, (cfg0.win 12).xsize (cfg0.grid.coords t) a = (cfg0.win 12).size a := by decide +kernel
theorem before0_12_of {c : Dev nD} (dat : Dat τ (Elt F) Unit ℕ (UR sig nD τ) ℕ cfg0 c) (hA : dat.A 12 = V m c (Pipeline.arrRef spec0 12))
    (hafter : ∀ t, dat.after 12 t = X0_12 m c t) (t : Fin cfg0.N) (d) : dat.before 12 t d = X0_12 m c t :=
  (dat.before_in_eq_fetched 12 rfl (fun _ => rfl)
      (fun t t' h => funext fun a => congrArg (fun n => Pipeline.Clip.of n ((cfg0.win 12).size a) (S8192x13312.size a)) (congrFun h a))
      (fun t => by rw [hafter]; unfold X0_12; rw [Pipeline.Window.cut_fill]; unfold Dat.blockOf iblk; rw [hA]; try rfl) t d).trans
    (by unfold Dat.fetched X0_12; rw [fill_any 12 t (xsize0_12 t) d (dflt 12)]; unfold Dat.blockOf iblk; rw [hA]; try rfl)

/-- The buffers at point `t`: the inputs' blocks, and the output and the scratch at the given contents. -/
def vals (c : Dev nD) (t : Fin cfg0.N) (s : Sc F) : Vals F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := X0_10 m c t
  x11 := X0_11 m c t
  x12 := X0_12 m c t
  x13 := iblk m c 13 t
  x14 := iblk m c 14 t
  x15 := iblk m c 15 t
  x16 := iblk m c 16 t
  x17 := s.y
  x18 := s.z
  x19 := s.zm
  x20 := s.zv
  x21 := s.e
  x22 := s.o

theorem put_vals (c : Dev nD) (t : Fin cfg0.N) (s s' : Sc F) : put (vals m c t s) s' = vals m c t s' := by
  dsimp only [put, vals]

/-- The output and the scratch after a point. -/
def next (c : Dev nD) (t : Fin cfg0.N) (s : Sc F) : Sc F := scOf (after c t (vals m c t s))

theorem after_vals (c : Dev nD) (t : Fin cfg0.N) (s : Sc F) : after c t (vals m c t s) = vals m c t (next m c t s) :=
  (after_put c t _).trans (put_vals m c t s _)

/-- An invariant of the scratch that the points keep, and what it gives of the output at each. -/
structure Track where
  Inv : Dev nD → ℕ → Sc F → Prop
  Rel : Dev nD → Fin cfg0.N → Vec F S512x4096 .f32 → Vec F S512x4096 .f32 → Prop
  zero : ∀ c s, Inv c 0 s
  out : ∀ c t s Y, Inv c t s → Inv c t { s with y := Y }
  step : ∀ (c : Dev nD) (t : Fin cfg0.N) (s : Sc F), Inv c t.val s → Inv c (t.val + 1) (next m c t s) ∧ Rel c t s.y (next m c t s).y

/-- Nothing tracked. -/
def Track.none : Track (F := F) m := ⟨fun _ _ _ => True, fun _ _ _ _ => True, fun _ _ => trivial, fun _ _ _ _ _ => trivial, fun _ _ _ _ => ⟨trivial, trivial⟩⟩

variable (T : Track (F := F) m)

/-- The scratch buffers before point `t`, and the register the body may use. -/
def Φs (c : Dev nD) (t : ℕ) : sProp 𝕄 :=
  iprop(∃ s : Sc F, ⌜T.Inv c t s⌝ ∗ owns (c : Thread nD τ) (Memref.whole cc0_scratch0) fullShare s.z ∗ owns (c : Thread nD τ) (Memref.whole cc0_scratch1) fullShare s.zm ∗ owns (c : Thread nD τ) (Memref.whole cc0_scratch2) fullShare s.zv ∗ owns (c : Thread nD τ) (Memref.whole cc0_scratch3) fullShare s.e ∗ owns (c : Thread nD τ) (Memref.whole cc0_scratch4) fullShare s.o ∗ ∃ r, prngReg c r)

/-- The region hands over the scratch buffers at any contents. -/
theorem Φs_in (c : Dev nD) : (Pipeline.ΦA spec0 c : sProp 𝕄) ⊢ Φs m T c 0 := by
  unfold Pipeline.ΦA Φs
  rw [scopedRest0_eq]
  simp only [owns_whole]
  iintro ⟨⟨⟨%f0, H0⟩, ⟨%f1, H1⟩, ⟨%f2, H2⟩, ⟨%f3, H3⟩, ⟨%f4, H4⟩⟩, Hr⟩
  iexists (⟨dflt 17, f0, f1, f2, f3, f4⟩ : Sc F)
  isplitr; · ipureintro; exact T.zero c _
  isplitl [H0]; · iexact H0
  isplitl [H1]; · iexact H1
  isplitl [H2]; · iexact H2
  isplitl [H3]; · iexact H3
  isplitl [H4]; · iexact H4
  iexact Hr

/-- It takes them back at any contents. -/
theorem Φs_out (c : Dev nD) (t : ℕ) : Φs m T c t ⊢ (Pipeline.ΦA spec0 c : sProp 𝕄) := by
  unfold Pipeline.ΦA Φs
  rw [scopedRest0_eq]
  simp only [owns_whole]
  iintro ⟨%s, -, H0, H1, H2, H3, H4, Hr⟩
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  iexact Hr

/-- The inputs' proof data: every input's buffer keeps its block; of the output nothing is named here. -/
def dat0 (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => X0_10 m c t
    | ⟨11, _⟩ => X0_11 m c t
    | ⟨12, _⟩ => X0_12 m c t
    | ⟨13, _⟩ => iblk m c 13 t
    | ⟨14, _⟩ => iblk m c 14 t
    | ⟨15, _⟩ => iblk m c 15 t
    | ⟨16, _⟩ => iblk m c 16 t
    | ⟨k, h⟩ => Pipeline.Dat.unnamed (cfg := cfg0) ⟨k, h⟩ t
  Φ t := Φs m T c t.val
  q w := Pipeline.shareOf spec0 w
  owed _ := 0

/-- The arrays of the proof data are the contents at the region's entry. -/
theorem dat0_A (c : Dev nD) (w : Fin cfg0.W) : (dat0 m T c).A w = V m c (Pipeline.arrRef spec0 w) := by
  dsimp only [dat0]

/-- The output's relation, in place of named contents. -/
def outRel (c : Dev nD) (w : Fin cfg0.W) : Option (Fin cfg0.N → (Y X : (cfg0.win w).block.Idx → Elt F (cfg0.win w).elt) → Prop) :=
  match w with
  | ⟨17, _⟩ => some (fun t Y X => T.Rel c t Y X)
  | ⟨_, _⟩ => none

/-- The proof data of the call. -/
def rdat (c : Dev nD) : RDat τ (Elt F) Unit ℕ (UR sig nD τ) ℕ cfg0 c := (dat0 m T c).toR.override (outRel m T c)

/-- An input window: what the body finds. -/
theorem finds (c : Dev nD) (w : Fin cfg0.W) (hw : outRel m T c w = Option.none) (t : Fin cfg0.N) {X v}
    (hb : ∀ d, (dat0 m T c).before w t d = v) (h : (rdat m T c).Finds w t X) : X = v := by
  obtain ⟨d, rfl⟩ := (dat0 m T c).toR_finds w t X (((dat0 m T c).toR.override_finds (ovr := outRel m T c) (w := w) hw t X).mp h)
  exact hb d

/-- The output's relation read off the proof data. -/
theorem rdat_after_17 (c : Dev nD) (t : Fin cfg0.N) (Y X) : (rdat m T c).after 17 t Y X ↔ T.Rel c t Y X := Iff.rfl

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 1600000 in
/-- The body's obligation at every point. -/
theorem body_obligation (c : Dev nD) : (rdat m T c).BodyObligation (defs₀ (F := F)) Variants.none () Set.univ := fun t Y hY => by
  rw [bigSep_W0, bigSep_W0, defs₀_row, show (rdat m T c).Φ t.castSucc = Φs m T c t.val from rfl, show (rdat m T c).Φ t.succ = Φs m T c (t.val + 1) from rfl,
    show (rdat m T c).owesAt () t.succ = (rdat m T c).owesAt () t.castSucc from rfl]
  rw [finds m T c 0 rfl t (before0_0_of m (dat0 m T c) (dat0_A m T c 0) (fun _ => rfl) t) (hY 0)]
  rw [finds m T c 1 rfl t (before0_1_of m (dat0 m T c) (dat0_A m T c 1) (fun _ => rfl) t) (hY 1)]
  rw [finds m T c 2 rfl t (before0_2_of m (dat0 m T c) (dat0_A m T c 2) (fun _ => rfl) t) (hY 2)]
  rw [finds m T c 3 rfl t (before0_3_of m (dat0 m T c) (dat0_A m T c 3) (fun _ => rfl) t) (hY 3)]
  rw [finds m T c 4 rfl t (before0_4_of m (dat0 m T c) (dat0_A m T c 4) (fun _ => rfl) t) (hY 4)]
  rw [finds m T c 5 rfl t (before0_5_of m (dat0 m T c) (dat0_A m T c 5) (fun _ => rfl) t) (hY 5)]
  rw [finds m T c 6 rfl t (before0_6_of m (dat0 m T c) (dat0_A m T c 6) (fun _ => rfl) t) (hY 6)]
  rw [finds m T c 7 rfl t (before0_7_of m (dat0 m T c) (dat0_A m T c 7) (fun _ => rfl) t) (hY 7)]
  rw [finds m T c 8 rfl t (before0_8_of m (dat0 m T c) (dat0_A m T c 8) (fun _ => rfl) t) (hY 8)]
  rw [finds m T c 9 rfl t (before0_9_of m (dat0 m T c) (dat0_A m T c 9) (fun _ => rfl) t) (hY 9)]
  rw [finds m T c 10 rfl t (before0_10_of m (dat0 m T c) (dat0_A m T c 10) (fun _ => rfl) t) (hY 10)]
  rw [finds m T c 11 rfl t (before0_11_of m (dat0 m T c) (dat0_A m T c 11) (fun _ => rfl) t) (hY 11)]
  rw [finds m T c 12 rfl t (before0_12_of m (dat0 m T c) (dat0_A m T c 12) (fun _ => rfl) t) (hY 12)]
  rw [finds m T c 13 rfl t (before0_13_of m (dat0 m T c) (dat0_A m T c 13) (fun _ => rfl) t) (hY 13)]
  rw [finds m T c 14 rfl t (before0_14_of m (dat0 m T c) (dat0_A m T c 14) (fun _ => rfl) t) (hY 14)]
  rw [finds m T c 15 rfl t (before0_15_of m (dat0 m T c) (dat0_A m T c 15) (fun _ => rfl) t) (hY 15)]
  rw [finds m T c 16 rfl t (before0_16_of m (dat0 m T c) (dat0_A m T c 16) (fun _ => rfl) t) (hY 16)]
  unfold Φs
  iintro ⟨⟨%s, %hI, A18, A19, A20, A21, A22, Hr⟩, Ho, A0, A1, A2, A3, A4, A5, A6, A7, A8, A9, A10, A11, A12, A13, A14, A15, A16, A17⟩
  have hs := T.step c t { s with y := Y 17 } (T.out c t.val s (Y 17) hI)
  iapply point c t (vals m c t { s with y := Y 17 }) Set.univ _
  rw [after_vals]
  unfold own
  dsimp only [bufs]
  isplitl [A0 A1 A2 A3 A4 A5 A6 A7 A8 A9 A10 A11 A12 A13 A14 A15 A16 A17 A18 A19 A20 A21 A22]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    isplitl [A19]; · iexact A19
    isplitl [A20]; · iexact A20
    isplitl [A21]; · iexact A21
    iexact A22
  iintro ⟨A0, A1, A2, A3, A4, A5, A6, A7, A8, A9, A10, A11, A12, A13, A14, A15, A16, A17, A18, A19, A20, A21, A22⟩
  isplitl [A18 A19 A20 A21 A22 Hr]
  · iexists (next m c t { s with y := Y 17 })
    isplitr; · ipureintro; exact hs.1
    isplitl [A18]; · iexact A18
    isplitl [A19]; · iexact A19
    isplitl [A20]; · iexact A20
    isplitl [A21]; · iexact A21
    isplitl [A22]; · iexact A22
    iexact Hr
  isplitl [Ho]; · iexact Ho
  isplitl [A0]
  · iexists _; isplitr; swap; · iexact A0
    ipureintro; exact rfl
  isplitl [A1]
  · iexists _; isplitr; swap; · iexact A1
    ipureintro; exact rfl
  isplitl [A2]
  · iexists _; isplitr; swap; · iexact A2
    ipureintro; exact rfl
  isplitl [A3]
  · iexists _; isplitr; swap; · iexact A3
    ipureintro; exact rfl
  isplitl [A4]
  · iexists _; isplitr; swap; · iexact A4
    ipureintro; exact rfl
  isplitl [A5]
  · iexists _; isplitr; swap; · iexact A5
    ipureintro; exact rfl
  isplitl [A6]
  · iexists _; isplitr; swap; · iexact A6
    ipureintro; exact rfl
  isplitl [A7]
  · iexists _; isplitr; swap; · iexact A7
    ipureintro; exact rfl
  isplitl [A8]
  · iexists _; isplitr; swap; · iexact A8
    ipureintro; exact rfl
  isplitl [A9]
  · iexists _; isplitr; swap; · iexact A9
    ipureintro; exact rfl
  isplitl [A10]
  · iexists _; isplitr; swap; · iexact A10
    ipureintro; exact ⟨X0_10 m c t, (Pipeline.Window.fill_cut _ _ _).symm⟩
  isplitl [A11]
  · iexists _; isplitr; swap; · iexact A11
    ipureintro; exact ⟨X0_11 m c t, (Pipeline.Window.fill_cut _ _ _).symm⟩
  isplitl [A12]
  · iexists _; isplitr; swap; · iexact A12
    ipureintro; exact ⟨X0_12 m c t, (Pipeline.Window.fill_cut _ _ _).symm⟩
  isplitl [A13]
  · iexists _; isplitr; swap; · iexact A13
    ipureintro; exact rfl
  isplitl [A14]
  · iexists _; isplitr; swap; · iexact A14
    ipureintro; exact rfl
  isplitl [A15]
  · iexists _; isplitr; swap; · iexact A15
    ipureintro; exact rfl
  isplitl [A16]
  · iexists _; isplitr; swap; · iexact A16
    ipureintro; exact rfl
  iexists _; isplitr; swap; · iexact A17
  ipureintro; exact (rdat_after_17 m T c t _ _).mpr hs.2

set_option backward.isDefEq.respectTransparency.types false in
/-- The run of the whole program: it ends with every array as the proof data say, and with every counter at zero. -/
theorem run_main : θ_run defs (onTc (τ := τ) (main (F := F))) (s₀ m ρ)
    (fun r => Pipeline.RDat.FramePost (cfgs 0) (rdat m T) (V m) r ∧ r.2.sem = fun _ => 0) :=
  Pipeline.RDat.θ_run_frame_track_shared (Q' := _) cfgs (0 : Fin 1) launch₀0 defs₀ Variants.none (rdat m T) m ρ main
    (hbody := body_obligation m T) (hq := fun _ _ _ => rfl)
    (howed := fun _ _ => rfl) (V := V m) (hmain := hmain m Variants.none) (hA := dat0_A m T) (hin := fun c => Φs_in m T c) (hout := fun c => Φs_out m T c _)
    (hQ' := fun _ h => h)

/-- The argument arrays end as they began. -/
theorem args_kept {r : PUnit × MemSt nD τ sig (Elt F)} (h : Pipeline.RDat.FramePost (cfgs 0) (rdat m T) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (V_main_arg0 m c),
    (h.arr_in c 3 rfl).trans (V_main_arg1 m c),
    (h.arr_in c 4 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    (h.arr_in c 1 rfl).trans (V_main_arg5 m c),
    (h.arr_in c 7 rfl).trans (V_main_arg6 m c),
    (h.arr_in c 8 rfl).trans (V_main_arg7 m c),
    (h.arr_in c 9 rfl).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c)⟩

/-- The frame: the argument arrays end as they began, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨args_kept m (Track.none m) h.1, h.2⟩) (run_main m ρ (Track.none m))

end Cert.Kernel4Ideal.Out

end
-- ==== Proof.lean ====
/- The proof of the certificate's claim: the two kernels' frames, the reference's, the named constants, and the equality of the results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_logits
public import proofs.«01_k».proof.Proof.MixBits.Frame
public import proofs.«01_k».proof.Proof.Mix.Finite
public import proofs.«01_k».proof.Proof.Ref.Run
public import proofs.«01_k».proof.Proof.Ref.Result
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.In.Reference
public import proofs.«01_k».proof.Proof.In.Words
public import proofs.«01_k».proof.Proof.Entry.Result
public import proofs.«01_k».proof.Proof.Entry.Reference
public import proofs.«01_k».proof.Proof.Entry.Words
public import proofs.«01_k».proof.Proof.Gen.Kernel4
public import proofs.«01_k».proof.Proof.Gen.Kernel4Ideal
public import proofs.«01_k».proof.Proof.Out.Frame
public import proofs.«01_k».proof.Proof.OutBits.Frame
public import Idealize.ShloMosaic.Adequacy
public import Idealize.ShloMosaic.Init
public import Idealize.ShloMosaic.Lib.Quiescent

@[expose] public section

noncomputable section

namespace Cert.Proof

open Idealize.ShloMosaic Idealize.SL.Sem

/-- The named constants are the words' rounded values. -/
theorem preserves : Cert.preserves_Kernel_KernelIdeal :=
  ⟨IdealRules.named_const.statement Cert.KernelIdeal.κ "neg_log2_e" .f32 0xBFB8AA3B#32 _ rfl,
   IdealRules.named_const.statement Cert.KernelIdeal.κ "slope1" .f32 0x3F3504F3#32 _ rfl,
   IdealRules.named_const.statement Cert.KernelIdeal.κ "log2_e" .f32 0x3FB8AA3B#32 _ rfl,
   IdealRules.named_const.statement Cert.KernelIdeal.κ "scale_log2_e" .f32 0x3E0293EE#32 _ rfl,
   IdealRules.named_const.statement Cert.KernelIdeal.κ "mask" .f32 0xF149F2CA#32 _ rfl,
   IdealRules.named_const.statement Cert.KernelIdeal.κ "slope3" .f32 0x3EB504F3#32 _ rfl,
   IdealRules.named_const.statement Cert.KernelIdeal.κ "slope5" .f32 0x3E3504F3#32 _ rfl,
   IdealRules.named_const.statement Cert.KernelIdeal.κ "slope7" .f32 0x3DB504F3#32 _ rfl⟩

/-- The reference ends with its arguments as they began and its counters at zero. -/
theorem frameR : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run (F := Ideal) m ρ)

/-- Under the condition, the kernel's rows and the reference's are equal. -/
theorem value : Cert.algebraic_KernelIdeal_ReferenceIdeal_pre_finite_logits (hKernelIdeal := Cert.KernelIdeal.Gen.facts) (hReferenceIdeal := Cert.ReferenceIdeal.Gen.facts)
    (hPre_finite_logits := Cert.Pre_finite_logits.Gen.facts) := by
  intro m g m' g' hpre hargs
  refine ⟨fun c => fun j : Cert.KernelIdeal.S512x4096.Idx => Cert.KernelIdeal.Mix.mixK (Cert.KernelIdeal.Mix.rowcol (Cert.KernelIdeal.Mix.Pm m c)) (Cert.KernelIdeal.Mix.tapcol (Cert.KernelIdeal.Mix.Wm m c))
    (Cert.KernelIdeal.Mix.sinkof (Cert.KernelIdeal.Mix.Sm m c)) (j 0).val (j 1).val, ?_, ?_⟩
  · refine (θ_run _ _ _).mono (fun r h c => ⟨Cert.KernelIdeal.Mix.result m h.1 c, ?_⟩) (Cert.KernelIdeal.Mix.run_main (F := Ideal) m g)
    exact ⟨((h.1 c).2 Cert.KernelIdeal.main_arg0 (Pipeline.mem_restRefs_of Cert.KernelIdeal.main_arg0 (by decide) (by decide))).trans (Cert.KernelIdeal.Gen.V_main_arg0 m c),
      ((h.1 c).2 Cert.KernelIdeal.main_arg1 (Pipeline.mem_restRefs_of Cert.KernelIdeal.main_arg1 (by decide) (by decide))).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c)⟩
  · refine (θ_run _ _ _).mono (fun r h c => ⟨(h c).1.trans ?_, (h c).2⟩) (Cert.ReferenceIdeal.Value.run (F := Ideal) m' g')
    rw [Cert.ReferenceIdeal.Read.val_main_v133_eq, (hargs c).1, (hargs c).2.1, (hargs c).2.2]
    obtain ⟨hP, hS⟩ := Cert.KernelIdeal.Mix.finite _ _ _ (hpre c)
    funext j
    have hj : j = Idealize.ShloMosaic.ix2 (j 0) (j 1) := Idealize.ShloMosaic.eq_ix2 j
    exact ((congrArg _ hj).trans (Cert.ReferenceIdeal.Read.v133_apply _ _ _ (j 0) (j 1))).trans
      (Cert.KernelIdeal.Mix.mix_eq _ _ _ hP hS _ _ (j 0).isLt (j 1).isLt).symm

/-- The input projection's two texts are the same. -/
theorem preserves2 : Cert.preserves_Kernel2_Kernel2Ideal := trivial

/-- The input projection's reference ends with its arguments as they began and its counters at zero. -/
theorem frameR2 : Cert.quiescent_Reference2Ideal (hReference2Ideal := Cert.Reference2Ideal.Gen.facts) := fun m ρ _ =>
  (θ_run Cert.Reference2Ideal.defs _ _).mono (fun r h => ⟨fun c => (h c).2.2.2.2, sem_eq_zero_of_no_sems (by decide) r.2⟩) (Cert.Reference2Ideal.Value.run (F := Ideal) m ρ)

open Cert.Kernel2Ideal.In in
/-- The input projection's four results and the reference's are equal, for any arguments. -/
theorem value2 : Cert.algebraic_Kernel2Ideal_Reference2Ideal (hKernel2Ideal := Cert.Kernel2Ideal.Gen.facts) (hReference2Ideal := Cert.Reference2Ideal.Gen.facts) := by
  intro m g m' g' hpre hargs
  refine ⟨fun c => fun j : Cert.Kernel2Ideal.S8192x13312.Idx => projS (Hm m c) (Xm m c) (Gm m c) (Bm m c) (Wm m c) (j 0).val (Cert.KernelIdeal.Mix.natCol (j 1).val),
    fun c => fun j : Cert.Kernel2Ideal.S8192x1.Idx => meanS (xrow (Xm m c) (j 0).val),
    fun c => fun j : Cert.Kernel2Ideal.S8192x1.Idx => rstdS (xrow (Xm m c) (j 0).val),
    fun c => fun j : Cert.Kernel2Ideal.S4096x4096.Idx => ocol (Om m c) (j 0).val (j 1).val, ?_, ?_⟩
  · refine (θ_run _ _ _).mono (fun r h c => ⟨result_p m h.1 c, result_mu m h.1 c, result_rstd m h.1 c, result_w m h.1 c, args_kept m h.1 c⟩)
      (run_main (F := Ideal) m g)
  · refine (θ_run _ _ _).mono (fun r h c => ⟨(h c).1.trans ?_, (h c).2.1.trans ?_, (h c).2.2.1.trans ?_, (h c).2.2.2.1.trans ?_, (h c).2.2.2.2⟩)
      (Cert.Reference2Ideal.Value.run (F := Ideal) m' g')
    · rw [Cert.Reference2Ideal.Read.val_main_v51_eq, (hargs c).1, (hargs c).2.1, (hargs c).2.2.1, (hargs c).2.2.2.1, (hargs c).2.2.2.2.1]
      funext j
      exact (congrArg _ (Idealize.ShloMosaic.eq_ix2 j)).trans (Cert.Reference2Ideal.Read.v51_apply _ _ _ _ _ (j 0) (j 1))
    · rw [Cert.Reference2Ideal.Read.val_main_v4_eq, (hargs c).2.1]
      funext j
      exact (congrArg _ (Idealize.ShloMosaic.eq_ix2 j)).trans (Cert.Reference2Ideal.Read.v4_apply _ (j 0) (j 1))
    · rw [Cert.Reference2Ideal.Read.val_main_v14_eq, (hargs c).2.1]
      funext j
      exact (congrArg _ (Idealize.ShloMosaic.eq_ix2 j)).trans (Cert.Reference2Ideal.Read.v14_apply _ (j 0) (j 1))
    · rw [Cert.Reference2Ideal.Read.val_main_v53_eq, (hargs c).2.2.2.2.2]
      funext j
      exact (congrArg _ (Idealize.ShloMosaic.eq_ix2 j)).trans (Cert.Reference2Ideal.Read.v53_apply _ (j 0) (j 1))

/-- The entry norm's two texts are the same. -/
theorem preserves3 : Cert.preserves_Kernel3_Kernel3Ideal := trivial

/-- The entry norm's reference ends with its arguments as they began and its counters at zero. -/
theorem frameR3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩) (Cert.Reference3Ideal.Value.run (F := Ideal) m ρ)

open Cert.Kernel3Ideal.Entry in
/-- The entry norm's rows and the reference's are equal, for any arguments. -/
theorem value3 : Cert.algebraic_Kernel3Ideal_Reference3Ideal (hKernel3Ideal := Cert.Kernel3Ideal.Gen.facts) (hReference3Ideal := Cert.Reference3Ideal.Gen.facts) := by
  intro m g m' g' hpre hargs
  refine ⟨fun c => fun j : Cert.Kernel3Ideal.S1024x4096.Idx =>
    Cert.Kernel2Ideal.In.normS (Cert.Kernel2Ideal.In.xrow (Xm m c) (j 0).val) (Cert.Kernel2Ideal.In.vec1 (Gm m c)) (Cert.Kernel2Ideal.In.vec1 (Bm m c)) (j 1), ?_, ?_⟩
  · exact (θ_run _ _ _).mono (fun r h c => ⟨result m h c, args_kept m h c⟩) (Cert.Kernel3Ideal.Gen.run_main (F := Ideal) m g)
  · refine (θ_run _ _ _).mono (fun r h c => ⟨(h c).1.trans ?_, (h c).2⟩) (Cert.Reference3Ideal.Value.run (F := Ideal) m' g')
    rw [Cert.Reference3Ideal.Read.val_main_v26_eq, (hargs c).1, (hargs c).2.1, (hargs c).2.2]
    funext j
    exact (congrArg _ (Idealize.ShloMosaic.eq_ix2 j)).trans (Cert.Reference3Ideal.Read.v26_apply _ _ _ (j 0) (j 1))

/-- The output projection's named constants are the words' rounded values. -/
theorem preserves4 : Cert.preserves_Kernel4_Kernel4Ideal :=
  ⟨IdealRules.named_const.statement Cert.Kernel4Ideal.κ "neg_log2_e" .f32 0xBFB8AA3B#32 _ rfl,
   IdealRules.named_const.statement Cert.Kernel4Ideal.κ "slope1" .f32 0x3F3504F3#32 _ rfl,
   IdealRules.named_const.statement Cert.Kernel4Ideal.κ "log2_e" .f32 0x3FB8AA3B#32 _ rfl,
   IdealRules.named_const.statement Cert.Kernel4Ideal.κ "scale_log2_e" .f32 0x3E0293EE#32 _ rfl,
   IdealRules.named_const.statement Cert.Kernel4Ideal.κ "mask" .f32 0xF149F2CA#32 _ rfl,
   IdealRules.named_const.statement Cert.Kernel4Ideal.κ "slope3" .f32 0x3EB504F3#32 _ rfl,
   IdealRules.named_const.statement Cert.Kernel4Ideal.κ "slope5" .f32 0x3E3504F3#32 _ rfl,
   IdealRules.named_const.statement Cert.Kernel4Ideal.κ "slope7" .f32 0x3DB504F3#32 _ rfl⟩

/-- The certificate's claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Pre_finite_logits.Gen.facts,
  fun m ρ _ => Cert.Kernel.Mix.frame m ρ, fun m ρ _ => Cert.KernelIdeal.Mix.frame m ρ, fun m ρ _ => Cert.KernelIdeal.Mix.frame m ρ,
  frameR, fun m ρ _ => frameR m ρ trivial, Cert.Kernel2.In.frame, fun m ρ _ => Cert.Kernel2Ideal.In.frame m ρ, frameR2,
  Cert.Kernel3.Entry.frame, fun m ρ _ => Cert.Kernel3Ideal.Gen.frame m ρ, frameR3,
  fun m ρ _ => Cert.Kernel4.Out.frame m ρ, fun m ρ _ => Cert.Kernel4Ideal.Out.frame m ρ,
  preserves, value, preserves2, value2, preserves3, value3, preserves4⟩

end Cert.Proof

end
